-- ==== Defs.lean ====
def Pre_KernelVis (m : (ℓ : Loc Cert.KernelVis.nD Cert.KernelVis.τ Cert.KernelVis.sig) → Buf (Elt Bits) ℓ) : Prop :=
  True

def Pre_KernelVisIdeal (m : (ℓ : Loc Cert.KernelVisIdeal.nD Cert.KernelVisIdeal.τ Cert.KernelVisIdeal.sig) → Buf (Elt Ideal) ℓ) : Prop :=
  True

def Pre_ReferenceVisIdeal (m : (ℓ : Loc Cert.ReferenceVisIdeal.nD Cert.ReferenceVisIdeal.τ Cert.ReferenceVisIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelFf (m : (ℓ : Loc Cert.KernelFf.nD Cert.KernelFf.τ Cert.KernelFf.sig) → Buf (Elt Bits) ℓ) : Prop :=
  True

def Pre_KernelFfIdeal (m : (ℓ : Loc Cert.KernelFfIdeal.nD Cert.KernelFfIdeal.τ Cert.KernelFfIdeal.sig) → Buf (Elt Ideal) ℓ) : Prop :=
  True

def Pre_ReferenceFfIdeal (m : (ℓ : Loc Cert.ReferenceFfIdeal.nD Cert.ReferenceFfIdeal.τ Cert.ReferenceFfIdeal.sig) → Buf (Elt Ideal) ℓ) : Prop :=
  True

def quiescent_KernelVis [hKernelVis : Cert.KernelVis.Facts] : Prop :=
  ∀ (m : (ℓ : Loc Cert.KernelVis.nD Cert.KernelVis.τ Cert.KernelVis.sig) → Buf (Elt Bits) ℓ) (g : Dev Cert.KernelVis.nD → PrngReg), Pre_KernelVis m →
    θ_run (Cert.KernelVis.defs (F := Bits)) (onTc (τ := Cert.KernelVis.τ) (Cert.KernelVis.main (F := Bits))) ⟨m, fun _ => 0, g⟩ (fun r => (∀ c : Dev Cert.KernelVis.nD,
      r.2.mem ((c.tc : Thread Cert.KernelVis.nD Cert.KernelVis.τ).loc Cert.KernelVis.main_arg0) = m ((c.tc : Thread Cert.KernelVis.nD Cert.KernelVis.τ).loc Cert.KernelVis.main_arg0)
      ∧ r.2.mem ((c.tc : Thread Cert.KernelVis.nD Cert.KernelVis.τ).loc Cert.KernelVis.main_arg1) = m ((c.tc : Thread Cert.KernelVis.nD Cert.KernelVis.τ).loc Cert.KernelVis.main_arg1)
      ∧ r.2.mem ((c.tc : Thread Cert.KernelVis.nD Cert.KernelVis.τ).loc Cert.KernelVis.main_arg2) = m ((c.tc : Thread Cert.KernelVis.nD Cert.KernelVis.τ).loc Cert.KernelVis.main_arg2)
      ∧ r.2.mem ((c.tc : Thread Cert.KernelVis.nD Cert.KernelVis.τ).loc Cert.KernelVis.main_arg3) = m ((c.tc : Thread Cert.KernelVis.nD Cert.KernelVis.τ).loc Cert.KernelVis.main_arg3)
      ∧ r.2.mem ((c.tc : Thread Cert.KernelVis.nD Cert.KernelVis.τ).loc Cert.KernelVis.main_arg4) = m ((c.tc : Thread Cert.KernelVis.nD Cert.KernelVis.τ).loc Cert.KernelVis.main_arg4)
      ∧ r.2.mem ((c.tc : Thread Cert.KernelVis.nD Cert.KernelVis.τ).loc Cert.KernelVis.main_arg5) = m ((c.tc : Thread Cert.KernelVis.nD Cert.KernelVis.τ).loc Cert.KernelVis.main_arg5))
      ∧ r.2.sem = fun _ => 0)

def quiescent_KernelVisIdeal [hKernelVisIdeal : Cert.KernelVisIdeal.Facts] : Prop :=
  ∀ (m : (ℓ : Loc Cert.KernelVisIdeal.nD Cert.KernelVisIdeal.τ Cert.KernelVisIdeal.sig) → Buf (Elt Ideal) ℓ) (g : Dev Cert.KernelVisIdeal.nD → PrngReg), Pre_KernelVisIdeal m →
    θ_run (Cert.KernelVisIdeal.defs (F := Ideal)) (onTc (τ := Cert.KernelVisIdeal.τ) (Cert.KernelVisIdeal.main (F := Ideal))) ⟨m, fun _ => 0, g⟩ (fun r => (∀ c : Dev Cert.KernelVisIdeal.nD,
      r.2.mem ((c.tc : Thread Cert.KernelVisIdeal.nD Cert.KernelVisIdeal.τ).loc Cert.KernelVisIdeal.main_arg0) = m ((c.tc : Thread Cert.KernelVisIdeal.nD Cert.KernelVisIdeal.τ).loc Cert.KernelVisIdeal.main_arg0)
      ∧ r.2.mem ((c.tc : Thread Cert.KernelVisIdeal.nD Cert.KernelVisIdeal.τ).loc Cert.KernelVisIdeal.main_arg1) = m ((c.tc : Thread Cert.KernelVisIdeal.nD Cert.KernelVisIdeal.τ).loc Cert.KernelVisIdeal.main_arg1)
      ∧ r.2.mem ((c.tc : Thread Cert.KernelVisIdeal.nD Cert.KernelVisIdeal.τ).loc Cert.KernelVisIdeal.main_arg2) = m ((c.tc : Thread Cert.KernelVisIdeal.nD Cert.KernelVisIdeal.τ).loc Cert.KernelVisIdeal.main_arg2)
      ∧ r.2.mem ((c.tc : Thread Cert.KernelVisIdeal.nD Cert.KernelVisIdeal.τ).loc Cert.KernelVisIdeal.main_arg3) = m ((c.tc : Thread Cert.KernelVisIdeal.nD Cert.KernelVisIdeal.τ).loc Cert.KernelVisIdeal.main_arg3)
      ∧ r.2.mem ((c.tc : Thread Cert.KernelVisIdeal.nD Cert.KernelVisIdeal.τ).loc Cert.KernelVisIdeal.main_arg4) = m ((c.tc : Thread Cert.KernelVisIdeal.nD Cert.KernelVisIdeal.τ).loc Cert.KernelVisIdeal.main_arg4)
      ∧ r.2.mem ((c.tc : Thread Cert.KernelVisIdeal.nD Cert.KernelVisIdeal.τ).loc Cert.KernelVisIdeal.main_arg5) = m ((c.tc : Thread Cert.KernelVisIdeal.nD Cert.KernelVisIdeal.τ).loc Cert.KernelVisIdeal.main_arg5))
      ∧ r.2.sem = fun _ => 0)

def quiescent_ReferenceVisIdeal [hReferenceVisIdeal : Cert.ReferenceVisIdeal.Facts] : Prop :=
  ∀ (m : (ℓ : Loc Cert.ReferenceVisIdeal.nD Cert.ReferenceVisIdeal.τ Cert.ReferenceVisIdeal.sig) → Buf (Elt Ideal) ℓ) (g : Dev Cert.ReferenceVisIdeal.nD → PrngReg), Pre_ReferenceVisIdeal m →
    θ_run (Cert.ReferenceVisIdeal.defs (F := Ideal)) (onTc (τ := Cert.ReferenceVisIdeal.τ) (Cert.ReferenceVisIdeal.main (F := Ideal))) ⟨m, fun _ => 0, g⟩ (fun r => (∀ c : Dev Cert.ReferenceVisIdeal.nD,
      r.2.mem ((c.tc : Thread Cert.ReferenceVisIdeal.nD Cert.ReferenceVisIdeal.τ).loc Cert.ReferenceVisIdeal.main_arg0) = m ((c.tc : Thread Cert.ReferenceVisIdeal.nD Cert.ReferenceVisIdeal.τ).loc Cert.ReferenceVisIdeal.main_arg0)
      ∧ r.2.mem ((c.tc : Thread Cert.ReferenceVisIdeal.nD Cert.ReferenceVisIdeal.τ).loc Cert.ReferenceVisIdeal.main_arg1) = m ((c.tc : Thread Cert.ReferenceVisIdeal.nD Cert.ReferenceVisIdeal.τ).loc Cert.ReferenceVisIdeal.main_arg1)
      ∧ r.2.mem ((c.tc : Thread Cert.ReferenceVisIdeal.nD Cert.ReferenceVisIdeal.τ).loc Cert.ReferenceVisIdeal.main_arg2) = m ((c.tc : Thread Cert.ReferenceVisIdeal.nD Cert.ReferenceVisIdeal.τ).loc Cert.ReferenceVisIdeal.main_arg2)
      ∧ r.2.mem ((c.tc : Thread Cert.ReferenceVisIdeal.nD Cert.ReferenceVisIdeal.τ).loc Cert.ReferenceVisIdeal.main_arg3) = m ((c.tc : Thread Cert.ReferenceVisIdeal.nD Cert.ReferenceVisIdeal.τ).loc Cert.ReferenceVisIdeal.main_arg3)
      ∧ r.2.mem ((c.tc : Thread Cert.ReferenceVisIdeal.nD Cert.ReferenceVisIdeal.τ).loc Cert.ReferenceVisIdeal.main_arg4) = m ((c.tc : Thread Cert.ReferenceVisIdeal.nD Cert.ReferenceVisIdeal.τ).loc Cert.ReferenceVisIdeal.main_arg4)
      ∧ r.2.mem ((c.tc : Thread Cert.ReferenceVisIdeal.nD Cert.ReferenceVisIdeal.τ).loc Cert.ReferenceVisIdeal.main_arg5) = m ((c.tc : Thread Cert.ReferenceVisIdeal.nD Cert.ReferenceVisIdeal.τ).loc Cert.ReferenceVisIdeal.main_arg5))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5)
      ∧ r.2.mem ((c.tc : Thread Cert.KernelO.nD Cert.KernelO.τ).loc Cert.KernelO.main_arg6) = m ((c.tc : Thread Cert.KernelO.nD Cert.KernelO.τ).loc Cert.KernelO.main_arg6))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
      ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5)
      ∧ r.2.mem ((c.tc : Thread Cert.ReferenceOIdeal.nD Cert.ReferenceOIdeal.τ).loc Cert.ReferenceOIdeal.main_arg6) = m ((c.tc : Thread Cert.ReferenceOIdeal.nD Cert.ReferenceOIdeal.τ).loc Cert.ReferenceOIdeal.main_arg6))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2)
      ∧ r.2.mem ((c.tc : Thread Cert.KernelQ.nD Cert.KernelQ.τ).loc Cert.KernelQ.main_arg3) = m ((c.tc : Thread Cert.KernelQ.nD Cert.KernelQ.τ).loc Cert.KernelQ.main_arg3)
      ∧ r.2.mem ((c.tc : Thread Cert.KernelQ.nD Cert.KernelQ.τ).loc Cert.KernelQ.main_arg4) = m ((c.tc : Thread Cert.KernelQ.nD Cert.KernelQ.τ).loc Cert.KernelQ.main_arg4))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
      ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3)
      ∧ r.2.mem ((c.tc : Thread Cert.KernelQIdeal.nD Cert.KernelQIdeal.τ).loc Cert.KernelQIdeal.main_arg4) = m ((c.tc : Thread Cert.KernelQIdeal.nD Cert.KernelQIdeal.τ).loc Cert.KernelQIdeal.main_arg4))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2)
      ∧ r.2.mem ((c.tc : Thread Cert.ReferenceQIdeal.nD Cert.ReferenceQIdeal.τ).loc Cert.ReferenceQIdeal.main_arg3) = m ((c.tc : Thread Cert.ReferenceQIdeal.nD Cert.ReferenceQIdeal.τ).loc Cert.ReferenceQIdeal.main_arg3)
      ∧ r.2.mem ((c.tc : Thread Cert.ReferenceQIdeal.nD Cert.ReferenceQIdeal.τ).loc Cert.ReferenceQIdeal.main_arg4) = m ((c.tc : Thread Cert.ReferenceQIdeal.nD Cert.ReferenceQIdeal.τ).loc Cert.ReferenceQIdeal.main_arg4))
      ∧ r.2.sem = fun _ => 0)

def quiescent_KernelFf [hKernelFf : Cert.KernelFf.Facts] : Prop :=
  ∀ (m : (ℓ : Loc Cert.KernelFf.nD Cert.KernelFf.τ Cert.KernelFf.sig) → Buf (Elt Bits) ℓ) (g : Dev Cert.KernelFf.nD → PrngReg), Pre_KernelFf m →
    θ_run (Cert.KernelFf.defs (F := Bits)) (onTc (τ := Cert.KernelFf.τ) (Cert.KernelFf.main (F := Bits))) ⟨m, fun _ => 0, g⟩ (fun r => (∀ c : Dev Cert.KernelFf.nD,
      r.2.mem ((c.tc : Thread Cert.KernelFf.nD Cert.KernelFf.τ).loc Cert.KernelFf.main_arg0) = m ((c.tc : Thread Cert.KernelFf.nD Cert.KernelFf.τ).loc Cert.KernelFf.main_arg0)
      ∧ r.2.mem ((c.tc : Thread Cert.KernelFf.nD Cert.KernelFf.τ).loc Cert.KernelFf.main_arg1) = m ((c.tc : Thread Cert.KernelFf.nD Cert.KernelFf.τ).loc Cert.KernelFf.main_arg1)
      ∧ r.2.mem ((c.tc : Thread Cert.KernelFf.nD Cert.KernelFf.τ).loc Cert.KernelFf.main_arg2) = m ((c.tc : Thread Cert.KernelFf.nD Cert.KernelFf.τ).loc Cert.KernelFf.main_arg2)
      ∧ r.2.mem ((c.tc : Thread Cert.KernelFf.nD Cert.KernelFf.τ).loc Cert.KernelFf.main_arg3) = m ((c.tc : Thread Cert.KernelFf.nD Cert.KernelFf.τ).loc Cert.KernelFf.main_arg3)
      ∧ r.2.mem ((c.tc : Thread Cert.KernelFf.nD Cert.KernelFf.τ).loc Cert.KernelFf.main_arg4) = m ((c.tc : Thread Cert.KernelFf.nD Cert.KernelFf.τ).loc Cert.KernelFf.main_arg4)
      ∧ r.2.mem ((c.tc : Thread Cert.KernelFf.nD Cert.KernelFf.τ).loc Cert.KernelFf.main_arg5) = m ((c.tc : Thread Cert.KernelFf.nD Cert.KernelFf.τ).loc Cert.KernelFf.main_arg5))
      ∧ r.2.sem = fun _ => 0)

def quiescent_KernelFfIdeal [hKernelFfIdeal : Cert.KernelFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
      ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3)
      ∧ r.2.mem ((c.tc : Thread Cert.KernelFfIdeal.nD Cert.KernelFfIdeal.τ).loc Cert.KernelFfIdeal.main_arg4) = m ((c.tc : Thread Cert.KernelFfIdeal.nD Cert.KernelFfIdeal.τ).loc Cert.KernelFfIdeal.main_arg4)
      ∧ r.2.mem ((c.tc : Thread Cert.KernelFfIdeal.nD Cert.KernelFfIdeal.τ).loc Cert.KernelFfIdeal.main_arg5) = m ((c.tc : Thread Cert.KernelFfIdeal.nD Cert.KernelFfIdeal.τ).loc Cert.KernelFfIdeal.main_arg5))
      ∧ r.2.sem = fun _ => 0)

def quiescent_ReferenceFfIdeal [hReferenceFfIdeal : Cert.ReferenceFfIdeal.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1)
      ∧ r.2.mem ((c.tc : Thread Cert.ReferenceFfIdeal.nD Cert.ReferenceFfIdeal.τ).loc Cert.ReferenceFfIdeal.main_arg2) = m ((c.tc : Thread Cert.ReferenceFfIdeal.nD Cert.ReferenceFfIdeal.τ).loc Cert.ReferenceFfIdeal.main_arg2)
      ∧ r.2.mem ((c.tc : Thread Cert.ReferenceFfIdeal.nD Cert.ReferenceFfIdeal.τ).loc Cert.ReferenceFfIdeal.main_arg3) = m ((c.tc : Thread Cert.ReferenceFfIdeal.nD Cert.ReferenceFfIdeal.τ).loc Cert.ReferenceFfIdeal.main_arg3)
      ∧ r.2.mem ((c.tc : Thread Cert.ReferenceFfIdeal.nD Cert.ReferenceFfIdeal.τ).loc Cert.ReferenceFfIdeal.main_arg4) = m ((c.tc : Thread Cert.ReferenceFfIdeal.nD Cert.ReferenceFfIdeal.τ).loc Cert.ReferenceFfIdeal.main_arg4)
      ∧ r.2.mem ((c.tc : Thread Cert.ReferenceFfIdeal.nD Cert.ReferenceFfIdeal.τ).loc Cert.ReferenceFfIdeal.main_arg5) = m ((c.tc : Thread Cert.ReferenceFfIdeal.nD Cert.ReferenceFfIdeal.τ).loc Cert.ReferenceFfIdeal.main_arg5))
      ∧ r.2.sem = fun _ => 0)

def preserves_KernelVis_KernelVisIdeal : Prop :=
  True

def algebraic_KernelVisIdeal_ReferenceVisIdeal_on_mask_vis [hKernelVisIdeal : Cert.KernelVisIdeal.Facts] [hReferenceVisIdeal : Cert.ReferenceVisIdeal.Facts] [hOn_mask_vis : Cert.On_mask_vis.Facts] : Prop :=
  ∀ (m : (ℓ : Loc Cert.KernelVisIdeal.nD Cert.KernelVisIdeal.τ Cert.KernelVisIdeal.sig) → Buf (Elt Ideal) ℓ) (g : Dev Cert.KernelVisIdeal.nD → PrngReg)
    (m' : (ℓ : Loc Cert.ReferenceVisIdeal.nD Cert.ReferenceVisIdeal.τ Cert.ReferenceVisIdeal.sig) → Buf (Elt Ideal) ℓ) (g' : Dev Cert.ReferenceVisIdeal.nD → PrngReg), Pre_KernelVisIdeal m →
    (∀ c : Dev Cert.KernelVisIdeal.nD,
      m' ((c.tc : Thread Cert.ReferenceVisIdeal.nD Cert.ReferenceVisIdeal.τ).loc Cert.ReferenceVisIdeal.main_arg0) = m ((c.tc : Thread Cert.KernelVisIdeal.nD Cert.KernelVisIdeal.τ).loc Cert.KernelVisIdeal.main_arg0)
      ∧ m' ((c.tc : Thread Cert.ReferenceVisIdeal.nD Cert.ReferenceVisIdeal.τ).loc Cert.ReferenceVisIdeal.main_arg1) = m ((c.tc : Thread Cert.KernelVisIdeal.nD Cert.KernelVisIdeal.τ).loc Cert.KernelVisIdeal.main_arg1)
      ∧ m' ((c.tc : Thread Cert.ReferenceVisIdeal.nD Cert.ReferenceVisIdeal.τ).loc Cert.ReferenceVisIdeal.main_arg2) = m ((c.tc : Thread Cert.KernelVisIdeal.nD Cert.KernelVisIdeal.τ).loc Cert.KernelVisIdeal.main_arg2)
      ∧ m' ((c.tc : Thread Cert.ReferenceVisIdeal.nD Cert.ReferenceVisIdeal.τ).loc Cert.ReferenceVisIdeal.main_arg3) = m ((c.tc : Thread Cert.KernelVisIdeal.nD Cert.KernelVisIdeal.τ).loc Cert.KernelVisIdeal.main_arg3)
      ∧ m' ((c.tc : Thread Cert.ReferenceVisIdeal.nD Cert.ReferenceVisIdeal.τ).loc Cert.ReferenceVisIdeal.main_arg4) = m ((c.tc : Thread Cert.KernelVisIdeal.nD Cert.KernelVisIdeal.τ).loc Cert.KernelVisIdeal.main_arg4)
      ∧ m' ((c.tc : Thread Cert.ReferenceVisIdeal.nD Cert.ReferenceVisIdeal.τ).loc Cert.ReferenceVisIdeal.main_arg5) = m ((c.tc : Thread Cert.KernelVisIdeal.nD Cert.KernelVisIdeal.τ).loc Cert.KernelVisIdeal.main_arg5)) →
    ∃ (v0 : (c : Dev Cert.KernelVisIdeal.nD) → Buf (Elt Ideal) ((c.tc : Thread Cert.KernelVisIdeal.nD Cert.KernelVisIdeal.τ).loc Cert.KernelVisIdeal.main_v3_0)) (v1 : (c : Dev Cert.KernelVisIdeal.nD) → Buf (Elt Ideal) ((c.tc : Thread Cert.KernelVisIdeal.nD Cert.KernelVisIdeal.τ).loc Cert.KernelVisIdeal.main_v3_1)) (v2 : (c : Dev Cert.KernelVisIdeal.nD) → Buf (Elt Ideal) ((c.tc : Thread Cert.KernelVisIdeal.nD Cert.KernelVisIdeal.τ).loc Cert.KernelVisIdeal.main_v3_2)) (v3 : (c : Dev Cert.KernelVisIdeal.nD) → Buf (Elt Ideal) ((c.tc : Thread Cert.KernelVisIdeal.nD Cert.KernelVisIdeal.τ).loc Cert.KernelVisIdeal.main_v3_3)) (v4 : (c : Dev Cert.KernelVisIdeal.nD) → Buf (Elt Ideal) ((c.tc : Thread Cert.KernelVisIdeal.nD Cert.KernelVisIdeal.τ).loc Cert.KernelVisIdeal.main_v3_4)) (v5 : (c : Dev Cert.KernelVisIdeal.nD) → Buf (Elt Ideal) ((c.tc : Thread Cert.KernelVisIdeal.nD Cert.KernelVisIdeal.τ).loc Cert.KernelVisIdeal.main_v3_5)),
      θ_run (Cert.KernelVisIdeal.defs (F := Ideal)) (onTc (τ := Cert.KernelVisIdeal.τ) (Cert.KernelVisIdeal.main (F := Ideal))) ⟨m, fun _ => 0, g⟩ (fun r => ∀ c : Dev Cert.KernelVisIdeal.nD,
          (∀ i : (⟨3, ![6, 6404, 4096]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).1 i = 1#1 → r.2.mem ((c.tc : Thread Cert.KernelVisIdeal.nD Cert.KernelVisIdeal.τ).loc Cert.KernelVisIdeal.main_v3_0) i = v0 c i)
          ∧ (∀ i : (⟨2, ![6, 6404]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).2.1 i = 1#1 → r.2.mem ((c.tc : Thread Cert.KernelVisIdeal.nD Cert.KernelVisIdeal.τ).loc Cert.KernelVisIdeal.main_v3_1) i = v1 c i)
          ∧ (∀ i : (⟨4, ![6, 4, 6404, 128]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).2.2.1 i = 1#1 → r.2.mem ((c.tc : Thread Cert.KernelVisIdeal.nD Cert.KernelVisIdeal.τ).loc Cert.KernelVisIdeal.main_v3_2) i = v2 c i)
          ∧ (∀ i : (⟨2, ![8, 128]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).2.2.2.1 i = 1#1 → r.2.mem ((c.tc : Thread Cert.KernelVisIdeal.nD Cert.KernelVisIdeal.τ).loc Cert.KernelVisIdeal.main_v3_3) i = v3 c i)
          ∧ (∀ i : (⟨4, ![6, 4, 6404, 128]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).2.2.2.2.1 i = 1#1 → r.2.mem ((c.tc : Thread Cert.KernelVisIdeal.nD Cert.KernelVisIdeal.τ).loc Cert.KernelVisIdeal.main_v3_4) i = v4 c i)
          ∧ (∀ i : (⟨2, ![8, 128]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).2.2.2.2.2 i = 1#1 → r.2.mem ((c.tc : Thread Cert.KernelVisIdeal.nD Cert.KernelVisIdeal.τ).loc Cert.KernelVisIdeal.main_v3_5) i = v5 c i)
          ∧ r.2.mem ((c.tc : Thread Cert.KernelVisIdeal.nD Cert.KernelVisIdeal.τ).loc Cert.KernelVisIdeal.main_arg0) = m ((c.tc : Thread Cert.KernelVisIdeal.nD Cert.KernelVisIdeal.τ).loc Cert.KernelVisIdeal.main_arg0)
          ∧ r.2.mem ((c.tc : Thread Cert.KernelVisIdeal.nD Cert.KernelVisIdeal.τ).loc Cert.KernelVisIdeal.main_arg1) = m ((c.tc : Thread Cert.KernelVisIdeal.nD Cert.KernelVisIdeal.τ).loc Cert.KernelVisIdeal.main_arg1)
          ∧ r.2.mem ((c.tc : Thread Cert.KernelVisIdeal.nD Cert.KernelVisIdeal.τ).loc Cert.KernelVisIdeal.main_arg2) = m ((c.tc : Thread Cert.KernelVisIdeal.nD Cert.KernelVisIdeal.τ).loc Cert.KernelVisIdeal.main_arg2)
          ∧ r.2.mem ((c.tc : Thread Cert.KernelVisIdeal.nD Cert.KernelVisIdeal.τ).loc Cert.KernelVisIdeal.main_arg3) = m ((c.tc : Thread Cert.KernelVisIdeal.nD Cert.KernelVisIdeal.τ).loc Cert.KernelVisIdeal.main_arg3)
          ∧ r.2.mem ((c.tc : Thread Cert.KernelVisIdeal.nD Cert.KernelVisIdeal.τ).loc Cert.KernelVisIdeal.main_arg4) = m ((c.tc : Thread Cert.KernelVisIdeal.nD Cert.KernelVisIdeal.τ).loc Cert.KernelVisIdeal.main_arg4)
          ∧ r.2.mem ((c.tc : Thread Cert.KernelVisIdeal.nD Cert.KernelVisIdeal.τ).loc Cert.KernelVisIdeal.main_arg5) = m ((c.tc : Thread Cert.KernelVisIdeal.nD Cert.KernelVisIdeal.τ).loc Cert.KernelVisIdeal.main_arg5))
      ∧ θ_run (Cert.ReferenceVisIdeal.defs (F := Ideal)) (onTc (τ := Cert.ReferenceVisIdeal.τ) (Cert.ReferenceVisIdeal.main (F := Ideal))) ⟨m', fun _ => 0, g'⟩ (fun r => ∀ c : Dev Cert.ReferenceVisIdeal.nD,
          (∀ i : (⟨3, ![6, 6404, 4096]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).1 i = 1#1 → r.2.mem ((c.tc : Thread Cert.ReferenceVisIdeal.nD Cert.ReferenceVisIdeal.τ).loc Cert.ReferenceVisIdeal.main_v3_0) i = v0 c i)
          ∧ (∀ i : (⟨2, ![6, 6404]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).2.1 i = 1#1 → r.2.mem ((c.tc : Thread Cert.ReferenceVisIdeal.nD Cert.ReferenceVisIdeal.τ).loc Cert.ReferenceVisIdeal.main_v3_1) i = v1 c i)
          ∧ (∀ i : (⟨4, ![6, 4, 6404, 128]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).2.2.1 i = 1#1 → r.2.mem ((c.tc : Thread Cert.ReferenceVisIdeal.nD Cert.ReferenceVisIdeal.τ).loc Cert.ReferenceVisIdeal.main_v3_2) i = v2 c i)
          ∧ (∀ i : (⟨2, ![8, 128]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).2.2.2.1 i = 1#1 → r.2.mem ((c.tc : Thread Cert.ReferenceVisIdeal.nD Cert.ReferenceVisIdeal.τ).loc Cert.ReferenceVisIdeal.main_v3_3) i = v3 c i)
          ∧ (∀ i : (⟨4, ![6, 4, 6404, 128]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).2.2.2.2.1 i = 1#1 → r.2.mem ((c.tc : Thread Cert.ReferenceVisIdeal.nD Cert.ReferenceVisIdeal.τ).loc Cert.ReferenceVisIdeal.main_v3_4) i = v4 c i)
          ∧ (∀ i : (⟨2, ![8, 128]⟩ : Shape).Idx, (Cert.On_mask_vis.fn (F := Ideal) (m ((c.tc : Thread Cert.KernelVisIdeal.nD Cert.KernelVisIdeal.τ).loc Cert.KernelVisIdeal.main_arg0)) (m ((c.tc : Thread Cert.KernelVisIdeal.nD Cert.KernelVisIdeal.τ).loc Cert.KernelVisIdeal.main_arg1)) (m ((c.tc : Thread Cert.KernelVisIdeal.nD Cert.KernelVisIdeal.τ).loc Cert.KernelVisIdeal.main_arg2)) (m ((c.tc : Thread Cert.KernelVisIdeal.nD Cert.KernelVisIdeal.τ).loc Cert.KernelVisIdeal.main_arg3)) (m ((c.tc : Thread Cert.KernelVisIdeal.nD Cert.KernelVisIdeal.τ).loc Cert.KernelVisIdeal.main_arg4)) (m ((c.tc : Thread Cert.KernelVisIdeal.nD Cert.KernelVisIdeal.τ).loc Cert.KernelVisIdeal.main_arg5))).2.2.2.2.2 i = 1#1 → r.2.mem ((c.tc : Thread Cert.ReferenceVisIdeal.nD Cert.ReferenceVisIdeal.τ).loc Cert.ReferenceVisIdeal.main_v3_5) i = v5 c i)
          ∧ r.2.mem ((c.tc : Thread Cert.ReferenceVisIdeal.nD Cert.ReferenceVisIdeal.τ).loc Cert.ReferenceVisIdeal.main_arg0) = m' ((c.tc : Thread Cert.ReferenceVisIdeal.nD Cert.ReferenceVisIdeal.τ).loc Cert.ReferenceVisIdeal.main_arg0)
          ∧ r.2.mem ((c.tc : Thread Cert.ReferenceVisIdeal.nD Cert.ReferenceVisIdeal.τ).loc Cert.ReferenceVisIdeal.main_arg1) = m' ((c.tc : Thread Cert.ReferenceVisIdeal.nD Cert.ReferenceVisIdeal.τ).loc Cert.ReferenceVisIdeal.main_arg1)
          ∧ r.2.mem ((c.tc : Thread Cert.ReferenceVisIdeal.nD Cert.ReferenceVisIdeal.τ).loc Cert.ReferenceVisIdeal.main_arg2) = m' ((c.tc : Thread Cert.ReferenceVisIdeal.nD Cert.ReferenceVisIdeal.τ).loc Cert.ReferenceVisIdeal.main_arg2)
          ∧ r.2.mem ((c.tc : Thread Cert.ReferenceVisIdeal.nD Cert.ReferenceVisIdeal.τ).loc Cert.ReferenceVisIdeal.main_arg3) = m' ((c.tc : Thread Cert.ReferenceVisIdeal.nD Cert.ReferenceVisIdeal.τ).loc Cert.ReferenceVisIdeal.main_arg3)
          ∧ r.2.mem ((c.tc : Thread Cert.ReferenceVisIdeal.nD Cert.ReferenceVisIdeal.τ).loc Cert.ReferenceVisIdeal.main_arg4) = m' ((c.tc : Thread Cert.ReferenceVisIdeal.nD Cert.ReferenceVisIdeal.τ).loc Cert.ReferenceVisIdeal.main_arg4)
          ∧ r.2.mem ((c.tc : Thread Cert.ReferenceVisIdeal.nD Cert.ReferenceVisIdeal.τ).loc Cert.ReferenceVisIdeal.main_arg5) = m' ((c.tc : Thread Cert.ReferenceVisIdeal.nD Cert.ReferenceVisIdeal.τ).loc Cert.ReferenceVisIdeal.main_arg5))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)
      ∧ m' ((c.tc : Thread Cert.ReferenceOIdeal.nD Cert.ReferenceOIdeal.τ).loc Cert.ReferenceOIdeal.main_arg6) = m ((c.tc : Thread Cert.KernelOIdeal.nD Cert.KernelOIdeal.τ).loc Cert.KernelOIdeal.main_arg6)) →
    ∃ (v0 : (c : Dev Cert.KernelOIdeal.nD) → Buf (Elt Ideal) ((c.tc : Thread Cert.KernelOIdeal.nD Cert.KernelOIdeal.τ).loc Cert.KernelOIdeal.main_v4_0)) (v1 : (c : Dev Cert.KernelOIdeal.nD) → Buf (Elt Ideal) ((c.tc : Thread Cert.KernelOIdeal.nD Cert.KernelOIdeal.τ).loc Cert.KernelOIdeal.main_v4_1)) (v2 : (c : Dev Cert.KernelOIdeal.nD) → Buf (Elt Ideal) ((c.tc : Thread Cert.KernelOIdeal.nD Cert.KernelOIdeal.τ).loc Cert.KernelOIdeal.main_v4_2)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v4_0) = v0 c
          ∧ r.2.mem ((c.tc : Thread Cert.KernelOIdeal.nD Cert.KernelOIdeal.τ).loc Cert.KernelOIdeal.main_v4_1) = v1 c
          ∧ r.2.mem ((c.tc : Thread Cert.KernelOIdeal.nD Cert.KernelOIdeal.τ).loc Cert.KernelOIdeal.main_v4_2) = v2 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
          ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v4_0) = v0 c
          ∧ r.2.mem ((c.tc : Thread Cert.ReferenceOIdeal.nD Cert.ReferenceOIdeal.τ).loc Cert.ReferenceOIdeal.main_v4_1) = v1 c
          ∧ r.2.mem ((c.tc : Thread Cert.ReferenceOIdeal.nD Cert.ReferenceOIdeal.τ).loc Cert.ReferenceOIdeal.main_v4_2) = v2 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5)
          ∧ r.2.mem ((c.tc : Thread Cert.ReferenceOIdeal.nD Cert.ReferenceOIdeal.τ).loc Cert.ReferenceOIdeal.main_arg6) = m' ((c.tc : Thread Cert.ReferenceOIdeal.nD Cert.ReferenceOIdeal.τ).loc Cert.ReferenceOIdeal.main_arg6))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)
      ∧ m' ((c.tc : Thread Cert.ReferenceQIdeal.nD Cert.ReferenceQIdeal.τ).loc Cert.ReferenceQIdeal.main_arg3) = m ((c.tc : Thread Cert.KernelQIdeal.nD Cert.KernelQIdeal.τ).loc Cert.KernelQIdeal.main_arg3)
      ∧ m' ((c.tc : Thread Cert.ReferenceQIdeal.nD Cert.ReferenceQIdeal.τ).loc Cert.ReferenceQIdeal.main_arg4) = m ((c.tc : Thread Cert.KernelQIdeal.nD Cert.KernelQIdeal.τ).loc Cert.KernelQIdeal.main_arg4)) →
    ∃ (v0 : (c : Dev Cert.KernelQIdeal.nD) → Buf (Elt Ideal) ((c.tc : Thread Cert.KernelQIdeal.nD Cert.KernelQIdeal.τ).loc Cert.KernelQIdeal.main_v3_0)) (v1 : (c : Dev Cert.KernelQIdeal.nD) → Buf (Elt Ideal) ((c.tc : Thread Cert.KernelQIdeal.nD Cert.KernelQIdeal.τ).loc Cert.KernelQIdeal.main_v3_1)) (v2 : (c : Dev Cert.KernelQIdeal.nD) → Buf (Elt Ideal) ((c.tc : Thread Cert.KernelQIdeal.nD Cert.KernelQIdeal.τ).loc Cert.KernelQIdeal.main_v3_2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v3_0) = v0 c
          ∧ r.2.mem ((c.tc : Thread Cert.KernelQIdeal.nD Cert.KernelQIdeal.τ).loc Cert.KernelQIdeal.main_v3_1) = v1 c
          ∧ r.2.mem ((c.tc : Thread Cert.KernelQIdeal.nD Cert.KernelQIdeal.τ).loc Cert.KernelQIdeal.main_v3_2) = v2 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
          ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3)
          ∧ r.2.mem ((c.tc : Thread Cert.KernelQIdeal.nD Cert.KernelQIdeal.τ).loc Cert.KernelQIdeal.main_arg4) = m ((c.tc : Thread Cert.KernelQIdeal.nD Cert.KernelQIdeal.τ).loc Cert.KernelQIdeal.main_arg4))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v3_0) = v0 c
          ∧ r.2.mem ((c.tc : Thread Cert.ReferenceQIdeal.nD Cert.ReferenceQIdeal.τ).loc Cert.ReferenceQIdeal.main_v3_1) = v1 c
          ∧ r.2.mem ((c.tc : Thread Cert.ReferenceQIdeal.nD Cert.ReferenceQIdeal.τ).loc Cert.ReferenceQIdeal.main_v3_2) = v2 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2)
          ∧ r.2.mem ((c.tc : Thread Cert.ReferenceQIdeal.nD Cert.ReferenceQIdeal.τ).loc Cert.ReferenceQIdeal.main_arg3) = m' ((c.tc : Thread Cert.ReferenceQIdeal.nD Cert.ReferenceQIdeal.τ).loc Cert.ReferenceQIdeal.main_arg3)
          ∧ r.2.mem ((c.tc : Thread Cert.ReferenceQIdeal.nD Cert.ReferenceQIdeal.τ).loc Cert.ReferenceQIdeal.main_arg4) = m' ((c.tc : Thread Cert.ReferenceQIdeal.nD Cert.ReferenceQIdeal.τ).loc Cert.ReferenceQIdeal.main_arg4))

def preserves_KernelFf_KernelFfIdeal : Prop :=
  True

def algebraic_KernelFfIdeal_ReferenceFfIdeal [hKernelFfIdeal : Cert.KernelFfIdeal.Facts] [hReferenceFfIdeal : Cert.ReferenceFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg)
    (m' : (ℓ : Loc Cert.ReferenceFfIdeal.nD Cert.ReferenceFfIdeal.τ Cert.ReferenceFfIdeal.sig) → Buf (Elt Ideal) ℓ) (g' : Dev Cert.ReferenceFfIdeal.nD → PrngReg), Pre_KernelFfIdeal m →
    (∀ c : Dev Cert.KernelFfIdeal.nD,
      m' ((c.tc : Thread Cert.ReferenceFfIdeal.nD Cert.ReferenceFfIdeal.τ).loc Cert.ReferenceFfIdeal.main_arg0) = m ((c.tc : Thread Cert.KernelFfIdeal.nD Cert.KernelFfIdeal.τ).loc Cert.KernelFfIdeal.main_arg0)
      ∧ m' ((c.tc : Thread Cert.ReferenceFfIdeal.nD Cert.ReferenceFfIdeal.τ).loc Cert.ReferenceFfIdeal.main_arg1) = m ((c.tc : Thread Cert.KernelFfIdeal.nD Cert.KernelFfIdeal.τ).loc Cert.KernelFfIdeal.main_arg1)
      ∧ m' ((c.tc : Thread Cert.ReferenceFfIdeal.nD Cert.ReferenceFfIdeal.τ).loc Cert.ReferenceFfIdeal.main_arg2) = m ((c.tc : Thread Cert.KernelFfIdeal.nD Cert.KernelFfIdeal.τ).loc Cert.KernelFfIdeal.main_arg2)
      ∧ m' ((c.tc : Thread Cert.ReferenceFfIdeal.nD Cert.ReferenceFfIdeal.τ).loc Cert.ReferenceFfIdeal.main_arg3) = m ((c.tc : Thread Cert.KernelFfIdeal.nD Cert.KernelFfIdeal.τ).loc Cert.KernelFfIdeal.main_arg3)
      ∧ m' ((c.tc : Thread Cert.ReferenceFfIdeal.nD Cert.ReferenceFfIdeal.τ).loc Cert.ReferenceFfIdeal.main_arg4) = m ((c.tc : Thread Cert.KernelFfIdeal.nD Cert.KernelFfIdeal.τ).loc Cert.KernelFfIdeal.main_arg4)
      ∧ m' ((c.tc : Thread Cert.ReferenceFfIdeal.nD Cert.ReferenceFfIdeal.τ).loc Cert.ReferenceFfIdeal.main_arg5) = m ((c.tc : Thread Cert.KernelFfIdeal.nD Cert.KernelFfIdeal.τ).loc Cert.KernelFfIdeal.main_arg5)) →
    ∃ (v0 : (c : Dev Cert.KernelFfIdeal.nD) → Buf (Elt Ideal) ((c.tc : Thread Cert.KernelFfIdeal.nD Cert.KernelFfIdeal.τ).loc Cert.KernelFfIdeal.main_v3_0)) (v1 : (c : Dev Cert.KernelFfIdeal.nD) → Buf (Elt Ideal) ((c.tc : Thread Cert.KernelFfIdeal.nD Cert.KernelFfIdeal.τ).loc Cert.KernelFfIdeal.main_v3_1)),
      θ_run (Cert.KernelFfIdeal.defs (F := Ideal)) (onTc (τ := Cert.KernelFfIdeal.τ) (Cert.KernelFfIdeal.main (F := Ideal))) ⟨m, fun _ => 0, g⟩ (fun r => ∀ c : Dev Cert.KernelFfIdeal.nD,
          r.2.mem ((c.tc : Thread Cert.KernelFfIdeal.nD Cert.KernelFfIdeal.τ).loc Cert.KernelFfIdeal.main_v3_0) = v0 c
          ∧ r.2.mem ((c.tc : Thread Cert.KernelFfIdeal.nD Cert.KernelFfIdeal.τ).loc Cert.KernelFfIdeal.main_v3_1) = v1 c
          ∧ r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
          ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
          ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
          ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3)
          ∧ r.2.mem ((c.tc : Thread Cert.KernelFfIdeal.nD Cert.KernelFfIdeal.τ).loc Cert.KernelFfIdeal.main_arg4) = m ((c.tc : Thread Cert.KernelFfIdeal.nD Cert.KernelFfIdeal.τ).loc Cert.KernelFfIdeal.main_arg4)
          ∧ r.2.mem ((c.tc : Thread Cert.KernelFfIdeal.nD Cert.KernelFfIdeal.τ).loc Cert.KernelFfIdeal.main_arg5) = m ((c.tc : Thread Cert.KernelFfIdeal.nD Cert.KernelFfIdeal.τ).loc Cert.KernelFfIdeal.main_arg5))
      ∧ θ_run (Cert.ReferenceFfIdeal.defs (F := Ideal)) (onTc (τ := Cert.ReferenceFfIdeal.τ) (Cert.ReferenceFfIdeal.main (F := Ideal))) ⟨m', fun _ => 0, g'⟩ (fun r => ∀ c : Dev Cert.ReferenceFfIdeal.nD,
          r.2.mem ((c.tc : Thread Cert.ReferenceFfIdeal.nD Cert.ReferenceFfIdeal.τ).loc Cert.ReferenceFfIdeal.main_v3_0) = v0 c
          ∧ r.2.mem ((c.tc : Thread Cert.ReferenceFfIdeal.nD Cert.ReferenceFfIdeal.τ).loc Cert.ReferenceFfIdeal.main_v3_1) = v1 c
          ∧ r.2.mem ((c.tc : Thread Cert.ReferenceFfIdeal.nD Cert.ReferenceFfIdeal.τ).loc Cert.ReferenceFfIdeal.main_arg0) = m' ((c.tc : Thread Cert.ReferenceFfIdeal.nD Cert.ReferenceFfIdeal.τ).loc Cert.ReferenceFfIdeal.main_arg0)
          ∧ r.2.mem ((c.tc : Thread Cert.ReferenceFfIdeal.nD Cert.ReferenceFfIdeal.τ).loc Cert.ReferenceFfIdeal.main_arg1) = m' ((c.tc : Thread Cert.ReferenceFfIdeal.nD Cert.ReferenceFfIdeal.τ).loc Cert.ReferenceFfIdeal.main_arg1)
          ∧ r.2.mem ((c.tc : Thread Cert.ReferenceFfIdeal.nD Cert.ReferenceFfIdeal.τ).loc Cert.ReferenceFfIdeal.main_arg2) = m' ((c.tc : Thread Cert.ReferenceFfIdeal.nD Cert.ReferenceFfIdeal.τ).loc Cert.ReferenceFfIdeal.main_arg2)
          ∧ r.2.mem ((c.tc : Thread Cert.ReferenceFfIdeal.nD Cert.ReferenceFfIdeal.τ).loc Cert.ReferenceFfIdeal.main_arg3) = m' ((c.tc : Thread Cert.ReferenceFfIdeal.nD Cert.ReferenceFfIdeal.τ).loc Cert.ReferenceFfIdeal.main_arg3)
          ∧ r.2.mem ((c.tc : Thread Cert.ReferenceFfIdeal.nD Cert.ReferenceFfIdeal.τ).loc Cert.ReferenceFfIdeal.main_arg4) = m' ((c.tc : Thread Cert.ReferenceFfIdeal.nD Cert.ReferenceFfIdeal.τ).loc Cert.ReferenceFfIdeal.main_arg4)
          ∧ r.2.mem ((c.tc : Thread Cert.ReferenceFfIdeal.nD Cert.ReferenceFfIdeal.τ).loc Cert.ReferenceFfIdeal.main_arg5) = m' ((c.tc : Thread Cert.ReferenceFfIdeal.nD Cert.ReferenceFfIdeal.τ).loc Cert.ReferenceFfIdeal.main_arg5))

def Claim : Prop :=
  ∃ (hKernelVis : Cert.KernelVis.Facts) (hKernelVisIdeal : Cert.KernelVisIdeal.Facts) (hReferenceVisIdeal : Cert.ReferenceVisIdeal.Facts) (hKernelO : Cert.KernelO.Facts) (hKernelOIdeal : Cert.KernelOIdeal.Facts) (hReferenceOIdeal : Cert.ReferenceOIdeal.Facts) (hKernelQ : Cert.KernelQ.Facts) (hKernelQIdeal : Cert.KernelQIdeal.Facts) (hReferenceQIdeal : Cert.ReferenceQIdeal.Facts) (hKernelFf : Cert.KernelFf.Facts) (hKernelFfIdeal : Cert.KernelFfIdeal.Facts) (hReferenceFfIdeal : Cert.ReferenceFfIdeal.Facts) (hOn_mask_vis : Cert.On_mask_vis.Facts),
    quiescent_KernelVis (hKernelVis := hKernelVis)
    ∧ quiescent_KernelVisIdeal (hKernelVisIdeal := hKernelVisIdeal)
    ∧ quiescent_ReferenceVisIdeal (hReferenceVisIdeal := hReferenceVisIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelFf (hKernelFf := hKernelFf)
    ∧ quiescent_KernelFfIdeal (hKernelFfIdeal := hKernelFfIdeal)
    ∧ quiescent_ReferenceFfIdeal (hReferenceFfIdeal := hReferenceFfIdeal)
    ∧ preserves_KernelVis_KernelVisIdeal
    ∧ algebraic_KernelVisIdeal_ReferenceVisIdeal_on_mask_vis (hKernelVisIdeal := hKernelVisIdeal) (hReferenceVisIdeal := hReferenceVisIdeal) (hOn_mask_vis := hOn_mask_vis)
    ∧ preserves_KernelO_KernelOIdeal
    ∧ algebraic_KernelOIdeal_ReferenceOIdeal (hKernelOIdeal := hKernelOIdeal) (hReferenceOIdeal := hReferenceOIdeal)
    ∧ preserves_KernelQ_KernelQIdeal
    ∧ algebraic_KernelQIdeal_ReferenceQIdeal (hKernelQIdeal := hKernelQIdeal) (hReferenceQIdeal := hReferenceQIdeal)
    ∧ preserves_KernelFf_KernelFfIdeal
    ∧ algebraic_KernelFfIdeal_ReferenceFfIdeal (hKernelFfIdeal := hKernelFfIdeal) (hReferenceFfIdeal := hReferenceFfIdeal)
-- ==== On_mask_vis.lean ====
abbrev S6x6404x4096 : Shape := ⟨3, ![6, 6404, 4096]⟩
abbrev S4096x512 : Shape := ⟨2, ![4096, 512]⟩
abbrev S512 : Shape := ⟨1, ![512]⟩
abbrev S128 : Shape := ⟨1, ![128]⟩
abbrev S8x128 : Shape := ⟨2, ![8, 128]⟩
abbrev S_ : Shape := ⟨0, ![]⟩
abbrev S6x4x6404x128 : Shape := ⟨4, ![6, 4, 6404, 128]⟩
abbrev S6x6404 : Shape := ⟨2, ![6, 6404]⟩

class Facts : Prop where
  bcast_S_S8x128 : S_.BroadcastsInDim S8x128 (![] : Fin 0 → Fin S8x128.rank)
  bcast_S_S6x4x6404x128 : S_.BroadcastsInDim S6x4x6404x128 (![] : Fin 0 → Fin S6x4x6404x128.rank)
  bcast_S_S6x6404x4096 : S_.BroadcastsInDim S6x6404x4096 (![] : Fin 0 → Fin S6x6404x4096.rank)
  bcast_S_S6x6404 : S_.BroadcastsInDim S6x6404 (![] : Fin 0 → Fin S6x6404.rank)

variable [Facts]

def fn {F : FTy → Type} [FloatOps F] (main_arg0 : FVec F S6x6404x4096 .bf16) (main_arg1 : FVec F S4096x512 .fp8e4m3) (main_arg2 : FVec F S4096x512 .fp8e4m3) (main_arg3 : FVec F S512 .f32) (main_arg4 : FVec F S512 .f32) (main_arg5 : FVec F S128 .f32) : IVec S6x6404x4096 1 × IVec S6x6404 1 × IVec S6x4x6404x128 1 × IVec S8x128 1 × IVec S6x4x6404x128 1 × IVec S8x128 1 :=
  let main_v0 : IVec S8x128 32 := iotaInDim S8x128 32 0
  let main_v1 : IVec S8x128 32 := iotaInDim S8x128 32 1
  let main_c : IVec S_ 32 := constantI S_ 32 6#32
  let main_v2 : IVec S8x128 32 := broadcastInDim S8x128 ![] bcast_S_S8x128 main_c
  let main_v3 : IVec S8x128 1 := cmpi .slt main_v0 main_v2
  let main_c_0 : IVec S_ 32 := constantI S_ 32 4#32
  let main_v4 : IVec S8x128 32 := broadcastInDim S8x128 ![] bcast_S_S8x128 main_c_0
  let main_v5 : IVec S8x128 1 := cmpi .slt main_v1 main_v4
  let main_v6 : IVec S8x128 1 := andi main_v3 main_v5
  let main_c_1 : IVec S_ 1 := constantI S_ 1 1#1
  let main_v7 : IVec S6x4x6404x128 1 := broadcastInDim S6x4x6404x128 ![] bcast_S_S6x4x6404x128 main_c_1
  let main_c_2 : IVec S_ 1 := constantI S_ 1 1#1
  let main_v8 : IVec S6x6404x4096 1 := broadcastInDim S6x6404x4096 ![] bcast_S_S6x6404x4096 main_c_2
  let main_c_3 : IVec S_ 1 := constantI S_ 1 1#1
  let main_v9 : IVec S6x6404 1 := broadcastInDim S6x6404 ![] bcast_S_S6x6404 main_c_3
  (main_v8, main_v9, main_v7, main_v6, main_v7, main_v6)
-- ==== KernelVis.lean ====
abbrev S6x6404x4096 : Shape := ⟨3, ![6, 6404, 4096]⟩
abbrev S4096x512 : Shape := ⟨2, ![4096, 512]⟩
abbrev S512 : Shape := ⟨1, ![512]⟩
abbrev S128 : Shape := ⟨1, ![128]⟩
abbrev S1x512 : Shape := ⟨2, ![1, 512]⟩
abbrev S1x128 : Shape := ⟨2, ![1, 128]⟩
abbrev S6x6404 : Shape := ⟨2, ![6, 6404]⟩
abbrev S6x4x6404x128 : Shape := ⟨4, ![6, 4, 6404, 128]⟩
abbrev S8x128 : Shape := ⟨2, ![8, 128]⟩
abbrev S1x384x4096 : Shape := ⟨3, ![1, 384, 4096]⟩
abbrev S1x4x384x128 : Shape := ⟨4, ![1, 4, 384, 128]⟩
abbrev S17x384x1024 : Shape := ⟨3, ![17, 384, 1024]⟩
abbrev S8x1024 : Shape := ⟨2, ![8, 1024]⟩
abbrev S1x384x1024 : Shape := ⟨3, ![1, 384, 1024]⟩
abbrev S384x1024 : Shape := ⟨2, ![384, 1024]⟩
abbrev S1x1024 : Shape := ⟨2, ![1, 1024]⟩
abbrev S384x128 : Shape := ⟨2, ![384, 128]⟩
abbrev S1x1x384x128 : Shape := ⟨4, ![1, 1, 384, 128]⟩
abbrev S384x4096 : Shape := ⟨2, ![384, 4096]⟩
abbrev S384 : Shape := ⟨1, ![384]⟩
abbrev S384x1 : Shape := ⟨2, ![384, 1]⟩
abbrev S128x384 : Shape := ⟨2, ![128, 384]⟩
abbrev S1x384 : Shape := ⟨2, ![1, 384]⟩
abbrev S1x260 : Shape := ⟨2, ![1, 260]⟩
abbrev S384x512 : Shape := ⟨2, ![384, 512]⟩
abbrev S1x384x128 : Shape := ⟨3, ![1, 384, 128]⟩
abbrev S1x384x512 : Shape := ⟨3, ![1, 384, 512]⟩
abbrev S48x8x1024 : Shape := ⟨3, ![48, 8, 1024]⟩
abbrev S1024 : Shape := ⟨1, ![1024]⟩
abbrev S1 : Shape := ⟨1, ![1]⟩
abbrev S1x1 : Shape := ⟨2, ![1, 1]⟩

abbrev nBuf : Space → Nat
  | .hbm => 15
  | .vmem => 19
  | .smem => 0
  | _ => 0

abbrev bufTy : (tb : Table) → Fin (tcTables nBuf tb) → BufTy
  | .hbm, ⟨0, _⟩ => ⟨S6x6404x4096, .bf16⟩
  | .hbm, ⟨1, _⟩ => ⟨S4096x512, .fp8e4m3⟩
  | .hbm, ⟨2, _⟩ => ⟨S4096x512, .fp8e4m3⟩
  | .hbm, ⟨3, _⟩ => ⟨S512, .f32⟩
  | .hbm, ⟨4, _⟩ => ⟨S512, .f32⟩
  | .hbm, ⟨5, _⟩ => ⟨S128, .f32⟩
  | .hbm, ⟨6, _⟩ => ⟨S1x512, .f32⟩
  | .hbm, ⟨7, _⟩ => ⟨S1x512, .f32⟩
  | .hbm, ⟨8, _⟩ => ⟨S1x128, .f32⟩
  | .hbm, ⟨9, _⟩ => ⟨S6x6404x4096, .fp8e4m3⟩
  | .hbm, ⟨10, _⟩ => ⟨S6x6404, .f32⟩
  | .hbm, ⟨11, _⟩ => ⟨S6x4x6404x128, .fp8e4m3⟩
  | .hbm, ⟨12, _⟩ => ⟨S8x128, .f32⟩
  | .hbm, ⟨13, _⟩ => ⟨S6x4x6404x128, .fp8e4m3⟩
  | .hbm, ⟨14, _⟩ => ⟨S8x128, .f32⟩
  | .local _ .vmem, ⟨0, _⟩ => ⟨S1x384x4096, .bf16⟩
  | .local _ .vmem, ⟨1, _⟩ => ⟨S1x384x4096, .bf16⟩
  | .local _ .vmem, ⟨2, _⟩ => ⟨S4096x512, .fp8e4m3⟩
  | .local _ .vmem, ⟨3, _⟩ => ⟨S4096x512, .fp8e4m3⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S1x384x4096, .fp8e4m3⟩
  | .local _ .vmem, ⟨8, _⟩ => ⟨S1x384x4096, .fp8e4m3⟩
  | .local _ .vmem, ⟨9, _⟩ => ⟨S6x6404, .f32⟩
  | .local _ .vmem, ⟨10, _⟩ => ⟨S1x4x384x128, .fp8e4m3⟩
  | .local _ .vmem, ⟨11, _⟩ => ⟨S1x4x384x128, .fp8e4m3⟩
  | .local _ .vmem, ⟨12, _⟩ => ⟨S8x128, .f32⟩
  | .local _ .vmem, ⟨13, _⟩ => ⟨S1x4x384x128, .fp8e4m3⟩
  | .local _ .vmem, ⟨14, _⟩ => ⟨S1x4x384x128, .fp8e4m3⟩
  | .local _ .vmem, ⟨15, _⟩ => ⟨S8x128, .f32⟩
  | .local _ .vmem, ⟨16, _⟩ => ⟨S17x384x1024, .f32⟩
  | .local _ .vmem, ⟨17, _⟩ => ⟨S8x1024, .f32⟩
  | .local _ .vmem, ⟨18, _⟩ => ⟨S8x1024, .f32⟩
  | _, _ => ⟨S6x6404x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨2, ![7, 17], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v6 : Index := Scalar.indexCast arg1
  let c0 : Index := 0#32
  let c0_2 : Index := 0#32
  ![v6.toNat, 0, 0]
def k0_cond2 (i : grid0.Coords) : BitVec 1 :=
  let arg0 : BitVec 32 := BitVec.ofNat 32 (i 0).val
  let c6_i32 : BitVec 32 := 6#32
  let v3 : BitVec 1 := Scalar.cmpi .slt arg0 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c16_i32 : BitVec 32 := 16#32
  let v35 : BitVec 1 := Scalar.cmpi .slt arg1 c16_i32
  let v36 : BitVec 32 := Scalar.extui v35
  let c0_i32_13 : BitVec 32 := 0#32
  let v37 : BitVec 1 := Scalar.cmpi .ne v36 c0_i32_13
  v37

def k0_mult1 (i : grid0.Coords) : BitVec 32 :=
  let arg1 : BitVec 32 := BitVec.ofNat 32 (i 1).val
  let c384_i32_68 : BitVec 32 := 384#32
  let v178 : BitVec 32 := Scalar.muli arg1 c384_i32_68
  v178
def k0_off2 (i : grid0.Coords) : Fin 2 → Nat :=
  let arg0 : BitVec 32 := BitVec.ofNat 32 (i 0).val
  let v180 : Index := Scalar.indexCast arg0
  let arg1 : BitVec 32 := BitVec.ofNat 32 (i 1).val
  let c384_i32_68 : BitVec 32 := 384#32
  let v178 : BitVec 32 := Scalar.muli arg1 c384_i32_68
  let v179 : BitVec 32 := v178
  let v181 : Index := Scalar.indexCast v179
  ![v180.toNat, v181.toNat]
def k0_cond4 (i : grid0.Coords) : BitVec 1 :=
  let arg1 : BitVec 32 := BitVec.ofNat 32 (i 1).val
  let c16_i32_14 : BitVec 32 := 16#32
  let v38 : BitVec 1 := Scalar.cmpi .eq arg1 c16_i32_14
  let v39 : BitVec 32 := Scalar.extui v38
  let c0_i32_15 : BitVec 32 := 0#32
  let v40 : BitVec 1 := Scalar.cmpi .ne v39 c0_i32_15
  v40

def k0_off3 (i : grid0.Coords) : Fin 2 → Nat :=
  let arg0 : BitVec 32 := BitVec.ofNat 32 (i 0).val
  let v179 : Index := Scalar.indexCast arg0
  let c6144 : Index := 6144#32
  ![v179.toNat, 6144]
def k0_off4 (i : grid0.Coords) : Fin 3 → Nat :=
  let arg1 : BitVec 32 := BitVec.ofNat 32 (i 1).val
  let v81 : Index := Scalar.indexCast arg1
  let c0_33 : Index := 0#32
  let c0_34 : Index := 0#32
  ![v81.toNat, 0, 0]
def k0_off5 (i : grid0.Coords) : Fin 3 → Nat :=
  let arg1 : BitVec 32 := BitVec.ofNat 32 (i 1).val
  let v104 : Index := Scalar.indexCast arg1
  let c0_41 : Index := 0#32
  let c128 : Index := 128#32
  ![v104.toNat, 0, 128]
def k0_off6 (i : grid0.Coords) : Fin 3 → Nat :=
  let arg1 : BitVec 32 := BitVec.ofNat 32 (i 1).val
  let v127 : Index := Scalar.indexCast arg1
  let c0_48 : Index := 0#32
  let c256 : Index := 256#32
  ![v127.toNat, 0, 256]
def k0_off7 (i : grid0.Coords) : Fin 3 → Nat :=
  let arg1 : BitVec 32 := BitVec.ofNat 32 (i 1).val
  let v150 : Index := Scalar.indexCast arg1
  let c0_55 : Index := 0#32
  let c384 : Index := 384#32
  ![v150.toNat, 0, 384]
def k0_off8 (i : grid0.Coords) : Fin 3 → Nat :=
  let arg1 : BitVec 32 := BitVec.ofNat 32 (i 1).val
  let v158 : Index := Scalar.indexCast arg1
  let c0_57 : Index := 0#32
  let c512 : Index := 512#32
  ![v158.toNat, 0, 512]
def k0_off9 (i : grid0.Coords) : Fin 3 → Nat :=
  let arg1 : BitVec 32 := BitVec.ofNat 32 (i 1).val
  let v162 : Index := Scalar.indexCast arg1
  let c0_58 : Index := 0#32
  let c0_59 : Index := 0#32
  ![v162.toNat, 0, 0]
def k0_cond5 (i : grid0.Coords) : BitVec 1 :=
  let arg1 : BitVec 32 := BitVec.ofNat 32 (i 1).val
  let c16_i32_66 : BitVec 32 := 16#32
  let v175 : BitVec 1 := Scalar.cmpi .eq arg1 c16_i32_66
  let v176 : BitVec 32 := Scalar.extui v175
  let c0_i32_67 : BitVec 32 := 0#32
  let v177 : BitVec 1 := Scalar.cmpi .ne v176 c0_i32_67
  v177

def k0_off10 (i : grid0.Coords) : Fin 2 → Nat :=
  let arg0 : BitVec 32 := BitVec.ofNat 32 (i 0).val
  let v200 : Index := Scalar.indexCast arg0
  let c0_79 : Index := 0#32
  ![v200.toNat, 0]
def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c5_i32_0 : BitVec 32 := 5#32
  let v1 : BitVec 1 := Scalar.cmpi .sgt arg0 c5_i32_0
  let c16_i32 : BitVec 32 := 16#32
  let v2 : BitVec 32 := Scalar.select v1 c16_i32 arg1
  let c0_i32 : BitVec 32 := 0#32
  let c0_i32_1 : BitVec 32 := 0#32
  ![v0.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c5_i32_0 : BitVec 32 := 5#32
  let v1 : BitVec 1 := Scalar.cmpi .sgt arg0 c5_i32_0
  let c16_i32 : BitVec 32 := 16#32
  let v2 : BitVec 32 := Scalar.select v1 c16_i32 arg1
  let c0_i32 : BitVec 32 := 0#32
  let c0_i32_1 : BitVec 32 := 0#32
  ![v0.toNat, v2.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  let c0_i32_4 : BitVec 32 := 0#32
  ![v1.toNat, c0_i32_2.toNat, v3.toNat, c0_i32_3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  let c0_i32_4 : BitVec 32 := 0#32
  ![v1.toNat, c0_i32_2.toNat, v3.toNat, c0_i32_3.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x384x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x384x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S6x6404 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x384x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4x384x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceVisIdeal.lean ====
abbrev S6x6404x4096 : Shape := ⟨3, ![6, 6404, 4096]⟩
abbrev S4096x512 : Shape := ⟨2, ![4096, 512]⟩
abbrev S512 : Shape := ⟨1, ![512]⟩
abbrev S128 : Shape := ⟨1, ![128]⟩
abbrev S1x512 : Shape := ⟨2, ![1, 512]⟩
abbrev S1x128 : Shape := ⟨2, ![1, 128]⟩
abbrev S6x6404 : Shape := ⟨2, ![6, 6404]⟩
abbrev S6x4x6404x128 : Shape := ⟨4, ![6, 4, 6404, 128]⟩
abbrev S8x128 : Shape := ⟨2, ![8, 128]⟩
abbrev S6x6404x1 : Shape := ⟨3, ![6, 6404, 1]⟩
abbrev S6x6404x512 : Shape := ⟨3, ![6, 6404, 512]⟩
abbrev S1x1x512 : Shape := ⟨3, ![1, 1, 512]⟩
abbrev S6x6404x128 : Shape := ⟨3, ![6, 6404, 128]⟩
abbrev S1x1x128 : Shape := ⟨3, ![1, 1, 128]⟩
abbrev S6 : Shape := ⟨1, ![6]⟩
abbrev S6x1x1 : Shape := ⟨3, ![6, 1, 1]⟩
abbrev S6x1x6404x128 : Shape := ⟨4, ![6, 1, 6404, 128]⟩
abbrev S6x1 : Shape := ⟨2, ![6, 1]⟩

abbrev nBuf : Space → Nat
  | .hbm => 15
  | .vmem => 12
  | .smem => 0
  | _ => 0

abbrev bufTy : (tb : Table) → Fin (tcTables nBuf tb) → BufTy
  | .hbm, ⟨0, _⟩ => ⟨S6x6404x4096, .bf16⟩
  | .hbm, ⟨1, _⟩ => ⟨S4096x512, .fp8e4m3⟩
  | .hbm, ⟨2, _⟩ => ⟨S4096x512, .fp8e4m3⟩
  | .hbm, ⟨3, _⟩ => ⟨S512, .f32⟩
  | .hbm, ⟨4, _⟩ => ⟨S512, .f32⟩
  | .hbm, ⟨5, _⟩ => ⟨S128, .f32⟩
  | .hbm, ⟨6, _⟩ => ⟨S1x512, .f32⟩
  | .hbm, ⟨7, _⟩ => ⟨S1x512, .f32⟩
  | .hbm, ⟨8, _⟩ => ⟨S1x128, .f32⟩
  | .hbm, ⟨9, _⟩ => ⟨S6x6404x4096, .fp8e4m3⟩
  | .hbm, ⟨10, _⟩ => ⟨S6x6404, .f32⟩
  | .hbm, ⟨11, _⟩ => ⟨S6x4x6404x128, .fp8e4m3⟩
  | .hbm, ⟨12, _⟩ => ⟨S8x128, .f32⟩
  | .hbm, ⟨13, _⟩ => ⟨S6x4x6404x128, .fp8e4m3⟩
  | .hbm, ⟨14, _⟩ => ⟨S8x128, .f32⟩
  | .local _ .vmem, ⟨0, _⟩ => ⟨S6x6404x4096, .bf16⟩
  | .local _ .vmem, ⟨1, _⟩ => ⟨S4096x512, .fp8e4m3⟩
  | .local _ .vmem, ⟨2, _⟩ => ⟨S4096x512, .fp8e4m3⟩
  | .local _ .vmem, ⟨3, _⟩ => ⟨S1x512, .f32⟩
  | .local _ .vmem, ⟨4, _⟩ => ⟨S1x512, .f32⟩
  | .local _ .vmem, ⟨5, _⟩ => ⟨S1x128, .f32⟩
  | .local _ .vmem, ⟨6, _⟩ => ⟨S6x6404x4096, .fp8e4m3⟩
  | .local _ .vmem, ⟨7, _⟩ => ⟨S6x6404, .f32⟩
  | .local _ .vmem, ⟨8, _⟩ => ⟨S6x4x6404x128, .fp8e4m3⟩
  | .local _ .vmem, ⟨9, _⟩ => ⟨S8x128, .f32⟩
  | .local _ .vmem, ⟨10, _⟩ => ⟨S6x4x6404x128, .fp8e4m3⟩
  | .local _ .vmem, ⟨11, _⟩ => ⟨S8x128, .f32⟩
  | _, _ => ⟨S6x6404x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6x6404x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x6404x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x6404 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x4x6404x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x4x6404x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelO.lean ====
abbrev S1280x2048 : Shape := ⟨2, ![1280, 2048]⟩
abbrev S1280 : Shape := ⟨1, ![1280]⟩
abbrev S2048x4096 : Shape := ⟨2, ![2048, 4096]⟩
abbrev S4096 : Shape := ⟨1, ![4096]⟩
abbrev S1280x4096 : Shape := ⟨2, ![1280, 4096]⟩
abbrev S1 : Shape := ⟨1, ![1]⟩
abbrev S1x4096 : Shape := ⟨2, ![1, 4096]⟩
abbrev S1x1 : Shape := ⟨2, ![1, 1]⟩
abbrev S1280x1 : Shape := ⟨2, ![1280, 1]⟩
abbrev S1x1280 : Shape := ⟨2, ![1, 1280]⟩
abbrev S256x2048 : Shape := ⟨2, ![256, 2048]⟩
abbrev S256x1 : Shape := ⟨2, ![256, 1]⟩
abbrev S256x4096 : Shape := ⟨2, ![256, 4096]⟩
abbrev S1x256 : Shape := ⟨2, ![1, 256]⟩
abbrev S256 : Shape := ⟨1, ![256]⟩
abbrev S256x128 : Shape := ⟨2, ![256, 128]⟩
abbrev S128x256 : Shape := ⟨2, ![128, 256]⟩

abbrev nBuf : Space → Nat
  | .hbm => 14
  | .vmem => 16
  | .smem => 0
  | _ => 0

abbrev bufTy : (tb : Table) → Fin (tcTables nBuf tb) → BufTy
  | .hbm, ⟨0, _⟩ => ⟨S1280x2048, .fp8e4m3⟩
  | .hbm, ⟨1, _⟩ => ⟨S1280, .f32⟩
  | .hbm, ⟨2, _⟩ => ⟨S2048x4096, .fp8e4m3⟩
  | .hbm, ⟨3, _⟩ => ⟨S4096, .f32⟩
  | .hbm, ⟨4, _⟩ => ⟨S1280x4096, .bf16⟩
  | .hbm, ⟨5, _⟩ => ⟨S1, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x1, .f32⟩
  | .hbm, ⟨10, _⟩ => ⟨S1280x1, .f32⟩
  | .hbm, ⟨11, _⟩ => ⟨S1280x4096, .f32⟩
  | .hbm, ⟨12, _⟩ => ⟨S1280x4096, .fp8e4m3⟩
  | .hbm, ⟨13, _⟩ => ⟨S1x1280, .f32⟩
  | .local _ .vmem, ⟨0, _⟩ => ⟨S256x2048, .fp8e4m3⟩
  | .local _ .vmem, ⟨1, _⟩ => ⟨S256x2048, .fp8e4m3⟩
  | .local _ .vmem, ⟨2, _⟩ => ⟨S256x1, .f32⟩
  | .local _ .vmem, ⟨3, _⟩ => ⟨S256x1, .f32⟩
  | .local _ .vmem, ⟨4, _⟩ => ⟨S2048x4096, .fp8e4m3⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | .local _ .vmem, ⟨8, _⟩ => ⟨S1x1, .f32⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .fp8e4m3⟩
  | .local _ .vmem, ⟨13, _⟩ => ⟨S256x4096, .fp8e4m3⟩
  | .local _ .vmem, ⟨14, _⟩ => ⟨S1x256, .f32⟩
  | .local _ .vmem, ⟨15, _⟩ => ⟨S1x256, .f32⟩
  | _, _ => ⟨S1280x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceOIdeal.lean ====
abbrev S1280x2048 : Shape := ⟨2, ![1280, 2048]⟩
abbrev S1280 : Shape := ⟨1, ![1280]⟩
abbrev S2048x4096 : Shape := ⟨2, ![2048, 4096]⟩
abbrev S4096 : Shape := ⟨1, ![4096]⟩
abbrev S1280x4096 : Shape := ⟨2, ![1280, 4096]⟩
abbrev S1 : Shape := ⟨1, ![1]⟩
abbrev S1280x1 : Shape := ⟨2, ![1280, 1]⟩
abbrev S1x4096 : Shape := ⟨2, ![1, 4096]⟩
abbrev S1x1 : Shape := ⟨2, ![1, 1]⟩
abbrev S1x1280 : Shape := ⟨2, ![1, 1280]⟩

abbrev nBuf : Space → Nat
  | .hbm => 14
  | .vmem => 10
  | .smem => 0
  | _ => 0

abbrev bufTy : (tb : Table) → Fin (tcTables nBuf tb) → BufTy
  | .hbm, ⟨0, _⟩ => ⟨S1280x2048, .fp8e4m3⟩
  | .hbm, ⟨1, _⟩ => ⟨S1280, .f32⟩
  | .hbm, ⟨2, _⟩ => ⟨S2048x4096, .fp8e4m3⟩
  | .hbm, ⟨3, _⟩ => ⟨S4096, .f32⟩
  | .hbm, ⟨4, _⟩ => ⟨S1280x4096, .bf16⟩
  | .hbm, ⟨5, _⟩ => ⟨S1, .f32⟩
  | .hbm, ⟨6, _⟩ => ⟨S4096, .f32⟩
  | .hbm, ⟨7, _⟩ => ⟨S1280x1, .f32⟩
  | .hbm, ⟨8, _⟩ => ⟨S1x4096, .f32⟩
  | .hbm, ⟨9, _⟩ => ⟨S1x1, .f32⟩
  | .hbm, ⟨10, _⟩ => ⟨S1x4096, .f32⟩
  | .hbm, ⟨11, _⟩ => ⟨S1280x4096, .f32⟩
  | .hbm, ⟨12, _⟩ => ⟨S1280x4096, .fp8e4m3⟩
  | .hbm, ⟨13, _⟩ => ⟨S1x1280, .f32⟩
  | .local _ .vmem, ⟨0, _⟩ => ⟨S1280x2048, .fp8e4m3⟩
  | .local _ .vmem, ⟨1, _⟩ => ⟨S1280x1, .f32⟩
  | .local _ .vmem, ⟨2, _⟩ => ⟨S2048x4096, .fp8e4m3⟩
  | .local _ .vmem, ⟨3, _⟩ => ⟨S1x4096, .f32⟩
  | .local _ .vmem, ⟨4, _⟩ => ⟨S1280x4096, .bf16⟩
  | .local _ .vmem, ⟨5, _⟩ => ⟨S1x1, .f32⟩
  | .local _ .vmem, ⟨6, _⟩ => ⟨S1x4096, .f32⟩
  | .local _ .vmem, ⟨7, _⟩ => ⟨S1280x4096, .f32⟩
  | .local _ .vmem, ⟨8, _⟩ => ⟨S1280x4096, .fp8e4m3⟩
  | .local _ .vmem, ⟨9, _⟩ => ⟨S1x1280, .f32⟩
  | _, _ => ⟨S1280x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1280x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1280x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelQ.lean ====
abbrev S1280x4096 : Shape := ⟨2, ![1280, 4096]⟩
abbrev S4096 : Shape := ⟨1, ![4096]⟩
abbrev S4096x2048 : Shape := ⟨2, ![4096, 2048]⟩
abbrev S2048 : Shape := ⟨1, ![2048]⟩
abbrev S128 : Shape := ⟨1, ![128]⟩
abbrev S1x4096 : Shape := ⟨2, ![1, 4096]⟩
abbrev S1x2048 : Shape := ⟨2, ![1, 2048]⟩
abbrev S1x128 : Shape := ⟨2, ![1, 128]⟩
abbrev S1x1280 : Shape := ⟨2, ![1, 1280]⟩
abbrev S20x4x256x128 : Shape := ⟨4, ![20, 4, 256, 128]⟩
abbrev S256x4096 : Shape := ⟨2, ![256, 4096]⟩
abbrev S1x256 : Shape := ⟨2, ![1, 256]⟩
abbrev S4x4x256x128 : Shape := ⟨4, ![4, 4, 256, 128]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S256x2048 : Shape := ⟨2, ![256, 2048]⟩
abbrev S64x128 : Shape := ⟨2, ![64, 128]⟩
abbrev S1x1x64x128 : Shape := ⟨4, ![1, 1, 64, 128]⟩

abbrev nBuf : Space → Nat
  | .hbm => 11
  | .vmem => 12
  | .smem => 0
  | _ => 0

abbrev bufTy : (tb : Table) → Fin (tcTables nBuf tb) → BufTy
  | .hbm, ⟨0, _⟩ => ⟨S1280x4096, .bf16⟩
  | .hbm, ⟨1, _⟩ => ⟨S4096, .f32⟩
  | .hbm, ⟨2, _⟩ => ⟨S4096x2048, .fp8e4m3⟩
  | .hbm, ⟨3, _⟩ => ⟨S2048, .f32⟩
  | .hbm, ⟨4, _⟩ => ⟨S128, .f32⟩
  | .hbm, ⟨5, _⟩ => ⟨S1x4096, .f32⟩
  | .hbm, ⟨6, _⟩ => ⟨S1x2048, .f32⟩
  | .hbm, ⟨7, _⟩ => ⟨S1x128, .f32⟩
  | .hbm, ⟨8, _⟩ => ⟨S1280x4096, .fp8e4m3⟩
  | .hbm, ⟨9, _⟩ => ⟨S1x1280, .f32⟩
  | .hbm, ⟨10, _⟩ => ⟨S20x4x256x128, .bf16⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S4096x2048, .fp8e4m3⟩
  | .local _ .vmem, ⟨4, _⟩ => ⟨S1x2048, .f32⟩
  | .local _ .vmem, ⟨5, _⟩ => ⟨S1x128, .f32⟩
  | .local _ .vmem, ⟨6, _⟩ => ⟨S256x4096, .fp8e4m3⟩
  | .local _ .vmem, ⟨7, _⟩ => ⟨S256x4096, .fp8e4m3⟩
  | .local _ .vmem, ⟨8, _⟩ => ⟨S1x256, .f32⟩
  | .local _ .vmem, ⟨9, _⟩ => ⟨S1x256, .f32⟩
  | .local _ .vmem, ⟨10, _⟩ => ⟨S4x4x256x128, .bf16⟩
  | .local _ .vmem, ⟨11, _⟩ => ⟨S4x4x256x128, .bf16⟩
  | _, _ => ⟨S1280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceQIdeal.lean ====
abbrev S1280x4096 : Shape := ⟨2, ![1280, 4096]⟩
abbrev S4096 : Shape := ⟨1, ![4096]⟩
abbrev S4096x2048 : Shape := ⟨2, ![4096, 2048]⟩
abbrev S2048 : Shape := ⟨1, ![2048]⟩
abbrev S128 : Shape := ⟨1, ![128]⟩
abbrev S1x4096 : Shape := ⟨2, ![1, 4096]⟩
abbrev S1x2048 : Shape := ⟨2, ![1, 2048]⟩
abbrev S1x128 : Shape := ⟨2, ![1, 128]⟩
abbrev S1x1280 : Shape := ⟨2, ![1, 1280]⟩
abbrev S20x4x256x128 : Shape := ⟨4, ![20, 4, 256, 128]⟩
abbrev S1280 : Shape := ⟨1, ![1280]⟩
abbrev S1280x1 : Shape := ⟨2, ![1280, 1]⟩
abbrev S1280x2048 : Shape := ⟨2, ![1280, 2048]⟩
abbrev S1280x128 : Shape := ⟨2, ![1280, 128]⟩
abbrev S20x64x128 : Shape := ⟨3, ![20, 64, 128]⟩
abbrev S20x1x64x128 : Shape := ⟨4, ![20, 1, 64, 128]⟩

abbrev nBuf : Space → Nat
  | .hbm => 11
  | .vmem => 8
  | .smem => 0
  | _ => 0

abbrev bufTy : (tb : Table) → Fin (tcTables nBuf tb) → BufTy
  | .hbm, ⟨0, _⟩ => ⟨S1280x4096, .bf16⟩
  | .hbm, ⟨1, _⟩ => ⟨S4096, .f32⟩
  | .hbm, ⟨2, _⟩ => ⟨S4096x2048, .fp8e4m3⟩
  | .hbm, ⟨3, _⟩ => ⟨S2048, .f32⟩
  | .hbm, ⟨4, _⟩ => ⟨S128, .f32⟩
  | .hbm, ⟨5, _⟩ => ⟨S1x4096, .f32⟩
  | .hbm, ⟨6, _⟩ => ⟨S1x2048, .f32⟩
  | .hbm, ⟨7, _⟩ => ⟨S1x128, .f32⟩
  | .hbm, ⟨8, _⟩ => ⟨S1280x4096, .fp8e4m3⟩
  | .hbm, ⟨9, _⟩ => ⟨S1x1280, .f32⟩
  | .hbm, ⟨10, _⟩ => ⟨S20x4x256x128, .bf16⟩
  | .local _ .vmem, ⟨0, _⟩ => ⟨S1280x4096, .bf16⟩
  | .local _ .vmem, ⟨1, _⟩ => ⟨S1x4096, .f32⟩
  | .local _ .vmem, ⟨2, _⟩ => ⟨S4096x2048, .fp8e4m3⟩
  | .local _ .vmem, ⟨3, _⟩ => ⟨S1x2048, .f32⟩
  | .local _ .vmem, ⟨4, _⟩ => ⟨S1x128, .f32⟩
  | .local _ .vmem, ⟨5, _⟩ => ⟨S1280x4096, .fp8e4m3⟩
  | .local _ .vmem, ⟨6, _⟩ => ⟨S1x1280, .f32⟩
  | .local _ .vmem, ⟨7, _⟩ => ⟨S20x4x256x128, .bf16⟩
  | _, _ => ⟨S1280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1280x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x4x256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelFf.lean ====
abbrev S1280x4096 : Shape := ⟨2, ![1280, 4096]⟩
abbrev S1280 : Shape := ⟨1, ![1280]⟩
abbrev S4096x7168 : Shape := ⟨2, ![4096, 7168]⟩
abbrev S7168 : Shape := ⟨1, ![7168]⟩
abbrev S1280x1 : Shape := ⟨2, ![1280, 1]⟩
abbrev S1x7168 : Shape := ⟨2, ![1, 7168]⟩
abbrev S1280x7168 : Shape := ⟨2, ![1280, 7168]⟩
abbrev S1x1280 : Shape := ⟨2, ![1, 1280]⟩
abbrev S640x4096 : Shape := ⟨2, ![640, 4096]⟩
abbrev S640x1 : Shape := ⟨2, ![640, 1]⟩
abbrev S4096x512 : Shape := ⟨2, ![4096, 512]⟩
abbrev S1x512 : Shape := ⟨2, ![1, 512]⟩
abbrev S640x7168 : Shape := ⟨2, ![640, 7168]⟩
abbrev S1x640 : Shape := ⟨2, ![1, 640]⟩
abbrev S14x640x512 : Shape := ⟨3, ![14, 640, 512]⟩
abbrev S640x128 : Shape := ⟨2, ![640, 128]⟩
abbrev S640x512 : Shape := ⟨2, ![640, 512]⟩
abbrev S1x640x512 : Shape := ⟨3, ![1, 640, 512]⟩
abbrev S640x4x128 : Shape := ⟨3, ![640, 4, 128]⟩
abbrev S640 : Shape := ⟨1, ![640]⟩
abbrev S128x640 : Shape := ⟨2, ![128, 640]⟩

abbrev nBuf : Space → Nat
  | .hbm => 11
  | .vmem => 18
  | .smem => 0
  | _ => 0

abbrev bufTy : (tb : Table) → Fin (tcTables nBuf tb) → BufTy
  | .hbm, ⟨0, _⟩ => ⟨S1280x4096, .fp8e4m3⟩
  | .hbm, ⟨1, _⟩ => ⟨S1280, .f32⟩
  | .hbm, ⟨2, _⟩ => ⟨S4096x7168, .fp8e4m3⟩
  | .hbm, ⟨3, _⟩ => ⟨S4096x7168, .fp8e4m3⟩
  | .hbm, ⟨4, _⟩ => ⟨S7168, .f32⟩
  | .hbm, ⟨5, _⟩ => ⟨S7168, .f32⟩
  | .hbm, ⟨6, _⟩ => ⟨S1280x1, .f32⟩
  | .hbm, ⟨7, _⟩ => ⟨S1x7168, .f32⟩
  | .hbm, ⟨8, _⟩ => ⟨S1x7168, .f32⟩
  | .hbm, ⟨9, _⟩ => ⟨S1280x7168, .fp8e4m3⟩
  | .hbm, ⟨10, _⟩ => ⟨S1x1280, .f32⟩
  | .local _ .vmem, ⟨0, _⟩ => ⟨S640x4096, .fp8e4m3⟩
  | .local _ .vmem, ⟨1, _⟩ => ⟨S640x4096, .fp8e4m3⟩
  | .local _ .vmem, ⟨2, _⟩ => ⟨S640x1, .f32⟩
  | .local _ .vmem, ⟨3, _⟩ => ⟨S640x1, .f32⟩
  | .local _ .vmem, ⟨4, _⟩ => ⟨S4096x512, .fp8e4m3⟩
  | .local _ .vmem, ⟨5, _⟩ => ⟨S4096x512, .fp8e4m3⟩
  | .local _ .vmem, ⟨6, _⟩ => ⟨S4096x512, .fp8e4m3⟩
  | .local _ .vmem, ⟨7, _⟩ => ⟨S4096x512, .fp8e4m3⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S640x7168, .fp8e4m3⟩
  | .local _ .vmem, ⟨13, _⟩ => ⟨S640x7168, .fp8e4m3⟩
  | .local _ .vmem, ⟨14, _⟩ => ⟨S1x640, .f32⟩
  | .local _ .vmem, ⟨15, _⟩ => ⟨S1x640, .f32⟩
  | .local _ .vmem, ⟨16, _⟩ => ⟨S14x640x512, .f32⟩
  | .local _ .vmem, ⟨17, _⟩ => ⟨S640x128, .f32⟩
  | _, _ => ⟨S1280x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 14], ![false, false]⟩

def k0_off1 (i : grid0.Coords) : Fin 3 → Nat :=
  let arg1 : BitVec 32 := BitVec.ofNat 32 (i 1).val
  let v23 : Index := Scalar.indexCast arg1
  let c0_14 : Index := 0#32
  let c0_15 : Index := 0#32
  ![v23.toNat, 0, 0]
def k0_cond1 (i : grid0.Coords) : BitVec 1 :=
  let arg1 : BitVec 32 := BitVec.ofNat 32 (i 1).val
  let c13_i32 : BitVec 32 := 13#32
  let v37 : BitVec 1 := Scalar.cmpi .eq arg1 c13_i32
  let v38 : BitVec 32 := Scalar.extui v37
  let c0_i32_21 : BitVec 32 := 0#32
  let v39 : BitVec 1 := Scalar.cmpi .ne v38 c0_i32_21
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S640x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S640x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceFfIdeal.lean ====
abbrev S1280x4096 : Shape := ⟨2, ![1280, 4096]⟩
abbrev S1280 : Shape := ⟨1, ![1280]⟩
abbrev S4096x7168 : Shape := ⟨2, ![4096, 7168]⟩
abbrev S7168 : Shape := ⟨1, ![7168]⟩
abbrev S1280x1 : Shape := ⟨2, ![1280, 1]⟩
abbrev S1x7168 : Shape := ⟨2, ![1, 7168]⟩
abbrev S1280x7168 : Shape := ⟨2, ![1280, 7168]⟩
abbrev S1x1280 : Shape := ⟨2, ![1, 1280]⟩

abbrev nBuf : Space → Nat
  | .hbm => 11
  | .vmem => 8
  | .smem => 0
  | _ => 0

abbrev bufTy : (tb : Table) → Fin (tcTables nBuf tb) → BufTy
  | .hbm, ⟨0, _⟩ => ⟨S1280x4096, .fp8e4m3⟩
  | .hbm, ⟨1, _⟩ => ⟨S1280, .f32⟩
  | .hbm, ⟨2, _⟩ => ⟨S4096x7168, .fp8e4m3⟩
  | .hbm, ⟨3, _⟩ => ⟨S4096x7168, .fp8e4m3⟩
  | .hbm, ⟨4, _⟩ => ⟨S7168, .f32⟩
  | .hbm, ⟨5, _⟩ => ⟨S7168, .f32⟩
  | .hbm, ⟨6, _⟩ => ⟨S1280x1, .f32⟩
  | .hbm, ⟨7, _⟩ => ⟨S1x7168, .f32⟩
  | .hbm, ⟨8, _⟩ => ⟨S1x7168, .f32⟩
  | .hbm, ⟨9, _⟩ => ⟨S1280x7168, .fp8e4m3⟩
  | .hbm, ⟨10, _⟩ => ⟨S1x1280, .f32⟩
  | .local _ .vmem, ⟨0, _⟩ => ⟨S1280x4096, .fp8e4m3⟩
  | .local _ .vmem, ⟨1, _⟩ => ⟨S1280x1, .f32⟩
  | .local _ .vmem, ⟨2, _⟩ => ⟨S4096x7168, .fp8e4m3⟩
  | .local _ .vmem, ⟨3, _⟩ => ⟨S4096x7168, .fp8e4m3⟩
  | .local _ .vmem, ⟨4, _⟩ => ⟨S1x7168, .f32⟩
  | .local _ .vmem, ⟨5, _⟩ => ⟨S1x7168, .f32⟩
  | .local _ .vmem, ⟨6, _⟩ => ⟨S1280x7168, .fp8e4m3⟩
  | .local _ .vmem, ⟨7, _⟩ => ⟨S1x1280, .f32⟩
  | _, _ => ⟨S1280x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1280x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Rows.lean ====
/-
  Row mathematics shared by the claims (hand-written, untrusted): the quantiser's scale and codes, and the
  root-mean-square normalisation, as functions of one row of extended reals.
-/
module

public import Idealize.ShloMosaic.Lib.Pointwise
public import Idealize.ShloMosaic.Lib.ValueIdx

@[expose] public section

noncomputable section

open Idealize.ShloMosaic

namespace Cert.Rows

/-- The largest magnitude of a row (from −∞). -/
def amax {n : Nat} (v : Fin n → EReal) : EReal :=
  Finset.univ.fold max (Ideal.ofBits .f32 0xFF800000#32) fun x => FloatOps.absf (F := Ideal) (φ := .f32) (v x)

/-- The quantiser's scale of a largest magnitude: a 448th of it, or one where it is zero. -/
def scl (a : EReal) : EReal := if a = 0 then 1 else Ideal.div a (Ideal.ofBits .f32 0x43E00000#32)

/-- The quantiser's code: the value over its scale, clipped to ±448. -/
def code (s x : EReal) : EReal :=
  min (Ideal.ofBits .f32 0x43E00000#32) (max (Ideal.ofBits .f32 0xC3E00000#32) (Ideal.div x s))

/-- Root-mean-square normalisation of a row (`N` its length as a float), times a gain. -/
def rms {n : Nat} (N : EReal) (v g : Fin n → EReal) (k : Fin n) : EReal :=
  Ideal.div (v k) (Ideal.sqrt (Ideal.div (∑ x, v x * v x) N + Ideal.ofBits .f32 0x3727C5AC#32)) * g k

/-- 448 is a positive real. -/
theorem ofBits_448 : Ideal.ofBits .f32 0x43E00000#32 = ((448 : ℝ) : EReal) := by
  simp [Ideal.ofBits, Ideal.ieee]
  rw [← EReal.coe_mul]
  congr 1
  norm_num

/-- A scale is never zero. -/
theorem scl_ne_zero (a : EReal) : scl a ≠ 0 := by
  unfold scl
  split
  · exact one_ne_zero
  · rename_i h
    rw [ofBits_448, Ideal.div_coe (by norm_num)]
    intro h0
    rcases mul_eq_zero.mp h0 with h1 | h1
    · exact h h1
    · have : ((1 / 448 : ℝ)) = 0 := by exact_mod_cast h1
      norm_num at this

/-- Multiplying by a nonzero value's reciprocal is dividing by it. -/
theorem mul_recip {s : EReal} (hs : s ≠ 0) (x : EReal) : x * Ideal.div 1 s = Ideal.div x s := by
  rw [Ideal.div, Ideal.div, if_neg hs, if_neg hs, one_mul]

/-- The code from the product with the scale's reciprocal. -/
theorem code_recip (a x : EReal) :
    min (Ideal.ofBits .f32 0x43E00000#32) (max (Ideal.ofBits .f32 0xC3E00000#32) (x * Ideal.div 1 (scl a)))
      = code (scl a) x := by
  rw [mul_recip (scl_ne_zero a), code]

end Cert.Rows

end
-- ==== Proof.OValue.lean ====
/-
  The output-projection call: what its pipelined kernel and its one-block reference compute, index by index, and the
  claim that they agree over the extended reals (hand-written, untrusted).
-/
module

public import proofs.«01_k».proof.Defs
public import proofs.«01_k».proof.Proof.Gen.KernelOIdeal.Value
public import proofs.«01_k».proof.Proof.Gen.ReferenceOIdeal.Frame
public import proofs.«01_k».proof.Proof.Rows
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ORow

open Cert.Rows

/-- One element of the residual stream after the attention output projection: the row of codes against a weight
    column, times both scales, gated and added to the residual. -/
def h1 {d n : Nat} (codes : Fin d → EReal) (sc : EReal) (w : Fin d → Fin n → EReal) (ws x : Fin n → EReal) (gate : EReal)
    (k : Fin n) : EReal :=
  x k + Ideal.tanh gate * ((∑ a, codes a * w a k) * (sc * ws k))

/-- A normalised element of that row. -/
def hn {d n : Nat} (codes : Fin d → EReal) (sc : EReal) (w : Fin d → Fin n → EReal) (ws x : Fin n → EReal) (gate : EReal)
    (g : Fin n → EReal) (k : Fin n) : EReal :=
  rms (Ideal.ofBits .f32 0x45800000#32) (h1 codes sc w ws x gate) g k

/-- The three results of the call as functions of its seven arguments: the residual stream, the codes of its
    normalised rows, and their scales. -/
def H1 (A0 : (⟨2, ![1280, 2048]⟩ : Shape).Idx → EReal) (A1 : (⟨1, ![1280]⟩ : Shape).Idx → EReal) (A2 : (⟨2, ![2048, 4096]⟩ : Shape).Idx → EReal)
    (A3 : (⟨1, ![4096]⟩ : Shape).Idx → EReal) (A4 : (⟨2, ![1280, 4096]⟩ : Shape).Idx → EReal) (A5 : (⟨1, ![1]⟩ : Shape).Idx → EReal)
    (R : Fin 1280) (k : Fin 4096) : EReal :=
  h1 (fun a => A0 (ix2 R a)) (A1 (ix1 R)) (fun a b => A2 (ix2 a b)) (fun b => A3 (ix1 b)) (fun b => A4 (ix2 R b)) (A5 (ix1 0)) k
def HN (A0 : (⟨2, ![1280, 2048]⟩ : Shape).Idx → EReal) (A1 : (⟨1, ![1280]⟩ : Shape).Idx → EReal) (A2 : (⟨2, ![2048, 4096]⟩ : Shape).Idx → EReal)
    (A3 : (⟨1, ![4096]⟩ : Shape).Idx → EReal) (A4 : (⟨2, ![1280, 4096]⟩ : Shape).Idx → EReal) (A5 : (⟨1, ![1]⟩ : Shape).Idx → EReal)
    (A6 : (⟨1, ![4096]⟩ : Shape).Idx → EReal) (R : Fin 1280) (k : Fin 4096) : EReal :=
  hn (fun a => A0 (ix2 R a)) (A1 (ix1 R)) (fun a b => A2 (ix2 a b)) (fun b => A3 (ix1 b)) (fun b => A4 (ix2 R b)) (A5 (ix1 0)) (fun b => A6 (ix1 b)) k

end Cert.ORow

/-! ## The pipelined kernel -/

namespace Cert.KernelOIdeal.RefValue

open Cert.KernelOIdeal Cert.KernelOIdeal.Gen Cert.Rows

theorem pay4 (v0 : Vec Ideal S256x2048 .fp8e4m3) (v1 : Vec Ideal S2048x4096 .fp8e4m3) (v3 : Vec Ideal S256x1 .f32) (v5 : Vec Ideal S1x4096 .f32) (v11 : Vec Ideal S256x4096 .bf16) (v13 : Vec Ideal S1x1 .f32) (r : Fin 256) (k : Fin 4096) :
    k0_pay4 v0 v1 v3 v5 v11 v13 (ix2 r k)
      = ORow.h1 (fun a => v0 (ix2 r a)) (v3 (ix2 r 0)) (fun a b => v1 (ix2 a b)) (fun b => v5 (ix2 0 b)) (fun b => v11 (ix2 r b)) (v13 (ix2 0 0)) k := by
  unfold_payloads
  pointwise
  rfl

theorem pay5 (v0 : Vec Ideal S256x2048 .fp8e4m3) (v1 : Vec Ideal S2048x4096 .fp8e4m3) (v3 : Vec Ideal S256x1 .f32) (v5 : Vec Ideal S1x4096 .f32) (v11 : Vec Ideal S256x4096 .bf16) (v13 : Vec Ideal S1x1 .f32) (v30 : Vec Ideal S1x4096 .f32) (r : Fin 256) (k : Fin 4096) :
    k0_pay5 v0 v1 v3 v5 v11 v13 v30 (ix2 r k)
      = ORow.hn (fun a => v0 (ix2 r a)) (v3 (ix2 r 0)) (fun a b => v1 (ix2 a b)) (fun b => v5 (ix2 0 b)) (fun b => v11 (ix2 r b)) (v13 (ix2 0 0)) (fun b => v30 (ix2 0 b)) k := by
  unfold ORow.hn rms
  simp only [← pay4]
  unfold k0_pay5
  generalize k0_pay4 v0 v1 v3 v5 v11 v13 = P
  pointwise

theorem pay6 (v0 : Vec Ideal S256x2048 .fp8e4m3) (v1 : Vec Ideal S2048x4096 .fp8e4m3) (v3 : Vec Ideal S256x1 .f32) (v5 : Vec Ideal S1x4096 .f32) (v11 : Vec Ideal S256x4096 .bf16) (v13 : Vec Ideal S1x1 .f32) (v30 : Vec Ideal S1x4096 .f32) (r : Fin 256) :
    k0_pay6 v0 v1 v3 v5 v11 v13 v30 (ix2 r 0) = amax fun k => k0_pay5 v0 v1 v3 v5 v11 v13 v30 (ix2 r k) := by
  unfold k0_pay6
  generalize k0_pay5 v0 v1 v3 v5 v11 v13 v30 = P
  pointwise
  rfl

theorem pay2 (v33 : FVec Ideal S256x4096 .f32) (v36 : FVec Ideal S256x1 .f32) (r : Fin 256) (k : Fin 4096) :
    k0_pay2 v33 v36 (ix2 r k) = code (scl (v36 (ix2 r 0))) (v33 (ix2 r k)) := by
  rw [← code_recip]
  unfold_payloads
  pointwise
  rfl

theorem pay3 (v36 : FVec Ideal S256x1 .f32) (r : Fin 256) : k0_pay3 v36 (ix2 0 r) = scl (v36 (ix2 r 0)) := by
  unfold_payloads
  pointwise
  rfl

end Cert.KernelOIdeal.RefValue

/-! ## The reference's one block -/

namespace Cert.ReferenceOIdeal.RefValue

open Cert.ReferenceOIdeal Cert.ReferenceOIdeal.Gen Cert.Rows

theorem pay4 (v0 : Vec Ideal S1280x2048 .fp8e4m3) (v1 : Vec Ideal S1280x1 .f32) (v3 : Vec Ideal S2048x4096 .fp8e4m3) (v4 : Vec Ideal S1x4096 .f32) (v11 : Vec Ideal S1280x4096 .bf16) (v13 : Vec Ideal S1x1 .f32) (r : Fin 1280) (k : Fin 4096) :
    k0_pay4 v0 v1 v3 v4 v11 v13 (ix2 r k)
      = ORow.h1 (fun a => v0 (ix2 r a)) (v1 (ix2 r 0)) (fun a b => v3 (ix2 a b)) (fun b => v4 (ix2 0 b)) (fun b => v11 (ix2 r b)) (v13 (ix2 0 0)) k := by
  unfold_payloads
  pointwise
  rfl

theorem pay5 (v0 : Vec Ideal S1280x2048 .fp8e4m3) (v1 : Vec Ideal S1280x1 .f32) (v3 : Vec Ideal S2048x4096 .fp8e4m3) (v4 : Vec Ideal S1x4096 .f32) (v11 : Vec Ideal S1280x4096 .bf16) (v13 : Vec Ideal S1x1 .f32) (v20 : Vec Ideal S1x4096 .f32) (r : Fin 1280) (k : Fin 4096) :
    k0_pay5 v0 v1 v3 v4 v11 v13 v20 (ix2 r k)
      = ORow.hn (fun a => v0 (ix2 r a)) (v1 (ix2 r 0)) (fun a b => v3 (ix2 a b)) (fun b => v4 (ix2 0 b)) (fun b => v11 (ix2 r b)) (v13 (ix2 0 0)) (fun b => v20 (ix2 0 b)) k := by
  unfold ORow.hn rms
  simp only [← pay4]
  unfold k0_pay5
  generalize k0_pay4 v0 v1 v3 v4 v11 v13 = P
  pointwise

theorem pay6 (v0 : Vec Ideal S1280x2048 .fp8e4m3) (v1 : Vec Ideal S1280x1 .f32) (v3 : Vec Ideal S2048x4096 .fp8e4m3) (v4 : Vec Ideal S1x4096 .f32) (v11 : Vec Ideal S1280x4096 .bf16) (v13 : Vec Ideal S1x1 .f32) (v20 : Vec Ideal S1x4096 .f32) (r : Fin 1280) :
    k0_pay6 v0 v1 v3 v4 v11 v13 v20 (ix2 r 0) = amax fun k => k0_pay5 v0 v1 v3 v4 v11 v13 v20 (ix2 r k) := by
  unfold k0_pay6
  generalize k0_pay5 v0 v1 v3 v4 v11 v13 v20 = P
  pointwise
  rfl

theorem pay2 (v33 : FVec Ideal S1280x4096 .f32) (v36 : FVec Ideal S1280x1 .f32) (r : Fin 1280) (k : Fin 4096) :
    k0_pay2 v33 v36 (Scalar.ofBits .f32 0x00000000#32) (ix2 r k) = code (scl (v36 (ix2 r 0))) (v33 (ix2 r k)) := by
  unfold_payloads
  pointwise
  rfl

theorem pay3 (v36 : FVec Ideal S1280x1 .f32) (r : Fin 1280) :
    k0_pay3 v36 (Scalar.ofBits .f32 0x00000000#32) (ix2 0 r) = scl (v36 (ix2 r 0)) := by
  unfold_payloads
  pointwise
  rfl

end Cert.ReferenceOIdeal.RefValue

namespace Cert.KernelOIdeal.RefValue

open Cert.KernelOIdeal Cert.KernelOIdeal.Gen Cert.Rows

variable (m : (ℓ : Loc nD τ sig) → Buf (Elt Ideal) ℓ) (ρ : Dev nD → PrngReg)

theorem hz : (![0, 0] : Fin 2 → Nat) = fun _ => 0 := funext fun a => by fin_cases a <;> rfl

theorem V_main_v0 (c : Dev nD) (r : Fin 4096) : V m c main_v0 (ix2 0 r) = m ((c : Thread nD τ).loc main_arg3) (ix1 r) := by
  unfold_abbrev_sides
  after_results
  pointwise

theorem V_main_v1 (c : Dev nD) (r : Fin 4096) : V m c main_v1 (ix2 0 r) = m ((c : Thread nD τ).loc main_arg6) (ix1 r) := by
  unfold_abbrev_sides
  after_results
  pointwise

theorem V_main_v2 (c : Dev nD) : V m c main_v2 (ix2 0 0) = m ((c : Thread nD τ).loc main_arg5) (ix1 0) := by
  unfold_abbrev_sides
  after_results
  pointwise

theorem V_main_v3 (c : Dev nD) (r : Fin 1280) : V m c main_v3 (ix2 r 0) = m ((c : Thread nD τ).loc main_arg1) (ix1 r) := by
  unfold_abbrev_sides
  after_results
  pointwise

theorem idx0 : ∀ t : Fin cfg0.N, win0_0.index t 0 = t.val ∧ win0_0.index t 1 = 0 :=
  (by decide +kernel : ∀ t : Fin grid0.N, win0_0.index t 0 = t.val ∧ win0_0.index t 1 = 0)

theorem emb0 (t : Fin cfg0.N) (r : Fin 256) (a : Fin 2048) :
    ((cfg0.win 0).blk t).view.emb (ix2 r a) = ix2 ⟨256 * t.val + r.val, by have := lt_of_lt_of_eq t.isLt N_0; omega⟩ a := by
  funext x
  apply Fin.ext
  match x with
  | ⟨0, _⟩ => show win0_0.index t 0 * 256 + 1 * r.val = 256 * t.val + r.val; rw [(idx0 t).1]; omega
  | ⟨1, _⟩ => show win0_0.index t 1 * 2048 + 1 * a.val = a.val; rw [(idx0 t).2]; omega

theorem iblk0 (c : Dev nD) (t : Fin cfg0.N) (r : Fin 256) (a : Fin 2048) :
    iblk m c 0 t (ix2 r a) = V m c main_arg0 (ix2 ⟨256 * t.val + r.val, by have := lt_of_lt_of_eq t.isLt N_0; omega⟩ a) := by
  show V m c main_arg0 (((cfg0.win 0).blk t).view.emb (ix2 r a)) = _
  rw [emb0]

theorem idx1 : ∀ t : Fin cfg0.N, win0_1.index t 0 = t.val ∧ win0_1.index t 1 = 0 :=
  (by decide +kernel : ∀ t : Fin grid0.N, win0_1.index t 0 = t.val ∧ win0_1.index t 1 = 0)

theorem emb1 (t : Fin cfg0.N) (r : Fin 256) (a : Fin 1) :
    ((cfg0.win 1).blk t).view.emb (ix2 r a) = ix2 ⟨256 * t.val + r.val, by have := lt_of_lt_of_eq t.isLt N_0; omega⟩ a := by
  funext x
  apply Fin.ext
  match x with
  | ⟨0, _⟩ => show win0_1.index t 0 * 256 + 1 * r.val = 256 * t.val + r.val; rw [(idx1 t).1]; omega
  | ⟨1, _⟩ => show win0_1.index t 1 * 1 + 1 * a.val = a.val; rw [(idx1 t).2]; omega

theorem iblk1 (c : Dev nD) (t : Fin cfg0.N) (r : Fin 256) (a : Fin 1) :
    iblk m c 1 t (ix2 r a) = V m c main_v3 (ix2 ⟨256 * t.val + r.val, by have := lt_of_lt_of_eq t.isLt N_0; omega⟩ a) := by
  show V m c main_v3 (((cfg0.win 1).blk t).view.emb (ix2 r a)) = _
  rw [emb1]

theorem idx2 : ∀ t : Fin cfg0.N, win0_2.index t 0 = 0 ∧ win0_2.index t 1 = 0 :=
  (by decide +kernel : ∀ t : Fin grid0.N, win0_2.index t 0 = 0 ∧ win0_2.index t 1 = 0)

theorem emb2 (t : Fin cfg0.N) (r : Fin 2048) (a : Fin 4096) :
    ((cfg0.win 2).blk t).view.emb (ix2 r a) = ix2 r a := by
  funext x
  apply Fin.ext
  match x with
  | ⟨0, _⟩ => show win0_2.index t 0 * 2048 + 1 * r.val = r.val; rw [(idx2 t).1]; omega
  | ⟨1, _⟩ => show win0_2.index t 1 * 4096 + 1 * a.val = a.val; rw [(idx2 t).2]; omega

theorem iblk2 (c : Dev nD) (t : Fin cfg0.N) (r : Fin 2048) (a : Fin 4096) :
    iblk m c 2 t (ix2 r a) = V m c main_arg2 (ix2 r a) := by
  show V m c main_arg2 (((cfg0.win 2).blk t).view.emb (ix2 r a)) = _
  rw [emb2]

theorem idx3 : ∀ t : Fin cfg0.N, win0_3.index t 0 = 0 ∧ win0_3.index t 1 = 0 :=
  (by decide +kernel : ∀ t : Fin grid0.N, win0_3.index t 0 = 0 ∧ win0_3.index t 1 = 0)

theorem emb3 (t : Fin cfg0.N) (r : Fin 1) (a : Fin 4096) :
    ((cfg0.win 3).blk t).view.emb (ix2 r a) = ix2 r a := by
  funext x
  apply Fin.ext
  match x with
  | ⟨0, _⟩ => show win0_3.index t 0 * 1 + 1 * r.val = r.val; rw [(idx3 t).1]; omega
  | ⟨1, _⟩ => show win0_3.index t 1 * 4096 + 1 * a.val = a.val; rw [(idx3 t).2]; omega

theorem iblk3 (c : Dev nD) (t : Fin cfg0.N) (r : Fin 1) (a : Fin 4096) :
    iblk m c 3 t (ix2 r a) = V m c main_v0 (ix2 r a) := by
  show V m c main_v0 (((cfg0.win 3).blk t).view.emb (ix2 r a)) = _
  rw [emb3]

theorem idx4 : ∀ t : Fin cfg0.N, win0_4.index t 0 = t.val ∧ win0_4.index t 1 = 0 :=
  (by decide +kernel : ∀ t : Fin grid0.N, win0_4.index t 0 = t.val ∧ win0_4.index t 1 = 0)

theorem emb4 (t : Fin cfg0.N) (r : Fin 256) (a : Fin 4096) :
    ((cfg0.win 4).blk t).view.emb (ix2 r a) = ix2 ⟨256 * t.val + r.val, by have := lt_of_lt_of_eq t.isLt N_0; omega⟩ a := by
  funext x
  apply Fin.ext
  match x with
  | ⟨0, _⟩ => show win0_4.index t 0 * 256 + 1 * r.val = 256 * t.val + r.val; rw [(idx4 t).1]; omega
  | ⟨1, _⟩ => show win0_4.index t 1 * 4096 + 1 * a.val = a.val; rw [(idx4 t).2]; omega

theorem iblk4 (c : Dev nD) (t : Fin cfg0.N) (r : Fin 256) (a : Fin 4096) :
    iblk m c 4 t (ix2 r a) = V m c main_arg4 (ix2 ⟨256 * t.val + r.val, by have := lt_of_lt_of_eq t.isLt N_0; omega⟩ a) := by
  show V m c main_arg4 (((cfg0.win 4).blk t).view.emb (ix2 r a)) = _
  rw [emb4]

theorem idx5 : ∀ t : Fin cfg0.N, win0_5.index t 0 = 0 ∧ win0_5.index t 1 = 0 :=
  (by decide +kernel : ∀ t : Fin grid0.N, win0_5.index t 0 = 0 ∧ win0_5.index t 1 = 0)

theorem emb5 (t : Fin cfg0.N) (r : Fin 1) (a : Fin 1) :
    ((cfg0.win 5).blk t).view.emb (ix2 r a) = ix2 r a := by
  funext x
  apply Fin.ext
  match x with
  | ⟨0, _⟩ => show win0_5.index t 0 * 1 + 1 * r.val = r.val; rw [(idx5 t).1]; omega
  | ⟨1, _⟩ => show win0_5.index t 1 * 1 + 1 * a.val = a.val; rw [(idx5 t).2]; omega

theorem iblk5 (c : Dev nD) (t : Fin cfg0.N) (r : Fin 1) (a : Fin 1) :
    iblk m c 5 t (ix2 r a) = V m c main_v2 (ix2 r a) := by
  show V m c main_v2 (((cfg0.win 5).blk t).view.emb (ix2 r a)) = _
  rw [emb5]

theorem idx6 : ∀ t : Fin cfg0.N, win0_6.index t 0 = 0 ∧ win0_6.index t 1 = 0 :=
  (by decide +kernel : ∀ t : Fin grid0.N, win0_6.index t 0 = 0 ∧ win0_6.index t 1 = 0)

theorem emb6 (t : Fin cfg0.N) (r : Fin 1) (a : Fin 4096) :
    ((cfg0.win 6).blk t).view.emb (ix2 r a) = ix2 r a := by
  funext x
  apply Fin.ext
  match x with
  | ⟨0, _⟩ => show win0_6.index t 0 * 1 + 1 * r.val = r.val; rw [(idx6 t).1]; omega
  | ⟨1, _⟩ => show win0_6.index t 1 * 4096 + 1 * a.val = a.val; rw [(idx6 t).2]; omega

theorem iblk6 (c : Dev nD) (t : Fin cfg0.N) (r : Fin 1) (a : Fin 4096) :
    iblk m c 6 t (ix2 r a) = V m c main_v1 (ix2 r a) := by
  show V m c main_v1 (((cfg0.win 6).blk t).view.emb (ix2 r a)) = _
  rw [emb6]

theorem idx7 : ∀ t : Fin cfg0.N, win0_7.index t 0 = t.val ∧ win0_7.index t 1 = 0 :=
  (by decide +kernel : ∀ t : Fin grid0.N, win0_7.index t 0 = t.val ∧ win0_7.index t 1 = 0)

theorem emb7 (t : Fin cfg0.N) (r : Fin 256) (a : Fin 4096) :
    ((cfg0.win 7).blk t).view.emb (ix2 r a) = ix2 ⟨256 * t.val + r.val, by have := lt_of_lt_of_eq t.isLt N_0; omega⟩ a := by
  funext x
  apply Fin.ext
  match x with
  | ⟨0, _⟩ => show win0_7.index t 0 * 256 + 1 * r.val = 256 * t.val + r.val; rw [(idx7 t).1]; omega
  | ⟨1, _⟩ => show win0_7.index t 1 * 4096 + 1 * a.val = a.val; rw [(idx7 t).2]; omega

theorem idx8 : ∀ t : Fin cfg0.N, win0_8.index t 0 = t.val ∧ win0_8.index t 1 = 0 :=
  (by decide +kernel : ∀ t : Fin grid0.N, win0_8.index t 0 = t.val ∧ win0_8.index t 1 = 0)

theorem emb8 (t : Fin cfg0.N) (r : Fin 256) (a : Fin 4096) :
    ((cfg0.win 8).blk t).view.emb (ix2 r a) = ix2 ⟨256 * t.val + r.val, by have := lt_of_lt_of_eq t.isLt N_0; omega⟩ a := by
  funext x
  apply Fin.ext
  match x with
  | ⟨0, _⟩ => show win0_8.index t 0 * 256 + 1 * r.val = 256 * t.val + r.val; rw [(idx8 t).1]; omega
  | ⟨1, _⟩ => show win0_8.index t 1 * 4096 + 1 * a.val = a.val; rw [(idx8 t).2]; omega

theorem idx9 : ∀ t : Fin cfg0.N, win0_9.index t 0 = 0 ∧ win0_9.index t 1 = t.val :=
  (by decide +kernel : ∀ t : Fin grid0.N, win0_9.index t 0 = 0 ∧ win0_9.index t 1 = t.val)

theorem emb9 (t : Fin cfg0.N) (r : Fin 1) (a : Fin 256) :
    ((cfg0.win 9).blk t).view.emb (ix2 r a) = ix2 r ⟨256 * t.val + a.val, by have := lt_of_lt_of_eq t.isLt N_0; omega⟩ := by
  funext x
  apply Fin.ext
  match x with
  | ⟨0, _⟩ => show win0_9.index t 0 * 1 + 1 * r.val = r.val; rw [(idx9 t).1]; omega
  | ⟨1, _⟩ => show win0_9.index t 1 * 256 + 1 * a.val = 256 * t.val + a.val; rw [(idx9 t).2]; omega

/-- The blocks a point reads, as rows of the arguments. -/
theorem row0 (c : Dev nD) (t : Fin cfg0.N) (r : Fin 256) :
    (fun a => iblk m c 0 t (ix2 r a)) = fun a => m ((c : Thread nD τ).loc main_arg0) (ix2 ⟨256 * t.val + r.val, by have := lt_of_lt_of_eq t.isLt N_0; omega⟩ a) :=
  funext fun a => (iblk0 m c t r a).trans (congrFun (V_main_arg0 m c) _)
theorem row1 (c : Dev nD) (t : Fin cfg0.N) (r : Fin 256) :
    iblk m c 1 t (ix2 r 0) = m ((c : Thread nD τ).loc main_arg1) (ix1 ⟨256 * t.val + r.val, by have := lt_of_lt_of_eq t.isLt N_0; omega⟩) := (iblk1 m c t r 0).trans (V_main_v3 m c _)
theorem row2 (c : Dev nD) (t : Fin cfg0.N) :
    (fun a b => iblk m c 2 t (ix2 a b)) = fun a b => m ((c : Thread nD τ).loc main_arg2) (ix2 a b) :=
  funext fun a => funext fun b => (iblk2 m c t a b).trans (congrFun (V_main_arg2 m c) _)
theorem row3 (c : Dev nD) (t : Fin cfg0.N) :
    (fun b => iblk m c 3 t (ix2 0 b)) = fun b => m ((c : Thread nD τ).loc main_arg3) (ix1 b) :=
  funext fun b => (iblk3 m c t 0 b).trans (V_main_v0 m c b)
theorem row4 (c : Dev nD) (t : Fin cfg0.N) (r : Fin 256) :
    (fun b => iblk m c 4 t (ix2 r b)) = fun b => m ((c : Thread nD τ).loc main_arg4) (ix2 ⟨256 * t.val + r.val, by have := lt_of_lt_of_eq t.isLt N_0; omega⟩ b) :=
  funext fun b => (iblk4 m c t r b).trans (congrFun (V_main_arg4 m c) _)
theorem row5 (c : Dev nD) (t : Fin cfg0.N) :
    iblk m c 5 t (ix2 0 0) = m ((c : Thread nD τ).loc main_arg5) (ix1 0) := (iblk5 m c t 0 0).trans (V_main_v2 m c)
theorem row6 (c : Dev nD) (t : Fin cfg0.N) :
    (fun b => iblk m c 6 t (ix2 0 b)) = fun b => m ((c : Thread nD τ).loc main_arg6) (ix1 b) :=
  funext fun b => (iblk6 m c t 0 b).trans (V_main_v1 m c b)

/-- The residual stream, the codes and the scales, as whole arrays of the arguments. -/
def G7 (c : Dev nD) : Vec Ideal S1280x4096 .f32 := fun i => ORow.H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1)
def G8 (c : Dev nD) : Vec Ideal S1280x4096 .fp8e4m3 := fun i =>
  code (scl (amax (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0)))) (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1))
def G9 (c : Dev nD) : Vec Ideal S1x1280 .f32 := fun i => scl (amax (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 1)))

/-- What the body leaves in each output block, at an index: the row of the arrays that the block's row is. -/
theorem out7 (c : Dev nD) (t : Fin cfg0.N) (r : Fin 256) (k : Fin 4096) :
    out0_7 (iblk m c 0 t) (iblk m c 1 t) (iblk m c 2 t) (iblk m c 3 t) (iblk m c 4 t) (iblk m c 5 t) (iblk m c 6 t) (ix2 r k)
      = ORow.H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨256 * t.val + r.val, by have := lt_of_lt_of_eq t.isLt N_0; omega⟩ k := by
  unfold_out out0_7
  rw [View.canon_unit_zero hz]
  repeat rw [View.ld_unit_zero hz]
  rw [pay4, row0, row1, row2, row3, row4, row5]
  rfl

theorem hn_row (c : Dev nD) (t : Fin cfg0.N) (r : Fin 256) (k : Fin 4096) :
    k0_pay5 (iblk m c 0 t) (iblk m c 2 t) (iblk m c 1 t) (iblk m c 3 t) (iblk m c 4 t) (iblk m c 5 t) (iblk m c 6 t) (ix2 r k)
      = ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨256 * t.val + r.val, by have := lt_of_lt_of_eq t.isLt N_0; omega⟩ k := by
  rw [pay5, row0, row1, row2, row3, row4, row5, row6]
  rfl

theorem out8 (c : Dev nD) (t : Fin cfg0.N) (r : Fin 256) (k : Fin 4096) :
    out0_8 (iblk m c 0 t) (iblk m c 1 t) (iblk m c 2 t) (iblk m c 3 t) (iblk m c 4 t) (iblk m c 5 t) (iblk m c 6 t) (ix2 r k)
      = code (scl (amax (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨256 * t.val + r.val, by have := lt_of_lt_of_eq t.isLt N_0; omega⟩))) (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨256 * t.val + r.val, by have := lt_of_lt_of_eq t.isLt N_0; omega⟩ k) := by
  unfold_out out0_8
  rw [View.canon_unit_zero hz]
  repeat rw [View.ld_unit_zero hz]
  rw [pay2, pay6]
  simp only [hn_row]

theorem out9 (c : Dev nD) (t : Fin cfg0.N) (r : Fin 256) :
    out0_9 (iblk m c 0 t) (iblk m c 1 t) (iblk m c 2 t) (iblk m c 3 t) (iblk m c 4 t) (iblk m c 5 t) (iblk m c 6 t) (ix2 0 r)
      = scl (amax (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨256 * t.val + r.val, by have := lt_of_lt_of_eq t.isLt N_0; omega⟩)) := by
  unfold_out out0_9
  rw [View.canon_unit_zero hz]
  repeat rw [View.ld_unit_zero hz]
  rw [pay3, pay6]
  simp only [hn_row]

theorem flushed7_eq (c : Dev nD) (t : Fin cfg0.N) :
    (dats m 0 c).flushed 7 t = (win0_7.blk t).view.read (Elt Ideal) (G7 m c) := by
  show (cfg0.win 7).cut (grid0.coords t) ((dats m 0 c).after 7 t) = _
  rw [after0_7]
  funext j
  obtain ⟨r, a, rfl⟩ : ∃ (r : Fin 256) (a : Fin 4096), j = ix2 r a := ⟨j 0, j 1, eq_ix2 j⟩
  show out0_7 _ _ _ _ _ _ _ (ix2 r a) = G7 m c (((cfg0.win 7).blk t).view.emb (ix2 r a))
  rw [emb7, out7 m c t r a]
  rfl

theorem mem7 (t : Fin cfg0.N) (r : Fin 256) (a : Fin 4096) :
    (ix2 ⟨256 * t.val + r.val, by have := lt_of_lt_of_eq t.isLt N_0; omega⟩ a : S1280x4096.Idx) ∈ ((cfg0.win 7).blk t).view.set := by
  have h := View.emb_mem_set ((cfg0.win 7).blk t).view (ix2 r a)
  rw [emb7] at h
  exact h

theorem cover7 (i : S1280x4096.Idx) : ∃ t : Fin cfg0.N, (cfg0.win 7).flush t = true ∧ i ∈ ((cfg0.win 7).blk t).view.set := by
  have h0 : (i 0).val < 1280 := (i 0).isLt
  obtain ⟨t, ht⟩ : ∃ t : Fin cfg0.N, t.val = (i 0).val / 256 := ⟨⟨(i 0).val / 256, by rw [show cfg0.N = _ from N_0]; omega⟩, rfl⟩
  have e : (ix2 ⟨256 * t.val + (i 0).val % 256, by omega⟩ (i 1) : S1280x4096.Idx) = i := by
    funext x
    apply Fin.ext
    match x with
    | ⟨0, _⟩ => show 256 * t.val + (i 0).val % 256 = (i 0).val; omega
    | ⟨1, _⟩ => rfl
  refine ⟨t, flush0_7 t, ?_⟩
  rw [← e]
  exact mem7 t ⟨(i 0).val % 256, Nat.mod_lt _ (by omega)⟩ (i 1)

theorem final7 (c : Dev nD) : (dats m 0 c).arrAt 7 cfg0.N = G7 m c :=
  (dats m 0 c).arrAt_eq_of_cover 7 (G7 m c) (fun t _ => flushed7_eq m c t) cover7

theorem flushed8_eq (c : Dev nD) (t : Fin cfg0.N) :
    (dats m 0 c).flushed 8 t = (win0_8.blk t).view.read (Elt Ideal) (G8 m c) := by
  show (cfg0.win 8).cut (grid0.coords t) ((dats m 0 c).after 8 t) = _
  rw [after0_8]
  funext j
  obtain ⟨r, a, rfl⟩ : ∃ (r : Fin 256) (a : Fin 4096), j = ix2 r a := ⟨j 0, j 1, eq_ix2 j⟩
  show out0_8 _ _ _ _ _ _ _ (ix2 r a) = G8 m c (((cfg0.win 8).blk t).view.emb (ix2 r a))
  rw [emb8, out8 m c t r a]
  rfl

theorem mem8 (t : Fin cfg0.N) (r : Fin 256) (a : Fin 4096) :
    (ix2 ⟨256 * t.val + r.val, by have := lt_of_lt_of_eq t.isLt N_0; omega⟩ a : S1280x4096.Idx) ∈ ((cfg0.win 8).blk t).view.set := by
  have h := View.emb_mem_set ((cfg0.win 8).blk t).view (ix2 r a)
  rw [emb8] at h
  exact h

theorem cover8 (i : S1280x4096.Idx) : ∃ t : Fin cfg0.N, (cfg0.win 8).flush t = true ∧ i ∈ ((cfg0.win 8).blk t).view.set := by
  have h0 : (i 0).val < 1280 := (i 0).isLt
  obtain ⟨t, ht⟩ : ∃ t : Fin cfg0.N, t.val = (i 0).val / 256 := ⟨⟨(i 0).val / 256, by rw [show cfg0.N = _ from N_0]; omega⟩, rfl⟩
  have e : (ix2 ⟨256 * t.val + (i 0).val % 256, by omega⟩ (i 1) : S1280x4096.Idx) = i := by
    funext x
    apply Fin.ext
    match x with
    | ⟨0, _⟩ => show 256 * t.val + (i 0).val % 256 = (i 0).val; omega
    | ⟨1, _⟩ => rfl
  refine ⟨t, flush0_8 t, ?_⟩
  rw [← e]
  exact mem8 t ⟨(i 0).val % 256, Nat.mod_lt _ (by omega)⟩ (i 1)

theorem final8 (c : Dev nD) : (dats m 0 c).arrAt 8 cfg0.N = G8 m c :=
  (dats m 0 c).arrAt_eq_of_cover 8 (G8 m c) (fun t _ => flushed8_eq m c t) cover8

theorem flushed9_eq (c : Dev nD) (t : Fin cfg0.N) :
    (dats m 0 c).flushed 9 t = (win0_9.blk t).view.read (Elt Ideal) (G9 m c) := by
  show (cfg0.win 9).cut (grid0.coords t) ((dats m 0 c).after 9 t) = _
  rw [after0_9]
  funext j
  obtain ⟨r, a, rfl⟩ : ∃ (r : Fin 1) (a : Fin 256), j = ix2 r a := ⟨j 0, j 1, eq_ix2 j⟩
  show out0_9 _ _ _ _ _ _ _ (ix2 r a) = G9 m c (((cfg0.win 9).blk t).view.emb (ix2 r a))
  obtain rfl : r = 0 := Fin.eq_zero r
  rw [emb9, out9 m c t a]
  rfl

theorem mem9 (t : Fin cfg0.N) (r : Fin 1) (a : Fin 256) :
    (ix2 r ⟨256 * t.val + a.val, by have := lt_of_lt_of_eq t.isLt N_0; omega⟩ : S1x1280.Idx) ∈ ((cfg0.win 9).blk t).view.set := by
  have h := View.emb_mem_set ((cfg0.win 9).blk t).view (ix2 r a)
  rw [emb9] at h
  exact h

theorem cover9 (i : S1x1280.Idx) : ∃ t : Fin cfg0.N, (cfg0.win 9).flush t = true ∧ i ∈ ((cfg0.win 9).blk t).view.set := by
  have h0 : (i 1).val < 1280 := (i 1).isLt
  obtain ⟨t, ht⟩ : ∃ t : Fin cfg0.N, t.val = (i 1).val / 256 := ⟨⟨(i 1).val / 256, by rw [show cfg0.N = _ from N_0]; omega⟩, rfl⟩
  have e : (ix2 (0 : Fin 1) ⟨256 * t.val + (i 1).val % 256, by omega⟩ : S1x1280.Idx) = i := by
    funext x
    apply Fin.ext
    match x with
    | ⟨0, _⟩ => exact congrArg Fin.val (Fin.eq_zero (i 0)).symm
    | ⟨1, _⟩ => show 256 * t.val + (i 1).val % 256 = (i 1).val; omega
  refine ⟨t, flush0_9 t, ?_⟩
  rw [← e]
  exact mem9 t 0 ⟨(i 1).val % 256, Nat.mod_lt _ (by omega)⟩

theorem final9 (c : Dev nD) : (dats m 0 c).arrAt 9 cfg0.N = G9 m c :=
  (dats m 0 c).arrAt_eq_of_cover 9 (G9 m c) (fun t _ => flushed9_eq m c t) cover9

/-- The run: the three result arrays at their functions of the arguments, the arguments unchanged. -/
theorem run : θ_run defs (onTc (τ := τ) (main (F := Ideal))) ⟨m, fun _ => 0, ρ⟩ fun r => ∀ c : Dev nD,
      r.2.mem ((c : Thread nD τ).loc main_v4_0) = G7 m c
      ∧ r.2.mem ((c : Thread nD τ).loc main_v4_1) = G8 m c
      ∧ r.2.mem ((c : Thread nD τ).loc main_v4_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c), (h c).2.2.1.trans (final9 m c), (h c).2.2.2⟩)
    (Value.run_blocks m ρ)

end Cert.KernelOIdeal.RefValue

namespace Cert.ReferenceOIdeal.RefValue

open Cert.ReferenceOIdeal Cert.ReferenceOIdeal.Gen Cert.Rows

variable (m : (ℓ : Loc nD τ sig) → Buf (Elt Ideal) ℓ) (ρ : Dev nD → PrngReg)

theorem hz : (![0, 0] : Fin 2 → Nat) = fun _ => 0 := funext fun a => by fin_cases a <;> rfl

theorem V_main_v0 (c : Dev nD) (r : Fin 1280) : V m c main_v0 (ix2 r 0) = m ((c : Thread nD τ).loc main_arg1) (ix1 r) := by
  unfold_abbrev_sides
  after_results
  pointwise

theorem V_main_v1 (c : Dev nD) (r : Fin 4096) : V m c main_v1 (ix2 0 r) = m ((c : Thread nD τ).loc main_arg3) (ix1 r) := by
  unfold_abbrev_sides
  after_results
  pointwise

theorem V_main_v2 (c : Dev nD) : V m c main_v2 (ix2 0 0) = m ((c : Thread nD τ).loc main_arg5) (ix1 0) := by
  unfold_abbrev_sides
  after_results
  pointwise

theorem V_main_v3 (c : Dev nD) (r : Fin 4096) : V m c main_v3 (ix2 0 r) = m ((c : Thread nD τ).loc main_arg6) (ix1 r) := by
  unfold_abbrev_sides
  after_results
  pointwise

theorem idx0 : ∀ t : Fin cfg0.N, win0_0.index t 0 = 0 ∧ win0_0.index t 1 = 0 :=
  (by decide +kernel : ∀ t : Fin grid0.N, win0_0.index t 0 = 0 ∧ win0_0.index t 1 = 0)

theorem emb0 (t : Fin cfg0.N) (r : Fin 1280) (a : Fin 2048) :
    ((cfg0.win 0).blk t).view.emb (ix2 r a) = ix2 r a := by
  funext x
  apply Fin.ext
  match x with
  | ⟨0, _⟩ => show win0_0.index t 0 * 1280 + 1 * r.val = r.val; rw [(idx0 t).1]; omega
  | ⟨1, _⟩ => show win0_0.index t 1 * 2048 + 1 * a.val = a.val; rw [(idx0 t).2]; omega

theorem iblk0 (c : Dev nD) (t : Fin cfg0.N) (r : Fin 1280) (a : Fin 2048) :
    iblk m c 0 t (ix2 r a) = V m c main_arg0 (ix2 r a) := by
  show V m c main_arg0 (((cfg0.win 0).blk t).view.emb (ix2 r a)) = _
  rw [emb0]

theorem idx1 : ∀ t : Fin cfg0.N, win0_1.index t 0 = 0 ∧ win0_1.index t 1 = 0 :=
  (by decide +kernel : ∀ t : Fin grid0.N, win0_1.index t 0 = 0 ∧ win0_1.index t 1 = 0)

theorem emb1 (t : Fin cfg0.N) (r : Fin 1280) (a : Fin 1) :
    ((cfg0.win 1).blk t).view.emb (ix2 r a) = ix2 r a := by
  funext x
  apply Fin.ext
  match x with
  | ⟨0, _⟩ => show win0_1.index t 0 * 1280 + 1 * r.val = r.val; rw [(idx1 t).1]; omega
  | ⟨1, _⟩ => show win0_1.index t 1 * 1 + 1 * a.val = a.val; rw [(idx1 t).2]; omega

theorem iblk1 (c : Dev nD) (t : Fin cfg0.N) (r : Fin 1280) (a : Fin 1) :
    iblk m c 1 t (ix2 r a) = V m c main_v0 (ix2 r a) := by
  show V m c main_v0 (((cfg0.win 1).blk t).view.emb (ix2 r a)) = _
  rw [emb1]

theorem idx2 : ∀ t : Fin cfg0.N, win0_2.index t 0 = 0 ∧ win0_2.index t 1 = 0 :=
  (by decide +kernel : ∀ t : Fin grid0.N, win0_2.index t 0 = 0 ∧ win0_2.index t 1 = 0)

theorem emb2 (t : Fin cfg0.N) (r : Fin 2048) (a : Fin 4096) :
    ((cfg0.win 2).blk t).view.emb (ix2 r a) = ix2 r a := by
  funext x
  apply Fin.ext
  match x with
  | ⟨0, _⟩ => show win0_2.index t 0 * 2048 + 1 * r.val = r.val; rw [(idx2 t).1]; omega
  | ⟨1, _⟩ => show win0_2.index t 1 * 4096 + 1 * a.val = a.val; rw [(idx2 t).2]; omega

theorem iblk2 (c : Dev nD) (t : Fin cfg0.N) (r : Fin 2048) (a : Fin 4096) :
    iblk m c 2 t (ix2 r a) = V m c main_arg2 (ix2 r a) := by
  show V m c main_arg2 (((cfg0.win 2).blk t).view.emb (ix2 r a)) = _
  rw [emb2]

theorem idx3 : ∀ t : Fin cfg0.N, win0_3.index t 0 = 0 ∧ win0_3.index t 1 = 0 :=
  (by decide +kernel : ∀ t : Fin grid0.N, win0_3.index t 0 = 0 ∧ win0_3.index t 1 = 0)

theorem emb3 (t : Fin cfg0.N) (r : Fin 1) (a : Fin 4096) :
    ((cfg0.win 3).blk t).view.emb (ix2 r a) = ix2 r a := by
  funext x
  apply Fin.ext
  match x with
  | ⟨0, _⟩ => show win0_3.index t 0 * 1 + 1 * r.val = r.val; rw [(idx3 t).1]; omega
  | ⟨1, _⟩ => show win0_3.index t 1 * 4096 + 1 * a.val = a.val; rw [(idx3 t).2]; omega

theorem iblk3 (c : Dev nD) (t : Fin cfg0.N) (r : Fin 1) (a : Fin 4096) :
    iblk m c 3 t (ix2 r a) = V m c main_v1 (ix2 r a) := by
  show V m c main_v1 (((cfg0.win 3).blk t).view.emb (ix2 r a)) = _
  rw [emb3]

theorem idx4 : ∀ t : Fin cfg0.N, win0_4.index t 0 = 0 ∧ win0_4.index t 1 = 0 :=
  (by decide +kernel : ∀ t : Fin grid0.N, win0_4.index t 0 = 0 ∧ win0_4.index t 1 = 0)

theorem emb4 (t : Fin cfg0.N) (r : Fin 1280) (a : Fin 4096) :
    ((cfg0.win 4).blk t).view.emb (ix2 r a) = ix2 r a := by
  funext x
  apply Fin.ext
  match x with
  | ⟨0, _⟩ => show win0_4.index t 0 * 1280 + 1 * r.val = r.val; rw [(idx4 t).1]; omega
  | ⟨1, _⟩ => show win0_4.index t 1 * 4096 + 1 * a.val = a.val; rw [(idx4 t).2]; omega

theorem iblk4 (c : Dev nD) (t : Fin cfg0.N) (r : Fin 1280) (a : Fin 4096) :
    iblk m c 4 t (ix2 r a) = V m c main_arg4 (ix2 r a) := by
  show V m c main_arg4 (((cfg0.win 4).blk t).view.emb (ix2 r a)) = _
  rw [emb4]

theorem idx5 : ∀ t : Fin cfg0.N, win0_5.index t 0 = 0 ∧ win0_5.index t 1 = 0 :=
  (by decide +kernel : ∀ t : Fin grid0.N, win0_5.index t 0 = 0 ∧ win0_5.index t 1 = 0)

theorem emb5 (t : Fin cfg0.N) (r : Fin 1) (a : Fin 1) :
    ((cfg0.win 5).blk t).view.emb (ix2 r a) = ix2 r a := by
  funext x
  apply Fin.ext
  match x with
  | ⟨0, _⟩ => show win0_5.index t 0 * 1 + 1 * r.val = r.val; rw [(idx5 t).1]; omega
  | ⟨1, _⟩ => show win0_5.index t 1 * 1 + 1 * a.val = a.val; rw [(idx5 t).2]; omega

theorem iblk5 (c : Dev nD) (t : Fin cfg0.N) (r : Fin 1) (a : Fin 1) :
    iblk m c 5 t (ix2 r a) = V m c main_v2 (ix2 r a) := by
  show V m c main_v2 (((cfg0.win 5).blk t).view.emb (ix2 r a)) = _
  rw [emb5]

theorem idx6 : ∀ t : Fin cfg0.N, win0_6.index t 0 = 0 ∧ win0_6.index t 1 = 0 :=
  (by decide +kernel : ∀ t : Fin grid0.N, win0_6.index t 0 = 0 ∧ win0_6.index t 1 = 0)

theorem emb6 (t : Fin cfg0.N) (r : Fin 1) (a : Fin 4096) :
    ((cfg0.win 6).blk t).view.emb (ix2 r a) = ix2 r a := by
  funext x
  apply Fin.ext
  match x with
  | ⟨0, _⟩ => show win0_6.index t 0 * 1 + 1 * r.val = r.val; rw [(idx6 t).1]; omega
  | ⟨1, _⟩ => show win0_6.index t 1 * 4096 + 1 * a.val = a.val; rw [(idx6 t).2]; omega

theorem iblk6 (c : Dev nD) (t : Fin cfg0.N) (r : Fin 1) (a : Fin 4096) :
    iblk m c 6 t (ix2 r a) = V m c main_v3 (ix2 r a) := by
  show V m c main_v3 (((cfg0.win 6).blk t).view.emb (ix2 r a)) = _
  rw [emb6]

theorem idx7 : ∀ t : Fin cfg0.N, win0_7.index t 0 = 0 ∧ win0_7.index t 1 = 0 :=
  (by decide +kernel : ∀ t : Fin grid0.N, win0_7.index t 0 = 0 ∧ win0_7.index t 1 = 0)

theorem emb7 (t : Fin cfg0.N) (r : Fin 1280) (a : Fin 4096) :
    ((cfg0.win 7).blk t).view.emb (ix2 r a) = ix2 r a := by
  funext x
  apply Fin.ext
  match x with
  | ⟨0, _⟩ => show win0_7.index t 0 * 1280 + 1 * r.val = r.val; rw [(idx7 t).1]; omega
  | ⟨1, _⟩ => show win0_7.index t 1 * 4096 + 1 * a.val = a.val; rw [(idx7 t).2]; omega

theorem idx8 : ∀ t : Fin cfg0.N, win0_8.index t 0 = 0 ∧ win0_8.index t 1 = 0 :=
  (by decide +kernel : ∀ t : Fin grid0.N, win0_8.index t 0 = 0 ∧ win0_8.index t 1 = 0)

theorem emb8 (t : Fin cfg0.N) (r : Fin 1280) (a : Fin 4096) :
    ((cfg0.win 8).blk t).view.emb (ix2 r a) = ix2 r a := by
  funext x
  apply Fin.ext
  match x with
  | ⟨0, _⟩ => show win0_8.index t 0 * 1280 + 1 * r.val = r.val; rw [(idx8 t).1]; omega
  | ⟨1, _⟩ => show win0_8.index t 1 * 4096 + 1 * a.val = a.val; rw [(idx8 t).2]; omega

theorem idx9 : ∀ t : Fin cfg0.N, win0_9.index t 0 = 0 ∧ win0_9.index t 1 = 0 :=
  (by decide +kernel : ∀ t : Fin grid0.N, win0_9.index t 0 = 0 ∧ win0_9.index t 1 = 0)

theorem emb9 (t : Fin cfg0.N) (r : Fin 1) (a : Fin 1280) :
    ((cfg0.win 9).blk t).view.emb (ix2 r a) = ix2 r a := by
  funext x
  apply Fin.ext
  match x with
  | ⟨0, _⟩ => show win0_9.index t 0 * 1 + 1 * r.val = r.val; rw [(idx9 t).1]; omega
  | ⟨1, _⟩ => show win0_9.index t 1 * 1280 + 1 * a.val = a.val; rw [(idx9 t).2]; omega

/-- The blocks a point reads, as rows of the arguments. -/
theorem row0 (c : Dev nD) (t : Fin cfg0.N) (r : Fin 1280) :
    (fun a => iblk m c 0 t (ix2 r a)) = fun a => m ((c : Thread nD τ).loc main_arg0) (ix2 r a) :=
  funext fun a => (iblk0 m c t r a).trans (congrFun (V_main_arg0 m c) _)
theorem row1 (c : Dev nD) (t : Fin cfg0.N) (r : Fin 1280) :
    iblk m c 1 t (ix2 r 0) = m ((c : Thread nD τ).loc main_arg1) (ix1 r) := (iblk1 m c t r 0).trans (V_main_v0 m c _)
theorem row2 (c : Dev nD) (t : Fin cfg0.N) :
    (fun a b => iblk m c 2 t (ix2 a b)) = fun a b => m ((c : Thread nD τ).loc main_arg2) (ix2 a b) :=
  funext fun a => funext fun b => (iblk2 m c t a b).trans (congrFun (V_main_arg2 m c) _)
theorem row3 (c : Dev nD) (t : Fin cfg0.N) :
    (fun b => iblk m c 3 t (ix2 0 b)) = fun b => m ((c : Thread nD τ).loc main_arg3) (ix1 b) :=
  funext fun b => (iblk3 m c t 0 b).trans (V_main_v1 m c b)
theorem row4 (c : Dev nD) (t : Fin cfg0.N) (r : Fin 1280) :
    (fun b => iblk m c 4 t (ix2 r b)) = fun b => m ((c : Thread nD τ).loc main_arg4) (ix2 r b) :=
  funext fun b => (iblk4 m c t r b).trans (congrFun (V_main_arg4 m c) _)
theorem row5 (c : Dev nD) (t : Fin cfg0.N) :
    iblk m c 5 t (ix2 0 0) = m ((c : Thread nD τ).loc main_arg5) (ix1 0) := (iblk5 m c t 0 0).trans (V_main_v2 m c)
theorem row6 (c : Dev nD) (t : Fin cfg0.N) :
    (fun b => iblk m c 6 t (ix2 0 b)) = fun b => m ((c : Thread nD τ).loc main_arg6) (ix1 b) :=
  funext fun b => (iblk6 m c t 0 b).trans (V_main_v3 m c b)

/-- The residual stream, the codes and the scales, as whole arrays of the arguments. -/
def G7 (c : Dev nD) : Vec Ideal S1280x4096 .f32 := fun i => ORow.H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1)
def G8 (c : Dev nD) : Vec Ideal S1280x4096 .fp8e4m3 := fun i =>
  code (scl (amax (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0)))) (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1))
def G9 (c : Dev nD) : Vec Ideal S1x1280 .f32 := fun i => scl (amax (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 1)))

/-- What the body leaves in each output block, at an index: the row of the arrays that the block's row is. -/
theorem out7 (c : Dev nD) (t : Fin cfg0.N) (r : Fin 1280) (k : Fin 4096) :
    out0_7 (iblk m c 0 t) (iblk m c 1 t) (iblk m c 2 t) (iblk m c 3 t) (iblk m c 4 t) (iblk m c 5 t) (iblk m c 6 t) (ix2 r k)
      = ORow.H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r k := by
  unfold_out out0_7
  rw [View.canon_unit_zero hz]
  repeat rw [View.ld_unit_zero hz]
  rw [pay4, row0, row1, row2, row3, row4, row5]
  rfl

theorem hn_row (c : Dev nD) (t : Fin cfg0.N) (r : Fin 1280) (k : Fin 4096) :
    k0_pay5 (iblk m c 0 t) (iblk m c 1 t) (iblk m c 2 t) (iblk m c 3 t) (iblk m c 4 t) (iblk m c 5 t) (iblk m c 6 t) (ix2 r k)
      = ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r k := by
  rw [pay5, row0, row1, row2, row3, row4, row5, row6]
  rfl

theorem out8 (c : Dev nD) (t : Fin cfg0.N) (r : Fin 1280) (k : Fin 4096) :
    out0_8 (iblk m c 0 t) (iblk m c 1 t) (iblk m c 2 t) (iblk m c 3 t) (iblk m c 4 t) (iblk m c 5 t) (iblk m c 6 t) (ix2 r k)
      = code (scl (amax (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r))) (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r k) := by
  unfold_out out0_8
  rw [View.canon_unit_zero hz]
  repeat rw [View.ld_unit_zero hz]
  rw [pay2, pay6]
  simp only [hn_row]

theorem out9 (c : Dev nD) (t : Fin cfg0.N) (r : Fin 1280) :
    out0_9 (iblk m c 0 t) (iblk m c 1 t) (iblk m c 2 t) (iblk m c 3 t) (iblk m c 4 t) (iblk m c 5 t) (iblk m c 6 t) (ix2 0 r)
      = scl (amax (ORow.HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r)) := by
  unfold_out out0_9
  rw [View.canon_unit_zero hz]
  repeat rw [View.ld_unit_zero hz]
  rw [pay3, pay6]
  simp only [hn_row]

theorem flushed7_eq (c : Dev nD) (t : Fin cfg0.N) :
    (dats m 0 c).flushed 7 t = (win0_7.blk t).view.read (Elt Ideal) (G7 m c) := by
  show (cfg0.win 7).cut (grid0.coords t) ((dats m 0 c).after 7 t) = _
  rw [after0_7]
  funext j
  obtain ⟨r, a, rfl⟩ : ∃ (r : Fin 1280) (a : Fin 4096), j = ix2 r a := ⟨j 0, j 1, eq_ix2 j⟩
  show out0_7 _ _ _ _ _ _ _ (ix2 r a) = G7 m c (((cfg0.win 7).blk t).view.emb (ix2 r a))
  rw [emb7, out7 m c t r a]
  rfl

theorem mem7 (t : Fin cfg0.N) (r : Fin 1280) (a : Fin 4096) :
    (ix2 r a : S1280x4096.Idx) ∈ ((cfg0.win 7).blk t).view.set := by
  have h := View.emb_mem_set ((cfg0.win 7).blk t).view (ix2 r a)
  rw [emb7] at h
  exact h

theorem cover7 (i : S1280x4096.Idx) : ∃ t : Fin cfg0.N, (cfg0.win 7).flush t = true ∧ i ∈ ((cfg0.win 7).blk t).view.set := by
  have h0 : (i 0).val < 1280 := (i 0).isLt
  obtain ⟨t, ht⟩ : ∃ t : Fin cfg0.N, t.val = 0 := ⟨⟨0, by rw [show cfg0.N = _ from N_0]; omega⟩, rfl⟩
  have e : (ix2 (i 0) (i 1) : S1280x4096.Idx) = i := by
    funext x
    apply Fin.ext
    match x with
    | ⟨0, _⟩ => rfl
    | ⟨1, _⟩ => rfl
  refine ⟨t, flush0_7 t, ?_⟩
  rw [← e]
  exact mem7 t (i 0) (i 1)

theorem final7 (c : Dev nD) : (dats m 0 c).arrAt 7 cfg0.N = G7 m c :=
  (dats m 0 c).arrAt_eq_of_cover 7 (G7 m c) (fun t _ => flushed7_eq m c t) cover7

theorem flushed8_eq (c : Dev nD) (t : Fin cfg0.N) :
    (dats m 0 c).flushed 8 t = (win0_8.blk t).view.read (Elt Ideal) (G8 m c) := by
  show (cfg0.win 8).cut (grid0.coords t) ((dats m 0 c).after 8 t) = _
  rw [after0_8]
  funext j
  obtain ⟨r, a, rfl⟩ : ∃ (r : Fin 1280) (a : Fin 4096), j = ix2 r a := ⟨j 0, j 1, eq_ix2 j⟩
  show out0_8 _ _ _ _ _ _ _ (ix2 r a) = G8 m c (((cfg0.win 8).blk t).view.emb (ix2 r a))
  rw [emb8, out8 m c t r a]
  rfl

theorem mem8 (t : Fin cfg0.N) (r : Fin 1280) (a : Fin 4096) :
    (ix2 r a : S1280x4096.Idx) ∈ ((cfg0.win 8).blk t).view.set := by
  have h := View.emb_mem_set ((cfg0.win 8).blk t).view (ix2 r a)
  rw [emb8] at h
  exact h

theorem cover8 (i : S1280x4096.Idx) : ∃ t : Fin cfg0.N, (cfg0.win 8).flush t = true ∧ i ∈ ((cfg0.win 8).blk t).view.set := by
  have h0 : (i 0).val < 1280 := (i 0).isLt
  obtain ⟨t, ht⟩ : ∃ t : Fin cfg0.N, t.val = 0 := ⟨⟨0, by rw [show cfg0.N = _ from N_0]; omega⟩, rfl⟩
  have e : (ix2 (i 0) (i 1) : S1280x4096.Idx) = i := by
    funext x
    apply Fin.ext
    match x with
    | ⟨0, _⟩ => rfl
    | ⟨1, _⟩ => rfl
  refine ⟨t, flush0_8 t, ?_⟩
  rw [← e]
  exact mem8 t (i 0) (i 1)

theorem final8 (c : Dev nD) : (dats m 0 c).arrAt 8 cfg0.N = G8 m c :=
  (dats m 0 c).arrAt_eq_of_cover 8 (G8 m c) (fun t _ => flushed8_eq m c t) cover8

theorem flushed9_eq (c : Dev nD) (t : Fin cfg0.N) :
    (dats m 0 c).flushed 9 t = (win0_9.blk t).view.read (Elt Ideal) (G9 m c) := by
  show (cfg0.win 9).cut (grid0.coords t) ((dats m 0 c).after 9 t) = _
  rw [after0_9]
  funext j
  obtain ⟨r, a, rfl⟩ : ∃ (r : Fin 1) (a : Fin 1280), j = ix2 r a := ⟨j 0, j 1, eq_ix2 j⟩
  show out0_9 _ _ _ _ _ _ _ (ix2 r a) = G9 m c (((cfg0.win 9).blk t).view.emb (ix2 r a))
  obtain rfl : r = 0 := Fin.eq_zero r
  rw [emb9, out9 m c t a]
  rfl

theorem mem9 (t : Fin cfg0.N) (r : Fin 1) (a : Fin 1280) :
    (ix2 r a : S1x1280.Idx) ∈ ((cfg0.win 9).blk t).view.set := by
  have h := View.emb_mem_set ((cfg0.win 9).blk t).view (ix2 r a)
  rw [emb9] at h
  exact h

theorem cover9 (i : S1x1280.Idx) : ∃ t : Fin cfg0.N, (cfg0.win 9).flush t = true ∧ i ∈ ((cfg0.win 9).blk t).view.set := by
  have h0 : (i 1).val < 1280 := (i 1).isLt
  obtain ⟨t, ht⟩ : ∃ t : Fin cfg0.N, t.val = 0 := ⟨⟨0, by rw [show cfg0.N = _ from N_0]; omega⟩, rfl⟩
  have e : (ix2 (0 : Fin 1) (i 1) : S1x1280.Idx) = i := by
    funext x
    apply Fin.ext
    match x with
    | ⟨0, _⟩ => exact congrArg Fin.val (Fin.eq_zero (i 0)).symm
    | ⟨1, _⟩ => rfl
  refine ⟨t, flush0_9 t, ?_⟩
  rw [← e]
  exact mem9 t 0 (i 1)

theorem final9 (c : Dev nD) : (dats m 0 c).arrAt 9 cfg0.N = G9 m c :=
  (dats m 0 c).arrAt_eq_of_cover 9 (G9 m c) (fun t _ => flushed9_eq m c t) cover9

/-- The run: the three result arrays at their functions of the arguments, the arguments unchanged. -/
theorem run : θ_run defs (onTc (τ := τ) (main (F := Ideal))) ⟨m, fun _ => 0, ρ⟩ fun r => ∀ c : Dev nD,
      r.2.mem ((c : Thread nD τ).loc main_v4_0) = G7 m c
      ∧ r.2.mem ((c : Thread nD τ).loc main_v4_1) = G8 m c
      ∧ r.2.mem ((c : Thread nD τ).loc main_v4_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final7 m c), ((h c).1 8).trans (final8 m c), ((h c).1 9).trans (final9 m c),
    ((h c).1 0).trans (((dats m 0 c).arrAt_in 0 rfl _).trans (V_main_arg0 m c)), ((h c).2 main_arg1 (Pipeline.mem_restRefs_of main_arg1 (by decide) (by decide))).trans (V_main_arg1 m c), ((h c).1 2).trans (((dats m 0 c).arrAt_in 2 rfl _).trans (V_main_arg2 m c)), ((h c).2 main_arg3 (Pipeline.mem_restRefs_of main_arg3 (by decide) (by decide))).trans (V_main_arg3 m c), ((h c).1 4).trans (((dats m 0 c).arrAt_in 4 rfl _).trans (V_main_arg4 m c)), ((h c).2 main_arg5 (Pipeline.mem_restRefs_of main_arg5 (by decide) (by decide))).trans (V_main_arg5 m c), ((h c).2 main_arg6 (Pipeline.mem_restRefs_of main_arg6 (by decide) (by decide))).trans (V_main_arg6 m c)⟩) (run_main m ρ)

end Cert.ReferenceOIdeal.RefValue

namespace Cert.Proof.OClaims

/-- Over the extended reals the pipelined output projection and the plain one-block reference leave the same three
    arrays: the residual stream, the codes of its normalised rows, the scales of those rows. -/
theorem algebraic : Cert.algebraic_KernelOIdeal_ReferenceOIdeal := by
  intro m ρ m' ρ' _ hagree
  refine ⟨Cert.KernelOIdeal.RefValue.G7 m, Cert.KernelOIdeal.RefValue.G8 m, Cert.KernelOIdeal.RefValue.G9 m,
    Cert.KernelOIdeal.RefValue.run m ρ, ?_⟩
  refine (θ_run Cert.ReferenceOIdeal.defs _ _).mono (fun _ h c => ?_) (Cert.ReferenceOIdeal.RefValue.run m' ρ')
  obtain ⟨e0, e1, e2, e3, e4, e5, e6⟩ := hagree c
  refine ⟨(h c).1.trans ?_, (h c).2.1.trans ?_, (h c).2.2.1.trans ?_, (h c).2.2.2⟩
  · unfold Cert.ReferenceOIdeal.RefValue.G7 Cert.KernelOIdeal.RefValue.G7
    rw [e0, e1, e2, e3, e4, e5]
  · unfold Cert.ReferenceOIdeal.RefValue.G8 Cert.KernelOIdeal.RefValue.G8
    rw [e0, e1, e2, e3, e4, e5, e6]
  · unfold Cert.ReferenceOIdeal.RefValue.G9 Cert.KernelOIdeal.RefValue.G9
    rw [e0, e1, e2, e3, e4, e5, e6]

end Cert.Proof.OClaims

end
-- ==== Proof.VisFrameA.lean ====
/-
The body of the K/V build, run once at a grid point of case A (first image, a whole block): it runs to its end and hands back
every buffer, the inputs unchanged.
-/
module

public import proofs.«01_k».proof.Proof.Gen.KernelVis.Skeleton
public import proofs.«01_k».proof.Proof.Gen.KernelVis.Launch
public import proofs.«01_k».proof.Proof.Gen.KernelVis.Frame

@[expose] public section

set_option maxRecDepth 16384

noncomputable section

namespace Cert.KernelVis.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelVis Cert.KernelVis.Gen

variable {F : FTy → Type} [FloatOps F]

local notation "𝕄" => MT nD τ sig Unit (Elt F) ℕ (UR sig nD τ) ℕ

set_option maxHeartbeats 4000000 in
/-- The body at a point of case A (first image, a whole block), on whole buffers: the inputs' at named contents, which come back, every
    other at some contents, handed back at some contents. -/
theorem frameA (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (hc1 : ¬k0_cond1 i = 1#1) (hc2 : k0_cond2 i = 1#1) (hc3 : k0_cond3 i = 1#1) (hc4 : ¬k0_cond4 i = 1#1) (hc5 : ¬k0_cond5 i = 1#1)
    (x0 : Vec F S1x384x4096 .bf16) (x1 : Vec F S4096x512 .fp8e4m3) (x2 : Vec F S4096x512 .fp8e4m3) (x3 : Vec F S1x512 .f32) (x4 : Vec F S1x512 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_vis_kv_eq_skeleton]; unfold cc0_vis_kv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%dy6, %fy6, -, Hy6⟩, ⟨%dy7, %fy7, -, Hy7⟩, ⟨%dy8, %fy8, -, Hy8⟩, ⟨%dy9, %fy9, -, Hy9⟩, ⟨%dy10, %fy10, -, Hy10⟩, ⟨%dy11, %fy11, -, Hy11⟩, ⟨%dz14, %fz14, -, Hz14⟩, ⟨%dz15, %fz15, -, Hz15⟩, ⟨%dz16, %fz16, -, Hz16⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5
  sl_exec (disch := first | sl_exact hc1 | sl_exact hc2 | sl_exact hc3 | sl_exact hc4 | sl_exact hc5)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  isplitl [Hy6]
  · iexists _, _; isplitr; swap; · iexact Hy6
    ipureintro; rfl
  isplitl [Hy7]
  · iexists _, _; isplitr; swap; · iexact Hy7
    ipureintro; rfl
  isplitl [Hy8]
  · iexists _, _; isplitr; swap; · iexact Hy8
    ipureintro; rfl
  isplitl [Hy9]
  · iexists _, _; isplitr; swap; · iexact Hy9
    ipureintro; rfl
  isplitl [Hy10]
  · iexists _, _; isplitr; swap; · iexact Hy10
    ipureintro; rfl
  isplitl [Hy11]
  · iexists _, _; isplitr; swap; · iexact Hy11
    ipureintro; rfl
  isplitl [Hz14]
  · iexists _, _; isplitr; swap; · iexact Hz14
    ipureintro; rfl
  isplitl [Hz15]
  · iexists _, _; isplitr; swap; · iexact Hz15
    ipureintro; rfl
  iexists _, _; isplitr; swap; · iexact Hz16
  ipureintro; rfl

end Cert.KernelVis.Hand

end
-- ==== Proof.VisFrameB.lean ====
/-
The body of the K/V build, run once at a grid point of case B (first image, its last block): it runs to its end and hands back
every buffer, the inputs unchanged.
-/
module

public import proofs.«01_k».proof.Proof.Gen.KernelVis.Skeleton
public import proofs.«01_k».proof.Proof.Gen.KernelVis.Launch
public import proofs.«01_k».proof.Proof.Gen.KernelVis.Frame

@[expose] public section

set_option maxRecDepth 16384

noncomputable section

namespace Cert.KernelVis.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelVis Cert.KernelVis.Gen

variable {F : FTy → Type} [FloatOps F]

local notation "𝕄" => MT nD τ sig Unit (Elt F) ℕ (UR sig nD τ) ℕ

set_option maxHeartbeats 4000000 in
/-- The body at a point of case B (first image, its last block), on whole buffers: the inputs' at named contents, which come back, every
    other at some contents, handed back at some contents. -/
theorem frameB (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (hc1 : ¬k0_cond1 i = 1#1) (hc2 : k0_cond2 i = 1#1) (hc3 : ¬k0_cond3 i = 1#1) (hc4 : k0_cond4 i = 1#1) (hc5 : k0_cond5 i = 1#1)
    (x0 : Vec F S1x384x4096 .bf16) (x1 : Vec F S4096x512 .fp8e4m3) (x2 : Vec F S4096x512 .fp8e4m3) (x3 : Vec F S1x512 .f32) (x4 : Vec F S1x512 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_vis_kv_eq_skeleton]; unfold cc0_vis_kv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%dy6, %fy6, -, Hy6⟩, ⟨%dy7, %fy7, -, Hy7⟩, ⟨%dy8, %fy8, -, Hy8⟩, ⟨%dy9, %fy9, -, Hy9⟩, ⟨%dy10, %fy10, -, Hy10⟩, ⟨%dy11, %fy11, -, Hy11⟩, ⟨%dz14, %fz14, -, Hz14⟩, ⟨%dz15, %fz15, -, Hz15⟩, ⟨%dz16, %fz16, -, Hz16⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5
  sl_exec (disch := first | sl_exact hc1 | sl_exact hc2 | sl_exact hc3 | sl_exact hc4 | sl_exact hc5)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  isplitl [Hy6]
  · iexists _, _; isplitr; swap; · iexact Hy6
    ipureintro; rfl
  isplitl [Hy7]
  · iexists _, _; isplitr; swap; · iexact Hy7
    ipureintro; rfl
  isplitl [Hy8]
  · iexists _, _; isplitr; swap; · iexact Hy8
    ipureintro; rfl
  isplitl [Hy9]
  · iexists _, _; isplitr; swap; · iexact Hy9
    ipureintro; rfl
  isplitl [Hy10]
  · iexists _, _; isplitr; swap; · iexact Hy10
    ipureintro; rfl
  isplitl [Hy11]
  · iexists _, _; isplitr; swap; · iexact Hy11
    ipureintro; rfl
  isplitl [Hz14]
  · iexists _, _; isplitr; swap; · iexact Hz14
    ipureintro; rfl
  isplitl [Hz15]
  · iexists _, _; isplitr; swap; · iexact Hz15
    ipureintro; rfl
  iexists _, _; isplitr; swap; · iexact Hz16
  ipureintro; rfl

end Cert.KernelVis.Hand

end
-- ==== Proof.VisFrameC.lean ====
/-
The body of the K/V build, run once at a grid point of case C (a middle image, a whole block): it runs to its end and hands back
every buffer, the inputs unchanged.
-/
module

public import proofs.«01_k».proof.Proof.Gen.KernelVis.Skeleton
public import proofs.«01_k».proof.Proof.Gen.KernelVis.Launch
public import proofs.«01_k».proof.Proof.Gen.KernelVis.Frame

@[expose] public section

set_option maxRecDepth 16384

noncomputable section

namespace Cert.KernelVis.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelVis Cert.KernelVis.Gen

variable {F : FTy → Type} [FloatOps F]

local notation "𝕄" => MT nD τ sig Unit (Elt F) ℕ (UR sig nD τ) ℕ

set_option maxHeartbeats 4000000 in
/-- The body at a point of case C (a middle image, a whole block), on whole buffers: the inputs' at named contents, which come back, every
    other at some contents, handed back at some contents. -/
theorem frameC (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (hc1 : k0_cond1 i = 1#1) (hc2 : k0_cond2 i = 1#1) (hc3 : k0_cond3 i = 1#1) (hc4 : ¬k0_cond4 i = 1#1) (hc5 : ¬k0_cond5 i = 1#1)
    (x0 : Vec F S1x384x4096 .bf16) (x1 : Vec F S4096x512 .fp8e4m3) (x2 : Vec F S4096x512 .fp8e4m3) (x3 : Vec F S1x512 .f32) (x4 : Vec F S1x512 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_vis_kv_eq_skeleton]; unfold cc0_vis_kv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%dy6, %fy6, -, Hy6⟩, ⟨%dy7, %fy7, -, Hy7⟩, ⟨%dy8, %fy8, -, Hy8⟩, ⟨%dy9, %fy9, -, Hy9⟩, ⟨%dy10, %fy10, -, Hy10⟩, ⟨%dy11, %fy11, -, Hy11⟩, ⟨%dz14, %fz14, -, Hz14⟩, ⟨%dz15, %fz15, -, Hz15⟩, ⟨%dz16, %fz16, -, Hz16⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5
  sl_exec (disch := first | sl_exact hc1 | sl_exact hc2 | sl_exact hc3 | sl_exact hc4 | sl_exact hc5)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  isplitl [Hy6]
  · iexists _, _; isplitr; swap; · iexact Hy6
    ipureintro; rfl
  isplitl [Hy7]
  · iexists _, _; isplitr; swap; · iexact Hy7
    ipureintro; rfl
  isplitl [Hy8]
  · iexists _, _; isplitr; swap; · iexact Hy8
    ipureintro; rfl
  isplitl [Hy9]
  · iexists _, _; isplitr; swap; · iexact Hy9
    ipureintro; rfl
  isplitl [Hy10]
  · iexists _, _; isplitr; swap; · iexact Hy10
    ipureintro; rfl
  isplitl [Hy11]
  · iexists _, _; isplitr; swap; · iexact Hy11
    ipureintro; rfl
  isplitl [Hz14]
  · iexists _, _; isplitr; swap; · iexact Hz14
    ipureintro; rfl
  isplitl [Hz15]
  · iexists _, _; isplitr; swap; · iexact Hz15
    ipureintro; rfl
  iexists _, _; isplitr; swap; · iexact Hz16
  ipureintro; rfl

end Cert.KernelVis.Hand

end
-- ==== Proof.VisFrameD.lean ====
/-
The body of the K/V build, run once at a grid point of case D (a middle image, its last block): it runs to its end and hands back
every buffer, the inputs unchanged.
-/
module

public import proofs.«01_k».proof.Proof.Gen.KernelVis.Skeleton
public import proofs.«01_k».proof.Proof.Gen.KernelVis.Launch
public import proofs.«01_k».proof.Proof.Gen.KernelVis.Frame

@[expose] public section

set_option maxRecDepth 16384

noncomputable section

namespace Cert.KernelVis.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelVis Cert.KernelVis.Gen

variable {F : FTy → Type} [FloatOps F]

local notation "𝕄" => MT nD τ sig Unit (Elt F) ℕ (UR sig nD τ) ℕ

set_option maxHeartbeats 4000000 in
/-- The body at a point of case D (a middle image, its last block), on whole buffers: the inputs' at named contents, which come back, every
    other at some contents, handed back at some contents. -/
theorem frameD (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (hc1 : k0_cond1 i = 1#1) (hc2 : k0_cond2 i = 1#1) (hc3 : ¬k0_cond3 i = 1#1) (hc4 : k0_cond4 i = 1#1) (hc5 : k0_cond5 i = 1#1)
    (x0 : Vec F S1x384x4096 .bf16) (x1 : Vec F S4096x512 .fp8e4m3) (x2 : Vec F S4096x512 .fp8e4m3) (x3 : Vec F S1x512 .f32) (x4 : Vec F S1x512 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_vis_kv_eq_skeleton]; unfold cc0_vis_kv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%dy6, %fy6, -, Hy6⟩, ⟨%dy7, %fy7, -, Hy7⟩, ⟨%dy8, %fy8, -, Hy8⟩, ⟨%dy9, %fy9, -, Hy9⟩, ⟨%dy10, %fy10, -, Hy10⟩, ⟨%dy11, %fy11, -, Hy11⟩, ⟨%dz14, %fz14, -, Hz14⟩, ⟨%dz15, %fz15, -, Hz15⟩, ⟨%dz16, %fz16, -, Hz16⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5
  sl_exec (disch := first | sl_exact hc1 | sl_exact hc2 | sl_exact hc3 | sl_exact hc4 | sl_exact hc5)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  isplitl [Hy6]
  · iexists _, _; isplitr; swap; · iexact Hy6
    ipureintro; rfl
  isplitl [Hy7]
  · iexists _, _; isplitr; swap; · iexact Hy7
    ipureintro; rfl
  isplitl [Hy8]
  · iexists _, _; isplitr; swap; · iexact Hy8
    ipureintro; rfl
  isplitl [Hy9]
  · iexists _, _; isplitr; swap; · iexact Hy9
    ipureintro; rfl
  isplitl [Hy10]
  · iexists _, _; isplitr; swap; · iexact Hy10
    ipureintro; rfl
  isplitl [Hy11]
  · iexists _, _; isplitr; swap; · iexact Hy11
    ipureintro; rfl
  isplitl [Hz14]
  · iexists _, _; isplitr; swap; · iexact Hz14
    ipureintro; rfl
  isplitl [Hz15]
  · iexists _, _; isplitr; swap; · iexact Hz15
    ipureintro; rfl
  iexists _, _; isplitr; swap; · iexact Hz16
  ipureintro; rfl

end Cert.KernelVis.Hand

end
-- ==== Proof.VisFrameE.lean ====
/-
The body of the K/V build, run once at a grid point of case E (past the last image): it runs to its end and hands back
every buffer, the inputs unchanged.
-/
module

public import proofs.«01_k».proof.Proof.Gen.KernelVis.Skeleton
public import proofs.«01_k».proof.Proof.Gen.KernelVis.Launch
public import proofs.«01_k».proof.Proof.Gen.KernelVis.Frame

@[expose] public section

set_option maxRecDepth 16384

noncomputable section

namespace Cert.KernelVis.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelVis Cert.KernelVis.Gen

variable {F : FTy → Type} [FloatOps F]

local notation "𝕄" => MT nD τ sig Unit (Elt F) ℕ (UR sig nD τ) ℕ

set_option maxHeartbeats 4000000 in
/-- The body at a point of case E (past the last image), on whole buffers: the inputs' at named contents, which come back, every
    other at some contents, handed back at some contents. -/
theorem frameE (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (hc1 : k0_cond1 i = 1#1) (hc2 : ¬k0_cond2 i = 1#1)
    (x0 : Vec F S1x384x4096 .bf16) (x1 : Vec F S4096x512 .fp8e4m3) (x2 : Vec F S4096x512 .fp8e4m3) (x3 : Vec F S1x512 .f32) (x4 : Vec F S1x512 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_vis_kv_eq_skeleton]; unfold cc0_vis_kv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%dy6, %fy6, -, Hy6⟩, ⟨%dy7, %fy7, -, Hy7⟩, ⟨%dy8, %fy8, -, Hy8⟩, ⟨%dy9, %fy9, -, Hy9⟩, ⟨%dy10, %fy10, -, Hy10⟩, ⟨%dy11, %fy11, -, Hy11⟩, ⟨%dz14, %fz14, -, Hz14⟩, ⟨%dz15, %fz15, -, Hz15⟩, ⟨%dz16, %fz16, -, Hz16⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5
  sl_exec (disch := first | sl_exact hc1 | sl_exact hc2)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  isplitl [Hy6]
  · iexists _, _; isplitr; swap; · iexact Hy6
    ipureintro; rfl
  isplitl [Hy7]
  · iexists _, _; isplitr; swap; · iexact Hy7
    ipureintro; rfl
  isplitl [Hy8]
  · iexists _, _; isplitr; swap; · iexact Hy8
    ipureintro; rfl
  isplitl [Hy9]
  · iexists _, _; isplitr; swap; · iexact Hy9
    ipureintro; rfl
  isplitl [Hy10]
  · iexists _, _; isplitr; swap; · iexact Hy10
    ipureintro; rfl
  isplitl [Hy11]
  · iexists _, _; isplitr; swap; · iexact Hy11
    ipureintro; rfl
  isplitl [Hz14]
  · iexists _, _; isplitr; swap; · iexact Hz14
    ipureintro; rfl
  isplitl [Hz15]
  · iexists _, _; isplitr; swap; · iexact Hz15
    ipureintro; rfl
  iexists _, _; isplitr; swap; · iexact Hz16
  ipureintro; rfl

end Cert.KernelVis.Hand

end
-- ==== Proof.VisFrame.lean ====
/-
  The frame of the K/V build (hand-written, untrusted): the body at any point of the grid runs to its return and hands its
  inputs back; what it leaves in its outputs is not named.
-/
module

public import proofs.«01_k».proof.Proof.VisFrameA
public import proofs.«01_k».proof.Proof.VisFrameB
public import proofs.«01_k».proof.Proof.VisFrameC
public import proofs.«01_k».proof.Proof.VisFrameD
public import proofs.«01_k».proof.Proof.VisFrameE
public import Idealize.ShloMosaic.Lib.Pipeline.Frame
public import Idealize.ShloMosaic.Lib.Claim

@[expose] public section

set_option maxRecDepth 16384

noncomputable section

namespace Cert.KernelVis.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelVis Cert.KernelVis.Gen

variable {F : FTy → Type} [FloatOps F]

local notation "𝕄" => MT nD τ sig Unit (Elt F) ℕ (UR sig nD τ) ℕ

theorem c1_iff (i : grid0.Coords) : k0_cond1 i = 1#1 ↔ 0 < (i 0).val :=
  (by decide +kernel : ∀ a : Fin 7, Scalar.cmpi .ne (Scalar.extui (Scalar.cmpi .sgt (BitVec.ofNat 32 a.val) 0#32) : BitVec 32) 0#32 = 1#1 ↔ 0 < a.val) (i 0)
theorem c2_iff (i : grid0.Coords) : k0_cond2 i = 1#1 ↔ (i 0).val < 6 :=
  (by decide +kernel : ∀ a : Fin 7, Scalar.cmpi .ne (Scalar.extui (Scalar.cmpi .slt (BitVec.ofNat 32 a.val) 6#32) : BitVec 32) 0#32 = 1#1 ↔ a.val < 6) (i 0)
theorem c3_iff (i : grid0.Coords) : k0_cond3 i = 1#1 ↔ (i 1).val < 16 :=
  (by decide +kernel : ∀ a : Fin 17, Scalar.cmpi .ne (Scalar.extui (Scalar.cmpi .slt (BitVec.ofNat 32 a.val) 16#32) : BitVec 32) 0#32 = 1#1 ↔ a.val < 16) (i 1)
theorem c4_iff (i : grid0.Coords) : k0_cond4 i = 1#1 ↔ (i 1).val = 16 :=
  (by decide +kernel : ∀ a : Fin 17, Scalar.cmpi .ne (Scalar.extui (Scalar.cmpi .eq (BitVec.ofNat 32 a.val) 16#32) : BitVec 32) 0#32 = 1#1 ↔ a.val = 16) (i 1)
theorem c5_iff (i : grid0.Coords) : k0_cond5 i = 1#1 ↔ (i 1).val = 16 :=
  (by decide +kernel : ∀ a : Fin 17, Scalar.cmpi .ne (Scalar.extui (Scalar.cmpi .eq (BitVec.ofNat 32 a.val) 16#32) : BitVec 32) 0#32 = 1#1 ↔ a.val = 16) (i 1)
theorem i0_lt (i : grid0.Coords) : (i 0).val < 7 := (i 0).isLt
theorem i1_lt (i : grid0.Coords) : (i 1).val < 17 := (i 1).isLt

/-- The body at any point of the grid, its outputs and scratch at any contents before and after. -/
theorem frameAny (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (x0 : Vec F S1x384x4096 .bf16) (x1 : Vec F S4096x512 .fp8e4m3) (x2 : Vec F S4096x512 .fp8e4m3) (x3 : Vec F S1x512 .f32) (x4 : Vec F S1x512 .f32) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have b0 := i0_lt i
  have b1 := i1_lt i
  by_cases g2 : (i 0).val < 6
  · have h2 : k0_cond2 i = 1#1 := (c2_iff i).mpr g2
    by_cases g1 : 0 < (i 0).val
    · have h1 : k0_cond1 i = 1#1 := (c1_iff i).mpr g1
      by_cases g3 : (i 1).val < 16
      · have h3 : k0_cond3 i = 1#1 := (c3_iff i).mpr g3
        have h4 : ¬ k0_cond4 i = 1#1 := fun h => by have := (c4_iff i).mp h; omega
        have h5 : ¬ k0_cond5 i = 1#1 := fun h => by have := (c5_iff i).mp h; omega
        exact frameC c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 x0 x1 x2 x3 x4 x5 E K
      · have g4 : (i 1).val = 16 := by omega
        have h3 : ¬ k0_cond3 i = 1#1 := fun h => g3 ((c3_iff i).mp h)
        have h4 : k0_cond4 i = 1#1 := (c4_iff i).mpr g4
        have h5 : k0_cond5 i = 1#1 := (c5_iff i).mpr g4
        exact frameD c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 x0 x1 x2 x3 x4 x5 E K
    · have g0 : (i 0).val = 0 := by omega
      have h1 : ¬ k0_cond1 i = 1#1 := fun h => g1 ((c1_iff i).mp h)
      by_cases g3 : (i 1).val < 16
      · have h3 : k0_cond3 i = 1#1 := (c3_iff i).mpr g3
        have h4 : ¬ k0_cond4 i = 1#1 := fun h => by have := (c4_iff i).mp h; omega
        have h5 : ¬ k0_cond5 i = 1#1 := fun h => by have := (c5_iff i).mp h; omega
        exact frameA c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 x0 x1 x2 x3 x4 x5 E K
      · have g4 : (i 1).val = 16 := by omega
        have h3 : ¬ k0_cond3 i = 1#1 := fun h => g3 ((c3_iff i).mp h)
        have h4 : k0_cond4 i = 1#1 := (c4_iff i).mpr g4
        have h5 : k0_cond5 i = 1#1 := (c5_iff i).mpr g4
        exact frameB c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 x0 x1 x2 x3 x4 x5 E K
  · have h1 : k0_cond1 i = 1#1 := (c1_iff i).mpr (by omega)
    have h2 : ¬ k0_cond2 i = 1#1 := fun h => g2 ((c2_iff i).mp h)
    exact frameE c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 x0 x1 x2 x3 x4 x5 E K

variable (m : (ℓ : Loc nD τ sig) → Buf (Elt F) ℓ) (ρ : Dev nD → PrngReg)

abbrev scM0_0 : Memref sig .tc .vmem S17x384x1024 .f32 := Memref.whole cc0_scratch0
abbrev scM0_1 : Memref sig .tc .vmem S8x1024 .f32 := Memref.whole cc0_scratch1
abbrev scM0_2 : Memref sig .tc .vmem S8x1024 .f32 := Memref.whole cc0_scratch2

/-- The invariant between points: the scratch buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The proof data: an input's buffer is handed back as found; nothing is said of an output's. -/
def rdat (c : Dev nD) : RDat τ (Elt F) Unit ℕ (UR sig nD τ) ℕ cfg0 c where
  A w := V m c (Pipeline.arrRef spec0 w)
  after w t Y X := w.val < 6 → X = Y
  Φ _ := Pipeline.ΦA spec0 c
  q _ := fullShare
  owed _ := 0

theorem A_eq (c : Dev nD) (w : Fin cfg0.W) : (rdat m c).A w = V m c (Pipeline.arrRef spec0 w) := by dsimp only [rdat]

theorem defs₀_row (t : Fin cfg0.N) : defs₀ (F := F) .tc cfg0.body (cfg0.bodyArgs t (cfg0.slots t)) = bodyAt0 t := by
  unfold defs₀; rw [Defs.onTc_tc]

set_option maxHeartbeats 2400000 in
theorem body_obligation (c : Dev nD) : (rdat m c).BodyObligation (defs₀ (F := F)) Variants.none () Set.univ := by
  intro t Y _
  rw [bigSep_W0, bigSep_W0, defs₀_row]
  rw [show (rdat m c).Φ t.succ = Pipeline.ΦA spec0 c from rfl, show (rdat m c).Φ t.castSucc = Pipeline.ΦA spec0 c from rfl, PhiA0_eq]
  unfold RDat.owesAt Pipeline.owesWithin
  rw [show (rdat m c).owed t.castSucc = 0 from rfl, show (rdat m c).owed t.succ = 0 from rfl]
  iintro ⟨⟨⟨HS0, HS1, HS2⟩, Hg⟩, ⟨%W, %hW, HO⟩, H0, H1, H2, H3, H4, H5, H6, H7, H8, H9, H10, H11⟩
  iapply (frameAny c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) scM0_0 (Memref.isWhole_whole _) scM0_1 (Memref.isWhole_whole _) scM0_2 (Memref.isWhole_whole _) (Y 0) (Y 1) (Y 2) (Y 3) (Y 4) (Y 5) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%e9, H9⟩, ⟨%e10, H10⟩, ⟨%e11, H11⟩, HS0, HS1, HS2⟩
  isplitl [HS0 HS1 HS2 Hg]
  · isplitl [HS0 HS1 HS2]
    · isplitl [HS0]; · iexact HS0
      isplitl [HS1]; · iexact HS1
      iexact HS2
    iexact Hg
  isplitl [HO]
  · iexists W; isplitr; · ipureintro; exact fun _ _ => Or.inl trivial
    iexact HO
  isplitl [H0]
  · iexists _; isplitr; · ipureintro; exact fun _ => rfl
    iexact H0
  isplitl [H1]
  · iexists _; isplitr; · ipureintro; exact fun _ => rfl
    iexact H1
  isplitl [H2]
  · iexists _; isplitr; · ipureintro; exact fun _ => rfl
    iexact H2
  isplitl [H3]
  · iexists _; isplitr; · ipureintro; exact fun _ => rfl
    iexact H3
  isplitl [H4]
  · iexists _; isplitr; · ipureintro; exact fun _ => rfl
    iexact H4
  isplitl [H5]
  · iexists _; isplitr; · ipureintro; exact fun _ => rfl
    iexact H5
  isplitl [H6]
  · iexists e6; isplitr; · ipureintro; exact fun h => absurd h (by decide)
    iexact H6
  isplitl [H7]
  · iexists e7; isplitr; · ipureintro; exact fun h => absurd h (by decide)
    iexact H7
  isplitl [H8]
  · iexists e8; isplitr; · ipureintro; exact fun h => absurd h (by decide)
    iexact H8
  isplitl [H9]
  · iexists e9; isplitr; · ipureintro; exact fun h => absurd h (by decide)
    iexact H9
  isplitl [H10]
  · iexists e10; isplitr; · ipureintro; exact fun h => absurd h (by decide)
    iexact H10
  iexists e11; isplitr; · ipureintro; exact fun h => absurd h (by decide)
  iexact H11

set_option backward.isDefEq.respectTransparency.types false in
/-- Every execution of the program ends with every window's array as the proof data allow, every other buffer untouched and
    every semaphore at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs 0 launch0 defs₀ Variants.none (rdat m) m ρ main (hbody := body_obligation m)
    (hshare := fun c w => (rdat m c).share_full (fun _ => rfl) w) (howed := fun _ _ => rfl) (V := V m) (hmain := hmain m Variants.none) (hA := A_eq m) (hΦ := fun _ _ => rfl)

theorem args_of {r : PUnit × MemSt nD τ sig (Elt F)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 0 rfl).trans (V_main_arg0 m c), (Pipeline.RDat.FramePost.arr_in h c 1 rfl).trans (V_main_arg1 m c),
    (Pipeline.RDat.FramePost.arr_in h c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: every execution ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => args_of m h.1 c, h.2⟩) (run_main m ρ)

end Cert.KernelVis.Hand

end
-- ==== Proof.VisRow.lean ====
/-
  The K/V build as row mathematics (hand-written, untrusted): one vision token's keys and values from its row of
  activations.
-/
module

public import proofs.«01_k».proof.Proof.Rows

@[expose] public section

noncomputable section

open Idealize.ShloMosaic

namespace Cert.VisRow

open Cert.Rows

/-- Clipping to ±448. -/
def clip (x : EReal) : EReal := min (Ideal.ofBits .f32 0x43E00000#32) (max (Ideal.ofBits .f32 0xC3E00000#32) x)

theorem clip_recip (a x : EReal) : clip (x * Ideal.div 1 (scl a)) = code (scl a) x := code_recip a x

/-- Magnitude of an extended real. -/
abbrev mag (x : EReal) : EReal := FloatOps.absf (F := Ideal) (φ := .f32) x

/-- The largest of a family (from −∞). -/
def top {n : Nat} (f : Fin n → EReal) : EReal := Finset.univ.fold max (Ideal.ofBits .f32 0xFF800000#32) f

/-- Column `128 g + d`: lane `d` of head `g`. -/
def col {n : Nat} (N : Nat) (h : N = 128 * n) (g : Fin n) (d : Fin 128) : Fin N := ⟨128 * g.val + d.val, by omega⟩

/-- The projection of a quantised row: its codes against a weight column, times both scales. -/
def proj {n : Nat} (x : Fin 4096 → EReal) (w : Fin 4096 → Fin n → EReal) (ws : Fin n → EReal) (c : Fin n) : EReal :=
  (∑ a, code (scl (amax x)) (x a) * w a c) * (scl (amax x) * ws c)

/-- A key head of a row: the projection's 128 lanes of the head, normalised by their root mean square, times a gain. -/
def key (x : Fin 4096 → EReal) (w : Fin 4096 → Fin 512 → EReal) (ws : Fin 512 → EReal) (kn : Fin 128 → EReal) (g : Fin 4)
    (d : Fin 128) : EReal :=
  rms (Ideal.ofBits .f32 0x43000000#32) (fun e => proj x w ws (col 512 rfl g e)) kn d

/-- Keys (columns below 512) and values (the rest) of a row, side by side. -/
def kv (x : Fin 4096 → EReal) (wk wv : Fin 4096 → Fin 512 → EReal) (wks wvs : Fin 512 → EReal) (kn : Fin 128 → EReal)
    (c : Fin 1024) : EReal :=
  if h : c.val < 512 then key x wk wks kn ⟨c.val / 128, by omega⟩ ⟨c.val % 128, by omega⟩
  else proj x wv wvs ⟨c.val - 512, by omega⟩

theorem kv_key (x : Fin 4096 → EReal) (wk wv : Fin 4096 → Fin 512 → EReal) (wks wvs : Fin 512 → EReal) (kn : Fin 128 → EReal)
    (g : Fin 4) (d : Fin 128) (c : Fin 1024) (hc : c.val = 128 * g.val + d.val) : kv x wk wv wks wvs kn c = key x wk wks kn g d := by
  have h : c.val < 512 := by omega
  unfold kv
  rw [dif_pos h]
  congr 1 <;> apply Fin.ext
  · show c.val / 128 = g.val
    omega
  · show c.val % 128 = d.val
    omega

theorem kv_val (x : Fin 4096 → EReal) (wk wv : Fin 4096 → Fin 512 → EReal) (wks wvs : Fin 512 → EReal) (kn : Fin 128 → EReal)
    (k : Fin 512) (c : Fin 1024) (hc : c.val = 512 + k.val) : kv x wk wv wks wvs kn c = proj x wv wvs k := by
  have h : ¬ c.val < 512 := by omega
  unfold kv
  rw [dif_neg h]
  congr 1
  apply Fin.ext
  show c.val - 512 = k.val
  omega

end Cert.VisRow

end
-- ==== Proof.VisPay1.lean ====
/-
  The K/V build, its cache codes: each stored block at an index is the buffered value times the head multiplier, clipped
  (hand-written, untrusted).
-/
module

public import proofs.«01_k».proof.Proof.Gen.KernelVisIdeal.Skeleton
public import proofs.«01_k».proof.Proof.VisRow
public import Idealize.ShloMosaic.Lib.Pointwise

@[expose] public section

set_option maxRecDepth 16384

noncomputable section

open Idealize.ShloMosaic Idealize.ShloMosaic.TcCoe

namespace Cert.KernelVisIdeal.Hand

open Cert.KernelVisIdeal Cert.KernelVisIdeal.Gen Cert.Rows Cert.VisRow

theorem pay9 (w : Vec Ideal S1x384x1024 .f32) (q : Vec Ideal S1x1024 .f32) (r : Fin 384) (c : Fin 1024) :
    k0_pay9 w q (ix2 r c) = clip (w (ix3 0 r c) * q (ix2 0 c)) := by
  unfold_payloads
  pointwise
  rfl

theorem pay10 (w : Vec Ideal S1x384x1024 .f32) (q : Vec Ideal S1x1024 .f32) (r : Fin 384) (d : Fin 128) (c : Fin 1024) (hc : c.val = 0 + d.val) :
    k0_pay10 w q (ix4 0 0 r d) = clip (w (ix3 0 r c) * q (ix2 0 c)) := by
  rw [← pay9]
  unfold k0_pay10
  generalize k0_pay9 w q = P
  rw [show c = ⟨0 + d.val, by omega⟩ from Fin.ext hc]
  pointwise

theorem pay11 (w : Vec Ideal S1x384x1024 .f32) (q : Vec Ideal S1x1024 .f32) (r : Fin 384) (d : Fin 128) (c : Fin 1024) (hc : c.val = 512 + d.val) :
    k0_pay11 w q (ix4 0 0 r d) = clip (w (ix3 0 r c) * q (ix2 0 c)) := by
  rw [← pay9]
  unfold k0_pay11
  generalize k0_pay9 w q = P
  rw [show c = ⟨512 + d.val, by omega⟩ from Fin.ext hc]
  pointwise

theorem pay12 (w : Vec Ideal S1x384x1024 .f32) (q : Vec Ideal S1x1024 .f32) (r : Fin 384) (d : Fin 128) (c : Fin 1024) (hc : c.val = 128 + d.val) :
    k0_pay12 w q (ix4 0 0 r d) = clip (w (ix3 0 r c) * q (ix2 0 c)) := by
  rw [← pay9]
  unfold k0_pay12
  generalize k0_pay9 w q = P
  rw [show c = ⟨128 + d.val, by omega⟩ from Fin.ext hc]
  pointwise

theorem pay13 (w : Vec Ideal S1x384x1024 .f32) (q : Vec Ideal S1x1024 .f32) (r : Fin 384) (d : Fin 128) (c : Fin 1024) (hc : c.val = 640 + d.val) :
    k0_pay13 w q (ix4 0 0 r d) = clip (w (ix3 0 r c) * q (ix2 0 c)) := by
  rw [← pay9]
  unfold k0_pay13
  generalize k0_pay9 w q = P
  rw [show c = ⟨640 + d.val, by omega⟩ from Fin.ext hc]
  pointwise

theorem pay14 (w : Vec Ideal S1x384x1024 .f32) (q : Vec Ideal S1x1024 .f32) (r : Fin 384) (d : Fin 128) (c : Fin 1024) (hc : c.val = 256 + d.val) :
    k0_pay1 (k0_pay14 w q) (ix4 0 0 r d) = clip (w (ix3 0 r c) * q (ix2 0 c)) := by
  rw [← pay9]
  unfold k0_pay1 k0_pay14
  generalize k0_pay9 w q = P
  rw [show c = ⟨256 + d.val, by omega⟩ from Fin.ext hc]
  pointwise

theorem pay2 (w : Vec Ideal S1x384x1024 .f32) (q : Vec Ideal S1x1024 .f32) (r : Fin 384) (d : Fin 128) (c : Fin 1024) (hc : c.val = 768 + d.val) :
    k0_pay2 (k0_pay9 w q) (ix4 0 0 r d) = clip (w (ix3 0 r c) * q (ix2 0 c)) := by
  rw [← pay9]
  unfold k0_pay2
  generalize k0_pay9 w q = P
  rw [show c = ⟨768 + d.val, by omega⟩ from Fin.ext hc]
  pointwise

theorem pay3 (w : Vec Ideal S1x384x1024 .f32) (q : Vec Ideal S1x1024 .f32) (r : Fin 384) (d : Fin 128) (c : Fin 1024) (hc : c.val = 384 + d.val) :
    k0_pay3 (k0_pay9 w q) (ix4 0 0 r d) = clip (w (ix3 0 r c) * q (ix2 0 c)) := by
  rw [← pay9]
  unfold k0_pay3
  generalize k0_pay9 w q = P
  rw [show c = ⟨384 + d.val, by omega⟩ from Fin.ext hc]
  pointwise

theorem pay4 (w : Vec Ideal S1x384x1024 .f32) (q : Vec Ideal S1x1024 .f32) (r : Fin 384) (d : Fin 128) (c : Fin 1024) (hc : c.val = 896 + d.val) :
    k0_pay4 (k0_pay9 w q) (ix4 0 0 r d) = clip (w (ix3 0 r c) * q (ix2 0 c)) := by
  rw [← pay9]
  unfold k0_pay4
  generalize k0_pay9 w q = P
  rw [show c = ⟨896 + d.val, by omega⟩ from Fin.ext hc]
  pointwise

end Cert.KernelVisIdeal.Hand

end
-- ==== Proof.VisPay2.lean ====
/-
  The K/V build, what it computes of a block of tokens: codes, scales, keys and values, column maxima, index by index
  (hand-written, untrusted).
-/
module

public import proofs.«01_k».proof.Proof.Gen.KernelVisIdeal.Skeleton
public import proofs.«01_k».proof.Proof.VisRow
public import Idealize.ShloMosaic.Lib.Pointwise

@[expose] public section

set_option maxRecDepth 16384

noncomputable section

open Idealize.ShloMosaic Idealize.ShloMosaic.TcCoe

namespace Cert.KernelVisIdeal.Hand

open Cert.KernelVisIdeal Cert.KernelVisIdeal.Gen Cert.Rows Cert.VisRow

theorem pay43 (x : Vec Ideal S1x384x4096 .bf16) (r : Fin 384) : k0_pay43 x (ix2 r 0) = scl (amax fun a => x (ix3 0 r a)) := by
  unfold_payloads
  pointwise
  rfl

theorem pay44 (x : Vec Ideal S1x384x4096 .bf16) (r : Fin 384) (a : Fin 4096) :
    k0_pay44 x (ix2 r a) = code (scl (amax fun b => x (ix3 0 r b))) (x (ix3 0 r a)) := by
  rw [← code_recip, ← pay43]
  unfold k0_pay44
  generalize k0_pay43 x = P
  unfold k0_pay42
  pointwise

theorem pay45 (x : Vec Ideal S1x384x4096 .bf16) (r : Fin 384) (a : Fin 4096) :
    k0_pay45 x (ix3 0 r a) = code (scl (amax fun b => x (ix3 0 r b))) (x (ix3 0 r a)) := by
  rw [← pay44]
  unfold k0_pay45
  generalize k0_pay44 x = P
  pointwise

theorem pay46 (x : Vec Ideal S1x384x4096 .bf16) (r : Fin 384) : k0_pay46 x (ix2 0 r) = scl (amax fun a => x (ix3 0 r a)) := by
  rw [← pay43]
  unfold k0_pay46
  generalize k0_pay43 x = P
  pointwise

theorem pay47 (x : Vec Ideal S1x384x4096 .bf16) (r : Fin 260) (r' : Fin 384) (hr : r'.val = r.val) :
    k0_pay47 x (ix2 0 r) = scl (amax fun a => x (ix3 0 r' a)) := by
  rw [← pay46]
  unfold k0_pay47
  generalize k0_pay46 x = P
  rw [show r' = ⟨r.val, by omega⟩ from Fin.ext hr]
  pointwise

theorem pay49 (s : FVec Ideal S384x1 .f32) (c : FVec Ideal S384x4096 .fp8e4m3) (w : Vec Ideal S4096x512 .fp8e4m3) (ws : Vec Ideal S1x512 .f32) (r : Fin 384) (k : Fin 512) :
    k0_pay49 s c w ws (ix2 r k) = (∑ a, c (ix2 r a) * w (ix2 a k)) * (s (ix2 r 0) * ws (ix2 0 k)) := by
  unfold_payloads
  pointwise

theorem pay50 (s : FVec Ideal S384x1 .f32) (c : FVec Ideal S384x4096 .fp8e4m3) (w : Vec Ideal S4096x512 .fp8e4m3) (ws : Vec Ideal S1x512 .f32) (r : Fin 384) (k : Fin 512) :
    k0_pay50 s c w ws (ix2 r k) = (∑ a, c (ix2 r a) * w (ix2 a k)) * (s (ix2 r 0) * ws (ix2 0 k)) := by
  unfold_payloads
  pointwise

theorem pay57 (w : Vec Ideal S1x384x1024 .f32) (s : Fin 8) (c : Fin 1024) :
    k0_pay57 w (ix2 s c) = top fun a : Fin 48 => mag (w (ix3 0 (⟨8 * a.val + s.val, by omega⟩ : Fin 384) c)) := by
  unfold_payloads
  pointwise
  rfl

theorem pay48 (n : BitVec 32) (r : Fin 384) : k0_pay48 n (ix2 r 0) = IntOp.cmpi .slt (BitVec.ofNat 32 r.val) n := by
  unfold_payloads
  pointwise

theorem pay51 (s : FVec Ideal S384x1 .f32) (c : FVec Ideal S384x4096 .fp8e4m3) (n : BitVec 32) (w : Vec Ideal S4096x512 .fp8e4m3) (ws : Vec Ideal S1x512 .f32) (kn : Vec Ideal S1x128 .f32) (r : Fin 384) (d : Fin 128) :
    k0_pay51 s c n w ws kn (ix3 0 r d)
      = Scalar.select (k0_pay48 n (ix2 r 0)) (rms (Ideal.ofBits .f32 0x43000000#32) (fun e : Fin 128 => k0_pay49 s c w ws (ix2 r (col 512 rfl (0 : Fin 4) e))) (fun e => kn (ix2 0 e)) d) 0 := by
  unfold k0_pay51
  generalize k0_pay49 s c w ws = P
  generalize k0_pay48 n = Q
  have e0 : ∀ e : Fin 128, col 512 rfl (0 : Fin 4) e = ⟨e.val, by omega⟩ := fun e => Fin.ext (by show 128 * 0 + e.val = e.val; omega)
  unfold rms
  simp only [e0]
  pointwise

theorem pay52 (b : IVec S384x1 1) (p : FVec Ideal S384x512 .f32) (kn : Vec Ideal S1x128 .f32) (r : Fin 384) (d : Fin 128) :
    k0_pay52 b p kn (ix3 0 r d)
      = Scalar.select (b (ix2 r 0)) (rms (Ideal.ofBits .f32 0x43000000#32) (fun e : Fin 128 => p (ix2 r (col 512 rfl (1 : Fin 4) e))) (fun e => kn (ix2 0 e)) d) 0 := by
  unfold k0_pay52
  pointwise
  rfl

theorem pay53 (b : IVec S384x1 1) (p : FVec Ideal S384x512 .f32) (kn : Vec Ideal S1x128 .f32) (r : Fin 384) (d : Fin 128) :
    k0_pay54 (k0_pay53 b p kn) (ix3 0 r d)
      = Scalar.select (b (ix2 r 0)) (rms (Ideal.ofBits .f32 0x43000000#32) (fun e : Fin 128 => p (ix2 r (col 512 rfl (2 : Fin 4) e))) (fun e => kn (ix2 0 e)) d) 0 := by
  unfold k0_pay54 k0_pay53
  pointwise
  rfl

theorem pay55 (b : IVec S384x1 1) (p : FVec Ideal S384x512 .f32) (kn : Vec Ideal S1x128 .f32) (r : Fin 384) (d : Fin 128) :
    k0_pay55 b p kn (ix3 0 r d)
      = Scalar.select (b (ix2 r 0)) (rms (Ideal.ofBits .f32 0x43000000#32) (fun e : Fin 128 => p (ix2 r (col 512 rfl (3 : Fin 4) e))) (fun e => kn (ix2 0 e)) d) 0 := by
  unfold k0_pay55
  pointwise
  rfl

theorem pay56 (b : IVec S384x1 1) (p : FVec Ideal S384x512 .f32) (r : Fin 384) (k : Fin 512) :
    k0_pay56 b p (ix3 0 r k) = Scalar.select (b (ix2 r 0)) (p (ix2 r k)) 0 := by
  unfold k0_pay56
  pointwise

theorem pay5 (m : FVec Ideal S8x1024 .f32) (b : BitVec 1) (z : Vec Ideal S8x1024 .f32) (s : Fin 8) (c : Fin 1024) :
    k0_pay5 m b z (ix2 s c) = Scalar.select b (m (ix2 s c)) (max (z (ix2 s c)) (m (ix2 s c))) := by
  unfold_payloads
  pointwise

end Cert.KernelVisIdeal.Hand

end
-- ==== Proof.VisPay3.lean ====
/-
  The K/V build, the head scales: the column maxima of an image folded into one scale per head, its multiplier and its
  entry of the scale row (hand-written, untrusted).
-/
module

public import proofs.«01_k».proof.Proof.Gen.KernelVisIdeal.Skeleton
public import proofs.«01_k».proof.Proof.VisRow
public import Idealize.ShloMosaic.Lib.Pointwise

@[expose] public section

set_option maxRecDepth 16384

noncomputable section

open Idealize.ShloMosaic Idealize.ShloMosaic.TcCoe

namespace Cert.KernelVisIdeal.Hand

open Cert.KernelVisIdeal Cert.KernelVisIdeal.Gen Cert.Rows Cert.VisRow

/-- Column maxima over the eight sublanes. -/
theorem pay15 (z : Vec Ideal S8x1024 .f32) (c : Fin 1024) : k0_pay15 z (ix2 0 c) = top fun s : Fin 8 => z (ix2 s c) := by
  unfold_payloads
  pointwise
  rfl

/-- The scale of a head from the column maxima. -/
def hscl (P : FVec Ideal S1x1024 .f32) (h : Fin 8) : EReal := scl (amax fun e : Fin 128 => P (ix2 0 (col 1024 rfl h e)))

theorem pay16 (z : Vec Ideal S8x1024 .f32) : k0_pay16 z (ix2 0 0) = hscl (k0_pay15 z) 0 := by
  unfold k0_pay16
  generalize k0_pay15 z = P
  pointwise
  rfl

theorem pay21 (z : Vec Ideal S8x1024 .f32) : k0_pay21 (k0_pay19 z) (k0_pay20 z) (Scalar.ofBits .f32 0x43E00000#32) (ix2 0 0) = hscl (k0_pay15 z) 1 := by
  unfold k0_pay21 k0_pay20 k0_pay19
  generalize k0_pay15 z = P
  pointwise
  rfl

theorem pay24 (P : FVec Ideal S1x1024 .f32) : k0_pay24 P (ix2 0 0) = hscl P 2 := by
  unfold_payloads
  pointwise
  rfl

theorem pay27 (P : FVec Ideal S1x1024 .f32) : k0_pay27 P (ix2 0 0) = hscl P 3 := by
  unfold_payloads
  pointwise
  rfl

theorem pay32 (P : FVec Ideal S1x1024 .f32) : k0_pay32 (k0_pay30 P) (k0_pay31 P) (Scalar.ofBits .f32 0x43E00000#32) (ix2 0 0) = hscl P 4 := by
  unfold_payloads
  pointwise
  rfl

theorem pay35 (P : FVec Ideal S1x1024 .f32) : k0_pay35 P (ix2 0 0) = hscl P 5 := by
  unfold_payloads
  pointwise
  rfl

theorem pay38 (P : FVec Ideal S1x1024 .f32) : k0_pay38 P (ix2 0 0) = hscl P 6 := by
  unfold_payloads
  pointwise
  rfl

theorem pay6 (P : FVec Ideal S1x1024 .f32) : k0_pay6 (k0_pay41 P) (ix2 0 0) = hscl P 7 := by
  unfold_payloads
  pointwise
  rfl

theorem mul0 (z : Vec Ideal S8x1024 .f32) (s : Fin 8) (d : Fin 128) : k0_pay17 z (ix2 s d) = Ideal.div 1 (hscl (k0_pay15 z) 0) := by
  rw [← pay16]
  unfold k0_pay17
  generalize k0_pay16 z = Q
  pointwise

theorem mul1 (z : Vec Ideal S8x1024 .f32) (s : Fin 8) (d : Fin 128) : k0_pay22 (k0_pay19 z) (k0_pay20 z) (Scalar.ofBits .f32 0x43E00000#32) (ix2 s d) = Ideal.div 1 (hscl (k0_pay15 z) 1) := by
  rw [← pay21]
  unfold k0_pay22
  generalize k0_pay21 (k0_pay19 z) (k0_pay20 z) (Scalar.ofBits .f32 0x43E00000#32) = Q
  pointwise

theorem mul2 (P : FVec Ideal S1x1024 .f32) (s : Fin 8) (d : Fin 128) : k0_pay25 P (ix2 s d) = Ideal.div 1 (hscl P 2) := by
  rw [← pay24]
  unfold k0_pay25
  generalize k0_pay24 P = Q
  pointwise

theorem mul3 (P : FVec Ideal S1x1024 .f32) (s : Fin 8) (d : Fin 128) : k0_pay28 P (ix2 s d) = Ideal.div 1 (hscl P 3) := by
  rw [← pay27]
  unfold k0_pay28
  generalize k0_pay27 P = Q
  pointwise

theorem mul4 (P : FVec Ideal S1x1024 .f32) (s : Fin 8) (d : Fin 128) : k0_pay33 (k0_pay30 P) (k0_pay31 P) (Scalar.ofBits .f32 0x43E00000#32) (ix2 s d) = Ideal.div 1 (hscl P 4) := by
  rw [← pay32]
  unfold k0_pay33
  generalize k0_pay32 (k0_pay30 P) (k0_pay31 P) (Scalar.ofBits .f32 0x43E00000#32) = Q
  pointwise

theorem mul5 (P : FVec Ideal S1x1024 .f32) (s : Fin 8) (d : Fin 128) : k0_pay36 P (ix2 s d) = Ideal.div 1 (hscl P 5) := by
  rw [← pay35]
  unfold k0_pay36
  generalize k0_pay35 P = Q
  pointwise

theorem mul6 (P : FVec Ideal S1x1024 .f32) (s : Fin 8) (d : Fin 128) : k0_pay39 P (ix2 s d) = Ideal.div 1 (hscl P 6) := by
  rw [← pay38]
  unfold k0_pay39
  generalize k0_pay38 P = Q
  pointwise

theorem mul7 (P : FVec Ideal S1x1024 .f32) (s : Fin 8) (d : Fin 128) : k0_pay7 (k0_pay41 P) (ix2 s d) = Ideal.div 1 (hscl P 7) := by
  rw [← pay6]
  unfold k0_pay7
  generalize k0_pay6 (k0_pay41 P) = Q
  pointwise

theorem lan1 (u : FVec Ideal S1x1 .f32) (v : IVec S1x1 1) (w : EReal) (b : Vec Ideal S1x128 .f32) (l : Fin 128) : k0_pay23 u v w b (ix2 0 l) = Scalar.select (IntOp.cmpi .eq (BitVec.ofNat 32 l.val) 1#32) (k0_pay21 u v w (ix2 0 0)) (b (ix2 0 l)) := by
  unfold k0_pay23
  generalize k0_pay21 u v w = Q
  pointwise

theorem lan2 (u : FVec Ideal S1x1 .f32) (b : Vec Ideal S1x128 .f32) (l : Fin 128) : k0_pay26 u (iota .tc S1x128 32 [1] iota_S1x128_d1_w32) b (ix2 0 l) = Scalar.select (IntOp.cmpi .eq (BitVec.ofNat 32 l.val) 2#32) (u (ix2 0 0)) (b (ix2 0 l)) := by
  unfold k0_pay26
  generalize u = Q
  pointwise

theorem lan3 (P : FVec Ideal S1x1024 .f32) (b : Vec Ideal S1x128 .f32) (l : Fin 128) : k0_pay29 P b (ix2 0 l) = Scalar.select (IntOp.cmpi .eq (BitVec.ofNat 32 l.val) 3#32) (k0_pay27 P (ix2 0 0)) (b (ix2 0 l)) := by
  unfold k0_pay29
  generalize k0_pay27 P = Q
  pointwise

theorem lan5 (u : FVec Ideal S1x1 .f32) (b : Vec Ideal S1x128 .f32) (l : Fin 128) : k0_pay37 u b (ix2 0 l) = Scalar.select (IntOp.cmpi .eq (BitVec.ofNat 32 l.val) 1#32) (u (ix2 0 0)) (b (ix2 0 l)) := by
  unfold k0_pay37
  generalize u = Q
  pointwise

theorem lan6 (P : FVec Ideal S1x1024 .f32) (b : Vec Ideal S1x128 .f32) (l : Fin 128) : k0_pay40 P b (ix2 0 l) = Scalar.select (IntOp.cmpi .eq (BitVec.ofNat 32 l.val) 2#32) (k0_pay38 P (ix2 0 0)) (b (ix2 0 l)) := by
  unfold k0_pay40
  generalize k0_pay38 P = Q
  pointwise

theorem lan7 (u : FVec Ideal S1 .f32) (b : Vec Ideal S1x128 .f32) (l : Fin 128) : k0_pay8 u b (ix2 0 l) = Scalar.select (IntOp.cmpi .eq (BitVec.ofNat 32 l.val) 3#32) (k0_pay6 u (ix2 0 0)) (b (ix2 0 l)) := by
  unfold k0_pay8
  generalize k0_pay6 u = Q
  pointwise

theorem lan0 (i : BitVec 32) (z : Vec Ideal S8x1024 .f32) (b : Vec Ideal S1x128 .f32) : k0_pay18 i z b (ix2 0 (0 : Fin 128)) = k0_pay16 z (ix2 0 0) := by
  unfold k0_pay18
  generalize k0_pay16 z = Q
  pointwise

theorem lan4 (i : BitVec 32) (u : FVec Ideal S1x1 .f32) (v : IVec S1x1 1) (w : EReal) (b : Vec Ideal S1x128 .f32) : k0_pay34 i u v w b (ix2 0 (0 : Fin 128)) = k0_pay32 u v w (ix2 0 0) := by
  unfold k0_pay34
  generalize k0_pay32 u v w = Q
  pointwise

end Cert.KernelVisIdeal.Hand

end
-- ==== Proof.VisRead.lean ====
/-
  The K/V build: what a point of the grid leaves in each buffer, read off the pieces the run stores (hand-written, untrusted).
-/
module

public import proofs.«01_k».proof.Proof.VisPay1
public import proofs.«01_k».proof.Proof.VisPay2
public import proofs.«01_k».proof.Proof.VisPay3
public import Idealize.ShloMosaic.Lib.WritesUnit
public import Idealize.ShloMosaic.Lib.VecWindow

@[expose] public section

set_option maxRecDepth 16384

noncomputable section

open Idealize.ShloMosaic Idealize.ShloMosaic.TcCoe

namespace Cert.KernelVisIdeal.Hand

open Cert.KernelVisIdeal Cert.KernelVisIdeal.Gen Cert.Rows Cert.VisRow

/-! ## Reading pieces -/

section Generic
variable {sg : RefSig} {κ : Kind} {sp : Space} {s : Shape} {e : EltTy} {Val : EltTy → Type}

/-- A load of the rectangle just stored reads the payload. -/
theorem readCov_head [∀ e, Nonempty (Val e)] (v : View sg κ sp s e) (B : Rect s) (w : B.shape.Idx → Val e)
    (L : List (View.Piece Val s e)) : v.readCov (⟨B, w⟩ :: L) B.toLoadRect = w :=
  funext fun x => View.read_writes_cons_emb v v.junk B w L x

/-- A whole load after a whole store reads what the buffer is left holding. -/
theorem cov_read [∀ e, Nonempty (Val e)] (v : View sg κ sp s e) (f : v.ty.Contents Val) {off off' : Fin s.rank → ℕ} (inb : ∀ a, off a + s.size a ≤ s.size a)
    (L : List (View.Piece Val s e)) (inb' : ∀ a, off' a + s.size a ≤ s.size a) (w : (Rect.unit off' s.size inb').shape.Idx → Val e)
    (L' : List (View.Piece Val s e)) (hL : L = ⟨Rect.unit off' s.size inb', w⟩ :: L') :
    v.readCov L (Rect.unit off s.size inb).toLoadRect = v.read Val (v.writes Val f L) := by
  subst hL
  rw [View.readCov_full, View.read_writes_full]

/-- A whole load of a whole buffer reads its contents. -/
theorem ld_whole {M : Memref sg κ sp s e} (h : M.IsWhole) (x : s.Idx → Val e) {off : Fin s.rank → ℕ} (inb : ∀ a, off a + s.size a ≤ s.size a) :
    View.readAt Val M.view (Rect.unit off s.size inb).toLoadRect (h.unread x) = x := by
  rw [View.readAt_full, h.read_unread]

/-- A row piece stored over a matrix, read inside it. -/
theorem read_row {A B n : ℕ} (v : View sg κ sp ⟨2, ![A, B]⟩ e) (f : v.ty.Contents Val) {off : Fin 2 → ℕ} (o0 o1 : ℕ)
    (h : ∀ a, off a + (⟨2, ![1, n]⟩ : Shape).size a ≤ (⟨2, ![A, B]⟩ : Shape).size a) (p : (⟨2, ![1, n]⟩ : Shape).Idx → Val e)
    (L : List (View.Piece Val ⟨2, ![A, B]⟩ e)) (I : Fin A) (R : Fin B) (r : Fin n) (ho : off = ![o0, o1]) (hI : I.val = o0) (hR : R.val = o1 + r.val) :
    v.read Val (v.writes Val f (⟨Rect.unit (s := ⟨2, ![A, B]⟩) off (⟨2, ![1, n]⟩ : Shape).size h, p⟩ :: L)) (ix2 I R) = p (ix2 0 r) :=
  View.read_writes_cons_unit_of_mem v f h p L (ix2 I R) (ix2 0 r) ho (Fin.forall_fin_two.mpr ⟨hI, hR⟩)

/-- A row piece stored over a matrix, read on another row. -/
theorem read_row_ne {A B n : ℕ} (v : View sg κ sp ⟨2, ![A, B]⟩ e) (f : v.ty.Contents Val) {off : Fin 2 → ℕ} (o0 o1 : ℕ)
    (h : ∀ a, off a + (⟨2, ![1, n]⟩ : Shape).size a ≤ (⟨2, ![A, B]⟩ : Shape).size a) (p : (⟨2, ![1, n]⟩ : Shape).Idx → Val e)
    (L : List (View.Piece Val ⟨2, ![A, B]⟩ e)) (I : Fin A) (R : Fin B) (ho : off = ![o0, o1]) (hI : I.val ≠ o0) :
    v.read Val (v.writes Val f (⟨Rect.unit (s := ⟨2, ![A, B]⟩) off (⟨2, ![1, n]⟩ : Shape).size h, p⟩ :: L)) (ix2 I R)
      = v.read Val (v.writes Val f L) (ix2 I R) :=
  View.read_writes_cons_unit_of_not_mem v f h p L (ix2 I R) ho 0 (by
    show I.val < o0 ∨ o0 + 1 ≤ I.val; omega)

/-- A row piece stored over a matrix, read on a column outside it. -/
theorem read_row_out {A B n : ℕ} (v : View sg κ sp ⟨2, ![A, B]⟩ e) (f : v.ty.Contents Val) {off : Fin 2 → ℕ} (o0 o1 : ℕ)
    (h : ∀ a, off a + (⟨2, ![1, n]⟩ : Shape).size a ≤ (⟨2, ![A, B]⟩ : Shape).size a) (p : (⟨2, ![1, n]⟩ : Shape).Idx → Val e)
    (L : List (View.Piece Val ⟨2, ![A, B]⟩ e)) (I : Fin A) (R : Fin B) (ho : off = ![o0, o1]) (hR : R.val < o1 ∨ o1 + n ≤ R.val) :
    v.read Val (v.writes Val f (⟨Rect.unit (s := ⟨2, ![A, B]⟩) off (⟨2, ![1, n]⟩ : Shape).size h, p⟩ :: L)) (ix2 I R)
      = v.read Val (v.writes Val f L) (ix2 I R) :=
  View.read_writes_cons_unit_of_not_mem v f h p L (ix2 I R) ho 1 hR

end Generic

/-- Lane `d` of key head `g`. -/
def cK (g : Fin 4) (d : Fin 128) : Fin 1024 := ⟨128 * g.val + d.val, by omega⟩
/-- Lane `d` of value head `g`. -/
def cV (g : Fin 4) (d : Fin 128) : Fin 1024 := ⟨512 + (128 * g.val + d.val), by omega⟩

/-- The four heads' stores of a block of codes, read at a head. -/
theorem read4 (M : Memref sig .tc .vmem S1x4x384x128 .fp8e4m3) (f : M.view.ty.Contents (Elt Ideal))
    (h0 : ∀ a, (![0, 0, 0, 0] : Fin 4 → ℕ) a + S1x1x384x128.size a ≤ S1x4x384x128.size a)
    (h1 : ∀ a, (![0, 1, 0, 0] : Fin 4 → ℕ) a + S1x1x384x128.size a ≤ S1x4x384x128.size a)
    (h2 : ∀ a, (![0, 2, 0, 0] : Fin 4 → ℕ) a + S1x1x384x128.size a ≤ S1x4x384x128.size a)
    (h3 : ∀ a, (![0, 3, 0, 0] : Fin 4 → ℕ) a + S1x1x384x128.size a ≤ S1x4x384x128.size a)
    (p0 p1 p2 p3 : Vec Ideal S1x1x384x128 .fp8e4m3) (r : Fin 384) (d : Fin 128) (g : Fin 4) :
    View.read (Elt Ideal) M.view (M.view.writes (Elt Ideal) f [⟨Rect.unit (s := S1x4x384x128) ![0, 3, 0, 0] S1x1x384x128.size h3, p3⟩,
      ⟨Rect.unit (s := S1x4x384x128) ![0, 2, 0, 0] S1x1x384x128.size h2, p2⟩, ⟨Rect.unit (s := S1x4x384x128) ![0, 1, 0, 0] S1x1x384x128.size h1, p1⟩,
      ⟨Rect.unit (s := S1x4x384x128) ![0, 0, 0, 0] S1x1x384x128.size h0, p0⟩]) (ix4 0 g r d)
      = (match g with | 0 => p0 | 1 => p1 | 2 => p2 | 3 => p3) (ix4 0 0 r d) := by
  match g with
  | 3 =>
    exact View.read_writes_cons_unit_of_mem M.view f h3 p3 _ _ (ix4 0 0 r d) rfl (fun a => by
      match a with | 0 => rfl | 1 => rfl | 2 => exact (Nat.zero_add _).symm | 3 => exact (Nat.zero_add _).symm)
  | 2 =>
    refine (View.read_writes_cons_unit_of_not_mem M.view f h3 p3 _ _ rfl 1 (Or.inl (show (2:ℕ) < 3 by omega))).trans ?_
    exact View.read_writes_cons_unit_of_mem M.view f h2 p2 _ _ (ix4 0 0 r d) rfl (fun a => by
      match a with | 0 => rfl | 1 => rfl | 2 => exact (Nat.zero_add _).symm | 3 => exact (Nat.zero_add _).symm)
  | 1 =>
    refine (View.read_writes_cons_unit_of_not_mem M.view f h3 p3 _ _ rfl 1 (Or.inl (show (1:ℕ) < 3 by omega))).trans ?_
    refine (View.read_writes_cons_unit_of_not_mem M.view f h2 p2 _ _ rfl 1 (Or.inl (show (1:ℕ) < 2 by omega))).trans ?_
    exact View.read_writes_cons_unit_of_mem M.view f h1 p1 _ _ (ix4 0 0 r d) rfl (fun a => by
      match a with | 0 => rfl | 1 => rfl | 2 => exact (Nat.zero_add _).symm | 3 => exact (Nat.zero_add _).symm)
  | 0 =>
    refine (View.read_writes_cons_unit_of_not_mem M.view f h3 p3 _ _ rfl 1 (Or.inl (show (0:ℕ) < 3 by omega))).trans ?_
    refine (View.read_writes_cons_unit_of_not_mem M.view f h2 p2 _ _ rfl 1 (Or.inl (show (0:ℕ) < 2 by omega))).trans ?_
    refine (View.read_writes_cons_unit_of_not_mem M.view f h1 p1 _ _ rfl 1 (Or.inl (show (0:ℕ) < 1 by omega))).trans ?_
    exact View.read_writes_cons_unit_of_mem M.view f h0 p0 _ _ (ix4 0 0 r d) rfl (fun a => by
      match a with | 0 => rfl | 1 => rfl | 2 => exact (Nat.zero_add _).symm | 3 => exact (Nat.zero_add _).symm)

/-- The block of the scratch the point loads, at a row and a column. -/
theorem ld14 (i : grid0.Coords) {M : Memref sig .tc .vmem S17x384x1024 .f32} (h : M.IsWhole) (z : Vec Ideal S17x384x1024 .f32)
    (inb : ∀ a, (k0_off1 i) a + S1x384x1024.size a ≤ S17x384x1024.size a) (r : Fin 384) (c : Fin 1024) :
    View.readAt (Elt Ideal) M.view (Rect.unit (s := S17x384x1024) (k0_off1 i) S1x384x1024.size inb).toLoadRect (h.unread z) (ix3 0 r c)
      = z (ix3 (i 1) r c) := by
  refine (congrFun (h.read_unread z) _).trans (congrArg z (funext fun a => Fin.ext ?_))
  have e := k0_off1_eq i
  match a with
  | 0 => show (k0_off1 i) 0 + 1 * 0 = (i 1).val; rw [e]; rfl
  | 1 => show (k0_off1 i) 1 + 1 * r.val = r.val; rw [e]; show 0 + 1 * r.val = r.val; omega
  | 2 => show (k0_off1 i) 2 + 1 * c.val = c.val; rw [e]; show 0 + 1 * c.val = c.val; omega

/-- The first row of the multipliers, at a column. -/
theorem ld16 {M : Memref sig .tc .vmem S8x1024 .f32} (h : M.IsWhole) (z : Vec Ideal S8x1024 .f32)
    (inb : ∀ a, (![0, 0] : Fin 2 → ℕ) a + S1x1024.size a ≤ S8x1024.size a) (c : Fin 1024) :
    View.readAt (Elt Ideal) M.view (Rect.unit (s := S8x1024) ![0, 0] S1x1024.size inb).toLoadRect (h.unread z) (ix2 0 c) = z (ix2 0 c) := by
  refine (congrFun (h.read_unread z) _).trans (congrArg z (funext fun a => Fin.ext ?_))
  match a with
  | 0 => rfl
  | 1 => show 0 + 1 * c.val = c.val; omega

/-- What a point past the first image leaves in the key blocks: the codes of the scratch block it loads. -/
def Ph1K (i : grid0.Coords) (z14 : Vec Ideal S17x384x1024 .f32) (z16 : Vec Ideal S8x1024 .f32) (X : Vec Ideal S1x4x384x128 .fp8e4m3) : Prop :=
  ∀ (g : Fin 4) (r : Fin 384) (d : Fin 128), X (ix4 0 g r d) = clip (z14 (ix3 (i 1) r (cK g d)) * z16 (ix2 0 (cK g d)))

/-- The same of the value blocks. -/
def Ph1V (i : grid0.Coords) (z14 : Vec Ideal S17x384x1024 .f32) (z16 : Vec Ideal S8x1024 .f32) (X : Vec Ideal S1x4x384x128 .fp8e4m3) : Prop :=
  ∀ (g : Fin 4) (r : Fin 384) (d : Fin 128), X (ix4 0 g r d) = clip (z14 (ix3 (i 1) r (cV g d)) * z16 (ix2 0 (cV g d)))

theorem ph1K (i : grid0.Coords) (M : Memref sig .tc .vmem S1x4x384x128 .fp8e4m3) (f : M.view.ty.Contents (Elt Ideal))
    {M14 : Memref sig .tc .vmem S17x384x1024 .f32} (h14 : M14.IsWhole) (z14 : Vec Ideal S17x384x1024 .f32)
    {M16 : Memref sig .tc .vmem S8x1024 .f32} (h16 : M16.IsWhole) (z16 : Vec Ideal S8x1024 .f32) (h0 h1 h2 h3 i14 i16)
    (w : Vec Ideal S1x384x1024 .f32) (q : Vec Ideal S1x1024 .f32)
    (hw : w = View.readAt (Elt Ideal) M14.view (Rect.unit (s := S17x384x1024) (k0_off1 i) S1x384x1024.size i14).toLoadRect (h14.unread z14))
    (hq : q = View.readAt (Elt Ideal) M16.view (Rect.unit (s := S8x1024) ![0, 0] S1x1024.size i16).toLoadRect (h16.unread z16)) :
    Ph1K i z14 z16 (View.read (Elt Ideal) M.view (M.view.writes (Elt Ideal) f
      [⟨Rect.unit (s := S1x4x384x128) ![0, 3, 0, 0] S1x1x384x128.size h3, k0_pay3 (k0_pay9 w q)⟩,
      ⟨Rect.unit (s := S1x4x384x128) ![0, 2, 0, 0] S1x1x384x128.size h2, k0_pay1 (k0_pay14 w q)⟩,
      ⟨Rect.unit (s := S1x4x384x128) ![0, 1, 0, 0] S1x1x384x128.size h1, k0_pay12 w q⟩,
      ⟨Rect.unit (s := S1x4x384x128) ![0, 0, 0, 0] S1x1x384x128.size h0, k0_pay10 w q⟩])) := by
  intro g r d
  refine (read4 M f h0 h1 h2 h3 _ _ _ _ r d g).trans ?_
  rw [← ld14 i h14 z14 i14, ← ld16 h16 z16 i16, ← hw, ← hq]
  match g with
  | 0 => exact pay10 w q r d _ rfl
  | 1 => exact pay12 w q r d _ rfl
  | 2 => exact pay14 w q r d _ rfl
  | 3 => exact pay3 w q r d _ rfl

theorem ph1V (i : grid0.Coords) (M : Memref sig .tc .vmem S1x4x384x128 .fp8e4m3) (f : M.view.ty.Contents (Elt Ideal))
    {M14 : Memref sig .tc .vmem S17x384x1024 .f32} (h14 : M14.IsWhole) (z14 : Vec Ideal S17x384x1024 .f32)
    {M16 : Memref sig .tc .vmem S8x1024 .f32} (h16 : M16.IsWhole) (z16 : Vec Ideal S8x1024 .f32) (h0 h1 h2 h3 i14 i16)
    (w : Vec Ideal S1x384x1024 .f32) (q : Vec Ideal S1x1024 .f32)
    (hw : w = View.readAt (Elt Ideal) M14.view (Rect.unit (s := S17x384x1024) (k0_off1 i) S1x384x1024.size i14).toLoadRect (h14.unread z14))
    (hq : q = View.readAt (Elt Ideal) M16.view (Rect.unit (s := S8x1024) ![0, 0] S1x1024.size i16).toLoadRect (h16.unread z16)) :
    Ph1V i z14 z16 (View.read (Elt Ideal) M.view (M.view.writes (Elt Ideal) f
      [⟨Rect.unit (s := S1x4x384x128) ![0, 3, 0, 0] S1x1x384x128.size h3, k0_pay4 (k0_pay9 w q)⟩,
      ⟨Rect.unit (s := S1x4x384x128) ![0, 2, 0, 0] S1x1x384x128.size h2, k0_pay2 (k0_pay9 w q)⟩,
      ⟨Rect.unit (s := S1x4x384x128) ![0, 1, 0, 0] S1x1x384x128.size h1, k0_pay13 w q⟩,
      ⟨Rect.unit (s := S1x4x384x128) ![0, 0, 0, 0] S1x1x384x128.size h0, k0_pay11 w q⟩])) := by
  intro g r d
  refine (read4 M f h0 h1 h2 h3 _ _ _ _ r d g).trans ?_
  rw [← ld14 i h14 z14 i14, ← ld16 h16 z16 i16, ← hw, ← hq]
  match g with
  | 0 => exact pay11 w q r d _ (by show 512 + (128 * 0 + d.val) = 512 + d.val; omega)
  | 1 => exact pay13 w q r d _ (by show 512 + (128 * 1 + d.val) = 640 + d.val; omega)
  | 2 => exact pay2 w q r d _ (by show 512 + (128 * 2 + d.val) = 768 + d.val; omega)
  | 3 => exact pay4 w q r d _ (by show 512 + (128 * 3 + d.val) = 896 + d.val; omega)

/-! ## The second phase: a block of an image is quantised and projected -/

/-- The codes a point leaves of its block of activations. -/
def CodesOf (x0 : Vec Ideal S1x384x4096 .bf16) (X : Vec Ideal S1x384x4096 .fp8e4m3) : Prop :=
  ∀ (r : Fin 384) (a : Fin 4096), X (ix3 0 r a) = code (scl (amax fun b => x0 (ix3 0 r b))) (x0 (ix3 0 r a))

theorem codesOf (M : Memref sig .tc .vmem S1x384x4096 .fp8e4m3) (f : M.view.ty.Contents (Elt Ideal)) (h) (x0 w : Vec Ideal S1x384x4096 .bf16) (hw : w = x0) :
    CodesOf x0 (View.read (Elt Ideal) M.view (M.view.writes (Elt Ideal) f [⟨Rect.unit (s := S1x384x4096) ![0, 0, 0] S1x384x4096.size h, k0_pay45 w⟩])) := by
  intro r a
  rw [View.read_writes_full, hw]
  exact pay45 x0 r a

/-- What a point leaves in the array of row scales: its block's, every other entry as it was. -/
def ScalesOf (i : grid0.Coords) (x0 : Vec Ideal S1x384x4096 .bf16) (y X : Vec Ideal S6x6404 .f32) : Prop :=
  (∀ (I : Fin 6) (R : Fin 6404) (r : Fin 384), I.val = (i 0).val → R.val = 384 * (i 1).val + r.val →
      X (ix2 I R) = scl (amax fun b => x0 (ix3 0 r b)))
    ∧ ∀ (I : Fin 6) (R : Fin 6404), ¬ (I.val = (i 0).val ∧ 384 * (i 1).val ≤ R.val ∧ R.val < 384 * (i 1).val + 384) → X (ix2 I R) = y (ix2 I R)

theorem scalesOf (i : grid0.Coords) {M : Memref sig .tc .vmem S6x6404 .f32} (hM : M.IsWhole) (y : Vec Ideal S6x6404 .f32) (h)
    (x0 w : Vec Ideal S1x384x4096 .bf16) (hw : w = x0) :
    ScalesOf i x0 y (View.read (Elt Ideal) M.view (M.view.writes (Elt Ideal) (hM.unread y) [⟨Rect.unit (s := S6x6404) (k0_off2 i) S1x384.size h, k0_pay46 w⟩])) := by
  subst hw
  constructor
  · intro I R r hI hR
    rw [← pay46 w r]
    exact read_row M.view _ _ _ h _ _ I R r (k0_off2_eq i) hI hR
  · intro I R hn
    refine Eq.trans ?_ (congrFun (hM.read_unread y) _)
    by_cases hI : I.val = (i 0).val
    · exact read_row_out M.view _ _ _ h _ _ I R (k0_off2_eq i) (by omega)
    · exact read_row_ne M.view _ _ _ h _ _ I R (k0_off2_eq i) hI

theorem scalesOf_last (i : grid0.Coords) (hi : (i 1).val = 16) {M : Memref sig .tc .vmem S6x6404 .f32} (hM : M.IsWhole) (y : Vec Ideal S6x6404 .f32) (h)
    (x0 w : Vec Ideal S1x384x4096 .bf16) (hw : w = x0) :
    ScalesOf i x0 y (View.read (Elt Ideal) M.view (M.view.writes (Elt Ideal) (hM.unread y) [⟨Rect.unit (s := S6x6404) (k0_off3 i) S1x260.size h, k0_pay47 w⟩])) := by
  subst hw
  constructor
  · intro I R r hI hR
    have hr : r.val < 260 := by have := R.isLt; omega
    rw [← pay47 w ⟨r.val, hr⟩ r rfl]
    exact read_row M.view _ _ _ h _ _ I R ⟨r.val, hr⟩ (k0_off3_eq i) hI (by show R.val = 6144 + r.val; omega)
  · intro I R hn
    refine Eq.trans ?_ (congrFun (hM.read_unread y) _)
    by_cases hI : I.val = (i 0).val
    · exact read_row_out M.view _ _ _ h _ _ I R (k0_off3_eq i) (by omega)
    · exact read_row_ne M.view _ _ _ h _ _ I R (k0_off3_eq i) hI

/-- Row `r` of block `j`'s keys and values, zero where the row is past the image's last token. -/
def kvp (j : ℕ) (x0 : Vec Ideal S1x384x4096 .bf16) (x1 x2 : Vec Ideal S4096x512 .fp8e4m3) (x3 x4 : Vec Ideal S1x512 .f32)
    (x5 : Vec Ideal S1x128 .f32) (r : Fin 384) (c : Fin 1024) : EReal :=
  if 384 * j + r.val < 6404 then kv (fun a => x0 (ix3 0 r a)) (fun a k => x1 (ix2 a k)) (fun a k => x2 (ix2 a k))
    (fun k => x3 (ix2 0 k)) (fun k => x4 (ix2 0 k)) (fun d => x5 (ix2 0 d)) c else 0

/-- The number of rows of a block that are tokens, as the kernel computes it. -/
theorem valid_lt : ∀ (j : Fin 17) (r : Fin 384),
    IntOp.cmpi .slt (BitVec.ofNat 32 r.val) (Scalar.select (Scalar.cmpi .eq (BitVec.ofNat 32 j.val) 16#32) 260#32 384#32)
      = if 384 * j.val + r.val < 6404 then 1#1 else 0#1 := by
  decide +kernel

end Cert.KernelVisIdeal.Hand

end
-- ==== Proof.VisRead2.lean ====
/-
  The K/V build: the keys and values a point leaves in the scratch, the running column maxima, and the heads' scales (hand-written, untrusted).
-/
module

public import proofs.«01_k».proof.Proof.VisRead

@[expose] public section

set_option maxRecDepth 16384

noncomputable section

open Idealize.ShloMosaic Idealize.ShloMosaic.TcCoe

namespace Cert.KernelVisIdeal.Hand

open Cert.KernelVisIdeal Cert.KernelVisIdeal.Gen Cert.Rows Cert.VisRow

section Generic
variable {sg : RefSig} {κ : Kind} {sp : Space} {e : EltTy} {Val : EltTy → Type} {A B C n : ℕ}

/-- A slab stored over a rank-3 buffer, read inside it. -/
theorem read_slab (v : View sg κ sp ⟨3, ![A, B, C]⟩ e) (f : v.ty.Contents Val) {off : Fin 3 → ℕ} (o0 o2 : ℕ)
    (h : ∀ a, off a + (⟨3, ![1, B, n]⟩ : Shape).size a ≤ (⟨3, ![A, B, C]⟩ : Shape).size a) (p : (⟨3, ![1, B, n]⟩ : Shape).Idx → Val e)
    (L : List (View.Piece Val ⟨3, ![A, B, C]⟩ e)) (I : Fin A) (r : Fin B) (c : Fin C) (k : Fin n) (ho : off = ![o0, 0, o2]) (hI : I.val = o0) (hc : c.val = o2 + k.val) :
    v.read Val (v.writes Val f (⟨Rect.unit (s := ⟨3, ![A, B, C]⟩) off (⟨3, ![1, B, n]⟩ : Shape).size h, p⟩ :: L)) (ix3 I r c) = p (ix3 0 r k) :=
  View.read_writes_cons_unit_of_mem v f h p L (ix3 I r c) (ix3 0 r k) ho (fun a => by
    match a with | 0 => exact hI | 1 => exact (Nat.zero_add _).symm | 2 => exact hc)

/-- A slab stored over a rank-3 buffer, read on another slab. -/
theorem read_slab_ne (v : View sg κ sp ⟨3, ![A, B, C]⟩ e) (f : v.ty.Contents Val) {off : Fin 3 → ℕ} (o0 o2 : ℕ)
    (h : ∀ a, off a + (⟨3, ![1, B, n]⟩ : Shape).size a ≤ (⟨3, ![A, B, C]⟩ : Shape).size a) (p : (⟨3, ![1, B, n]⟩ : Shape).Idx → Val e)
    (L : List (View.Piece Val ⟨3, ![A, B, C]⟩ e)) (I : Fin A) (r : Fin B) (c : Fin C) (ho : off = ![o0, 0, o2]) (hI : I.val ≠ o0) :
    v.read Val (v.writes Val f (⟨Rect.unit (s := ⟨3, ![A, B, C]⟩) off (⟨3, ![1, B, n]⟩ : Shape).size h, p⟩ :: L)) (ix3 I r c)
      = v.read Val (v.writes Val f L) (ix3 I r c) :=
  View.read_writes_cons_unit_of_not_mem v f h p L (ix3 I r c) ho 0 (by show I.val < o0 ∨ o0 + 1 ≤ I.val; omega)

/-- A slab stored over a rank-3 buffer, read on a column outside it. -/
theorem read_slab_out (v : View sg κ sp ⟨3, ![A, B, C]⟩ e) (f : v.ty.Contents Val) {off : Fin 3 → ℕ} (o0 o2 : ℕ)
    (h : ∀ a, off a + (⟨3, ![1, B, n]⟩ : Shape).size a ≤ (⟨3, ![A, B, C]⟩ : Shape).size a) (p : (⟨3, ![1, B, n]⟩ : Shape).Idx → Val e)
    (L : List (View.Piece Val ⟨3, ![A, B, C]⟩ e)) (I : Fin A) (r : Fin B) (c : Fin C) (ho : off = ![o0, 0, o2]) (hc : c.val < o2 ∨ o2 + n ≤ c.val) :
    v.read Val (v.writes Val f (⟨Rect.unit (s := ⟨3, ![A, B, C]⟩) off (⟨3, ![1, B, n]⟩ : Shape).size h, p⟩ :: L)) (ix3 I r c)
      = v.read Val (v.writes Val f L) (ix3 I r c) :=
  View.read_writes_cons_unit_of_not_mem v f h p L (ix3 I r c) ho 2 hc

/-- A load of a slab, at a row and a column. -/
theorem ld_slab (v : View sg κ sp ⟨3, ![A, B, C]⟩ e) (f : v.ty.Contents Val) {off : Fin 3 → ℕ} (o0 : ℕ)
    (h : ∀ a, off a + (⟨3, ![1, B, C]⟩ : Shape).size a ≤ (⟨3, ![A, B, C]⟩ : Shape).size a) (I : Fin A) (r : Fin B) (c : Fin C)
    (ho : off = ![o0, 0, 0]) (hI : I.val = o0) :
    View.readAt Val v (Rect.unit (s := ⟨3, ![A, B, C]⟩) off (⟨3, ![1, B, C]⟩ : Shape).size h).toLoadRect f (ix3 0 r c) = v.read Val f (ix3 I r c) := by
  subst ho
  refine congrArg (v.read Val f) (funext fun a => Fin.ext ?_)
  match a with
  | 0 => exact hI.symm
  | 1 => show 0 + 1 * r.val = r.val; omega
  | 2 => show 0 + 1 * c.val = c.val; omega

/-- A block of columns stored over all the rows of a matrix, read inside it. -/
theorem read_cols (v : View sg κ sp ⟨2, ![A, C]⟩ e) (f : v.ty.Contents Val) {off : Fin 2 → ℕ} (o1 : ℕ)
    (h : ∀ a, off a + (⟨2, ![A, n]⟩ : Shape).size a ≤ (⟨2, ![A, C]⟩ : Shape).size a) (p : (⟨2, ![A, n]⟩ : Shape).Idx → Val e)
    (L : List (View.Piece Val ⟨2, ![A, C]⟩ e)) (s : Fin A) (c : Fin C) (k : Fin n) (ho : off = ![0, o1]) (hc : c.val = o1 + k.val) :
    v.read Val (v.writes Val f (⟨Rect.unit (s := ⟨2, ![A, C]⟩) off (⟨2, ![A, n]⟩ : Shape).size h, p⟩ :: L)) (ix2 s c) = p (ix2 s k) :=
  View.read_writes_cons_unit_of_mem v f h p L (ix2 s c) (ix2 s k) ho (Fin.forall_fin_two.mpr ⟨(Nat.zero_add _).symm, hc⟩)

/-- A block of columns stored over all the rows of a matrix, read outside it. -/
theorem read_cols_out (v : View sg κ sp ⟨2, ![A, C]⟩ e) (f : v.ty.Contents Val) {off : Fin 2 → ℕ} (o1 : ℕ)
    (h : ∀ a, off a + (⟨2, ![A, n]⟩ : Shape).size a ≤ (⟨2, ![A, C]⟩ : Shape).size a) (p : (⟨2, ![A, n]⟩ : Shape).Idx → Val e)
    (L : List (View.Piece Val ⟨2, ![A, C]⟩ e)) (s : Fin A) (c : Fin C) (ho : off = ![0, o1]) (hc : c.val < o1 ∨ o1 + n ≤ c.val) :
    v.read Val (v.writes Val f (⟨Rect.unit (s := ⟨2, ![A, C]⟩) off (⟨2, ![A, n]⟩ : Shape).size h, p⟩ :: L)) (ix2 s c)
      = v.read Val (v.writes Val f L) (ix2 s c) :=
  View.read_writes_cons_unit_of_not_mem v f h p L (ix2 s c) ho 1 hc

end Generic

/-! ## The scratch of keys and values -/

/-- The number of token rows of a point's block, as the kernel computes it. -/
abbrev nv (i : grid0.Coords) : BitVec 32 := Scalar.select (Scalar.cmpi .eq (BitVec.ofNat 32 (i 1).val) 16#32) 260#32 384#32

theorem nv_mask (i : grid0.Coords) (r : Fin 384) : k0_pay48 (nv i) (ix2 r 0) = if 384 * (i 1).val + r.val < 6404 then 1#1 else 0#1 := by
  rw [pay48]; exact valid_lt (i 1) r

/-- The pieces a point stores into the scratch of keys and values, newest first. -/
abbrev kvPieces (i : grid0.Coords) (h4 : ∀ a, (k0_off4 i) a + S1x384x128.size a ≤ S17x384x1024.size a) (h5 : ∀ a, (k0_off5 i) a + S1x384x128.size a ≤ S17x384x1024.size a) (h6 : ∀ a, (k0_off6 i) a + S1x384x128.size a ≤ S17x384x1024.size a) (h7 : ∀ a, (k0_off7 i) a + S1x384x128.size a ≤ S17x384x1024.size a) (h8 : ∀ a, (k0_off8 i) a + S1x384x512.size a ≤ S17x384x1024.size a) (x0 : Vec Ideal S1x384x4096 .bf16) (x1 x2 : Vec Ideal S4096x512 .fp8e4m3) (x3 x4 : Vec Ideal S1x512 .f32)
    (x5 : Vec Ideal S1x128 .f32) : List (View.Piece (Elt Ideal) S17x384x1024 .f32) :=
  [⟨Rect.unit (s := S17x384x1024) (k0_off8 i) S1x384x512.size h8, k0_pay56 (k0_pay48 (nv i)) (k0_pay50 (k0_pay43 x0) (k0_pay44 x0) x2 x4)⟩,
   ⟨Rect.unit (s := S17x384x1024) (k0_off7 i) S1x384x128.size h7, k0_pay55 (k0_pay48 (nv i)) (k0_pay49 (k0_pay43 x0) (k0_pay44 x0) x1 x3) x5⟩,
   ⟨Rect.unit (s := S17x384x1024) (k0_off6 i) S1x384x128.size h6, k0_pay54 (k0_pay53 (k0_pay48 (nv i)) (k0_pay49 (k0_pay43 x0) (k0_pay44 x0) x1 x3) x5)⟩,
   ⟨Rect.unit (s := S17x384x1024) (k0_off5 i) S1x384x128.size h5, k0_pay52 (k0_pay48 (nv i)) (k0_pay49 (k0_pay43 x0) (k0_pay44 x0) x1 x3) x5⟩,
   ⟨Rect.unit (s := S17x384x1024) (k0_off4 i) S1x384x128.size h4, k0_pay51 (k0_pay43 x0) (k0_pay44 x0) (nv i) x1 x3 x5⟩]

theorem proj49 (x0 : Vec Ideal S1x384x4096 .bf16) (x1 : Vec Ideal S4096x512 .fp8e4m3) (x3 : Vec Ideal S1x512 .f32) (r : Fin 384) (k : Fin 512) :
    k0_pay49 (k0_pay43 x0) (k0_pay44 x0) x1 x3 (ix2 r k) = proj (fun a => x0 (ix3 0 r a)) (fun a k => x1 (ix2 a k)) (fun k => x3 (ix2 0 k)) k := by
  rw [pay49]; unfold proj
  rw [pay43]
  congr 1
  exact Finset.sum_congr rfl fun a _ => by rw [pay44]

theorem proj50 (x0 : Vec Ideal S1x384x4096 .bf16) (x1 : Vec Ideal S4096x512 .fp8e4m3) (x3 : Vec Ideal S1x512 .f32) (r : Fin 384) (k : Fin 512) :
    k0_pay50 (k0_pay43 x0) (k0_pay44 x0) x1 x3 (ix2 r k) = proj (fun a => x0 (ix3 0 r a)) (fun a k => x1 (ix2 a k)) (fun k => x3 (ix2 0 k)) k := by
  rw [pay50]; unfold proj
  rw [pay43]
  congr 1
  exact Finset.sum_congr rfl fun a _ => by rw [pay44]

theorem mask_select (j : ℕ) (r : Fin 384) (x y : EReal) (b : BitVec 1) (hb : b = if 384 * j + r.val < 6404 then 1#1 else 0#1) (hx : x = y) :
    Scalar.select b x 0 = if 384 * j + r.val < 6404 then y else 0 := by
  subst hb hx
  by_cases h : 384 * j + r.val < 6404
  · rw [if_pos h, if_pos h]; rfl
  · rw [if_neg h, if_neg h]; rfl

/-- The point's own block of the scratch, after the stores: keys and values, zero past the last token. -/
theorem kv_in (i : grid0.Coords) (v : View sig .tc .vmem S17x384x1024 .f32) (f : v.ty.Contents (Elt Ideal)) (h4 h5 h6 h7 h8)
    (x0 : Vec Ideal S1x384x4096 .bf16) (x1 x2 : Vec Ideal S4096x512 .fp8e4m3) (x3 x4 : Vec Ideal S1x512 .f32)
    (x5 : Vec Ideal S1x128 .f32) (r : Fin 384) (c : Fin 1024) :
    v.read (Elt Ideal) (v.writes (Elt Ideal) f (kvPieces i h4 h5 h6 h7 h8 x0 x1 x2 x3 x4 x5)) (ix3 (i 1) r c) = kvp (i 1).val x0 x1 x2 x3 x4 x5 r c := by
  unfold kvp
  by_cases h512 : 512 ≤ c.val
  · refine (read_slab v f _ _ h8 _ _ (i 1) r c (⟨c.val - 512, by omega⟩ : Fin 512) (k0_off8_eq i) rfl (by show c.val = 512 + (c.val - 512); omega)).trans ?_
    rw [pay56]
    refine mask_select (i 1).val r _ _ _ (nv_mask i r) ?_
    rw [proj50]
    exact (kv_val _ _ _ _ _ _ _ c (by show c.val = 512 + (c.val - 512); omega)).symm
  refine (read_slab_out v f _ _ h8 _ _ (i 1) r c (k0_off8_eq i) (by omega)).trans ?_
  by_cases h3 : 384 ≤ c.val
  · refine (read_slab v f _ _ h7 _ _ (i 1) r c (⟨c.val - 384, by omega⟩ : Fin 128) (k0_off7_eq i) rfl (by show c.val = 384 + (c.val - 384); omega)).trans ?_
    rw [pay55]
    refine mask_select (i 1).val r _ _ _ (nv_mask i r) ?_
    simp only [proj49]
    exact (kv_key _ _ _ _ _ _ 3 (⟨c.val - 384, by omega⟩ : Fin 128) c (by show c.val = 128 * 3 + (c.val - 384); omega)).symm
  refine (read_slab_out v f _ _ h7 _ _ (i 1) r c (k0_off7_eq i) (by omega)).trans ?_
  by_cases h2 : 256 ≤ c.val
  · refine (read_slab v f _ _ h6 _ _ (i 1) r c (⟨c.val - 256, by omega⟩ : Fin 128) (k0_off6_eq i) rfl (by show c.val = 256 + (c.val - 256); omega)).trans ?_
    rw [pay53]
    refine mask_select (i 1).val r _ _ _ (nv_mask i r) ?_
    simp only [proj49]
    exact (kv_key _ _ _ _ _ _ 2 (⟨c.val - 256, by omega⟩ : Fin 128) c (by show c.val = 128 * 2 + (c.val - 256); omega)).symm
  refine (read_slab_out v f _ _ h6 _ _ (i 1) r c (k0_off6_eq i) (by omega)).trans ?_
  by_cases h1 : 128 ≤ c.val
  · refine (read_slab v f _ _ h5 _ _ (i 1) r c (⟨c.val - 128, by omega⟩ : Fin 128) (k0_off5_eq i) rfl (by show c.val = 128 + (c.val - 128); omega)).trans ?_
    rw [pay52]
    refine mask_select (i 1).val r _ _ _ (nv_mask i r) ?_
    simp only [proj49]
    exact (kv_key _ _ _ _ _ _ 1 (⟨c.val - 128, by omega⟩ : Fin 128) c (by show c.val = 128 * 1 + (c.val - 128); omega)).symm
  refine (read_slab_out v f _ _ h5 _ _ (i 1) r c (k0_off5_eq i) (by omega)).trans ?_
  refine (read_slab v f _ _ h4 _ _ (i 1) r c (⟨c.val, by omega⟩ : Fin 128) (k0_off4_eq i) rfl (by show c.val = 0 + c.val; omega)).trans ?_
  rw [pay51]
  refine mask_select (i 1).val r _ _ _ (nv_mask i r) ?_
  simp only [proj49]
  exact (kv_key _ _ _ _ _ _ 0 (⟨c.val, by omega⟩ : Fin 128) c (by show c.val = 128 * 0 + c.val; omega)).symm

/-- The scratch after a point: its own block replaced, the other blocks as they were. -/
def ScratchOf (i : grid0.Coords) (x0 : Vec Ideal S1x384x4096 .bf16) (x1 x2 : Vec Ideal S4096x512 .fp8e4m3) (x3 x4 : Vec Ideal S1x512 .f32)
    (x5 : Vec Ideal S1x128 .f32) (z Z : Vec Ideal S17x384x1024 .f32) : Prop :=
  (∀ (r : Fin 384) (c : Fin 1024), Z (ix3 (i 1) r c) = kvp (i 1).val x0 x1 x2 x3 x4 x5 r c)
    ∧ ∀ (J : Fin 17) (r : Fin 384) (c : Fin 1024), J ≠ i 1 → Z (ix3 J r c) = z (ix3 J r c)

theorem scratchOf (i : grid0.Coords) {M : Memref sig .tc .vmem S17x384x1024 .f32} (hM : M.IsWhole) (z : Vec Ideal S17x384x1024 .f32) (h4 h5 h6 h7 h8)
    (x0 X0 : Vec Ideal S1x384x4096 .bf16) (x1 x2 X1 X2 : Vec Ideal S4096x512 .fp8e4m3) (x3 x4 X3 X4 : Vec Ideal S1x512 .f32)
    (x5 X5 : Vec Ideal S1x128 .f32) (e0 : X0 = x0) (e1 : X1 = x1) (e2 : X2 = x2) (e3 : X3 = x3) (e4 : X4 = x4) (e5 : X5 = x5) :
    ScratchOf i x0 x1 x2 x3 x4 x5 z
      (M.view.read (Elt Ideal) (M.view.writes (Elt Ideal) (hM.unread z) (kvPieces i h4 h5 h6 h7 h8 X0 X1 X2 X3 X4 X5))) := by
  subst e0 e1 e2 e3 e4 e5
  refine ⟨fun r c => kv_in i M.view _ h4 h5 h6 h7 h8 _ _ _ _ _ _ r c, fun J r c hJ => ?_⟩
  have hJ' : J.val ≠ (i 1).val := fun h => hJ (Fin.ext h)
  refine Eq.trans ?_ (congrFun (hM.read_unread z) _)
  refine (read_slab_ne M.view _ _ _ h8 _ _ J r c (k0_off8_eq i) hJ').trans ?_
  refine (read_slab_ne M.view _ _ _ h7 _ _ J r c (k0_off7_eq i) hJ').trans ?_
  refine (read_slab_ne M.view _ _ _ h6 _ _ J r c (k0_off6_eq i) hJ').trans ?_
  refine (read_slab_ne M.view _ _ _ h5 _ _ J r c (k0_off5_eq i) hJ').trans ?_
  exact read_slab_ne M.view _ _ _ h4 _ _ J r c (k0_off4_eq i) hJ'

/-! ## The running column maxima -/

/-- The largest magnitude of a block's rows congruent to `s` modulo eight, in a column. -/
def bmax (j : ℕ) (x0 : Vec Ideal S1x384x4096 .bf16) (x1 x2 : Vec Ideal S4096x512 .fp8e4m3) (x3 x4 : Vec Ideal S1x512 .f32)
    (x5 : Vec Ideal S1x128 .f32) (s : Fin 8) (c : Fin 1024) : EReal :=
  top fun a : Fin 48 => mag (kvp j x0 x1 x2 x3 x4 x5 (⟨8 * a.val + s.val, by omega⟩ : Fin 384) c)

/-- The running maxima after a point: started at the image's first block, else joined with the block's. -/
def MaxOf (i : grid0.Coords) (x0 : Vec Ideal S1x384x4096 .bf16) (x1 x2 : Vec Ideal S4096x512 .fp8e4m3) (x3 x4 : Vec Ideal S1x512 .f32)
    (x5 : Vec Ideal S1x128 .f32) (z Z : Vec Ideal S8x1024 .f32) : Prop :=
  ∀ (s : Fin 8) (c : Fin 1024), Z (ix2 s c) = if (i 1).val = 0 then bmax (i 1).val x0 x1 x2 x3 x4 x5 s c
    else max (z (ix2 s c)) (bmax (i 1).val x0 x1 x2 x3 x4 x5 s c)

theorem first_blk : ∀ j : Fin 17, Scalar.cmpi .eq (BitVec.ofNat 32 j.val) 0#32 = if j.val = 0 then 1#1 else 0#1 := by decide +kernel

/-- The block just stored, loaded back: its maxima. -/
theorem bmax_of (i : grid0.Coords) (v : View sig .tc .vmem S17x384x1024 .f32) (h4 h5 h6 h7 h8)
    (h9 : ∀ a, (k0_off9 i) a + S1x384x1024.size a ≤ S17x384x1024.size a)
    (x0 : Vec Ideal S1x384x4096 .bf16) (x1 x2 : Vec Ideal S4096x512 .fp8e4m3) (x3 x4 : Vec Ideal S1x512 .f32)
    (x5 : Vec Ideal S1x128 .f32) (s : Fin 8) (c : Fin 1024) :
    k0_pay57 (v.readCov (kvPieces i h4 h5 h6 h7 h8 x0 x1 x2 x3 x4 x5) (Rect.unit (s := S17x384x1024) (k0_off9 i) S1x384x1024.size h9).toLoadRect) (ix2 s c)
      = bmax (i 1).val x0 x1 x2 x3 x4 x5 s c := by
  rw [pay57]; unfold bmax
  congr 1
  funext a
  congr 1
  exact (ld_slab v _ _ h9 (i 1) _ c (k0_off9_eq i) rfl).trans (kv_in i v _ h4 h5 h6 h7 h8 x0 x1 x2 x3 x4 x5 _ c)

/-- The stored maxima, as a term. -/
abbrev newMax (i : grid0.Coords) (v : View sig .tc .vmem S17x384x1024 .f32) (h4 : ∀ a, (k0_off4 i) a + S1x384x128.size a ≤ S17x384x1024.size a) (h5 : ∀ a, (k0_off5 i) a + S1x384x128.size a ≤ S17x384x1024.size a) (h6 : ∀ a, (k0_off6 i) a + S1x384x128.size a ≤ S17x384x1024.size a) (h7 : ∀ a, (k0_off7 i) a + S1x384x128.size a ≤ S17x384x1024.size a) (h8 : ∀ a, (k0_off8 i) a + S1x384x512.size a ≤ S17x384x1024.size a) (h9 : ∀ a, (k0_off9 i) a + S1x384x1024.size a ≤ S17x384x1024.size a) (X0 : Vec Ideal S1x384x4096 .bf16) (X1 X2 : Vec Ideal S4096x512 .fp8e4m3) (X3 X4 : Vec Ideal S1x512 .f32)
    (X5 : Vec Ideal S1x128 .f32) (Q : Vec Ideal S8x1024 .f32) : Vec Ideal S8x1024 .f32 :=
  k0_pay5 (k0_pay57 (v.readCov (kvPieces i h4 h5 h6 h7 h8 X0 X1 X2 X3 X4 X5) (Rect.unit (s := S17x384x1024) (k0_off9 i) S1x384x1024.size h9).toLoadRect))
    (Scalar.cmpi .eq (BitVec.ofNat 32 (i 1).val) 0#32) Q

theorem newMax_of (i : grid0.Coords) (v : View sig .tc .vmem S17x384x1024 .f32) (h4 h5 h6 h7 h8 h9)
    (x0 X0 : Vec Ideal S1x384x4096 .bf16) (x1 x2 X1 X2 : Vec Ideal S4096x512 .fp8e4m3) (x3 x4 X3 X4 : Vec Ideal S1x512 .f32)
    (x5 X5 : Vec Ideal S1x128 .f32) (z Q : Vec Ideal S8x1024 .f32) (e0 : X0 = x0) (e1 : X1 = x1) (e2 : X2 = x2) (e3 : X3 = x3) (e4 : X4 = x4) (e5 : X5 = x5)
    (eq : Q = z) : MaxOf i x0 x1 x2 x3 x4 x5 z (newMax i v h4 h5 h6 h7 h8 h9 X0 X1 X2 X3 X4 X5 Q) := by
  subst e0 e1 e2 e3 e4 e5 eq
  intro s c
  unfold newMax
  rw [pay5, bmax_of, first_blk (i 1)]
  by_cases h : (i 1).val = 0
  · rw [if_pos h, if_pos h]; rfl
  · rw [if_neg h, if_neg h]; rfl

theorem maxOf (M : Memref sig .tc .vmem S8x1024 .f32) (f : M.view.ty.Contents (Elt Ideal)) (h)
    (i : grid0.Coords) (v : View sig .tc .vmem S17x384x1024 .f32) (h4 h5 h6 h7 h8 h9)
    (x0 X0 : Vec Ideal S1x384x4096 .bf16) (x1 x2 X1 X2 : Vec Ideal S4096x512 .fp8e4m3) (x3 x4 X3 X4 : Vec Ideal S1x512 .f32)
    (x5 X5 : Vec Ideal S1x128 .f32) (z Q : Vec Ideal S8x1024 .f32) (e0 : X0 = x0) (e1 : X1 = x1) (e2 : X2 = x2) (e3 : X3 = x3) (e4 : X4 = x4) (e5 : X5 = x5)
    (eq : Q = z) : MaxOf i x0 x1 x2 x3 x4 x5 z (View.read (Elt Ideal) M.view (M.view.writes (Elt Ideal) f
      [⟨Rect.unit (s := S8x1024) ![0, 0] S8x1024.size h, newMax i v h4 h5 h6 h7 h8 h9 X0 X1 X2 X3 X4 X5 Q⟩])) := by
  rw [View.read_writes_full]
  exact newMax_of i v h4 h5 h6 h7 h8 h9 x0 X0 x1 x2 X1 X2 x3 x4 X3 X4 x5 X5 z Q e0 e1 e2 e3 e4 e5 eq

end Cert.KernelVisIdeal.Hand

end
-- ==== Proof.VisRead3.lean ====
/-
  The K/V build: the heads' scales and their reciprocals that the last block of an image leaves (hand-written, untrusted).
-/
module

public import proofs.«01_k».proof.Proof.VisRead2

@[expose] public section

set_option maxRecDepth 16384

noncomputable section

open Idealize.ShloMosaic Idealize.ShloMosaic.TcCoe

namespace Cert.KernelVisIdeal.Hand

open Cert.KernelVisIdeal Cert.KernelVisIdeal.Gen Cert.Rows Cert.VisRow

/-- Lane `g` of the 128. -/
abbrev lane (g : Fin 4) : Fin 128 := ⟨g.val, by omega⟩
/-- Key head `g` among the eight. -/
abbrev hK (g : Fin 4) : Fin 8 := ⟨g.val, by omega⟩
/-- Value head `g` among the eight. -/
abbrev hV (g : Fin 4) : Fin 8 := ⟨4 + g.val, by omega⟩

theorem pick_ne (l k : BitVec 32) (x y : EReal) (h : IntOp.cmpi .eq l k = 0#1) : Scalar.select (IntOp.cmpi .eq l k) x y = y := by
  rw [h]; rfl
theorem pick_eq (l k : BitVec 32) (x y : EReal) (h : IntOp.cmpi .eq l k = 1#1) : Scalar.select (IntOp.cmpi .eq l k) x y = x := by
  rw [h]; rfl

/-- The image's row of head scales: four lanes hold the scales, the other rows are as they were. -/
def HeadsOf (i : grid0.Coords) (z : Vec Ideal S8x1024 .f32) (h : Fin 4 → Fin 8) (y X : Vec Ideal S8x128 .f32) : Prop :=
  (∀ (I : Fin 8) (g : Fin 4), I.val = (i 0).val → X (ix2 I (lane g)) = hscl (k0_pay15 z) (h g))
    ∧ ∀ (I : Fin 8) (l : Fin 128), I.val ≠ (i 0).val → X (ix2 I l) = y (ix2 I l)

theorem headsK (i : grid0.Coords) {M : Memref sig .tc .vmem S8x128 .f32} (hM : M.IsWhole) (y : Vec Ideal S8x128 .f32) (h : ∀ a, (k0_off10 i) a + S1x128.size a ≤ S8x128.size a)
    (z Z : Vec Ideal S8x1024 .f32) (hZ : Z = z) (w : BitVec 32) (b0 b1 b2 b3 p1 p2 p3 : Vec Ideal S1x128 .f32)
    (e1 : b1 = k0_pay18 w Z b0)
    (e2 : b2 = k0_pay23 (k0_pay19 Z) (k0_pay20 Z) (Scalar.ofBits .f32 0x43E00000#32) b1)
    (e3 : b3 = k0_pay26 (k0_pay24 (k0_pay15 Z)) (iota .tc S1x128 32 [1] iota_S1x128_d1_w32) b2) (L0 : List (View.Piece (Elt Ideal) S8x128 .f32))
    (hL : L0 = [⟨Rect.unit (s := S8x128) (k0_off10 i) S1x128.size h, p3⟩, ⟨Rect.unit (s := S8x128) (k0_off10 i) S1x128.size h, p2⟩, ⟨Rect.unit (s := S8x128) (k0_off10 i) S1x128.size h, p1⟩]) :
    HeadsOf i z hK y (View.read (Elt Ideal) M.view (M.view.writes (Elt Ideal) (hM.unread y)
      (⟨Rect.unit (s := S8x128) (k0_off10 i) S1x128.size h, k0_pay29 (k0_pay15 Z) b3⟩ :: L0))) := by
  subst hZ hL
  constructor
  · intro I g hI
    refine (read_row M.view _ _ _ h _ _ I (lane g) (lane g) (k0_off10_eq i) hI (Nat.zero_add _).symm).trans ?_
    rw [lan3]
    match g with
    | 3 => exact (pick_eq _ _ _ _ (by decide)).trans (pay27 _)
    | 2 =>
      refine (pick_ne _ _ _ _ (by decide)).trans ?_
      rw [e3, lan2]
      exact (pick_eq _ _ _ _ (by decide)).trans (pay24 _)
    | 1 =>
      refine (pick_ne _ _ _ _ (by decide)).trans ?_
      rw [e3, lan2]
      refine (pick_ne _ _ _ _ (by decide)).trans ?_
      rw [e2, lan1]
      exact (pick_eq _ _ _ _ (by decide)).trans (pay21 _)
    | 0 =>
      refine (pick_ne _ _ _ _ (by decide)).trans ?_
      rw [e3, lan2]
      refine (pick_ne _ _ _ _ (by decide)).trans ?_
      rw [e2, lan1]
      refine (pick_ne _ _ _ _ (by decide)).trans ?_
      rw [e1]
      exact (lan0 _ _ _).trans (pay16 _)
  · intro I l hI
    refine Eq.trans ?_ (congrFun (hM.read_unread y) _)
    iterate 3 refine (read_row_ne M.view _ _ _ h _ _ I l (k0_off10_eq i) hI).trans ?_
    exact read_row_ne M.view _ _ _ h _ _ I l (k0_off10_eq i) hI

theorem headsV (i : grid0.Coords) {M : Memref sig .tc .vmem S8x128 .f32} (hM : M.IsWhole) (y : Vec Ideal S8x128 .f32) (h : ∀ a, (k0_off10 i) a + S1x128.size a ≤ S8x128.size a)
    (z Z : Vec Ideal S8x1024 .f32) (hZ : Z = z) (w : BitVec 32) (b0 b1 b2 b3 p1 p2 p3 : Vec Ideal S1x128 .f32)
    (e1 : b1 = k0_pay34 w (k0_pay30 (k0_pay15 Z)) (k0_pay31 (k0_pay15 Z)) (Scalar.ofBits .f32 0x43E00000#32) b0)
    (e2 : b2 = k0_pay37 (k0_pay35 (k0_pay15 Z)) b1)
    (e3 : b3 = k0_pay40 (k0_pay15 Z) b2) (L0 : List (View.Piece (Elt Ideal) S8x128 .f32))
    (hL : L0 = [⟨Rect.unit (s := S8x128) (k0_off10 i) S1x128.size h, p3⟩, ⟨Rect.unit (s := S8x128) (k0_off10 i) S1x128.size h, p2⟩, ⟨Rect.unit (s := S8x128) (k0_off10 i) S1x128.size h, p1⟩]) :
    HeadsOf i z hV y (View.read (Elt Ideal) M.view (M.view.writes (Elt Ideal) (hM.unread y)
      (⟨Rect.unit (s := S8x128) (k0_off10 i) S1x128.size h, k0_pay8 (k0_pay41 (k0_pay15 Z)) b3⟩ :: L0))) := by
  subst hZ hL
  constructor
  · intro I g hI
    refine (read_row M.view _ _ _ h _ _ I (lane g) (lane g) (k0_off10_eq i) hI (Nat.zero_add _).symm).trans ?_
    rw [lan7]
    match g with
    | 3 => exact (pick_eq _ _ _ _ (by decide)).trans (pay6 _)
    | 2 =>
      refine (pick_ne _ _ _ _ (by decide)).trans ?_
      rw [e3, lan6]
      exact (pick_eq _ _ _ _ (by decide)).trans (pay38 _)
    | 1 =>
      refine (pick_ne _ _ _ _ (by decide)).trans ?_
      rw [e3, lan6]
      refine (pick_ne _ _ _ _ (by decide)).trans ?_
      rw [e2, lan5]
      exact (pick_eq _ _ _ _ (by decide)).trans (pay35 _)
    | 0 =>
      refine (pick_ne _ _ _ _ (by decide)).trans ?_
      rw [e3, lan6]
      refine (pick_ne _ _ _ _ (by decide)).trans ?_
      rw [e2, lan5]
      refine (pick_ne _ _ _ _ (by decide)).trans ?_
      rw [e1]
      exact (lan4 _ _ _ _ _).trans (pay32 _)
  · intro I l hI
    refine Eq.trans ?_ (congrFun (hM.read_unread y) _)
    iterate 3 refine (read_row_ne M.view _ _ _ h _ _ I l (k0_off10_eq i) hI).trans ?_
    exact read_row_ne M.view _ _ _ h _ _ I l (k0_off10_eq i) hI

/-- The multipliers after an image's last block: every lane of head `h` holds the reciprocal of the head's scale. -/
def MultOf (z X : Vec Ideal S8x1024 .f32) : Prop :=
  ∀ (s : Fin 8) (h : Fin 8) (d : Fin 128) (c : Fin 1024), c.val = 128 * h.val + d.val → X (ix2 s c) = Ideal.div 1 (hscl (k0_pay15 z) h)

theorem multOf (M : Memref sig .tc .vmem S8x1024 .f32) (f : M.view.ty.Contents (Elt Ideal)) (h0 h1 h2 h3 h4 h5 h6 h7) (z Z : Vec Ideal S8x1024 .f32) (hZ : Z = z) :
    MultOf z (View.read (Elt Ideal) M.view (M.view.writes (Elt Ideal) f
      [⟨Rect.unit (s := S8x1024) ![0, 896] S8x128.size h7, k0_pay7 (k0_pay41 (k0_pay15 Z))⟩,
       ⟨Rect.unit (s := S8x1024) ![0, 768] S8x128.size h6, k0_pay39 (k0_pay15 Z)⟩,
       ⟨Rect.unit (s := S8x1024) ![0, 640] S8x128.size h5, k0_pay36 (k0_pay15 Z)⟩,
       ⟨Rect.unit (s := S8x1024) ![0, 512] S8x128.size h4, k0_pay33 (k0_pay30 (k0_pay15 Z)) (k0_pay31 (k0_pay15 Z)) (Scalar.ofBits .f32 0x43E00000#32)⟩,
       ⟨Rect.unit (s := S8x1024) ![0, 384] S8x128.size h3, k0_pay28 (k0_pay15 Z)⟩,
       ⟨Rect.unit (s := S8x1024) ![0, 256] S8x128.size h2, k0_pay25 (k0_pay15 Z)⟩,
       ⟨Rect.unit (s := S8x1024) ![0, 128] S8x128.size h1, k0_pay22 (k0_pay19 Z) (k0_pay20 Z) (Scalar.ofBits .f32 0x43E00000#32)⟩,
       ⟨Rect.unit (s := S8x1024) ![0, 0] S8x128.size h0, k0_pay17 Z⟩])) := by
  subst hZ
  intro s h d c hc
  match h with
  | 7 =>
    have hc : c.val = 896 + d.val := hc
    exact (read_cols M.view _ _ h7 _ _ s c d rfl hc).trans (mul7 _ s d)
  | 6 =>
    have hc : c.val = 768 + d.val := hc
    refine (read_cols_out M.view _ _ h7 _ _ s c rfl (Or.inl (by omega))).trans ?_
    exact (read_cols M.view _ _ h6 _ _ s c d rfl hc).trans (mul6 _ s d)
  | 5 =>
    have hc : c.val = 640 + d.val := hc
    refine (read_cols_out M.view _ _ h7 _ _ s c rfl (Or.inl (by omega))).trans ?_
    refine (read_cols_out M.view _ _ h6 _ _ s c rfl (Or.inl (by omega))).trans ?_
    exact (read_cols M.view _ _ h5 _ _ s c d rfl hc).trans (mul5 _ s d)
  | 4 =>
    have hc : c.val = 512 + d.val := hc
    refine (read_cols_out M.view _ _ h7 _ _ s c rfl (Or.inl (by omega))).trans ?_
    refine (read_cols_out M.view _ _ h6 _ _ s c rfl (Or.inl (by omega))).trans ?_
    refine (read_cols_out M.view _ _ h5 _ _ s c rfl (Or.inl (by omega))).trans ?_
    exact (read_cols M.view _ _ h4 _ _ s c d rfl hc).trans (mul4 _ s d)
  | 3 =>
    have hc : c.val = 384 + d.val := hc
    refine (read_cols_out M.view _ _ h7 _ _ s c rfl (Or.inl (by omega))).trans ?_
    refine (read_cols_out M.view _ _ h6 _ _ s c rfl (Or.inl (by omega))).trans ?_
    refine (read_cols_out M.view _ _ h5 _ _ s c rfl (Or.inl (by omega))).trans ?_
    refine (read_cols_out M.view _ _ h4 _ _ s c rfl (Or.inl (by omega))).trans ?_
    exact (read_cols M.view _ _ h3 _ _ s c d rfl hc).trans (mul3 _ s d)
  | 2 =>
    have hc : c.val = 256 + d.val := hc
    refine (read_cols_out M.view _ _ h7 _ _ s c rfl (Or.inl (by omega))).trans ?_
    refine (read_cols_out M.view _ _ h6 _ _ s c rfl (Or.inl (by omega))).trans ?_
    refine (read_cols_out M.view _ _ h5 _ _ s c rfl (Or.inl (by omega))).trans ?_
    refine (read_cols_out M.view _ _ h4 _ _ s c rfl (Or.inl (by omega))).trans ?_
    refine (read_cols_out M.view _ _ h3 _ _ s c rfl (Or.inl (by omega))).trans ?_
    exact (read_cols M.view _ _ h2 _ _ s c d rfl hc).trans (mul2 _ s d)
  | 1 =>
    have hc : c.val = 128 + d.val := hc
    refine (read_cols_out M.view _ _ h7 _ _ s c rfl (Or.inl (by omega))).trans ?_
    refine (read_cols_out M.view _ _ h6 _ _ s c rfl (Or.inl (by omega))).trans ?_
    refine (read_cols_out M.view _ _ h5 _ _ s c rfl (Or.inl (by omega))).trans ?_
    refine (read_cols_out M.view _ _ h4 _ _ s c rfl (Or.inl (by omega))).trans ?_
    refine (read_cols_out M.view _ _ h3 _ _ s c rfl (Or.inl (by omega))).trans ?_
    refine (read_cols_out M.view _ _ h2 _ _ s c rfl (Or.inl (by omega))).trans ?_
    exact (read_cols M.view _ _ h1 _ _ s c d rfl hc).trans (mul1 _ s d)
  | 0 =>
    have hc : c.val = 0 + d.val := hc
    refine (read_cols_out M.view _ _ h7 _ _ s c rfl (Or.inl (by omega))).trans ?_
    refine (read_cols_out M.view _ _ h6 _ _ s c rfl (Or.inl (by omega))).trans ?_
    refine (read_cols_out M.view _ _ h5 _ _ s c rfl (Or.inl (by omega))).trans ?_
    refine (read_cols_out M.view _ _ h4 _ _ s c rfl (Or.inl (by omega))).trans ?_
    refine (read_cols_out M.view _ _ h3 _ _ s c rfl (Or.inl (by omega))).trans ?_
    refine (read_cols_out M.view _ _ h2 _ _ s c rfl (Or.inl (by omega))).trans ?_
    refine (read_cols_out M.view _ _ h1 _ _ s c rfl (Or.inl (by omega))).trans ?_
    exact (read_cols M.view _ _ h0 _ _ s c d rfl hc).trans (mul0 _ s d)

/-! ## A point of the grid -/

/-- What a point of the grid leaves in every buffer, from the contents it finds. Past the first image it writes the previous image's codes
    of keys and values; at an image it quantises and projects its block; at an image's last block it fixes the heads' scales. -/
structure Step (i : grid0.Coords) (x0 : Vec Ideal S1x384x4096 .bf16) (x1 x2 : Vec Ideal S4096x512 .fp8e4m3) (x3 x4 : Vec Ideal S1x512 .f32)
    (x5 : Vec Ideal S1x128 .f32) (y6 : Vec Ideal S1x384x4096 .fp8e4m3) (y7 : Vec Ideal S6x6404 .f32) (y9 y11 : Vec Ideal S8x128 .f32)
    (z14 : Vec Ideal S17x384x1024 .f32) (z15 z16 : Vec Ideal S8x1024 .f32)
    (X6 : Vec Ideal S1x384x4096 .fp8e4m3) (X7 : Vec Ideal S6x6404 .f32) (X8 : Vec Ideal S1x4x384x128 .fp8e4m3) (X9 : Vec Ideal S8x128 .f32)
    (X10 : Vec Ideal S1x4x384x128 .fp8e4m3) (X11 : Vec Ideal S8x128 .f32) (Z14 : Vec Ideal S17x384x1024 .f32) (Z15 Z16 : Vec Ideal S8x1024 .f32) : Prop where
  codes : 0 < (i 0).val → Ph1K i z14 z16 X8 ∧ Ph1V i z14 z16 X10
  build : (i 0).val < 6 → CodesOf x0 X6 ∧ ScalesOf i x0 y7 X7 ∧ ScratchOf i x0 x1 x2 x3 x4 x5 z14 Z14 ∧ MaxOf i x0 x1 x2 x3 x4 x5 z15 Z15
  keep : (i 0).val = 6 → X6 = y6 ∧ X7 = y7 ∧ Z14 = z14 ∧ Z15 = z15
  fix : (i 0).val < 6 → (i 1).val = 16 → HeadsOf i Z15 hK y9 X9 ∧ HeadsOf i Z15 hV y11 X11 ∧ MultOf Z15 Z16
  hold : (i 0).val = 6 ∨ (i 1).val < 16 → X9 = y9 ∧ X11 = y11 ∧ Z16 = z16

end Cert.KernelVisIdeal.Hand

end
-- ==== Proof.VisStepA.lean ====
/-
The body of the K/V build at a grid point of case A (first image, a whole block), over the reals: what it leaves in every buffer
(hand-written, untrusted).
-/
module

public import proofs.«01_k».proof.Proof.VisRead3
public import proofs.«01_k».proof.Proof.Gen.KernelVisIdeal.Skeleton
public import proofs.«01_k».proof.Proof.Gen.KernelVisIdeal.Launch
public import proofs.«01_k».proof.Proof.Gen.KernelVisIdeal.Frame

@[expose] public section

set_option maxRecDepth 16384

noncomputable section

namespace Cert.KernelVisIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelVisIdeal Cert.KernelVisIdeal.Gen

local notation "𝕄" => MT nD τ sig Unit (Elt Ideal) ℕ (UR sig nD τ) ℕ

set_option maxHeartbeats 4000000 in
/-- The body at a point of case A (first image, a whole block), on whole buffers at named contents: the inputs come back as they were, every
    other buffer as `Step` says. -/
theorem stepA (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (hc1 : ¬k0_cond1 i = 1#1) (hc2 : k0_cond2 i = 1#1) (hc3 : k0_cond3 i = 1#1) (hc4 : ¬k0_cond4 i = 1#1) (hc5 : ¬k0_cond5 i = 1#1)
    (n0 : (i 0).val = 0) (n1 : (i 1).val < 16)
    (x0 : Vec Ideal S1x384x4096 .bf16) (x1 : Vec Ideal S4096x512 .fp8e4m3) (x2 : Vec Ideal S4096x512 .fp8e4m3) (x3 : Vec Ideal S1x512 .f32) (x4 : Vec Ideal S1x512 .f32) (x5 : Vec Ideal S1x128 .f32) (y6 : Vec Ideal S1x384x4096 .fp8e4m3) (y7 : Vec Ideal S6x6404 .f32) (y8 : Vec Ideal S1x4x384x128 .fp8e4m3) (y9 : Vec Ideal S8x128 .f32) (y10 : Vec Ideal S1x4x384x128 .fp8e4m3) (y11 : Vec Ideal S8x128 .f32) (z14 : Vec Ideal S17x384x1024 .f32) (z15 : Vec Ideal S8x1024 .f32) (z16 : Vec Ideal S8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare z14 ∗ owns (c : Thread nD τ) arg15 fullShare z15 ∗ owns (c : Thread nD τ) arg16 fullShare z16
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X6, ∃ X7, ∃ X8, ∃ X9, ∃ X10, ∃ X11, ∃ Z14, ∃ Z15, ∃ Z16, owns (c : Thread nD τ) arg8 fullShare X6 ∗ owns (c : Thread nD τ) arg9 fullShare X7 ∗ owns (c : Thread nD τ) arg10 fullShare X8 ∗ owns (c : Thread nD τ) arg11 fullShare X9 ∗ owns (c : Thread nD τ) arg12 fullShare X10 ∗ owns (c : Thread nD τ) arg13 fullShare X11 ∗ owns (c : Thread nD τ) arg14 fullShare Z14 ∗ owns (c : Thread nD τ) arg15 fullShare Z15 ∗ owns (c : Thread nD τ) arg16 fullShare Z16 ∗ ⌜Step i x0 x1 x2 x3 x4 x5 y6 y7 y9 y11 z14 z15 z16 X6 X7 X8 X9 X10 X11 Z14 Z15 Z16⌝)) -∗ K ⟨⟩))
      ⊢ wp frame (wpE (defs₀ (F := Ideal)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_vis_kv_eq_skeleton]; unfold cc0_vis_kv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%fy6, %hfy6, Hy6⟩, ⟨%fy7, %hfy7, Hy7⟩, ⟨%fy8, %hfy8, Hy8⟩, ⟨%fy9, %hfy9, Hy9⟩, ⟨%fy10, %hfy10, Hy10⟩, ⟨%fy11, %hfy11, Hy11⟩, ⟨%fz14, %hfz14, Hz14⟩, ⟨%fz15, %hfz15, Hz15⟩, ⟨%fz16, %hfz16, Hz16⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5; obtain rfl := harg8.eq_unread hfy6; obtain rfl := harg9.eq_unread hfy7; obtain rfl := harg10.eq_unread hfy8; obtain rfl := harg11.eq_unread hfy9; obtain rfl := harg12.eq_unread hfy10; obtain rfl := harg13.eq_unread hfy11; obtain rfl := harg14.eq_unread hfz14; obtain rfl := harg15.eq_unread hfz15; obtain rfl := harg16.eq_unread hfz16
  sl_exec (disch := first | sl_exact hc1 | sl_exact hc2 | sl_exact hc3 | sl_exact hc4 | sl_exact hc5)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  iexists _, _, _, _, _, _, _, _, _
  isplitl [Hy6]
  · iexists _; isplitr; swap; · iexact Hy6
    ipureintro; rfl
  isplitl [Hy7]
  · iexists _; isplitr; swap; · iexact Hy7
    ipureintro; rfl
  isplitl [Hy8]
  · iexists _; isplitr; swap; · iexact Hy8
    ipureintro; rfl
  isplitl [Hy9]
  · iexists _; isplitr; swap; · iexact Hy9
    ipureintro; rfl
  isplitl [Hy10]
  · iexists _; isplitr; swap; · iexact Hy10
    ipureintro; rfl
  isplitl [Hy11]
  · iexists _; isplitr; swap; · iexact Hy11
    ipureintro; rfl
  isplitl [Hz14]
  · iexists _; isplitr; swap; · iexact Hz14
    ipureintro; rfl
  isplitl [Hz15]
  · iexists _; isplitr; swap; · iexact Hz15
    ipureintro; rfl
  isplitl [Hz16]
  · iexists _; isplitr; swap; · iexact Hz16
    ipureintro; rfl
  ipureintro
  refine ⟨?_, ?_, ?_, ?_, ?_⟩
  · exact fun h => absurd h (by omega)
  · exact fun _ => ⟨codesOf arg8 _ _ x0 _ (ld_whole harg2 x0 _), scalesOf i harg9 y7 _ x0 _ (ld_whole harg2 x0 _), scratchOf i harg14 z14 _ _ _ _ _ x0 _ x1 x2 _ _ x3 x4 _ _ x5 _ (ld_whole harg2 x0 _) (ld_whole harg3 x1 _) (ld_whole harg4 x2 _) (ld_whole harg5 x3 _) (ld_whole harg6 x4 _) (ld_whole harg7 x5 _), maxOf arg15 _ _ i arg14.view _ _ _ _ _ _ x0 _ x1 x2 _ _ x3 x4 _ _ x5 _ z15 _ (ld_whole harg2 x0 _) (ld_whole harg3 x1 _) (ld_whole harg4 x2 _) (ld_whole harg5 x3 _) (ld_whole harg6 x4 _) (ld_whole harg7 x5 _) (ld_whole harg15 z15 _)⟩
  · exact fun h => absurd h (by omega)
  · exact fun _ h => absurd h (by omega)
  · exact fun _ => ⟨harg11.read_unread _, harg13.read_unread _, harg16.read_unread _⟩

end Cert.KernelVisIdeal.Hand

end
-- ==== Proof.VisStepB.lean ====
/-
The body of the K/V build at a grid point of case B (first image, its last block), over the reals: what it leaves in every buffer
(hand-written, untrusted).
-/
module

public import proofs.«01_k».proof.Proof.VisRead3
public import proofs.«01_k».proof.Proof.Gen.KernelVisIdeal.Skeleton
public import proofs.«01_k».proof.Proof.Gen.KernelVisIdeal.Launch
public import proofs.«01_k».proof.Proof.Gen.KernelVisIdeal.Frame

@[expose] public section

set_option maxRecDepth 16384

noncomputable section

namespace Cert.KernelVisIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelVisIdeal Cert.KernelVisIdeal.Gen

local notation "𝕄" => MT nD τ sig Unit (Elt Ideal) ℕ (UR sig nD τ) ℕ

set_option maxHeartbeats 4000000 in
/-- The body at a point of case B (first image, its last block), on whole buffers at named contents: the inputs come back as they were, every
    other buffer as `Step` says. -/
theorem stepB (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (hc1 : ¬k0_cond1 i = 1#1) (hc2 : k0_cond2 i = 1#1) (hc3 : ¬k0_cond3 i = 1#1) (hc4 : k0_cond4 i = 1#1) (hc5 : k0_cond5 i = 1#1)
    (n0 : (i 0).val = 0) (n1 : (i 1).val = 16)
    (x0 : Vec Ideal S1x384x4096 .bf16) (x1 : Vec Ideal S4096x512 .fp8e4m3) (x2 : Vec Ideal S4096x512 .fp8e4m3) (x3 : Vec Ideal S1x512 .f32) (x4 : Vec Ideal S1x512 .f32) (x5 : Vec Ideal S1x128 .f32) (y6 : Vec Ideal S1x384x4096 .fp8e4m3) (y7 : Vec Ideal S6x6404 .f32) (y8 : Vec Ideal S1x4x384x128 .fp8e4m3) (y9 : Vec Ideal S8x128 .f32) (y10 : Vec Ideal S1x4x384x128 .fp8e4m3) (y11 : Vec Ideal S8x128 .f32) (z14 : Vec Ideal S17x384x1024 .f32) (z15 : Vec Ideal S8x1024 .f32) (z16 : Vec Ideal S8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare z14 ∗ owns (c : Thread nD τ) arg15 fullShare z15 ∗ owns (c : Thread nD τ) arg16 fullShare z16
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X6, ∃ X7, ∃ X8, ∃ X9, ∃ X10, ∃ X11, ∃ Z14, ∃ Z15, ∃ Z16, owns (c : Thread nD τ) arg8 fullShare X6 ∗ owns (c : Thread nD τ) arg9 fullShare X7 ∗ owns (c : Thread nD τ) arg10 fullShare X8 ∗ owns (c : Thread nD τ) arg11 fullShare X9 ∗ owns (c : Thread nD τ) arg12 fullShare X10 ∗ owns (c : Thread nD τ) arg13 fullShare X11 ∗ owns (c : Thread nD τ) arg14 fullShare Z14 ∗ owns (c : Thread nD τ) arg15 fullShare Z15 ∗ owns (c : Thread nD τ) arg16 fullShare Z16 ∗ ⌜Step i x0 x1 x2 x3 x4 x5 y6 y7 y9 y11 z14 z15 z16 X6 X7 X8 X9 X10 X11 Z14 Z15 Z16⌝)) -∗ K ⟨⟩))
      ⊢ wp frame (wpE (defs₀ (F := Ideal)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_vis_kv_eq_skeleton]; unfold cc0_vis_kv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%fy6, %hfy6, Hy6⟩, ⟨%fy7, %hfy7, Hy7⟩, ⟨%fy8, %hfy8, Hy8⟩, ⟨%fy9, %hfy9, Hy9⟩, ⟨%fy10, %hfy10, Hy10⟩, ⟨%fy11, %hfy11, Hy11⟩, ⟨%fz14, %hfz14, Hz14⟩, ⟨%fz15, %hfz15, Hz15⟩, ⟨%fz16, %hfz16, Hz16⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5; obtain rfl := harg8.eq_unread hfy6; obtain rfl := harg9.eq_unread hfy7; obtain rfl := harg10.eq_unread hfy8; obtain rfl := harg11.eq_unread hfy9; obtain rfl := harg12.eq_unread hfy10; obtain rfl := harg13.eq_unread hfy11; obtain rfl := harg14.eq_unread hfz14; obtain rfl := harg15.eq_unread hfz15; obtain rfl := harg16.eq_unread hfz16
  sl_exec (disch := first | sl_exact hc1 | sl_exact hc2 | sl_exact hc3 | sl_exact hc4 | sl_exact hc5)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  iexists _, _, _, _, _, _, _, _, _
  isplitl [Hy6]
  · iexists _; isplitr; swap; · iexact Hy6
    ipureintro; rfl
  isplitl [Hy7]
  · iexists _; isplitr; swap; · iexact Hy7
    ipureintro; rfl
  isplitl [Hy8]
  · iexists _; isplitr; swap; · iexact Hy8
    ipureintro; rfl
  isplitl [Hy9]
  · iexists _; isplitr; swap; · iexact Hy9
    ipureintro; rfl
  isplitl [Hy10]
  · iexists _; isplitr; swap; · iexact Hy10
    ipureintro; rfl
  isplitl [Hy11]
  · iexists _; isplitr; swap; · iexact Hy11
    ipureintro; rfl
  isplitl [Hz14]
  · iexists _; isplitr; swap; · iexact Hz14
    ipureintro; rfl
  isplitl [Hz15]
  · iexists _; isplitr; swap; · iexact Hz15
    ipureintro; rfl
  isplitl [Hz16]
  · iexists _; isplitr; swap; · iexact Hz16
    ipureintro; rfl
  ipureintro
  refine ⟨?_, ?_, ?_, ?_, ?_⟩
  · exact fun h => absurd h (by omega)
  · exact fun _ => ⟨codesOf arg8 _ _ x0 _ (ld_whole harg2 x0 _), scalesOf_last i n1 harg9 y7 _ x0 _ (ld_whole harg2 x0 _), scratchOf i harg14 z14 _ _ _ _ _ x0 _ x1 x2 _ _ x3 x4 _ _ x5 _ (ld_whole harg2 x0 _) (ld_whole harg3 x1 _) (ld_whole harg4 x2 _) (ld_whole harg5 x3 _) (ld_whole harg6 x4 _) (ld_whole harg7 x5 _), maxOf arg15 _ _ i arg14.view _ _ _ _ _ _ x0 _ x1 x2 _ _ x3 x4 _ _ x5 _ z15 _ (ld_whole harg2 x0 _) (ld_whole harg3 x1 _) (ld_whole harg4 x2 _) (ld_whole harg5 x3 _) (ld_whole harg6 x4 _) (ld_whole harg7 x5 _) (ld_whole harg15 z15 _)⟩
  · exact fun h => absurd h (by omega)
  · exact fun _ _ => ⟨headsK i harg11 y9 _ _ _ (cov_read _ _ _ _ _ _ _ rfl) _ _ _ _ _ _ _ _ (readCov_head _ _ _ _) (readCov_head _ _ _ _) (readCov_head _ _ _ _) _ rfl, headsV i harg13 y11 _ _ _ (cov_read _ _ _ _ _ _ _ rfl) _ _ _ _ _ _ _ _ (readCov_head _ _ _ _) (readCov_head _ _ _ _) (readCov_head _ _ _ _) _ rfl, multOf arg16 _ _ _ _ _ _ _ _ _ _ _ (cov_read _ _ _ _ _ _ _ rfl)⟩
  · exact fun h => absurd h (by omega)

end Cert.KernelVisIdeal.Hand

end
-- ==== Proof.VisStepC.lean ====
/-
The body of the K/V build at a grid point of case C (a middle image, a whole block), over the reals: what it leaves in every buffer
(hand-written, untrusted).
-/
module

public import proofs.«01_k».proof.Proof.VisRead3
public import proofs.«01_k».proof.Proof.Gen.KernelVisIdeal.Skeleton
public import proofs.«01_k».proof.Proof.Gen.KernelVisIdeal.Launch
public import proofs.«01_k».proof.Proof.Gen.KernelVisIdeal.Frame

@[expose] public section

set_option maxRecDepth 16384

noncomputable section

namespace Cert.KernelVisIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelVisIdeal Cert.KernelVisIdeal.Gen

local notation "𝕄" => MT nD τ sig Unit (Elt Ideal) ℕ (UR sig nD τ) ℕ

set_option maxHeartbeats 4000000 in
/-- The body at a point of case C (a middle image, a whole block), on whole buffers at named contents: the inputs come back as they were, every
    other buffer as `Step` says. -/
theorem stepC (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (hc1 : k0_cond1 i = 1#1) (hc2 : k0_cond2 i = 1#1) (hc3 : k0_cond3 i = 1#1) (hc4 : ¬k0_cond4 i = 1#1) (hc5 : ¬k0_cond5 i = 1#1)
    (n0 : 0 < (i 0).val ∧ (i 0).val < 6) (n1 : (i 1).val < 16)
    (x0 : Vec Ideal S1x384x4096 .bf16) (x1 : Vec Ideal S4096x512 .fp8e4m3) (x2 : Vec Ideal S4096x512 .fp8e4m3) (x3 : Vec Ideal S1x512 .f32) (x4 : Vec Ideal S1x512 .f32) (x5 : Vec Ideal S1x128 .f32) (y6 : Vec Ideal S1x384x4096 .fp8e4m3) (y7 : Vec Ideal S6x6404 .f32) (y8 : Vec Ideal S1x4x384x128 .fp8e4m3) (y9 : Vec Ideal S8x128 .f32) (y10 : Vec Ideal S1x4x384x128 .fp8e4m3) (y11 : Vec Ideal S8x128 .f32) (z14 : Vec Ideal S17x384x1024 .f32) (z15 : Vec Ideal S8x1024 .f32) (z16 : Vec Ideal S8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare z14 ∗ owns (c : Thread nD τ) arg15 fullShare z15 ∗ owns (c : Thread nD τ) arg16 fullShare z16
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X6, ∃ X7, ∃ X8, ∃ X9, ∃ X10, ∃ X11, ∃ Z14, ∃ Z15, ∃ Z16, owns (c : Thread nD τ) arg8 fullShare X6 ∗ owns (c : Thread nD τ) arg9 fullShare X7 ∗ owns (c : Thread nD τ) arg10 fullShare X8 ∗ owns (c : Thread nD τ) arg11 fullShare X9 ∗ owns (c : Thread nD τ) arg12 fullShare X10 ∗ owns (c : Thread nD τ) arg13 fullShare X11 ∗ owns (c : Thread nD τ) arg14 fullShare Z14 ∗ owns (c : Thread nD τ) arg15 fullShare Z15 ∗ owns (c : Thread nD τ) arg16 fullShare Z16 ∗ ⌜Step i x0 x1 x2 x3 x4 x5 y6 y7 y9 y11 z14 z15 z16 X6 X7 X8 X9 X10 X11 Z14 Z15 Z16⌝)) -∗ K ⟨⟩))
      ⊢ wp frame (wpE (defs₀ (F := Ideal)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_vis_kv_eq_skeleton]; unfold cc0_vis_kv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%fy6, %hfy6, Hy6⟩, ⟨%fy7, %hfy7, Hy7⟩, ⟨%fy8, %hfy8, Hy8⟩, ⟨%fy9, %hfy9, Hy9⟩, ⟨%fy10, %hfy10, Hy10⟩, ⟨%fy11, %hfy11, Hy11⟩, ⟨%fz14, %hfz14, Hz14⟩, ⟨%fz15, %hfz15, Hz15⟩, ⟨%fz16, %hfz16, Hz16⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5; obtain rfl := harg8.eq_unread hfy6; obtain rfl := harg9.eq_unread hfy7; obtain rfl := harg10.eq_unread hfy8; obtain rfl := harg11.eq_unread hfy9; obtain rfl := harg12.eq_unread hfy10; obtain rfl := harg13.eq_unread hfy11; obtain rfl := harg14.eq_unread hfz14; obtain rfl := harg15.eq_unread hfz15; obtain rfl := harg16.eq_unread hfz16
  sl_exec (disch := first | sl_exact hc1 | sl_exact hc2 | sl_exact hc3 | sl_exact hc4 | sl_exact hc5)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  iexists _, _, _, _, _, _, _, _, _
  isplitl [Hy6]
  · iexists _; isplitr; swap; · iexact Hy6
    ipureintro; rfl
  isplitl [Hy7]
  · iexists _; isplitr; swap; · iexact Hy7
    ipureintro; rfl
  isplitl [Hy8]
  · iexists _; isplitr; swap; · iexact Hy8
    ipureintro; rfl
  isplitl [Hy9]
  · iexists _; isplitr; swap; · iexact Hy9
    ipureintro; rfl
  isplitl [Hy10]
  · iexists _; isplitr; swap; · iexact Hy10
    ipureintro; rfl
  isplitl [Hy11]
  · iexists _; isplitr; swap; · iexact Hy11
    ipureintro; rfl
  isplitl [Hz14]
  · iexists _; isplitr; swap; · iexact Hz14
    ipureintro; rfl
  isplitl [Hz15]
  · iexists _; isplitr; swap; · iexact Hz15
    ipureintro; rfl
  isplitl [Hz16]
  · iexists _; isplitr; swap; · iexact Hz16
    ipureintro; rfl
  ipureintro
  refine ⟨?_, ?_, ?_, ?_, ?_⟩
  · exact fun _ => ⟨ph1K i arg10 _ harg14 z14 harg16 z16 _ _ _ _ _ _ _ _ rfl rfl, ph1V i arg12 _ harg14 z14 harg16 z16 _ _ _ _ _ _ _ _ rfl rfl⟩
  · exact fun _ => ⟨codesOf arg8 _ _ x0 _ (ld_whole harg2 x0 _), scalesOf i harg9 y7 _ x0 _ (ld_whole harg2 x0 _), scratchOf i harg14 z14 _ _ _ _ _ x0 _ x1 x2 _ _ x3 x4 _ _ x5 _ (ld_whole harg2 x0 _) (ld_whole harg3 x1 _) (ld_whole harg4 x2 _) (ld_whole harg5 x3 _) (ld_whole harg6 x4 _) (ld_whole harg7 x5 _), maxOf arg15 _ _ i arg14.view _ _ _ _ _ _ x0 _ x1 x2 _ _ x3 x4 _ _ x5 _ z15 _ (ld_whole harg2 x0 _) (ld_whole harg3 x1 _) (ld_whole harg4 x2 _) (ld_whole harg5 x3 _) (ld_whole harg6 x4 _) (ld_whole harg7 x5 _) (ld_whole harg15 z15 _)⟩
  · exact fun h => absurd h (by omega)
  · exact fun _ h => absurd h (by omega)
  · exact fun _ => ⟨harg11.read_unread _, harg13.read_unread _, harg16.read_unread _⟩

end Cert.KernelVisIdeal.Hand

end
-- ==== Proof.VisStepD.lean ====
/-
The body of the K/V build at a grid point of case D (a middle image, its last block), over the reals: what it leaves in every buffer
(hand-written, untrusted).
-/
module

public import proofs.«01_k».proof.Proof.VisRead3
public import proofs.«01_k».proof.Proof.Gen.KernelVisIdeal.Skeleton
public import proofs.«01_k».proof.Proof.Gen.KernelVisIdeal.Launch
public import proofs.«01_k».proof.Proof.Gen.KernelVisIdeal.Frame

@[expose] public section

set_option maxRecDepth 16384

noncomputable section

namespace Cert.KernelVisIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelVisIdeal Cert.KernelVisIdeal.Gen

local notation "𝕄" => MT nD τ sig Unit (Elt Ideal) ℕ (UR sig nD τ) ℕ

set_option maxHeartbeats 4000000 in
/-- The body at a point of case D (a middle image, its last block), on whole buffers at named contents: the inputs come back as they were, every
    other buffer as `Step` says. -/
theorem stepD (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (hc1 : k0_cond1 i = 1#1) (hc2 : k0_cond2 i = 1#1) (hc3 : ¬k0_cond3 i = 1#1) (hc4 : k0_cond4 i = 1#1) (hc5 : k0_cond5 i = 1#1)
    (n0 : 0 < (i 0).val ∧ (i 0).val < 6) (n1 : (i 1).val = 16)
    (x0 : Vec Ideal S1x384x4096 .bf16) (x1 : Vec Ideal S4096x512 .fp8e4m3) (x2 : Vec Ideal S4096x512 .fp8e4m3) (x3 : Vec Ideal S1x512 .f32) (x4 : Vec Ideal S1x512 .f32) (x5 : Vec Ideal S1x128 .f32) (y6 : Vec Ideal S1x384x4096 .fp8e4m3) (y7 : Vec Ideal S6x6404 .f32) (y8 : Vec Ideal S1x4x384x128 .fp8e4m3) (y9 : Vec Ideal S8x128 .f32) (y10 : Vec Ideal S1x4x384x128 .fp8e4m3) (y11 : Vec Ideal S8x128 .f32) (z14 : Vec Ideal S17x384x1024 .f32) (z15 : Vec Ideal S8x1024 .f32) (z16 : Vec Ideal S8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare z14 ∗ owns (c : Thread nD τ) arg15 fullShare z15 ∗ owns (c : Thread nD τ) arg16 fullShare z16
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X6, ∃ X7, ∃ X8, ∃ X9, ∃ X10, ∃ X11, ∃ Z14, ∃ Z15, ∃ Z16, owns (c : Thread nD τ) arg8 fullShare X6 ∗ owns (c : Thread nD τ) arg9 fullShare X7 ∗ owns (c : Thread nD τ) arg10 fullShare X8 ∗ owns (c : Thread nD τ) arg11 fullShare X9 ∗ owns (c : Thread nD τ) arg12 fullShare X10 ∗ owns (c : Thread nD τ) arg13 fullShare X11 ∗ owns (c : Thread nD τ) arg14 fullShare Z14 ∗ owns (c : Thread nD τ) arg15 fullShare Z15 ∗ owns (c : Thread nD τ) arg16 fullShare Z16 ∗ ⌜Step i x0 x1 x2 x3 x4 x5 y6 y7 y9 y11 z14 z15 z16 X6 X7 X8 X9 X10 X11 Z14 Z15 Z16⌝)) -∗ K ⟨⟩))
      ⊢ wp frame (wpE (defs₀ (F := Ideal)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_vis_kv_eq_skeleton]; unfold cc0_vis_kv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%fy6, %hfy6, Hy6⟩, ⟨%fy7, %hfy7, Hy7⟩, ⟨%fy8, %hfy8, Hy8⟩, ⟨%fy9, %hfy9, Hy9⟩, ⟨%fy10, %hfy10, Hy10⟩, ⟨%fy11, %hfy11, Hy11⟩, ⟨%fz14, %hfz14, Hz14⟩, ⟨%fz15, %hfz15, Hz15⟩, ⟨%fz16, %hfz16, Hz16⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5; obtain rfl := harg8.eq_unread hfy6; obtain rfl := harg9.eq_unread hfy7; obtain rfl := harg10.eq_unread hfy8; obtain rfl := harg11.eq_unread hfy9; obtain rfl := harg12.eq_unread hfy10; obtain rfl := harg13.eq_unread hfy11; obtain rfl := harg14.eq_unread hfz14; obtain rfl := harg15.eq_unread hfz15; obtain rfl := harg16.eq_unread hfz16
  sl_exec (disch := first | sl_exact hc1 | sl_exact hc2 | sl_exact hc3 | sl_exact hc4 | sl_exact hc5)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  iexists _, _, _, _, _, _, _, _, _
  isplitl [Hy6]
  · iexists _; isplitr; swap; · iexact Hy6
    ipureintro; rfl
  isplitl [Hy7]
  · iexists _; isplitr; swap; · iexact Hy7
    ipureintro; rfl
  isplitl [Hy8]
  · iexists _; isplitr; swap; · iexact Hy8
    ipureintro; rfl
  isplitl [Hy9]
  · iexists _; isplitr; swap; · iexact Hy9
    ipureintro; rfl
  isplitl [Hy10]
  · iexists _; isplitr; swap; · iexact Hy10
    ipureintro; rfl
  isplitl [Hy11]
  · iexists _; isplitr; swap; · iexact Hy11
    ipureintro; rfl
  isplitl [Hz14]
  · iexists _; isplitr; swap; · iexact Hz14
    ipureintro; rfl
  isplitl [Hz15]
  · iexists _; isplitr; swap; · iexact Hz15
    ipureintro; rfl
  isplitl [Hz16]
  · iexists _; isplitr; swap; · iexact Hz16
    ipureintro; rfl
  ipureintro
  refine ⟨?_, ?_, ?_, ?_, ?_⟩
  · exact fun _ => ⟨ph1K i arg10 _ harg14 z14 harg16 z16 _ _ _ _ _ _ _ _ rfl rfl, ph1V i arg12 _ harg14 z14 harg16 z16 _ _ _ _ _ _ _ _ rfl rfl⟩
  · exact fun _ => ⟨codesOf arg8 _ _ x0 _ (ld_whole harg2 x0 _), scalesOf_last i n1 harg9 y7 _ x0 _ (ld_whole harg2 x0 _), scratchOf i harg14 z14 _ _ _ _ _ x0 _ x1 x2 _ _ x3 x4 _ _ x5 _ (ld_whole harg2 x0 _) (ld_whole harg3 x1 _) (ld_whole harg4 x2 _) (ld_whole harg5 x3 _) (ld_whole harg6 x4 _) (ld_whole harg7 x5 _), maxOf arg15 _ _ i arg14.view _ _ _ _ _ _ x0 _ x1 x2 _ _ x3 x4 _ _ x5 _ z15 _ (ld_whole harg2 x0 _) (ld_whole harg3 x1 _) (ld_whole harg4 x2 _) (ld_whole harg5 x3 _) (ld_whole harg6 x4 _) (ld_whole harg7 x5 _) (ld_whole harg15 z15 _)⟩
  · exact fun h => absurd h (by omega)
  · exact fun _ _ => ⟨headsK i harg11 y9 _ _ _ (cov_read _ _ _ _ _ _ _ rfl) _ _ _ _ _ _ _ _ (readCov_head _ _ _ _) (readCov_head _ _ _ _) (readCov_head _ _ _ _) _ rfl, headsV i harg13 y11 _ _ _ (cov_read _ _ _ _ _ _ _ rfl) _ _ _ _ _ _ _ _ (readCov_head _ _ _ _) (readCov_head _ _ _ _) (readCov_head _ _ _ _) _ rfl, multOf arg16 _ _ _ _ _ _ _ _ _ _ _ (cov_read _ _ _ _ _ _ _ rfl)⟩
  · exact fun h => absurd h (by omega)

end Cert.KernelVisIdeal.Hand

end
-- ==== Proof.VisStepE.lean ====
/-
The body of the K/V build at a grid point of case E (past the last image), over the reals: what it leaves in every buffer
(hand-written, untrusted).
-/
module

public import proofs.«01_k».proof.Proof.VisRead3
public import proofs.«01_k».proof.Proof.Gen.KernelVisIdeal.Skeleton
public import proofs.«01_k».proof.Proof.Gen.KernelVisIdeal.Launch
public import proofs.«01_k».proof.Proof.Gen.KernelVisIdeal.Frame

@[expose] public section

set_option maxRecDepth 16384

noncomputable section

namespace Cert.KernelVisIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelVisIdeal Cert.KernelVisIdeal.Gen

local notation "𝕄" => MT nD τ sig Unit (Elt Ideal) ℕ (UR sig nD τ) ℕ

set_option maxHeartbeats 4000000 in
/-- The body at a point of case E (past the last image), on whole buffers at named contents: the inputs come back as they were, every
    other buffer as `Step` says. -/
theorem stepE (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (hc1 : k0_cond1 i = 1#1) (hc2 : ¬k0_cond2 i = 1#1)
    (n0 : (i 0).val = 6)
    (x0 : Vec Ideal S1x384x4096 .bf16) (x1 : Vec Ideal S4096x512 .fp8e4m3) (x2 : Vec Ideal S4096x512 .fp8e4m3) (x3 : Vec Ideal S1x512 .f32) (x4 : Vec Ideal S1x512 .f32) (x5 : Vec Ideal S1x128 .f32) (y6 : Vec Ideal S1x384x4096 .fp8e4m3) (y7 : Vec Ideal S6x6404 .f32) (y8 : Vec Ideal S1x4x384x128 .fp8e4m3) (y9 : Vec Ideal S8x128 .f32) (y10 : Vec Ideal S1x4x384x128 .fp8e4m3) (y11 : Vec Ideal S8x128 .f32) (z14 : Vec Ideal S17x384x1024 .f32) (z15 : Vec Ideal S8x1024 .f32) (z16 : Vec Ideal S8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare z14 ∗ owns (c : Thread nD τ) arg15 fullShare z15 ∗ owns (c : Thread nD τ) arg16 fullShare z16
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X6, ∃ X7, ∃ X8, ∃ X9, ∃ X10, ∃ X11, ∃ Z14, ∃ Z15, ∃ Z16, owns (c : Thread nD τ) arg8 fullShare X6 ∗ owns (c : Thread nD τ) arg9 fullShare X7 ∗ owns (c : Thread nD τ) arg10 fullShare X8 ∗ owns (c : Thread nD τ) arg11 fullShare X9 ∗ owns (c : Thread nD τ) arg12 fullShare X10 ∗ owns (c : Thread nD τ) arg13 fullShare X11 ∗ owns (c : Thread nD τ) arg14 fullShare Z14 ∗ owns (c : Thread nD τ) arg15 fullShare Z15 ∗ owns (c : Thread nD τ) arg16 fullShare Z16 ∗ ⌜Step i x0 x1 x2 x3 x4 x5 y6 y7 y9 y11 z14 z15 z16 X6 X7 X8 X9 X10 X11 Z14 Z15 Z16⌝)) -∗ K ⟨⟩))
      ⊢ wp frame (wpE (defs₀ (F := Ideal)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_vis_kv_eq_skeleton]; unfold cc0_vis_kv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%fy6, %hfy6, Hy6⟩, ⟨%fy7, %hfy7, Hy7⟩, ⟨%fy8, %hfy8, Hy8⟩, ⟨%fy9, %hfy9, Hy9⟩, ⟨%fy10, %hfy10, Hy10⟩, ⟨%fy11, %hfy11, Hy11⟩, ⟨%fz14, %hfz14, Hz14⟩, ⟨%fz15, %hfz15, Hz15⟩, ⟨%fz16, %hfz16, Hz16⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5; obtain rfl := harg8.eq_unread hfy6; obtain rfl := harg9.eq_unread hfy7; obtain rfl := harg10.eq_unread hfy8; obtain rfl := harg11.eq_unread hfy9; obtain rfl := harg12.eq_unread hfy10; obtain rfl := harg13.eq_unread hfy11; obtain rfl := harg14.eq_unread hfz14; obtain rfl := harg15.eq_unread hfz15; obtain rfl := harg16.eq_unread hfz16
  sl_exec (disch := first | sl_exact hc1 | sl_exact hc2)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  iexists _, _, _, _, _, _, _, _, _
  isplitl [Hy6]
  · iexists _; isplitr; swap; · iexact Hy6
    ipureintro; rfl
  isplitl [Hy7]
  · iexists _; isplitr; swap; · iexact Hy7
    ipureintro; rfl
  isplitl [Hy8]
  · iexists _; isplitr; swap; · iexact Hy8
    ipureintro; rfl
  isplitl [Hy9]
  · iexists _; isplitr; swap; · iexact Hy9
    ipureintro; rfl
  isplitl [Hy10]
  · iexists _; isplitr; swap; · iexact Hy10
    ipureintro; rfl
  isplitl [Hy11]
  · iexists _; isplitr; swap; · iexact Hy11
    ipureintro; rfl
  isplitl [Hz14]
  · iexists _; isplitr; swap; · iexact Hz14
    ipureintro; rfl
  isplitl [Hz15]
  · iexists _; isplitr; swap; · iexact Hz15
    ipureintro; rfl
  isplitl [Hz16]
  · iexists _; isplitr; swap; · iexact Hz16
    ipureintro; rfl
  ipureintro
  refine ⟨?_, ?_, ?_, ?_, ?_⟩
  · exact fun _ => ⟨ph1K i arg10 _ harg14 z14 harg16 z16 _ _ _ _ _ _ _ _ rfl rfl, ph1V i arg12 _ harg14 z14 harg16 z16 _ _ _ _ _ _ _ _ rfl rfl⟩
  · exact fun h => absurd h (by omega)
  · exact fun _ => ⟨harg8.read_unread _, harg9.read_unread _, harg14.read_unread _, harg15.read_unread _⟩
  · exact fun h _ => absurd h (by omega)
  · exact fun _ => ⟨harg11.read_unread _, harg13.read_unread _, harg16.read_unread _⟩

end Cert.KernelVisIdeal.Hand

end
-- ==== Proof.VisStep.lean ====
/-
  The body of the K/V build at any point of the grid, over the reals (hand-written, untrusted).
-/
module

public import proofs.«01_k».proof.Proof.VisStepA
public import proofs.«01_k».proof.Proof.VisStepB
public import proofs.«01_k».proof.Proof.VisStepC
public import proofs.«01_k».proof.Proof.VisStepD
public import proofs.«01_k».proof.Proof.VisStepE

@[expose] public section

set_option maxRecDepth 16384

noncomputable section

namespace Cert.KernelVisIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelVisIdeal Cert.KernelVisIdeal.Gen

local notation "𝕄" => MT nD τ sig Unit (Elt Ideal) ℕ (UR sig nD τ) ℕ

theorem c1_iff (i : grid0.Coords) : k0_cond1 i = 1#1 ↔ 0 < (i 0).val :=
  (by decide +kernel : ∀ a : Fin 7, Scalar.cmpi .ne (Scalar.extui (Scalar.cmpi .sgt (BitVec.ofNat 32 a.val) 0#32) : BitVec 32) 0#32 = 1#1 ↔ 0 < a.val) (i 0)
theorem c2_iff (i : grid0.Coords) : k0_cond2 i = 1#1 ↔ (i 0).val < 6 :=
  (by decide +kernel : ∀ a : Fin 7, Scalar.cmpi .ne (Scalar.extui (Scalar.cmpi .slt (BitVec.ofNat 32 a.val) 6#32) : BitVec 32) 0#32 = 1#1 ↔ a.val < 6) (i 0)
theorem c3_iff (i : grid0.Coords) : k0_cond3 i = 1#1 ↔ (i 1).val < 16 :=
  (by decide +kernel : ∀ a : Fin 17, Scalar.cmpi .ne (Scalar.extui (Scalar.cmpi .slt (BitVec.ofNat 32 a.val) 16#32) : BitVec 32) 0#32 = 1#1 ↔ a.val < 16) (i 1)
theorem c4_iff (i : grid0.Coords) : k0_cond4 i = 1#1 ↔ (i 1).val = 16 :=
  (by decide +kernel : ∀ a : Fin 17, Scalar.cmpi .ne (Scalar.extui (Scalar.cmpi .eq (BitVec.ofNat 32 a.val) 16#32) : BitVec 32) 0#32 = 1#1 ↔ a.val = 16) (i 1)
theorem c5_iff (i : grid0.Coords) : k0_cond5 i = 1#1 ↔ (i 1).val = 16 :=
  (by decide +kernel : ∀ a : Fin 17, Scalar.cmpi .ne (Scalar.extui (Scalar.cmpi .eq (BitVec.ofNat 32 a.val) 16#32) : BitVec 32) 0#32 = 1#1 ↔ a.val = 16) (i 1)
theorem i0_lt (i : grid0.Coords) : (i 0).val < 7 := (i 0).isLt
theorem i1_lt (i : grid0.Coords) : (i 1).val < 17 := (i 1).isLt

/-- The body at any point of the grid, on whole buffers at named contents: the inputs come back as they were, every other
    buffer as `Step` says. -/
theorem step (c : Dev nD) (i : grid0.Coords) (arg2 : Memref sig .tc .vmem S1x384x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S1x384x4096 .fp8e4m3) (harg8 : arg8.IsWhole) (arg9 : Memref sig .tc .vmem S6x6404 .f32) (harg9 : arg9.IsWhole) (arg10 : Memref sig .tc .vmem S1x4x384x128 .fp8e4m3) (harg10 : arg10.IsWhole) (arg11 : Memref sig .tc .vmem S8x128 .f32) (harg11 : arg11.IsWhole) (arg12 : Memref sig .tc .vmem S1x4x384x128 .fp8e4m3) (harg12 : arg12.IsWhole) (arg13 : Memref sig .tc .vmem S8x128 .f32) (harg13 : arg13.IsWhole) (arg14 : Memref sig .tc .vmem S17x384x1024 .f32) (harg14 : arg14.IsWhole) (arg15 : Memref sig .tc .vmem S8x1024 .f32) (harg15 : arg15.IsWhole) (arg16 : Memref sig .tc .vmem S8x1024 .f32) (harg16 : arg16.IsWhole)
    (x0 : Vec Ideal S1x384x4096 .bf16) (x1 : Vec Ideal S4096x512 .fp8e4m3) (x2 : Vec Ideal S4096x512 .fp8e4m3) (x3 : Vec Ideal S1x512 .f32) (x4 : Vec Ideal S1x512 .f32) (x5 : Vec Ideal S1x128 .f32) (y6 : Vec Ideal S1x384x4096 .fp8e4m3) (y7 : Vec Ideal S6x6404 .f32) (y8 : Vec Ideal S1x4x384x128 .fp8e4m3) (y9 : Vec Ideal S8x128 .f32) (y10 : Vec Ideal S1x4x384x128 .fp8e4m3) (y11 : Vec Ideal S8x128 .f32) (z14 : Vec Ideal S17x384x1024 .f32) (z15 : Vec Ideal S8x1024 .f32) (z16 : Vec Ideal S8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare z14 ∗ owns (c : Thread nD τ) arg15 fullShare z15 ∗ owns (c : Thread nD τ) arg16 fullShare z16
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X6, ∃ X7, ∃ X8, ∃ X9, ∃ X10, ∃ X11, ∃ Z14, ∃ Z15, ∃ Z16, owns (c : Thread nD τ) arg8 fullShare X6 ∗ owns (c : Thread nD τ) arg9 fullShare X7 ∗ owns (c : Thread nD τ) arg10 fullShare X8 ∗ owns (c : Thread nD τ) arg11 fullShare X9 ∗ owns (c : Thread nD τ) arg12 fullShare X10 ∗ owns (c : Thread nD τ) arg13 fullShare X11 ∗ owns (c : Thread nD τ) arg14 fullShare Z14 ∗ owns (c : Thread nD τ) arg15 fullShare Z15 ∗ owns (c : Thread nD τ) arg16 fullShare Z16 ∗ ⌜Step i x0 x1 x2 x3 x4 x5 y6 y7 y9 y11 z14 z15 z16 X6 X7 X8 X9 X10 X11 Z14 Z15 Z16⌝)) -∗ K ⟨⟩))
      ⊢ wp frame (wpE (defs₀ (F := Ideal)) Variants.none c none) E (cc0_vis_kv i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have b0 := i0_lt i
  have b1 := i1_lt i
  by_cases g2 : (i 0).val < 6
  · have h2 : k0_cond2 i = 1#1 := (c2_iff i).mpr g2
    by_cases g1 : 0 < (i 0).val
    · have h1 : k0_cond1 i = 1#1 := (c1_iff i).mpr g1
      by_cases g3 : (i 1).val < 16
      · have h3 : k0_cond3 i = 1#1 := (c3_iff i).mpr g3
        have h4 : ¬ k0_cond4 i = 1#1 := fun h => by have := (c4_iff i).mp h; omega
        have h5 : ¬ k0_cond5 i = 1#1 := fun h => by have := (c5_iff i).mp h; omega
        exact stepC c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 ⟨g1, g2⟩ g3 x0 x1 x2 x3 x4 x5 y6 y7 y8 y9 y10 y11 z14 z15 z16 E K
      · have g4 : (i 1).val = 16 := by omega
        have h3 : ¬ k0_cond3 i = 1#1 := fun h => g3 ((c3_iff i).mp h)
        have h4 : k0_cond4 i = 1#1 := (c4_iff i).mpr g4
        have h5 : k0_cond5 i = 1#1 := (c5_iff i).mpr g4
        exact stepD c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 ⟨g1, g2⟩ g4 x0 x1 x2 x3 x4 x5 y6 y7 y8 y9 y10 y11 z14 z15 z16 E K
    · have g0 : (i 0).val = 0 := by omega
      have h1 : ¬ k0_cond1 i = 1#1 := fun h => g1 ((c1_iff i).mp h)
      by_cases g3 : (i 1).val < 16
      · have h3 : k0_cond3 i = 1#1 := (c3_iff i).mpr g3
        have h4 : ¬ k0_cond4 i = 1#1 := fun h => by have := (c4_iff i).mp h; omega
        have h5 : ¬ k0_cond5 i = 1#1 := fun h => by have := (c5_iff i).mp h; omega
        exact stepA c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 g0 g3 x0 x1 x2 x3 x4 x5 y6 y7 y8 y9 y10 y11 z14 z15 z16 E K
      · have g4 : (i 1).val = 16 := by omega
        have h3 : ¬ k0_cond3 i = 1#1 := fun h => g3 ((c3_iff i).mp h)
        have h4 : k0_cond4 i = 1#1 := (c4_iff i).mpr g4
        have h5 : k0_cond5 i = 1#1 := (c5_iff i).mpr g4
        exact stepB c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 g0 g4 x0 x1 x2 x3 x4 x5 y6 y7 y8 y9 y10 y11 z14 z15 z16 E K
  · have h1 : k0_cond1 i = 1#1 := (c1_iff i).mpr (by omega)
    have h2 : ¬ k0_cond2 i = 1#1 := fun h => g2 ((c2_iff i).mp h)
    exact stepE c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 (by omega) x0 x1 x2 x3 x4 x5 y6 y7 y8 y9 y10 y11 z14 z15 z16 E K

end Cert.KernelVisIdeal.Hand

end
-- ==== Proof.VisInv.lean ====
/-
  The K/V build over the grid: what the scratch buffers hold before each point, what the result blocks hold after it, and that a
  point's step keeps both (hand-written, untrusted).
-/
module

public import proofs.«01_k».proof.Proof.VisRead3

@[expose] public section

set_option maxRecDepth 16384

noncomputable section

open Idealize.ShloMosaic Idealize.ShloMosaic.TcCoe

namespace Cert.VisRow

theorem ninf : Ideal.ofBits .f32 0xFF800000#32 = (⊥ : EReal) := by
  simp [Ideal.ofBits, Ideal.ieee]

theorem top_le {n : Nat} (f : Fin n → EReal) (y : EReal) : top f ≤ y ↔ ∀ a, f a ≤ y := by
  unfold top
  rw [Finset.fold_max_le, ninf]
  exact ⟨fun h a => h.2 a (Finset.mem_univ a), fun h => ⟨bot_le, fun a _ => h a⟩⟩

theorem mag_zero_le (x : EReal) : mag 0 ≤ mag x := by
  show max (0 : EReal) (-0) ≤ max x (-x)
  rw [neg_zero, max_self]
  rcases le_total 0 x with h | h
  · exact h.trans (le_max_left _ _)
  · exact (EReal.neg_nonneg.mpr h).trans (le_max_right _ _)

end Cert.VisRow

namespace Cert.KernelVisIdeal.Hand

open Cert.KernelVisIdeal Cert.KernelVisIdeal.Gen Cert.Rows Cert.VisRow

/-- The vision tokens by image and row, and the weights, scales and gain of the projections. -/
structure Data where
  X : ℕ → ℕ → Fin 4096 → EReal
  x1 : Vec Ideal S4096x512 .fp8e4m3
  x2 : Vec Ideal S4096x512 .fp8e4m3
  x3 : Vec Ideal S1x512 .f32
  x4 : Vec Ideal S1x512 .f32
  x5 : Vec Ideal S1x128 .f32

variable (D : Data)

/-- Keys and values of a token. -/
def KV (i n : ℕ) (c : Fin 1024) : EReal :=
  kv (D.X i n) (fun a k => D.x1 (ix2 a k)) (fun a k => D.x2 (ix2 a k)) (fun k => D.x3 (ix2 0 k)) (fun k => D.x4 (ix2 0 k)) (fun d => D.x5 (ix2 0 d)) c
/-- The same by block and row, zero past the last token. -/
def KVp (i j r : ℕ) (c : Fin 1024) : EReal := if 384 * j + r < 6404 then KV D i (384 * j + r) c else 0
/-- The largest magnitude of a column over an image's tokens. -/
def CM (i : ℕ) (c : Fin 1024) : EReal := top fun n : Fin 6404 => mag (KV D i n.val c)
/-- A head's scale. -/
def HS (i : ℕ) (h : Fin 8) : EReal := scl (amax fun e => CM D i (col 1024 rfl h e))

/-- The rows of a block of the input that are tokens. -/
def Blk (i j : ℕ) (x0 : Vec Ideal S1x384x4096 .bf16) : Prop :=
  ∀ (r : Fin 384) (a : Fin 4096), 384 * j + r.val < 6404 → x0 (ix3 0 r a) = D.X i (384 * j + r.val) a

theorem kvp_eq {i j : ℕ} {x0 : Vec Ideal S1x384x4096 .bf16} (h : Blk D i j x0) (r : Fin 384) (c : Fin 1024) :
    kvp j x0 D.x1 D.x2 D.x3 D.x4 D.x5 r c = KVp D i j r.val c := by
  unfold kvp KVp KV
  by_cases g : 384 * j + r.val < 6404
  · rw [if_pos g, if_pos g, show (fun a => x0 (ix3 0 r a)) = D.X i (384 * j + r.val) from funext fun a => h r a g]
  · rw [if_neg g, if_neg g]

/-- The running maxima bound exactly the magnitudes of the first `n` blocks. -/
def Max (i n : ℕ) (z : Vec Ideal S8x1024 .f32) : Prop :=
  ∀ (s : Fin 8) (c : Fin 1024) (y : EReal), z (ix2 s c) ≤ y ↔ ∀ J < n, ∀ a : Fin 48, mag (KVp D i J (8 * a.val + s.val) c) ≤ y

theorem cm_of (i : ℕ) (z : Vec Ideal S8x1024 .f32) (h : Max D i 17 z) (c : Fin 1024) : k0_pay15 z (ix2 0 c) = CM D i c := by
  rw [pay15]
  refine eq_of_forall_ge_iff fun y => ?_
  unfold CM
  rw [top_le, top_le]
  constructor
  · intro g n
    have hn := n.isLt
    have := (h ⟨n.val % 384 % 8, by omega⟩ c y).mp (g _) (n.val / 384) (by omega) ⟨n.val % 384 / 8, by omega⟩
    have e : 384 * (n.val / 384) + (8 * (n.val % 384 / 8) + n.val % 384 % 8) = n.val := by omega
    unfold KVp at this
    simp only [e] at this
    rw [if_pos hn] at this
    exact this
  · intro g s
    rw [h s c y]
    intro J hJ a
    unfold KVp
    by_cases q : 384 * J + (8 * a.val + s.val) < 6404
    · rw [if_pos q]; exact g ⟨_, q⟩
    · rw [if_neg q]; exact (mag_zero_le _).trans (g ⟨0, by omega⟩)

theorem hs_of (i : ℕ) (z : Vec Ideal S8x1024 .f32) (h : Max D i 17 z) (g : Fin 8) : hscl (k0_pay15 z) g = HS D i g := by
  unfold hscl HS
  simp only [cm_of D i z h]

/-- The scratch buffers before a point. -/
structure Inv (i j : ℕ) (z14 : Vec Ideal S17x384x1024 .f32) (z15 z16 : Vec Ideal S8x1024 .f32) : Prop where
  new : i < 6 → ∀ (J : Fin 17) (r : Fin 384) (c : Fin 1024), J.val < j → z14 (ix3 J r c) = KVp D i J.val r.val c
  old : 0 < i → i ≤ 6 → ∀ (J : Fin 17) (r : Fin 384) (c : Fin 1024), j ≤ J.val → z14 (ix3 J r c) = KVp D (i - 1) J.val r.val c
  max : i < 6 → 0 < j → Max D i j z15
  mult : 0 < i → i ≤ 6 → ∀ (s : Fin 8) (h : Fin 8) (d : Fin 128) (c : Fin 1024), c.val = 128 * h.val + d.val → z16 (ix2 s c) = Ideal.div 1 (HS D (i - 1) h)

/-- Codes of a block of tokens. -/
def P6 (i j : ℕ) (X : Vec Ideal S1x384x4096 .fp8e4m3) : Prop :=
  ∀ (r : Fin 384) (a : Fin 4096), 384 * j + r.val < 6404 → X (ix3 0 r a) = code (scl (amax (D.X i (384 * j + r.val)))) (D.X i (384 * j + r.val) a)
/-- The tokens' scales of the first images and of an image's first rows. -/
def P7 (i n : ℕ) (X : Vec Ideal S6x6404 .f32) : Prop :=
  ∀ (I : Fin 6) (R : Fin 6404), (I.val < i ∨ I.val = i ∧ R.val < n) → X (ix2 I R) = scl (amax (D.X I.val R.val))
/-- The previous image's codes of the key heads (`cc` the columns, `hh` the heads), or of the value heads. -/
def P8 (cc : Fin 4 → Fin 128 → Fin 1024) (hh : Fin 4 → Fin 8) (i j : ℕ) (X : Vec Ideal S1x4x384x128 .fp8e4m3) : Prop :=
  0 < i → ∀ (g : Fin 4) (r : Fin 384) (d : Fin 128), 384 * j + r.val < 6404 →
    X (ix4 0 g r d) = code (HS D (i - 1) (hh g)) (KV D (i - 1) (384 * j + r.val) (cc g d))
/-- The heads' scales of the first `n` images. -/
def P9 (hh : Fin 4 → Fin 8) (n : ℕ) (X : Vec Ideal S8x128 .f32) : Prop :=
  ∀ (I : Fin 8) (g : Fin 4), I.val < 6 → I.val < n → X (ix2 I (lane g)) = HS D I.val (hh g)

variable {D} {i : grid0.Coords} {x0 : Vec Ideal S1x384x4096 .bf16} {y6 : Vec Ideal S1x384x4096 .fp8e4m3} {y7 : Vec Ideal S6x6404 .f32} {y9 y11 : Vec Ideal S8x128 .f32}
    {z14 : Vec Ideal S17x384x1024 .f32} {z15 z16 : Vec Ideal S8x1024 .f32}
    {X6 : Vec Ideal S1x384x4096 .fp8e4m3} {X7 : Vec Ideal S6x6404 .f32} {X8 : Vec Ideal S1x4x384x128 .fp8e4m3} {X9 : Vec Ideal S8x128 .f32}
    {X10 : Vec Ideal S1x4x384x128 .fp8e4m3} {X11 : Vec Ideal S8x128 .f32} {Z14 : Vec Ideal S17x384x1024 .f32} {Z15 Z16 : Vec Ideal S8x1024 .f32}

theorem max_step (hI : Inv D (i 0).val (i 1).val z14 z15 z16) (hB : (i 0).val < 6 → Blk D (i 0).val (i 1).val x0)
    (hS : Step i x0 D.x1 D.x2 D.x3 D.x4 D.x5 y6 y7 y9 y11 z14 z15 z16 X6 X7 X8 X9 X10 X11 Z14 Z15 Z16) (h6 : (i 0).val < 6) :
    Max D (i 0).val ((i 1).val + 1) Z15 := by
  intro s c y
  rw [(hS.build h6).2.2.2 s c]
  have hb : bmax (i 1).val x0 D.x1 D.x2 D.x3 D.x4 D.x5 s c ≤ y ↔ ∀ a : Fin 48, mag (KVp D (i 0).val (i 1).val (8 * a.val + s.val) c) ≤ y := by
    unfold bmax
    rw [top_le]
    simp only [kvp_eq D (hB h6)]
  by_cases h0 : (i 1).val = 0
  · rw [if_pos h0, hb]
    constructor
    · intro h J hJ
      rw [show J = (i 1).val by omega]; exact h
    · intro h; exact h _ (by omega)
  · rw [if_neg h0, max_le_iff, hb, hI.max h6 (by omega) s c y]
    constructor
    · rintro ⟨h1, h2⟩ J hJ
      by_cases e : J = (i 1).val
      · rw [e]; exact h2
      · exact h1 J (by omega)
    · intro h
      exact ⟨fun J hJ => h J (by omega), h _ (by omega)⟩

/-- A point inside an image leads to the next one's invariant. -/
theorem inv_next (hI : Inv D (i 0).val (i 1).val z14 z15 z16) (hB : (i 0).val < 6 → Blk D (i 0).val (i 1).val x0)
    (hS : Step i x0 D.x1 D.x2 D.x3 D.x4 D.x5 y6 y7 y9 y11 z14 z15 z16 X6 X7 X8 X9 X10 X11 Z14 Z15 Z16) (hj : (i 1).val < 16) :
    Inv D (i 0).val ((i 1).val + 1) Z14 Z15 Z16 := by
  refine ⟨fun h6 J r c hJ => ?_, fun h0 h6 J r c hJ => ?_, fun h6 _ => max_step hI hB hS h6, fun h0 h6 => ?_⟩
  · have hs := (hS.build h6).2.2.1
    by_cases e : J = i 1
    · rw [e, hs.1 r c, kvp_eq D (hB h6)]
    · rw [hs.2 J r c e]
      exact hI.new h6 J r c (by have : J.val ≠ (i 1).val := fun q => e (Fin.ext q); omega)
  · have e : J ≠ i 1 := fun q => by rw [q] at hJ; omega
    by_cases g : (i 0).val < 6
    · rw [(hS.build g).2.2.1.2 J r c e]
      exact hI.old h0 h6 J r c (by omega)
    · rw [(hS.keep (by omega)).2.2.1]
      exact hI.old h0 h6 J r c (by omega)
  · rw [(hS.hold (Or.inr hj)).2.2]
    exact hI.mult h0 h6

/-- An image's last point leads to the next image's invariant. -/
theorem inv_wrap (hI : Inv D (i 0).val (i 1).val z14 z15 z16) (hB : (i 0).val < 6 → Blk D (i 0).val (i 1).val x0)
    (hS : Step i x0 D.x1 D.x2 D.x3 D.x4 D.x5 y6 y7 y9 y11 z14 z15 z16 X6 X7 X8 X9 X10 X11 Z14 Z15 Z16) (hj : (i 1).val = 16) :
    Inv D ((i 0).val + 1) 0 Z14 Z15 Z16 := by
  refine ⟨fun h6 J r c hJ => absurd hJ (by omega), fun h0 h6 J r c hJ => ?_, fun h6 h => absurd h (by omega), fun h0 h6 s h d c hc => ?_⟩
  · have g : (i 0).val < 6 := by omega
    have hs := (hS.build g).2.2.1
    show _ = KVp D (i 0).val J.val r.val c
    by_cases e : J = i 1
    · rw [e, hs.1 r c, kvp_eq D (hB g)]
    · rw [hs.2 J r c e]
      exact hI.new g J r c (by have : J.val ≠ (i 1).val := fun q => e (Fin.ext q); have := J.isLt; omega)
  · have g : (i 0).val < 6 := by omega
    rw [(hS.fix g hj).2.2 s h d c hc]
    show Ideal.div 1 (hscl (k0_pay15 Z15) h) = Ideal.div 1 (HS D (i 0).val h)
    have hm := max_step hI hB hS g
    rw [hj] at hm
    rw [hs_of D _ Z15 hm]

theorem p6_step (hB : (i 0).val < 6 → Blk D (i 0).val (i 1).val x0)
    (hS : Step i x0 D.x1 D.x2 D.x3 D.x4 D.x5 y6 y7 y9 y11 z14 z15 z16 X6 X7 X8 X9 X10 X11 Z14 Z15 Z16) (h6 : (i 0).val < 6) :
    P6 D (i 0).val (i 1).val X6 := by
  intro r a hr
  rw [(hS.build h6).1 r a]
  have e : (fun b => x0 (ix3 0 r b)) = D.X (i 0).val (384 * (i 1).val + r.val) := funext fun b => hB h6 r b hr
  rw [e, hB h6 r a hr]

theorem p7_step (hB : (i 0).val < 6 → Blk D (i 0).val (i 1).val x0) (hP : P7 D (i 0).val (384 * (i 1).val) y7)
    (hS : Step i x0 D.x1 D.x2 D.x3 D.x4 D.x5 y6 y7 y9 y11 z14 z15 z16 X6 X7 X8 X9 X10 X11 Z14 Z15 Z16) :
    P7 D (i 0).val (384 * ((i 1).val + 1)) X7 := by
  intro I R h
  have hI := I.isLt
  by_cases h6 : (i 0).val < 6
  · have hs := (hS.build h6).2.1
    by_cases e : I.val = (i 0).val ∧ 384 * (i 1).val ≤ R.val ∧ R.val < 384 * (i 1).val + 384
    · have hr : R.val = 384 * (i 1).val + (R.val - 384 * (i 1).val) := by omega
      rw [hs.1 I R ⟨R.val - 384 * (i 1).val, by omega⟩ e.1 hr]
      have e2 : (fun b => x0 (ix3 0 (⟨R.val - 384 * (i 1).val, by omega⟩ : Fin 384) b)) = D.X I.val R.val := funext fun b => by
        rw [hB h6 _ b (by show 384 * (i 1).val + (R.val - 384 * (i 1).val) < 6404; have := R.isLt; omega), e.1]
        show D.X _ (384 * (i 1).val + (R.val - 384 * (i 1).val)) b = _
        rw [← hr]
      rw [e2]
    · rw [hs.2 I R e]
      exact hP I R (by omega)
  · rw [(hS.keep (by have := (i 0).isLt; have : (i 0).val < 7 := this; omega)).2.1]
    exact hP I R (by omega)

theorem p8_stepK (hI : Inv D (i 0).val (i 1).val z14 z15 z16)
    (hS : Step i x0 D.x1 D.x2 D.x3 D.x4 D.x5 y6 y7 y9 y11 z14 z15 z16 X6 X7 X8 X9 X10 X11 Z14 Z15 Z16) :
    P8 D cK hK (i 0).val (i 1).val X8 := by
  intro h0 g r d hr
  have h7 : (i 0).val < 7 := (i 0).isLt
  rw [(hS.codes h0).1 g r d, hI.old h0 (by omega) (i 1) r _ (Nat.le_refl _), hI.mult h0 (by omega) 0 (hK g) d (cK g d) rfl]
  unfold KVp HS
  rw [if_pos hr, clip_recip]

theorem p8_stepV (hI : Inv D (i 0).val (i 1).val z14 z15 z16)
    (hS : Step i x0 D.x1 D.x2 D.x3 D.x4 D.x5 y6 y7 y9 y11 z14 z15 z16 X6 X7 X8 X9 X10 X11 Z14 Z15 Z16) :
    P8 D cV hV (i 0).val (i 1).val X10 := by
  intro h0 g r d hr
  have h7 : (i 0).val < 7 := (i 0).isLt
  rw [(hS.codes h0).2 g r d, hI.old h0 (by omega) (i 1) r _ (Nat.le_refl _), hI.mult h0 (by omega) 0 (hV g) d (cV g d) (by show 512 + (128 * g.val + d.val) = 128 * (4 + g.val) + d.val; omega)]
  unfold KVp HS
  rw [if_pos hr, clip_recip]

theorem p9_of {h : Fin 4 → Fin 8} {y X : Vec Ideal S8x128 .f32} (hH : HeadsOf i Z15 h y X) (hm : Max D (i 0).val 17 Z15) (hP : P9 D h (i 0).val y) :
    P9 D h ((i 0).val + 1) X := by
  intro I g h6 hI
  by_cases e : I.val = (i 0).val
  · rw [hH.1 I g e, hs_of D _ Z15 hm, e]
  · rw [hH.2 I (lane g) e]
    exact hP I g h6 (by omega)

theorem p9_step (hI : Inv D (i 0).val (i 1).val z14 z15 z16) (hB : (i 0).val < 6 → Blk D (i 0).val (i 1).val x0)
    (hS : Step i x0 D.x1 D.x2 D.x3 D.x4 D.x5 y6 y7 y9 y11 z14 z15 z16 X6 X7 X8 X9 X10 X11 Z14 Z15 Z16)
    (hP : P9 D hK (i 0).val y9) (hQ : P9 D hV (i 0).val y11) :
    P9 D hK (if (i 1).val = 16 then (i 0).val + 1 else (i 0).val) X9 ∧ P9 D hV (if (i 1).val = 16 then (i 0).val + 1 else (i 0).val) X11 := by
  have h7 : (i 0).val < 7 := (i 0).isLt
  have h17 : (i 1).val < 17 := (i 1).isLt
  by_cases hj : (i 1).val = 16
  · rw [if_pos hj]
    by_cases h6 : (i 0).val < 6
    · have hm := max_step hI hB hS h6
      rw [hj] at hm
      exact ⟨p9_of (hS.fix h6 hj).1 hm hP, p9_of (hS.fix h6 hj).2.1 hm hQ⟩
    · have hh := hS.hold (Or.inl (by omega))
      rw [hh.1, hh.2.1]
      exact ⟨fun I g a b => hP I g a (by omega), fun I g a b => hQ I g a (by omega)⟩
  · rw [if_neg hj]
    have hh := hS.hold (Or.inr (by omega))
    rw [hh.1, hh.2.1]
    exact ⟨hP, hQ⟩

end Cert.KernelVisIdeal.Hand

end
-- ==== Proof.VisTrack.lean ====
/-
  The K/V build over the reals as the pipeline runs it: what every buffer holds at every point of the grid (hand-written, untrusted).
-/
module

public import proofs.«01_k».proof.Proof.VisStep
public import proofs.«01_k».proof.Proof.VisInv
public import proofs.«01_k».proof.Proof.Gen.KernelVisIdeal.Points
public import Idealize.ShloMosaic.Lib.Pipeline.Frame
public import Idealize.ShloMosaic.Lib.Pipeline.ArrRel
public import Idealize.ShloMosaic.Lib.Pipeline.ValueKit.Geometry
public import Idealize.ShloMosaic.Lib.Claim

@[expose] public section

set_option maxRecDepth 16384

noncomputable section

namespace Cert.KernelVisIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelVisIdeal Cert.KernelVisIdeal.Gen

open Cert.Rows Cert.VisRow

local notation "𝕄" => MT nD τ sig Unit (Elt Ideal) ℕ (UR sig nD τ) ℕ

variable (m : (ℓ : Loc nD τ sig) → Buf (Elt Ideal) ℓ) (ρ : Dev nD → PrngReg)

/-- The arguments as the row mathematics reads them. -/
def data (c : Dev nD) : Data where
  X i n a := if h : i < 6 ∧ n < 6404 then V m c main_arg0 (ix3 ⟨i, h.1⟩ ⟨n, h.2⟩ a) else 0
  x1 := V m c main_arg1
  x2 := V m c main_arg2
  x3 := V m c main_v0
  x4 := V m c main_v1
  x5 := V m c main_v2

theorem lt119 (t : Fin cfg0.N) : t.val < 119 := lt_of_lt_of_eq t.isLt N_0
theorem co0 (t : Fin cfg0.N) : (grid0.coords t 0).val = t.val / 17 := by
  have h := lt119 t
  have e : (grid0.coords t 0).val = t.val / 17 % 7 := Pipeline.Grid.coords_val t 0 (by decide) rfl
  omega
theorem co1 (t : Fin cfg0.N) : (grid0.coords t 1).val = t.val % 17 := by
  have e : (grid0.coords t 1).val = t.val / 1 % 17 := Pipeline.Grid.coords_val t 1 (by decide) rfl
  omega

/-- The block of tokens a point is at: past the last image it stays at the last one. -/
def ib (t : ℕ) : ℕ := min (t / 17) 5
def jb (t : ℕ) : ℕ := if t / 17 < 6 then t % 17 else 16

theorem idx0 : ∀ t : Fin cfg0.N, win0_0.index t 0 = ib t.val ∧ win0_0.index t 1 = jb t.val ∧ win0_0.index t 2 = 0 :=
  (by decide +kernel : ∀ t : Fin grid0.N, win0_0.index t 0 = ib t.val ∧ win0_0.index t 1 = jb t.val ∧ win0_0.index t 2 = 0)
theorem idx6 : ∀ t : Fin cfg0.N, win0_6.index t 0 = ib t.val ∧ win0_6.index t 1 = jb t.val ∧ win0_6.index t 2 = 0 :=
  (by decide +kernel : ∀ t : Fin grid0.N, win0_6.index t 0 = ib t.val ∧ win0_6.index t 1 = jb t.val ∧ win0_6.index t 2 = 0)
theorem idx8 : ∀ t : Fin cfg0.N, win0_8.index t 0 = t.val / 17 - 1 ∧ win0_8.index t 1 = 0 ∧ win0_8.index t 2 = (if t.val < 17 then 0 else t.val % 17) ∧ win0_8.index t 3 = 0 :=
  (by decide +kernel : ∀ t : Fin grid0.N, win0_8.index t 0 = t.val / 17 - 1 ∧ win0_8.index t 1 = 0 ∧ win0_8.index t 2 = (if t.val < 17 then 0 else t.val % 17) ∧ win0_8.index t 3 = 0)
theorem idx10 : ∀ t : Fin cfg0.N, win0_10.index t 0 = t.val / 17 - 1 ∧ win0_10.index t 1 = 0 ∧ win0_10.index t 2 = (if t.val < 17 then 0 else t.val % 17) ∧ win0_10.index t 3 = 0 :=
  (by decide +kernel : ∀ t : Fin grid0.N, win0_10.index t 0 = t.val / 17 - 1 ∧ win0_10.index t 1 = 0 ∧ win0_10.index t 2 = (if t.val < 17 then 0 else t.val % 17) ∧ win0_10.index t 3 = 0)
theorem nofetch0 : ∀ t : Fin cfg0.N, (cfg0.win 0).fetch t = false → 102 ≤ t.val :=
  (by decide +kernel : ∀ t : Fin grid0.N, win0_0.fetch t = false → 102 ≤ t.val)
theorem noflush6 : ∀ t : Fin cfg0.N, 101 ≤ t.val → t.val < 118 → (cfg0.win 6).flush t = false :=
  (by decide +kernel : ∀ t : Fin grid0.N, 101 ≤ t.val → t.val < 118 → win0_6.flush t = false)
theorem flush8 : ∀ t : Fin cfg0.N, (cfg0.win 8).flush t = true → 17 ≤ t.val :=
  (by decide +kernel : ∀ t : Fin grid0.N, win0_8.flush t = true → 17 ≤ t.val)
theorem flush10 : ∀ t : Fin cfg0.N, (cfg0.win 10).flush t = true → 17 ≤ t.val :=
  (by decide +kernel : ∀ t : Fin grid0.N, win0_10.flush t = true → 17 ≤ t.val)

abbrev scM0_0 : Memref sig .tc .vmem S17x384x1024 .f32 := Memref.whole cc0_scratch0
abbrev scM0_1 : Memref sig .tc .vmem S8x1024 .f32 := Memref.whole cc0_scratch1
abbrev scM0_2 : Memref sig .tc .vmem S8x1024 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before point `n`: the scratch buffers as `Inv` says, the generator register at some state. -/
def PhiT (c : Dev nD) (n : ℕ) : sProp 𝕄 :=
  iprop((∃ z14, ∃ z15, ∃ z16, ⌜Inv (data m c) (n / 17) (n % 17) z14 z15 z16⌝ ∗ owns (c : Thread nD τ) scM0_0 fullShare z14
    ∗ owns (c : Thread nD τ) scM0_1 fullShare z15 ∗ owns (c : Thread nD τ) scM0_2 fullShare z16) ∗ (∃ r, prngReg c r))

/-- The number of images whose heads' scales are fixed once a point is done. -/
def fixed (t : ℕ) : ℕ := if t % 17 = 16 then t / 17 + 1 else t / 17

/-- The proof data: what each buffer holds after each point. -/
def rdat (c : Dev nD) : RDat τ (Elt Ideal) Unit ℕ (UR sig nD τ) ℕ cfg0 c where
  A w := V m c (Pipeline.arrRef spec0 w)
  after w t := match w with
    | ⟨0, _⟩ => fun _ X => Blk (data m c) (ib t.val) (jb t.val) X
    | ⟨1, _⟩ => fun _ X => X = (data m c).x1
    | ⟨2, _⟩ => fun _ X => X = (data m c).x2
    | ⟨3, _⟩ => fun _ X => X = (data m c).x3
    | ⟨4, _⟩ => fun _ X => X = (data m c).x4
    | ⟨5, _⟩ => fun _ X => X = (data m c).x5
    | ⟨6, _⟩ => fun _ X => P6 (data m c) (ib t.val) (jb t.val) X
    | ⟨7, _⟩ => fun _ X => P7 (data m c) (t.val / 17) (384 * (t.val % 17 + 1)) X
    | ⟨8, _⟩ => fun _ X => P8 (data m c) cK hK (t.val / 17) (t.val % 17) X
    | ⟨9, _⟩ => fun _ X => P9 (data m c) hK (fixed t.val) X
    | ⟨10, _⟩ => fun _ X => P8 (data m c) cV hV (t.val / 17) (t.val % 17) X
    | ⟨11, _⟩ => fun _ X => P9 (data m c) hV (fixed t.val) X
  Φ t := PhiT m c t.val
  q _ := fullShare
  owed _ := 0

theorem A_eq (c : Dev nD) (w : Fin cfg0.W) : (rdat m c).A w = V m c (Pipeline.arrRef spec0 w) := by dsimp only [rdat]

theorem leaves (c : Dev nD) {w : Fin cfg0.W} {t : Fin cfg0.N} {X : (cfg0.win w).block.Idx → Elt Ideal (cfg0.win w).elt}
    (h : (rdat m c).Leaves w t X) : ∃ Y, (rdat m c).after w t Y X := ⟨h.choose, h.choose_spec.2⟩

theorem sz0 : ∀ (t : Fin cfg0.N), 0 < (cfg0.win 0).xsize (cfg0.grid.coords t) 0 :=
  (by decide +kernel : ∀ t : Fin grid0.N, 0 < win0_0.xsize (grid0.coords t) 0)
theorem sz1 : ∀ (t : Fin cfg0.N), (cfg0.win 0).xsize (cfg0.grid.coords t) 1 = min 384 (6404 - 384 * jb t.val) :=
  (by decide +kernel : ∀ t : Fin grid0.N, win0_0.xsize (grid0.coords t) 1 = min 384 (6404 - 384 * jb t.val))
theorem sz2 : ∀ (t : Fin cfg0.N), (cfg0.win 0).xsize (cfg0.grid.coords t) 2 = 4096 :=
  (by decide +kernel : ∀ t : Fin grid0.N, win0_0.xsize (grid0.coords t) 2 = 4096)

theorem finds0 (c : Dev nD) (t : Fin cfg0.N) (Y : Vec Ideal S1x384x4096 .bf16) (h : (rdat m c).Finds 0 t Y) : Blk (data m c) (ib t.val) (jb t.val) Y := by
  have ht := lt119 t
  by_cases hf : (cfg0.win 0).fetch t = true
  · obtain ⟨d, rfl⟩ := ((rdat m c).finds_of_fetch hf Y).mp h
    intro r a hr
    have hi : ib t.val < 6 := by unfold ib; omega
    have hmv : (cfg0.win 0).moved (cfg0.grid.coords t) (ix3 0 r a) = true := by
      refine ((cfg0.win 0).moved_iff _ _).mpr fun x => ?_
      match x with
      | ⟨0, _⟩ => exact sz0 t
      | ⟨1, _⟩ => exact lt_of_lt_of_eq (show r.val < min 384 (6404 - 384 * jb t.val) by omega) (sz1 t).symm
      | ⟨2, _⟩ => exact lt_of_lt_of_eq a.isLt (sz2 t).symm
    unfold RDat.fetched Pipeline.Window.fill
    rw [dif_pos hmv]
    show V m c main_arg0 (((cfg0.win 0).blk t).view.emb _) = (data m c).X _ _ a
    unfold data
    dsimp only
    rw [dif_pos ⟨hi, hr⟩]
    congr 1
    funext x
    apply Fin.ext
    match x with
    | ⟨0, _⟩ => show win0_0.index t 0 * 1 + 1 * 0 = ib t.val; rw [(idx0 t).1]; omega
    | ⟨1, _⟩ => show win0_0.index t 1 * 384 + 1 * r.val = 384 * jb t.val + r.val; rw [(idx0 t).2.1]; omega
    | ⟨2, _⟩ => show win0_0.index t 2 * 4096 + 1 * a.val = a.val; rw [(idx0 t).2.2]; omega
  · have hf' : (cfg0.win 0).fetch t = false := by simpa using hf
    have h102 := nofetch0 t hf'
    rcases ((rdat m c).finds_of_pos hf' (by omega) Y).mp h with h' | h'
    · exact absurd h' (by unfold Pipeline.Window.flush; exact Bool.false_ne_true)
    · obtain ⟨_, q⟩ := leaves m c h'
      have q' : Blk (data m c) (ib (t.val - 1)) (jb (t.val - 1)) Y := q
      have e1 : ib (t.val - 1) = ib t.val := by unfold ib; omega
      have e2 : jb (t.val - 1) = jb t.val := by unfold jb; split <;> split <;> omega
      rw [e1, e2] at q'
      exact q'

theorem idx1 : ∀ t : Fin cfg0.N, win0_1.index t 0 = 0 ∧ win0_1.index t 1 = 0 :=
  (by decide +kernel : ∀ t : Fin grid0.N, win0_1.index t 0 = 0 ∧ win0_1.index t 1 = 0)
theorem finds1 (c : Dev nD) (t : Fin cfg0.N) (Y : Vec Ideal S4096x512 .fp8e4m3) (h : (rdat m c).Finds 1 t Y) : Y = (data m c).x1 := by
  have ht := lt119 t
  by_cases hf : (cfg0.win 1).fetch t = true
  · obtain ⟨d, rfl⟩ := ((rdat m c).finds_of_fetch hf Y).mp h
    funext j
    show V m c main_arg1 (((cfg0.win 1).blk t).view.emb j) = V m c main_arg1 j
    congr 1
    funext x
    apply Fin.ext
    match x with
    | ⟨0, _⟩ => show win0_1.index t 0 * 4096 + 1 * (j 0).val = (j 0).val; rw [(idx1 t).1]; omega
    | ⟨1, _⟩ => show win0_1.index t 1 * 512 + 1 * (j 1).val = (j 1).val; rw [(idx1 t).2]; omega
  · have hf' : (cfg0.win 1).fetch t = false := by simpa using hf
    have hz : t.val ≠ 0 := fun q => hf ((fetch0_1 t).mpr (by rw [q]))
    rcases ((rdat m c).finds_of_pos hf' hz Y).mp h with h' | h'
    · exact absurd h' (by unfold Pipeline.Window.flush; exact Bool.false_ne_true)
    · obtain ⟨_, q⟩ := leaves m c h'
      exact q

theorem idx2 : ∀ t : Fin cfg0.N, win0_2.index t 0 = 0 ∧ win0_2.index t 1 = 0 :=
  (by decide +kernel : ∀ t : Fin grid0.N, win0_2.index t 0 = 0 ∧ win0_2.index t 1 = 0)
theorem finds2 (c : Dev nD) (t : Fin cfg0.N) (Y : Vec Ideal S4096x512 .fp8e4m3) (h : (rdat m c).Finds 2 t Y) : Y = (data m c).x2 := by
  have ht := lt119 t
  by_cases hf : (cfg0.win 2).fetch t = true
  · obtain ⟨d, rfl⟩ := ((rdat m c).finds_of_fetch hf Y).mp h
    funext j
    show V m c main_arg2 (((cfg0.win 2).blk t).view.emb j) = V m c main_arg2 j
    congr 1
    funext x
    apply Fin.ext
    match x with
    | ⟨0, _⟩ => show win0_2.index t 0 * 4096 + 1 * (j 0).val = (j 0).val; rw [(idx2 t).1]; omega
    | ⟨1, _⟩ => show win0_2.index t 1 * 512 + 1 * (j 1).val = (j 1).val; rw [(idx2 t).2]; omega
  · have hf' : (cfg0.win 2).fetch t = false := by simpa using hf
    have hz : t.val ≠ 0 := fun q => hf ((fetch0_2 t).mpr (by rw [q]))
    rcases ((rdat m c).finds_of_pos hf' hz Y).mp h with h' | h'
    · exact absurd h' (by unfold Pipeline.Window.flush; exact Bool.false_ne_true)
    · obtain ⟨_, q⟩ := leaves m c h'
      exact q

theorem idx3 : ∀ t : Fin cfg0.N, win0_3.index t 0 = 0 ∧ win0_3.index t 1 = 0 :=
  (by decide +kernel : ∀ t : Fin grid0.N, win0_3.index t 0 = 0 ∧ win0_3.index t 1 = 0)
theorem finds3 (c : Dev nD) (t : Fin cfg0.N) (Y : Vec Ideal S1x512 .f32) (h : (rdat m c).Finds 3 t Y) : Y = (data m c).x3 := by
  have ht := lt119 t
  by_cases hf : (cfg0.win 3).fetch t = true
  · obtain ⟨d, rfl⟩ := ((rdat m c).finds_of_fetch hf Y).mp h
    funext j
    show V m c main_v0 (((cfg0.win 3).blk t).view.emb j) = V m c main_v0 j
    congr 1
    funext x
    apply Fin.ext
    match x with
    | ⟨0, _⟩ => show win0_3.index t 0 * 1 + 1 * (j 0).val = (j 0).val; rw [(idx3 t).1]; omega
    | ⟨1, _⟩ => show win0_3.index t 1 * 512 + 1 * (j 1).val = (j 1).val; rw [(idx3 t).2]; omega
  · have hf' : (cfg0.win 3).fetch t = false := by simpa using hf
    have hz : t.val ≠ 0 := fun q => hf ((fetch0_3 t).mpr (by rw [q]))
    rcases ((rdat m c).finds_of_pos hf' hz Y).mp h with h' | h'
    · exact absurd h' (by unfold Pipeline.Window.flush; exact Bool.false_ne_true)
    · obtain ⟨_, q⟩ := leaves m c h'
      exact q

theorem idx4 : ∀ t : Fin cfg0.N, win0_4.index t 0 = 0 ∧ win0_4.index t 1 = 0 :=
  (by decide +kernel : ∀ t : Fin grid0.N, win0_4.index t 0 = 0 ∧ win0_4.index t 1 = 0)
theorem finds4 (c : Dev nD) (t : Fin cfg0.N) (Y : Vec Ideal S1x512 .f32) (h : (rdat m c).Finds 4 t Y) : Y = (data m c).x4 := by
  have ht := lt119 t
  by_cases hf : (cfg0.win 4).fetch t = true
  · obtain ⟨d, rfl⟩ := ((rdat m c).finds_of_fetch hf Y).mp h
    funext j
    show V m c main_v1 (((cfg0.win 4).blk t).view.emb j) = V m c main_v1 j
    congr 1
    funext x
    apply Fin.ext
    match x with
    | ⟨0, _⟩ => show win0_4.index t 0 * 1 + 1 * (j 0).val = (j 0).val; rw [(idx4 t).1]; omega
    | ⟨1, _⟩ => show win0_4.index t 1 * 512 + 1 * (j 1).val = (j 1).val; rw [(idx4 t).2]; omega
  · have hf' : (cfg0.win 4).fetch t = false := by simpa using hf
    have hz : t.val ≠ 0 := fun q => hf ((fetch0_4 t).mpr (by rw [q]))
    rcases ((rdat m c).finds_of_pos hf' hz Y).mp h with h' | h'
    · exact absurd h' (by unfold Pipeline.Window.flush; exact Bool.false_ne_true)
    · obtain ⟨_, q⟩ := leaves m c h'
      exact q

theorem idx5 : ∀ t : Fin cfg0.N, win0_5.index t 0 = 0 ∧ win0_5.index t 1 = 0 :=
  (by decide +kernel : ∀ t : Fin grid0.N, win0_5.index t 0 = 0 ∧ win0_5.index t 1 = 0)
theorem finds5 (c : Dev nD) (t : Fin cfg0.N) (Y : Vec Ideal S1x128 .f32) (h : (rdat m c).Finds 5 t Y) : Y = (data m c).x5 := by
  have ht := lt119 t
  by_cases hf : (cfg0.win 5).fetch t = true
  · obtain ⟨d, rfl⟩ := ((rdat m c).finds_of_fetch hf Y).mp h
    funext j
    show V m c main_v2 (((cfg0.win 5).blk t).view.emb j) = V m c main_v2 j
    congr 1
    funext x
    apply Fin.ext
    match x with
    | ⟨0, _⟩ => show win0_5.index t 0 * 1 + 1 * (j 0).val = (j 0).val; rw [(idx5 t).1]; omega
    | ⟨1, _⟩ => show win0_5.index t 1 * 128 + 1 * (j 1).val = (j 1).val; rw [(idx5 t).2]; omega
  · have hf' : (cfg0.win 5).fetch t = false := by simpa using hf
    have hz : t.val ≠ 0 := fun q => hf ((fetch0_5 t).mpr (by rw [q]))
    rcases ((rdat m c).finds_of_pos hf' hz Y).mp h with h' | h'
    · exact absurd h' (by unfold Pipeline.Window.flush; exact Bool.false_ne_true)
    · obtain ⟨_, q⟩ := leaves m c h'
      exact q

theorem finds6 (c : Dev nD) (t : Fin cfg0.N) (Y : Vec Ideal S1x384x4096 .fp8e4m3) (h : (rdat m c).Finds 6 t Y) (h102 : 102 ≤ t.val) :
    P6 (data m c) (ib t.val) (jb t.val) Y := by
  have ht := lt119 t
  rcases ((rdat m c).finds_of_pos (w := 6) rfl (by omega) Y).mp h with h' | h'
  · rw [noflush6 _ (by show 101 ≤ t.val - 1; omega) (by show t.val - 1 < 118; omega)] at h'
    exact absurd h' Bool.false_ne_true
  · obtain ⟨_, q⟩ := leaves m c h'
    have q' : P6 (data m c) (ib (t.val - 1)) (jb (t.val - 1)) Y := q
    have e1 : ib (t.val - 1) = ib t.val := by unfold ib; omega
    have e2 : jb (t.val - 1) = jb t.val := by unfold jb; split <;> split <;> omega
    rw [e1, e2] at q'
    exact q'

theorem finds7 (c : Dev nD) (t : Fin cfg0.N) (Y : Vec Ideal S6x6404 .f32) (h : (rdat m c).Finds 7 t Y) :
    P7 (data m c) (t.val / 17) (384 * (t.val % 17)) Y := by
  have ht := lt119 t
  by_cases hz : t.val = 0
  · intro I R hh; rw [hz] at hh; omega
  · rcases ((rdat m c).finds_of_pos (w := 7) rfl hz Y).mp h with h' | h'
    · have := (flush0_7 _).mp h'
      exact absurd this (by show ¬ (t.val - 1) % 119 = 118; omega)
    · obtain ⟨_, q⟩ := leaves m c h'
      have q' : P7 (data m c) ((t.val - 1) / 17) (384 * ((t.val - 1) % 17 + 1)) Y := q
      intro I R hh
      have := R.isLt
      exact q' I R (by omega)

theorem finds9 (c : Dev nD) (t : Fin cfg0.N) (Y : Vec Ideal S8x128 .f32) (h : (rdat m c).Finds 9 t Y) :
    P9 (data m c) hK (t.val / 17) Y := by
  have ht := lt119 t
  by_cases hz : t.val = 0
  · intro I g _ hh; rw [hz] at hh; omega
  · rcases ((rdat m c).finds_of_pos (w := 9) rfl hz Y).mp h with h' | h'
    · have := (flush0_9 _).mp h'
      exact absurd this (by show ¬ (t.val - 1) % 119 = 118; omega)
    · obtain ⟨_, q⟩ := leaves m c h'
      have q' : P9 (data m c) hK (fixed (t.val - 1)) Y := q
      have e : fixed (t.val - 1) = t.val / 17 := by unfold fixed; split <;> omega
      rw [e] at q'
      exact q'

theorem finds11 (c : Dev nD) (t : Fin cfg0.N) (Y : Vec Ideal S8x128 .f32) (h : (rdat m c).Finds 11 t Y) :
    P9 (data m c) hV (t.val / 17) Y := by
  have ht := lt119 t
  by_cases hz : t.val = 0
  · intro I g _ hh; rw [hz] at hh; omega
  · rcases ((rdat m c).finds_of_pos (w := 11) rfl hz Y).mp h with h' | h'
    · have := (flush0_11 _).mp h'
      exact absurd this (by show ¬ (t.val - 1) % 119 = 118; omega)
    · obtain ⟨_, q⟩ := leaves m c h'
      have q' : P9 (data m c) hV (fixed (t.val - 1)) Y := q
      have e : fixed (t.val - 1) = t.val / 17 := by unfold fixed; split <;> omega
      rw [e] at q'
      exact q'

theorem inv_succ (c : Dev nD) (t : Fin cfg0.N) {x0 : Vec Ideal S1x384x4096 .bf16} {y6 : Vec Ideal S1x384x4096 .fp8e4m3} {y7 : Vec Ideal S6x6404 .f32} {y9 y11 : Vec Ideal S8x128 .f32}
    {z14 : Vec Ideal S17x384x1024 .f32} {z15 z16 : Vec Ideal S8x1024 .f32}
    {X6 : Vec Ideal S1x384x4096 .fp8e4m3} {X7 : Vec Ideal S6x6404 .f32} {X8 : Vec Ideal S1x4x384x128 .fp8e4m3} {X9 : Vec Ideal S8x128 .f32}
    {X10 : Vec Ideal S1x4x384x128 .fp8e4m3} {X11 : Vec Ideal S8x128 .f32} {Z14 : Vec Ideal S17x384x1024 .f32} {Z15 Z16 : Vec Ideal S8x1024 .f32}
    (hI : Inv (data m c) (t.val / 17) (t.val % 17) z14 z15 z16) (hB : Blk (data m c) (ib t.val) (jb t.val) x0)
    (f6 : 102 ≤ t.val → P6 (data m c) (ib t.val) (jb t.val) y6) (f7 : P7 (data m c) (t.val / 17) (384 * (t.val % 17)) y7)
    (f9 : P9 (data m c) hK (t.val / 17) y9) (f11 : P9 (data m c) hV (t.val / 17) y11)
    (hS : Step (grid0.coords t) x0 (data m c).x1 (data m c).x2 (data m c).x3 (data m c).x4 (data m c).x5 y6 y7 y9 y11 z14 z15 z16 X6 X7 X8 X9 X10 X11 Z14 Z15 Z16) :
    Inv (data m c) ((t.val + 1) / 17) ((t.val + 1) % 17) Z14 Z15 Z16 ∧ P6 (data m c) (ib t.val) (jb t.val) X6
      ∧ P7 (data m c) (t.val / 17) (384 * (t.val % 17 + 1)) X7 ∧ P8 (data m c) cK hK (t.val / 17) (t.val % 17) X8
      ∧ P9 (data m c) hK (fixed t.val) X9 ∧ P8 (data m c) cV hV (t.val / 17) (t.val % 17) X10 ∧ P9 (data m c) hV (fixed t.val) X11 := by
  have ht := lt119 t
  have e0 := co0 t
  have e1 := co1 t
  have hB' : (grid0.coords t 0).val < 6 → Blk (data m c) (grid0.coords t 0).val (grid0.coords t 1).val x0 := fun h => by
    rw [e0] at h
    have a : ib t.val = t.val / 17 := by unfold ib; omega
    have b : jb t.val = t.val % 17 := by unfold jb; rw [if_pos h]
    rw [e0, e1, ← a, ← b]; exact hB
  rw [← e0, ← e1] at hI
  refine ⟨?_, ?_, ?_, ?_, ?_⟩
  · by_cases hj : t.val % 17 = 16
    · have r := inv_wrap hI hB' hS (by rw [e1]; exact hj)
      rw [e0] at r
      rw [show (t.val + 1) / 17 = t.val / 17 + 1 by omega, show (t.val + 1) % 17 = 0 by omega]
      exact r
    · have r := inv_next hI hB' hS (by rw [e1]; omega)
      rw [e0, e1] at r
      rw [show (t.val + 1) / 17 = t.val / 17 by omega, show (t.val + 1) % 17 = t.val % 17 + 1 by omega]
      exact r
  · by_cases h6 : t.val / 17 < 6
    · have r := p6_step hB' hS (by rw [e0]; exact h6)
      rw [e0, e1] at r
      have a : ib t.val = t.val / 17 := by unfold ib; omega
      have b : jb t.val = t.val % 17 := by unfold jb; rw [if_pos h6]
      rw [a, b]; exact r
    · rw [(hS.keep (by rw [e0]; omega)).1]
      exact f6 (by omega)
  · have r := p7_step hB' (by rw [e0, e1]; exact f7) hS
    rw [e0, e1] at r
    exact r
  · have r := p8_stepK hI hS
    rw [e0, e1] at r
    exact r
  · have r := p9_step hI hB' hS (by rw [e0]; exact f9) (by rw [e0]; exact f11)
    rw [e0, e1] at r
    have v := p8_stepV hI hS
    rw [e0, e1] at v
    exact ⟨r.1, v, r.2⟩

theorem defs₀_row (t : Fin cfg0.N) : defs₀ (F := Ideal) .tc cfg0.body (cfg0.bodyArgs t (cfg0.slots t)) = bodyAt0 t := by
  unfold defs₀; rw [Defs.onTc_tc]

set_option maxHeartbeats 2400000 in
theorem body_obligation (c : Dev nD) : (rdat m c).BodyObligation (defs₀ (F := Ideal)) Variants.none () Set.univ := by
  intro t Y hY
  have f0 := finds0 m c t (Y 0) (hY 0)
  have f6 := finds6 m c t (Y 6) (hY 6)
  have f7 := finds7 m c t (Y 7) (hY 7)
  have f9 := finds9 m c t (Y 9) (hY 9)
  have f11 := finds11 m c t (Y 11) (hY 11)
  have f1 := finds1 m c t (Y 1) (hY 1)
  have f2 := finds2 m c t (Y 2) (hY 2)
  have f3 := finds3 m c t (Y 3) (hY 3)
  have f4 := finds4 m c t (Y 4) (hY 4)
  have f5 := finds5 m c t (Y 5) (hY 5)
  rw [bigSep_W0, bigSep_W0, defs₀_row]
  rw [show (rdat m c).Φ t.succ = PhiT m c (t.val + 1) from rfl, show (rdat m c).Φ t.castSucc = PhiT m c t.val from rfl]
  unfold PhiT RDat.owesAt Pipeline.owesWithin
  rw [show (rdat m c).owed t.castSucc = 0 from rfl, show (rdat m c).owed t.succ = 0 from rfl]
  iintro ⟨⟨⟨%z14, %z15, %z16, %hI, HS0, HS1, HS2⟩, Hg⟩, ⟨%W, %hW, HO⟩, H0, H1, H2, H3, H4, H5, H6, H7, H8, H9, H10, H11⟩
  iapply (step c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) scM0_0 (Memref.isWhole_whole _) scM0_1 (Memref.isWhole_whole _) scM0_2 (Memref.isWhole_whole _) (Y 0) (Y 1) (Y 2) (Y 3) (Y 4) (Y 5) (Y 6) (Y 7) (Y 8) (Y 9) (Y 10) (Y 11) z14 z15 z16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, ⟨%X6, %X7, %X8, %X9, %X10, %X11, %Z14, %Z15, %Z16, H6, H7, H8, H9, H10, H11, HS0, HS1, HS2, %hS⟩⟩
  rw [f1, f2, f3, f4, f5] at hS
  obtain ⟨r14, r6, r7, r8, r9, r10, r11⟩ := inv_succ m c t hI f0 f6 f7 f9 f11 hS
  isplitl [HS0 HS1 HS2 Hg]
  · isplitl [HS0 HS1 HS2]
    · iexists Z14, Z15, Z16
      isplitr; · ipureintro; exact r14
      isplitl [HS0]; · iexact HS0
      isplitl [HS1]; · iexact HS1
      iexact HS2
    iexact Hg
  isplitl [HO]
  · iexists W; isplitr; · ipureintro; exact fun _ _ => Or.inl trivial
    iexact HO
  isplitl [H0]
  · iexists (Y 0); isplitr; · ipureintro; exact f0
    iexact H0
  isplitl [H1]
  · iexists (Y 1); isplitr; · ipureintro; exact f1
    iexact H1
  isplitl [H2]
  · iexists (Y 2); isplitr; · ipureintro; exact f2
    iexact H2
  isplitl [H3]
  · iexists (Y 3); isplitr; · ipureintro; exact f3
    iexact H3
  isplitl [H4]
  · iexists (Y 4); isplitr; · ipureintro; exact f4
    iexact H4
  isplitl [H5]
  · iexists (Y 5); isplitr; · ipureintro; exact f5
    iexact H5
  isplitl [H6]
  · iexists X6; isplitr; · ipureintro; exact r6
    iexact H6
  isplitl [H7]
  · iexists X7; isplitr; · ipureintro; exact r7
    iexact H7
  isplitl [H8]
  · iexists X8; isplitr; · ipureintro; exact r8
    iexact H8
  isplitl [H9]
  · iexists X9; isplitr; · ipureintro; exact r9
    iexact H9
  isplitl [H10]
  · iexists X10; isplitr; · ipureintro; exact r10
    iexact H10
  iexists X11; isplitr; · ipureintro; exact r11
  iexact H11

theorem phi_in (c : Dev nD) : (Pipeline.ΦA spec0 c : sProp 𝕄) ⊢ PhiT m c 0 := by
  rw [PhiA0_eq]
  unfold PhiT
  iintro ⟨⟨⟨%a, H0⟩, ⟨%b, H1⟩, ⟨%d, H2⟩⟩, Hg⟩
  isplitl [H0 H1 H2]
  · iexists a, b, d
    isplitr; · ipureintro; exact ⟨fun _ J r k h => absurd h (by omega), fun h => absurd h (by omega), fun _ h => absurd h (by omega), fun h => absurd h (by omega)⟩
    isplitl [H0]; · iexact H0
    isplitl [H1]; · iexact H1
    iexact H2
  iexact Hg

theorem phi_out (c : Dev nD) (n : ℕ) : PhiT m c n ⊢ (Pipeline.ΦA spec0 c : sProp 𝕄) := by
  rw [PhiA0_eq]
  unfold PhiT
  iintro ⟨⟨%a, %b, %d, -, H0, H1, H2⟩, Hg⟩
  isplitl [H0 H1 H2]
  · isplitl [H0]; · iexists a; iexact H0
    isplitl [H1]; · iexists b; iexact H1
    iexists d; iexact H2
  iexact Hg

set_option backward.isDefEq.respectTransparency.types false in
/-- Every execution of the program ends with every window's array as the proof data allow, every other buffer untouched and
    every semaphore at zero. -/
theorem run_main : θ_run defs (onTc (τ := τ) (main (F := Ideal))) (s₀ m ρ)
    (fun r => Pipeline.RDat.FramePost (cfgs 0) (rdat m) (V m) r ∧ r.2.sem = fun _ => 0) :=
  Pipeline.RDat.θ_run_frame_track (Q' := _) cfgs 0 launch0 defs₀ Variants.none (rdat m) m ρ main (hbody := body_obligation m)
    (hshare := fun c w => (rdat m c).share_full (fun _ => rfl) w) (howed := fun _ _ => rfl) (V := V m) (hmain := hmain m Variants.none) (hA := A_eq m)
    (hin := fun c => phi_in m c) (hout := fun c => phi_out m c _)

theorem args_of {r : PUnit × MemSt nD τ sig (Elt Ideal)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 0 rfl).trans (V_main_arg0 m c), (Pipeline.RDat.FramePost.arr_in h c 1 rfl).trans (V_main_arg1 m c),
    (Pipeline.RDat.FramePost.arr_in h c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: every execution ends with the arguments as they were and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => args_of m h.1 c, h.2⟩) (run_main m ρ)

end Cert.KernelVisIdeal.Hand

end
-- ==== Proof.VisRefA.lean ====
/-
  The K/V build's one-block reference, what its expressions compute, index by index (hand-written, untrusted).
-/
module

public import proofs.«01_k».proof.Proof.Gen.ReferenceVisIdeal.Skeleton
public import proofs.«01_k».proof.Proof.VisInv
public import Idealize.ShloMosaic.Lib.Pointwise

@[expose] public section

set_option maxRecDepth 16384

noncomputable section

open Idealize.ShloMosaic Idealize.ShloMosaic.TcCoe

namespace Cert.ReferenceVisIdeal.Hand

open Cert.ReferenceVisIdeal Cert.ReferenceVisIdeal.Gen Cert.Rows Cert.VisRow

/-- A head's lanes of all rows, normalised by their root mean square, times the gain. -/
def nrm (S : FVec Ideal S6x6404x128 .f32) (kn : Vec Ideal S1x128 .f32) : FVec Ideal S6x6404x128 .f32 :=
  mulf (divf S (broadcastTo S6x6404x128 (sqrt (addf (divf (shapeCast S6x6404x1
    (multiReduction .add [2] S6x6404 (mulf S S) 0x00000000#32 reduces_S6x6404x128_S6x6404 (.inl rfl) rfl) shapeCasts_S6x6404_S6x6404x1)
    (broadcast S6x6404x1 (Scalar.ofBits .f32 0x43000000#32))) (broadcast S6x6404x1 (Scalar.ofBits .f32 0x3727C5AC#32))))
    broadcasts_S6x6404x1_S6x6404x128))
    (broadcastTo S6x6404x128 (shapeCast S1x1x128 (shapeCast S1x128 kn shapeCasts_S1x128_S1x128) shapeCasts_S1x128_S1x1x128) broadcasts_S1x1x128_S6x6404x128)

/-- The largest magnitudes of an image's head. -/
def mxV (N : FVec Ideal S6x6404x128 .f32) : FVec Ideal S6x1x1 .f32 :=
  shapeCast S6x1x1 (multiReduction .maximumf [1, 2] S6 (absf N) 0xFF800000#32 reduces_S6x6404x128_S6 (.inl rfl) rfl) shapeCasts_S6_S6x1x1

/-- The head's scales. -/
def sclV (N : FVec Ideal S6x6404x128 .f32) : FVec Ideal S6x1x1 .f32 :=
  select (cmpf .oeq (mxV N) (broadcast S6x1x1 (Scalar.ofBits .f32 0x00000000#32))) (broadcast S6x1x1 (Scalar.ofBits .f32 0x3F800000#32))
    (divf (mxV N) (broadcast S6x1x1 (Scalar.ofBits .f32 0x43E00000#32)))

/-- The head's codes. -/
def codV (N : FVec Ideal S6x6404x128 .f32) : FVec Ideal S6x6404x128 .fp8e4m3 :=
  truncf .fp8e4m3 (minimumf (broadcast S6x6404x128 (Scalar.ofBits .f32 0x43E00000#32)) (maximumf (broadcast S6x6404x128 (Scalar.ofBits .f32 0xC3E00000#32))
    (divf N (broadcastTo S6x6404x128 (sclV N) broadcasts_S6x1x1_S6x6404x128)))) bitsLt_fp8e4m3_f32

/-- A head's codes and scales as they are stored. -/
def codS (N : FVec Ideal S6x6404x128 .f32) : FVec Ideal S6x1x6404x128 .fp8e4m3 := shapeCast S6x1x6404x128 (codV N) shapeCasts_S6x6404x128_S6x1x6404x128
def sclS (N : FVec Ideal S6x6404x128 .f32) : FVec Ideal S6x1 .f32 := shapeCast S6x1 (sclV N) shapeCasts_S6x1x1_S6x1

/-- The lanes of each head. -/
def sl0 (v : FVec Ideal S6x6404x512 .f32) : FVec Ideal S6x6404x128 .f32 := extractStridedSlice S6x6404x128 ![0, 0, 0] v slices_S6x6404x512_o0_0_0_S6x6404x128
def sl1 (v : FVec Ideal S6x6404x512 .f32) : FVec Ideal S6x6404x128 .f32 := extractStridedSlice S6x6404x128 ![0, 0, 128] v slices_S6x6404x512_o0_0_128_S6x6404x128
def sl2 (v : FVec Ideal S6x6404x512 .f32) : FVec Ideal S6x6404x128 .f32 := extractStridedSlice S6x6404x128 ![0, 0, 256] v slices_S6x6404x512_o0_0_256_S6x6404x128
def sl3 (v : FVec Ideal S6x6404x512 .f32) : FVec Ideal S6x6404x128 .f32 := extractStridedSlice S6x6404x128 ![0, 0, 384] v slices_S6x6404x512_o0_0_384_S6x6404x128

section same
variable (v : FVec Ideal S6x6404x512 .f32) (kn : Vec Ideal S1x128 .f32)

/-- Each stored expression is one of these. -/
theorem kc0 : k0_pay20 (k0_pay17 v kn) = codS (nrm (sl0 v) kn) := rfl
theorem kc1 : k0_pay34 (k0_pay30 (k0_pay24 v) (k0_pay25 kn) (k0_pay26 v) k0_pay27) = codS (nrm (sl1 v) kn) := rfl
theorem kc2 : k0_pay44 (k0_pay40 v kn) (Scalar.ofBits .f32 0x43E00000#32) k0_pay41 = codS (nrm (sl2 v) kn) := rfl
theorem kc3 : k0_pay1 (k0_pay53 (k0_pay48 v) (k0_pay49 kn) (k0_pay50 v)) = codS (nrm (sl3 v) kn) := rfl
theorem ks0 : k0_pay21 (k0_pay16 v kn) = sclS (nrm (sl0 v) kn) := rfl
theorem ks1 : k0_pay35 (k0_pay29 (k0_pay24 v) (k0_pay25 kn) (k0_pay26 v) k0_pay27) = sclS (nrm (sl1 v) kn) := rfl
theorem ks2 : k0_pay45 (k0_pay39 v kn) = sclS (nrm (sl2 v) kn) := rfl
theorem ks3 : k0_pay2 (k0_pay52 (k0_pay48 v) (k0_pay49 kn) (k0_pay50 v)) = sclS (nrm (sl3 v) kn) := rfl
theorem vc0 : k0_pay22 v = codS (sl0 v) := rfl
theorem vc1 : k0_pay36 (k0_pay33 v) = codS (sl1 v) := rfl
theorem vc2 : k0_pay46 v = codS (sl2 v) := rfl
theorem vc3 : k0_pay3 (k0_pay56 v) = codS (sl3 v) := rfl
theorem vs0 : k0_pay23 v = sclS (sl0 v) := rfl
theorem vs1 : k0_pay37 (k0_pay32 v) = sclS (sl1 v) := rfl
theorem vs2 : k0_pay47 v = sclS (sl2 v) := rfl
theorem vs3 : k0_pay4 (k0_pay55 v) = sclS (sl3 v) := rfl

end same

/-- The scale of a largest magnitude, as it is written. -/
theorem sel_at {s : Shape} (M : FVec Ideal s .f32) (i : s.Idx) :
    select (cmpf .oeq M (broadcast s (Scalar.ofBits .f32 0x00000000#32))) (broadcast s (Scalar.ofBits .f32 0x3F800000#32))
    (divf M (broadcast s (Scalar.ofBits .f32 0x43E00000#32))) i = scl (M i) := by
  pointwise
  rfl

/-- The code of a value over a scale, as it is written. -/
theorem clip_at {s : Shape} (N B : FVec Ideal s .f32) (h : FTy.bits .fp8e4m3 < FTy.bits .f32) (i : s.Idx) :
    truncf .fp8e4m3 (minimumf (broadcast s (Scalar.ofBits .f32 0x43E00000#32)) (maximumf (broadcast s (Scalar.ofBits .f32 0xC3E00000#32)) (divf N B))) h i
      = code (B i) (N i) := by
  pointwise
  rfl

/-- A fold of the maximum is at most a value when its start and every term are. -/
theorem fold_le {α : Type} [Fintype α] (b : EReal) (f : α → EReal) (y : EReal) : Finset.univ.fold max b f ≤ y ↔ b ≤ y ∧ ∀ x, f x ≤ y := by
  rw [Finset.fold_max_le]
  exact ⟨fun h => ⟨h.1, fun x => h.2 x (Finset.mem_univ x)⟩, fun h => ⟨h.1, fun x _ => h.2 x⟩⟩

section read
variable (i : Fin 6) (n : Fin 6404)

theorem sl0_at (v : FVec Ideal S6x6404x512 .f32) (d : Fin 128) : sl0 v (ix3 i n d) = v (ix3 i n (col 512 rfl (0 : Fin 4) d)) := by
  unfold sl0
  rw [show col 512 rfl (0 : Fin 4) d = ⟨0 + d.val, by omega⟩ from Fin.ext rfl]
  pointwise
theorem sl1_at (v : FVec Ideal S6x6404x512 .f32) (d : Fin 128) : sl1 v (ix3 i n d) = v (ix3 i n (col 512 rfl (1 : Fin 4) d)) := by
  unfold sl1
  rw [show col 512 rfl (1 : Fin 4) d = ⟨128 + d.val, by omega⟩ from Fin.ext rfl]
  pointwise
theorem sl2_at (v : FVec Ideal S6x6404x512 .f32) (d : Fin 128) : sl2 v (ix3 i n d) = v (ix3 i n (col 512 rfl (2 : Fin 4) d)) := by
  unfold sl2
  rw [show col 512 rfl (2 : Fin 4) d = ⟨256 + d.val, by omega⟩ from Fin.ext rfl]
  pointwise
theorem sl3_at (v : FVec Ideal S6x6404x512 .f32) (d : Fin 128) : sl3 v (ix3 i n d) = v (ix3 i n (col 512 rfl (3 : Fin 4) d)) := by
  unfold sl3
  rw [show col 512 rfl (3 : Fin 4) d = ⟨384 + d.val, by omega⟩ from Fin.ext rfl]
  pointwise

theorem nrm_at (S : FVec Ideal S6x6404x128 .f32) (kn : Vec Ideal S1x128 .f32) (d : Fin 128) :
    nrm S kn (ix3 i n d) = rms (Ideal.ofBits .f32 0x43000000#32) (fun e => S (ix3 i n e)) (fun e => kn (ix2 0 e)) d := by
  unfold nrm
  pointwise
  rfl

/-- The largest magnitude of an image's head is the largest over its lanes of the largest over its rows. -/
theorem mxV_at (N : FVec Ideal S6x6404x128 .f32) : mxV N (ix3 i 0 0) = amax fun e : Fin 128 => top fun n : Fin 6404 => mag (N (ix3 i n e)) := by
  refine eq_of_forall_ge_iff fun y => ?_
  have hR : (amax fun e : Fin 128 => top fun n : Fin 6404 => mag (N (ix3 i n e))) ≤ y ↔ ∀ (e : Fin 128) (n : Fin 6404), mag (N (ix3 i n e)) ≤ y := by
    show top (fun e : Fin 128 => mag (top fun n : Fin 6404 => mag (N (ix3 i n e)))) ≤ y ↔ _
    rw [top_le]
    refine forall_congr' fun e => ?_
    have h0 : (0 : EReal) ≤ top fun n : Fin 6404 => mag (N (ix3 i n e)) := by
      have h1 := (top_le (fun n : Fin 6404 => mag (N (ix3 i n e))) _).mp le_rfl ⟨0, by omega⟩
      refine le_trans ?_ h1
      refine le_trans ?_ (mag_zero_le _)
      show (0 : EReal) ≤ max 0 (-0)
      exact le_max_left _ _
    have e0 : mag (top fun n : Fin 6404 => mag (N (ix3 i n e))) = top fun n : Fin 6404 => mag (N (ix3 i n e)) := by
      show max _ (-_) = _
      exact max_eq_left ((EReal.neg_le_neg_iff.mpr h0).trans (by rw [neg_zero]; exact h0))
    rw [e0, top_le]
  rw [hR]
  unfold mxV
  pointwise
  refine (fold_le _ _ y).trans ?_
  constructor
  · intro h e n
    exact h.2 (n, e)
  · intro h
    refine ⟨?_, fun x => h x.2 x.1⟩
    rw [ninf]
    exact bot_le

theorem sclV_at (N : FVec Ideal S6x6404x128 .f32) (j : S6x1x1.Idx) : sclV N j = scl (mxV N j) := sel_at (mxV N) j

theorem sclS_at (N : FVec Ideal S6x6404x128 .f32) : sclS N (ix2 i 0) = scl (mxV N (ix3 i 0 0)) := by
  rw [← sclV_at]
  unfold sclS
  generalize sclV N = M
  pointwise

theorem codS_at (N : FVec Ideal S6x6404x128 .f32) (d : Fin 128) : codS N (ix4 i 0 n d) = code (scl (mxV N (ix3 i 0 0))) (N (ix3 i n d)) := by
  have e : codS N (ix4 i 0 n d) = codV N (ix3 i n d) := by
    unfold codS
    generalize codV N = M
    pointwise
  have f : broadcastTo S6x6404x128 (sclV N) broadcasts_S6x1x1_S6x6404x128 (ix3 i n d) = sclV N (ix3 i 0 0) := by
    generalize sclV N = M
    pointwise
  rw [e, ← sclV_at, ← f]
  exact clip_at N _ _ _

/-- The quantised tokens and the projections, at an index. -/
theorem pay6 (x : Vec Ideal S6x6404x4096 .bf16) : k0_pay6 x (ix3 i n 0) = scl (amax fun a => x (ix3 i n a)) := by
  refine (sel_at (shapeCast S6x6404x1 (multiReduction .maximumf [2] S6x6404 (absf (k0_pay5 x)) 0xFF800000#32 reduces_S6x6404x4096_S6x6404 (.inl rfl) rfl) shapeCasts_S6x6404_S6x6404x1) (ix3 i n 0)).trans ?_
  refine congrArg scl ?_
  unfold k0_pay5 amax
  pointwise

theorem pay7 (x : Vec Ideal S6x6404x4096 .bf16) (a : Fin 4096) :
    k0_pay7 x (ix3 i n a) = code (scl (amax fun b => x (ix3 i n b))) (x (ix3 i n a)) := by
  have f : broadcastTo S6x6404x4096 (k0_pay6 x) broadcasts_S6x6404x1_S6x6404x4096 (ix3 i n a) = k0_pay6 x (ix3 i n 0) := by
    generalize k0_pay6 x = M
    pointwise
  rw [← pay6, ← f]
  exact clip_at (k0_pay5 x) _ _ _

theorem pay8 (x : Vec Ideal S6x6404x4096 .bf16) : k0_pay8 x (ix2 i n) = scl (amax fun a => x (ix3 i n a)) := by
  rw [← pay6]
  unfold k0_pay8
  generalize k0_pay6 x = P
  pointwise

theorem pj_at (P : FVec Ideal S6x6404x1 .f32) (Q : FVec Ideal S6x6404x4096 .fp8e4m3) (w : Vec Ideal S4096x512 .fp8e4m3) (s : Vec Ideal S1x512 .f32) (k : Fin 512) :
    mulf (matmul (φ₂ := .fp8e4m3) dot_S6x6404x4096_S4096x512_S6x6404x512_2_0_01_1_n_n none Q w (constant S6x6404x512 .f32 0x00000000#32))
      (mulf (broadcastTo S6x6404x512 P broadcasts_S6x6404x1_S6x6404x512)
        (broadcastTo S6x6404x512 (shapeCast S1x1x512 (shapeCast S1x512 s shapeCasts_S1x512_S1x512) shapeCasts_S1x512_S1x1x512) broadcasts_S1x1x512_S6x6404x512)) (ix3 i n k)
      = (∑ a, Q (ix3 i n a) * w (ix2 a k)) * (P (ix3 i n 0) * s (ix2 0 k)) := by
  pointwise

theorem pay9 (x : Vec Ideal S6x6404x4096 .bf16) (w : Vec Ideal S4096x512 .fp8e4m3) (s : Vec Ideal S1x512 .f32) (k : Fin 512) :
    k0_pay9 x w s (ix3 i n k) = proj (fun a => x (ix3 i n a)) (fun a b => w (ix2 a b)) (fun b => s (ix2 0 b)) k := by
  unfold proj
  refine (pj_at i n (k0_pay6 x) (k0_pay7 x) w s k).trans ?_
  refine congrArg₂ (fun p q : EReal => p * q) (Finset.sum_congr rfl fun a _ => ?_) ?_
  · exact congrArg (fun p : EReal => p * w (ix2 a k)) (pay7 i n x a)
  · exact congrArg (fun p : EReal => p * s (ix2 0 k)) (pay6 i n x)

theorem pay12 (x : Vec Ideal S6x6404x4096 .bf16) (w : Vec Ideal S4096x512 .fp8e4m3) (s : Vec Ideal S1x512 .f32) (k : Fin 512) :
    k0_pay12 (k0_pay6 x) (k0_pay10 s) (k0_pay11 x w) (ix3 i n k) = proj (fun a => x (ix3 i n a)) (fun a b => w (ix2 a b)) (fun b => s (ix2 0 b)) k := by
  unfold proj
  refine (pj_at i n (k0_pay6 x) (k0_pay7 x) w s k).trans ?_
  refine congrArg₂ (fun p q : EReal => p * q) (Finset.sum_congr rfl fun a _ => ?_) ?_
  · exact congrArg (fun p : EReal => p * w (ix2 a k)) (pay7 i n x a)
  · exact congrArg (fun p : EReal => p * s (ix2 0 k)) (pay6 i n x)

end read

end Cert.ReferenceVisIdeal.Hand

end
-- ==== Proof.VisRefB.lean ====
/-
  The K/V build's one-block reference: what its run leaves in each output, index by index (hand-written, untrusted).
-/
module

public import proofs.«01_k».proof.Proof.Gen.ReferenceVisIdeal.Frame
public import proofs.«01_k».proof.Proof.VisRefA
public import Idealize.ShloMosaic.Lib.WritesUnit
public import Idealize.ShloMosaic.Lib.Pipeline.ValueKit.Acc

@[expose] public section

set_option maxRecDepth 16384

noncomputable section

open Idealize.ShloMosaic Idealize.ShloMosaic.TcCoe

namespace Cert.VisRow

section canon
variable {Val : EltTy → Type} [∀ e, Nonempty (Val e)] {e : EltTy}

/-- Under the last write, what is left is its payload. -/
theorem canon_mem {n : ℕ} {s off size : Fin n → ℕ} (inb : ∀ a, off a + size a ≤ s a) (w : Shape.Idx ⟨n, size⟩ → Val e)
    (L : List (View.Piece Val ⟨n, s⟩ e)) (y : Shape.Idx ⟨n, s⟩) (x : Shape.Idx ⟨n, size⟩) (h : ∀ a, (y a).val = off a + (x a).val) :
    View.canon ((⟨Rect.unit (s := ⟨n, s⟩) off size inb, w⟩ : View.Piece Val ⟨n, s⟩ e) :: L) y = w x := by
  have : y = (Rect.unit (s := ⟨n, s⟩) off size inb).emb x := funext fun a => Fin.ext ((h a).trans (by show _ = off a + 1 * (x a).val; omega))
  rw [this]
  exact View.canon_cons_emb (Rect.unit (s := ⟨n, s⟩) off size inb) w L x

/-- Off the last write, what is left is what the earlier writes left. -/
theorem canon_out {n : ℕ} {s off size : Fin n → ℕ} (inb : ∀ a, off a + size a ≤ s a) (w : Shape.Idx ⟨n, size⟩ → Val e)
    (L : List (View.Piece Val ⟨n, s⟩ e)) (y : Shape.Idx ⟨n, s⟩) (a : Fin n) (h : (y a).val < off a) :
    View.canon ((⟨Rect.unit (s := ⟨n, s⟩) off size inb, w⟩ : View.Piece Val ⟨n, s⟩ e) :: L) y = View.canon L y := by
  refine View.canon_cons_of_not_mem _ L ?_
  rw [Rect.mem_set_unit]
  intro hall
  have := hall a
  omega

/-- Four stores, one per second coordinate, read back. -/
theorem canon4 {A N D : ℕ} {h0 h1 h2 h3} (p0 p1 p2 p3 : Shape.Idx ⟨4, ![A, 1, N, D]⟩ → Val e) (L : List (View.Piece Val ⟨4, ![A, 4, N, D]⟩ e))
    (i : Fin A) (g : Fin 4) (n : Fin N) (d : Fin D) :
    View.canon ((⟨Rect.unit (s := ⟨4, ![A, 4, N, D]⟩) ![0, 3, 0, 0] ![A, 1, N, D] h3, p3⟩ : View.Piece Val ⟨4, ![A, 4, N, D]⟩ e)
      :: (⟨Rect.unit (s := ⟨4, ![A, 4, N, D]⟩) ![0, 2, 0, 0] ![A, 1, N, D] h2, p2⟩ : View.Piece Val ⟨4, ![A, 4, N, D]⟩ e)
      :: (⟨Rect.unit (s := ⟨4, ![A, 4, N, D]⟩) ![0, 1, 0, 0] ![A, 1, N, D] h1, p1⟩ : View.Piece Val ⟨4, ![A, 4, N, D]⟩ e)
      :: (⟨Rect.unit (s := ⟨4, ![A, 4, N, D]⟩) ![0, 0, 0, 0] ![A, 1, N, D] h0, p0⟩ : View.Piece Val ⟨4, ![A, 4, N, D]⟩ e) :: L) (ix4 i g n d)
      = (match g with | 0 => p0 | 1 => p1 | 2 => p2 | 3 => p3) (ix4 i 0 n d) := by
  match g with
  | 3 => exact canon_mem h3 p3 _ (ix4 i 3 n d) (ix4 i 0 n d) (fun a => by
      match a with | 0 => exact (Nat.zero_add _).symm | 1 => rfl | 2 => exact (Nat.zero_add _).symm | 3 => exact (Nat.zero_add _).symm)
  | 2 =>
    refine (canon_out h3 p3 _ (ix4 i 2 n d) 1 (show (2:ℕ) < 3 by omega)).trans ?_
    exact canon_mem h2 p2 _ (ix4 i 2 n d) (ix4 i 0 n d) (fun a => by
      match a with | 0 => exact (Nat.zero_add _).symm | 1 => rfl | 2 => exact (Nat.zero_add _).symm | 3 => exact (Nat.zero_add _).symm)
  | 1 =>
    refine (canon_out h3 p3 _ (ix4 i 1 n d) 1 (show (1:ℕ) < 3 by omega)).trans ?_
    refine (canon_out h2 p2 _ (ix4 i 1 n d) 1 (show (1:ℕ) < 2 by omega)).trans ?_
    exact canon_mem h1 p1 _ (ix4 i 1 n d) (ix4 i 0 n d) (fun a => by
      match a with | 0 => exact (Nat.zero_add _).symm | 1 => rfl | 2 => exact (Nat.zero_add _).symm | 3 => exact (Nat.zero_add _).symm)
  | 0 =>
    refine (canon_out h3 p3 _ (ix4 i 0 n d) 1 (show (0:ℕ) < 3 by omega)).trans ?_
    refine (canon_out h2 p2 _ (ix4 i 0 n d) 1 (show (0:ℕ) < 2 by omega)).trans ?_
    refine (canon_out h1 p1 _ (ix4 i 0 n d) 1 (show (0:ℕ) < 1 by omega)).trans ?_
    exact canon_mem h0 p0 _ (ix4 i 0 n d) (ix4 i 0 n d) (fun a => by
      match a with | 0 => exact (Nat.zero_add _).symm | 1 => rfl | 2 => exact (Nat.zero_add _).symm | 3 => exact (Nat.zero_add _).symm)

/-- Four stores of a lane's first rows, read back. -/
theorem canonL {A R M : ℕ} {h0 h1 h2 h3} (p0 p1 p2 p3 : Shape.Idx ⟨2, ![A, 1]⟩ → Val e) (L : List (View.Piece Val ⟨2, ![R, M]⟩ e))
    (i : Fin A) (I : Fin R) (hI : I.val = i.val) (g : Fin 4) (l : Fin M) (hl : l.val = g.val) :
    View.canon ((⟨Rect.unit (s := ⟨2, ![R, M]⟩) ![0, 3] ![A, 1] h3, p3⟩ : View.Piece Val ⟨2, ![R, M]⟩ e)
      :: (⟨Rect.unit (s := ⟨2, ![R, M]⟩) ![0, 2] ![A, 1] h2, p2⟩ : View.Piece Val ⟨2, ![R, M]⟩ e)
      :: (⟨Rect.unit (s := ⟨2, ![R, M]⟩) ![0, 1] ![A, 1] h1, p1⟩ : View.Piece Val ⟨2, ![R, M]⟩ e)
      :: (⟨Rect.unit (s := ⟨2, ![R, M]⟩) ![0, 0] ![A, 1] h0, p0⟩ : View.Piece Val ⟨2, ![R, M]⟩ e) :: L) (ix2 I l)
      = (match g with | 0 => p0 | 1 => p1 | 2 => p2 | 3 => p3) (ix2 i 0) := by
  match g, hl with
  | 3, hl => exact canon_mem h3 p3 _ (ix2 I l) (ix2 i 0) (fun a => by match a with | 0 => exact hI.trans (Nat.zero_add _).symm | 1 => exact hl)
  | 2, hl =>
    refine (canon_out h3 p3 _ (ix2 I l) 1 (show l.val < 3 by rw [hl]; exact (show (2:ℕ) < 3 by omega))).trans ?_
    exact canon_mem h2 p2 _ (ix2 I l) (ix2 i 0) (fun a => by match a with | 0 => exact hI.trans (Nat.zero_add _).symm | 1 => exact hl)
  | 1, hl =>
    refine (canon_out h3 p3 _ (ix2 I l) 1 (show l.val < 3 by rw [hl]; exact (show (1:ℕ) < 3 by omega))).trans ?_
    refine (canon_out h2 p2 _ (ix2 I l) 1 (show l.val < 2 by rw [hl]; exact (show (1:ℕ) < 2 by omega))).trans ?_
    exact canon_mem h1 p1 _ (ix2 I l) (ix2 i 0) (fun a => by match a with | 0 => exact hI.trans (Nat.zero_add _).symm | 1 => exact hl)
  | 0, hl =>
    refine (canon_out h3 p3 _ (ix2 I l) 1 (show l.val < 3 by rw [hl]; exact (show (0:ℕ) < 3 by omega))).trans ?_
    refine (canon_out h2 p2 _ (ix2 I l) 1 (show l.val < 2 by rw [hl]; exact (show (0:ℕ) < 2 by omega))).trans ?_
    refine (canon_out h1 p1 _ (ix2 I l) 1 (show l.val < 1 by rw [hl]; exact (show (0:ℕ) < 1 by omega))).trans ?_
    exact canon_mem h0 p0 _ (ix2 I l) (ix2 i 0) (fun a => by match a with | 0 => exact hI.trans (Nat.zero_add _).symm | 1 => exact hl)

end canon

end Cert.VisRow

namespace Cert.ReferenceVisIdeal.Hand

open Cert.ReferenceVisIdeal Cert.ReferenceVisIdeal.Gen Cert.Rows Cert.VisRow

open Cert.KernelVisIdeal.Hand (Data KV CM HS hK hV cK cV lane)

/-- The data of the arrays. -/
def ofArr (x0 : Vec Ideal S6x6404x4096 .bf16) (x1 x2 : Vec Ideal S4096x512 .fp8e4m3) (x3 x4 : Vec Ideal S1x512 .f32) (x5 : Vec Ideal S1x128 .f32) : Data where
  X i n a := if h : i < 6 ∧ n < 6404 then x0 (ix3 ⟨i, h.1⟩ ⟨n, h.2⟩ a) else 0
  x1 := x1
  x2 := x2
  x3 := x3
  x4 := x4
  x5 := x5

section heads
variable (x0 : Vec Ideal S6x6404x4096 .bf16) (x1 x2 : Vec Ideal S4096x512 .fp8e4m3) (x3 x4 : Vec Ideal S1x512 .f32) (x5 : Vec Ideal S1x128 .f32)

theorem row_eq (i : Fin 6) (n : Fin 6404) : (fun a => x0 (ix3 i n a)) = (ofArr x0 x1 x2 x3 x4 x5).X i.val n.val := by
  funext a
  show _ = if h : i.val < 6 ∧ n.val < 6404 then x0 (ix3 ⟨i.val, h.1⟩ ⟨n.val, h.2⟩ a) else 0
  rw [dif_pos ⟨i.isLt, n.isLt⟩]

/-- A key head of the reference is the keys of the data. -/
theorem key_at (sl : FVec Ideal S6x6404x512 .f32 → FVec Ideal S6x6404x128 .f32) (g : Fin 4)
    (hsl : ∀ (i : Fin 6) (n : Fin 6404) (v : FVec Ideal S6x6404x512 .f32) (d : Fin 128), sl v (ix3 i n d) = v (ix3 i n (col 512 rfl g d)))
    (i : Fin 6) (n : Fin 6404) (d : Fin 128) :
    nrm (sl (k0_pay9 x0 x1 x3)) x5 (ix3 i n d) = KV (ofArr x0 x1 x2 x3 x4 x5) i.val n.val (cK g d) := by
  rw [nrm_at]
  simp only [hsl, pay9]
  unfold KV
  rw [kv_key _ _ _ _ _ _ g d (cK g d) rfl, ← row_eq]
  rfl

/-- A value head of the reference is the values of the data. -/
theorem val_at (sl : FVec Ideal S6x6404x512 .f32 → FVec Ideal S6x6404x128 .f32) (g : Fin 4)
    (hsl : ∀ (i : Fin 6) (n : Fin 6404) (v : FVec Ideal S6x6404x512 .f32) (d : Fin 128), sl v (ix3 i n d) = v (ix3 i n (col 512 rfl g d)))
    (i : Fin 6) (n : Fin 6404) (d : Fin 128) :
    sl (k0_pay12 (k0_pay6 x0) (k0_pay10 x4) (k0_pay11 x0 x2)) (ix3 i n d) = KV (ofArr x0 x1 x2 x3 x4 x5) i.val n.val (cV g d) := by
  rw [hsl, pay12]
  unfold KV
  rw [kv_val _ _ _ _ _ _ (col 512 rfl g d) (cV g d) rfl, ← row_eq]
  rfl

/-- A head whose entries are the data's has the data's scale. -/
theorem scale_of (D : Data) (N : FVec Ideal S6x6404x128 .f32) (cc : Fin 128 → Fin 1024) (h : Fin 8) (hc : ∀ e, cc e = col 1024 rfl h e)
    (hN : ∀ (i : Fin 6) (n : Fin 6404) (d : Fin 128), N (ix3 i n d) = KV D i.val n.val (cc d)) (i : Fin 6) :
    scl (mxV N (ix3 i 0 0)) = HS D i.val h := by
  rw [mxV_at]
  simp only [hN, hc]
  rfl

theorem ccK (g : Fin 4) (e : Fin 128) : cK g e = col 1024 rfl (hK g) e := Fin.ext rfl
theorem ccV (g : Fin 4) (e : Fin 128) : cV g e = col 1024 rfl (hV g) e := Fin.ext (by show 512 + (128 * g.val + e.val) = 128 * (4 + g.val) + e.val; omega)

end heads

section pieces
variable (c : Dev nD) (a0 : Memref sig .tc .vmem S6x6404x4096 .bf16) (h0 : a0.IsWhole) (a1 : Memref sig .tc .vmem S4096x512 .fp8e4m3) (h1 : a1.IsWhole) (a2 : Memref sig .tc .vmem S4096x512 .fp8e4m3) (h2 : a2.IsWhole) (a3 : Memref sig .tc .vmem S1x512 .f32) (h3 : a3.IsWhole) (a4 : Memref sig .tc .vmem S1x512 .f32) (h4 : a4.IsWhole) (a5 : Memref sig .tc .vmem S1x128 .f32) (h5 : a5.IsWhole) (a6 : Memref sig .tc .vmem S6x6404x4096 .fp8e4m3) (h6 : a6.IsWhole) (a7 : Memref sig .tc .vmem S6x6404 .f32) (h7 : a7.IsWhole) (a8 : Memref sig .tc .vmem S6x4x6404x128 .fp8e4m3) (h8 : a8.IsWhole) (a9 : Memref sig .tc .vmem S8x128 .f32) (h9 : a9.IsWhole) (a10 : Memref sig .tc .vmem S6x4x6404x128 .fp8e4m3) (h10 : a10.IsWhole) (a11 : Memref sig .tc .vmem S8x128 .f32) (h11 : a11.IsWhole)  (x0 : Vec Ideal S6x6404x4096 .bf16) (x1 : Vec Ideal S4096x512 .fp8e4m3) (x2 : Vec Ideal S4096x512 .fp8e4m3) (x3 : Vec Ideal S1x512 .f32) (x4 : Vec Ideal S1x512 .f32) (x5 : Vec Ideal S1x128 .f32)

/-- The tokens' codes. -/
theorem o6 (i : Fin 6) (n : Fin 6404) (a : Fin 4096) : out0_A_6 c a0 h0 a1 h1 a2 h2 a3 h3 a4 h4 a5 h5 a6 h6 a7 h7 a8 h8 a9 h9 a10 h10 a11 h11 x0 x1 x2 x3 x4 x5 (ix3 i n a)
    = code (scl (amax ((ofArr x0 x1 x2 x3 x4 x5).X i.val n.val))) ((ofArr x0 x1 x2 x3 x4 x5).X i.val n.val a) := by
  frame_out
  rw [pay7, ← row_eq]

/-- The tokens' scales. -/
theorem o7 (i : Fin 6) (n : Fin 6404) : out0_A_7 c a0 h0 a1 h1 a2 h2 a3 h3 a4 h4 a5 h5 a6 h6 a7 h7 a8 h8 a9 h9 a10 h10 a11 h11 x0 x1 x2 x3 x4 x5 (ix2 i n) = scl (amax ((ofArr x0 x1 x2 x3 x4 x5).X i.val n.val)) := by
  frame_out
  rw [pay8, ← row_eq]

/-- The keys' codes. -/
theorem o8 (i : Fin 6) (g : Fin 4) (n : Fin 6404) (d : Fin 128) : out0_A_8 c a0 h0 a1 h1 a2 h2 a3 h3 a4 h4 a5 h5 a6 h6 a7 h7 a8 h8 a9 h9 a10 h10 a11 h11 x0 x1 x2 x3 x4 x5 (ix4 i g n d)
    = code (HS (ofArr x0 x1 x2 x3 x4 x5) i.val (hK g)) (KV (ofArr x0 x1 x2 x3 x4 x5) i.val n.val (cK g d)) := by
  frame_out
  rw [kc0, kc1, kc2, kc3]
  refine (canon4 _ _ _ _ _ i g n d).trans ?_
  match g with
  | 0 => exact (codS_at i n _ d).trans (congrArg₂ code (scale_of (ofArr x0 x1 x2 x3 x4 x5) _ (cK 0) (hK 0) (ccK 0) (key_at x0 x1 x2 x3 x4 x5 sl0 0 sl0_at) i) ((key_at x0 x1 x2 x3 x4 x5 sl0 0 sl0_at) i n d))
  | 1 => exact (codS_at i n _ d).trans (congrArg₂ code (scale_of (ofArr x0 x1 x2 x3 x4 x5) _ (cK 1) (hK 1) (ccK 1) (key_at x0 x1 x2 x3 x4 x5 sl1 1 sl1_at) i) ((key_at x0 x1 x2 x3 x4 x5 sl1 1 sl1_at) i n d))
  | 2 => exact (codS_at i n _ d).trans (congrArg₂ code (scale_of (ofArr x0 x1 x2 x3 x4 x5) _ (cK 2) (hK 2) (ccK 2) (key_at x0 x1 x2 x3 x4 x5 sl2 2 sl2_at) i) ((key_at x0 x1 x2 x3 x4 x5 sl2 2 sl2_at) i n d))
  | 3 => exact (codS_at i n _ d).trans (congrArg₂ code (scale_of (ofArr x0 x1 x2 x3 x4 x5) _ (cK 3) (hK 3) (ccK 3) (key_at x0 x1 x2 x3 x4 x5 sl3 3 sl3_at) i) ((key_at x0 x1 x2 x3 x4 x5 sl3 3 sl3_at) i n d))

/-- The values' codes. -/
theorem o10 (i : Fin 6) (g : Fin 4) (n : Fin 6404) (d : Fin 128) : out0_A_10 c a0 h0 a1 h1 a2 h2 a3 h3 a4 h4 a5 h5 a6 h6 a7 h7 a8 h8 a9 h9 a10 h10 a11 h11 x0 x1 x2 x3 x4 x5 (ix4 i g n d)
    = code (HS (ofArr x0 x1 x2 x3 x4 x5) i.val (hV g)) (KV (ofArr x0 x1 x2 x3 x4 x5) i.val n.val (cV g d)) := by
  frame_out
  rw [vc0, vc1, vc2, vc3]
  refine (canon4 _ _ _ _ _ i g n d).trans ?_
  match g with
  | 0 => exact (codS_at i n _ d).trans (congrArg₂ code (scale_of (ofArr x0 x1 x2 x3 x4 x5) _ (cV 0) (hV 0) (ccV 0) (val_at x0 x1 x2 x3 x4 x5 sl0 0 sl0_at) i) ((val_at x0 x1 x2 x3 x4 x5 sl0 0 sl0_at) i n d))
  | 1 => exact (codS_at i n _ d).trans (congrArg₂ code (scale_of (ofArr x0 x1 x2 x3 x4 x5) _ (cV 1) (hV 1) (ccV 1) (val_at x0 x1 x2 x3 x4 x5 sl1 1 sl1_at) i) ((val_at x0 x1 x2 x3 x4 x5 sl1 1 sl1_at) i n d))
  | 2 => exact (codS_at i n _ d).trans (congrArg₂ code (scale_of (ofArr x0 x1 x2 x3 x4 x5) _ (cV 2) (hV 2) (ccV 2) (val_at x0 x1 x2 x3 x4 x5 sl2 2 sl2_at) i) ((val_at x0 x1 x2 x3 x4 x5 sl2 2 sl2_at) i n d))
  | 3 => exact (codS_at i n _ d).trans (congrArg₂ code (scale_of (ofArr x0 x1 x2 x3 x4 x5) _ (cV 3) (hV 3) (ccV 3) (val_at x0 x1 x2 x3 x4 x5 sl3 3 sl3_at) i) ((val_at x0 x1 x2 x3 x4 x5 sl3 3 sl3_at) i n d))

/-- The keys' scales. -/
theorem o9 (i : Fin 6) (I : Fin 8) (hI : I.val = i.val) (g : Fin 4) : out0_A_9 c a0 h0 a1 h1 a2 h2 a3 h3 a4 h4 a5 h5 a6 h6 a7 h7 a8 h8 a9 h9 a10 h10 a11 h11 x0 x1 x2 x3 x4 x5 (ix2 I (lane g)) = HS (ofArr x0 x1 x2 x3 x4 x5) i.val (hK g) := by
  frame_out
  rw [ks0, ks1, ks2, ks3]
  refine (canonL _ _ _ _ _ i I hI g (lane g) rfl).trans ?_
  match g with
  | 0 => exact (sclS_at i _).trans (scale_of (ofArr x0 x1 x2 x3 x4 x5) _ (cK 0) (hK 0) (ccK 0) (key_at x0 x1 x2 x3 x4 x5 sl0 0 sl0_at) i)
  | 1 => exact (sclS_at i _).trans (scale_of (ofArr x0 x1 x2 x3 x4 x5) _ (cK 1) (hK 1) (ccK 1) (key_at x0 x1 x2 x3 x4 x5 sl1 1 sl1_at) i)
  | 2 => exact (sclS_at i _).trans (scale_of (ofArr x0 x1 x2 x3 x4 x5) _ (cK 2) (hK 2) (ccK 2) (key_at x0 x1 x2 x3 x4 x5 sl2 2 sl2_at) i)
  | 3 => exact (sclS_at i _).trans (scale_of (ofArr x0 x1 x2 x3 x4 x5) _ (cK 3) (hK 3) (ccK 3) (key_at x0 x1 x2 x3 x4 x5 sl3 3 sl3_at) i)

/-- The values' scales. -/
theorem o11 (i : Fin 6) (I : Fin 8) (hI : I.val = i.val) (g : Fin 4) : out0_A_11 c a0 h0 a1 h1 a2 h2 a3 h3 a4 h4 a5 h5 a6 h6 a7 h7 a8 h8 a9 h9 a10 h10 a11 h11 x0 x1 x2 x3 x4 x5 (ix2 I (lane g)) = HS (ofArr x0 x1 x2 x3 x4 x5) i.val (hV g) := by
  frame_out
  rw [vs0, vs1, vs2, vs3]
  refine (canonL _ _ _ _ _ i I hI g (lane g) rfl).trans ?_
  match g with
  | 0 => exact (sclS_at i _).trans (scale_of (ofArr x0 x1 x2 x3 x4 x5) _ (cV 0) (hV 0) (ccV 0) (val_at x0 x1 x2 x3 x4 x5 sl0 0 sl0_at) i)
  | 1 => exact (sclS_at i _).trans (scale_of (ofArr x0 x1 x2 x3 x4 x5) _ (cV 1) (hV 1) (ccV 1) (val_at x0 x1 x2 x3 x4 x5 sl1 1 sl1_at) i)
  | 2 => exact (sclS_at i _).trans (scale_of (ofArr x0 x1 x2 x3 x4 x5) _ (cV 2) (hV 2) (ccV 2) (val_at x0 x1 x2 x3 x4 x5 sl2 2 sl2_at) i)
  | 3 => exact (sclS_at i _).trans (scale_of (ofArr x0 x1 x2 x3 x4 x5) _ (cV 3) (hV 3) (ccV 3) (val_at x0 x1 x2 x3 x4 x5 sl3 3 sl3_at) i)

end pieces

end Cert.ReferenceVisIdeal.Hand

end
-- ==== Proof.VisValue.lean ====
/-
  The K/V build: what its outputs hold after the run, index by index (hand-written, untrusted).
-/
module

public import proofs.«01_k».proof.Proof.VisTrack

@[expose] public section

set_option maxRecDepth 16384

noncomputable section

namespace Cert.KernelVisIdeal.Hand

open Idealize.ShloMosaic Idealize.ShloMosaic.TcCoe
open Idealize.SL.Sem
open Idealize.ShloMosaic.Pipeline (Dat RDat Cfg Window)
open Cert.KernelVisIdeal Cert.KernelVisIdeal.Gen
open Cert.Rows Cert.VisRow

variable (m : (ℓ : Loc nD τ sig) → Buf (Elt Ideal) ℓ) (ρ : Dev nD → PrngReg)

/-- What each output holds at an index, as a function of the data. -/
def W6 (D : Data) (i : S6x6404x4096.Idx) : EReal := code (scl (amax (D.X (i 0).val (i 1).val))) (D.X (i 0).val (i 1).val (i 2))
def W7 (D : Data) (i : S6x6404.Idx) : EReal := scl (amax (D.X (i 0).val (i 1).val))
def W8 (D : Data) (cc : Fin 4 → Fin 128 → Fin 1024) (hh : Fin 4 → Fin 8) (i : S6x4x6404x128.Idx) : EReal :=
  code (HS D (i 0).val (hh (i 1))) (KV D (i 0).val (i 2).val (cc (i 1) (i 3)))
def W9 (D : Data) (hh : Fin 4 → Fin 8) (i : S8x128.Idx) : EReal :=
  if h : (i 1).val < 4 then HS D (i 0).val (hh ⟨(i 1).val, h⟩) else 0

theorem last7 : ∀ t : Fin cfg0.N, (cfg0.win 7).flush t = true → t.val = 118 :=
  (by decide +kernel : ∀ t : Fin grid0.N, win0_7.flush t = true → t.val = 118)
theorem last9 : ∀ t : Fin cfg0.N, (cfg0.win 9).flush t = true → t.val = 118 :=
  (by decide +kernel : ∀ t : Fin grid0.N, win0_9.flush t = true → t.val = 118)
theorem last11 : ∀ t : Fin cfg0.N, (cfg0.win 11).flush t = true → t.val = 118 :=
  (by decide +kernel : ∀ t : Fin grid0.N, win0_11.flush t = true → t.val = 118)
theorem idx7 : ∀ t : Fin cfg0.N, win0_7.index t 0 = 0 ∧ win0_7.index t 1 = 0 :=
  (by decide +kernel : ∀ t : Fin grid0.N, win0_7.index t 0 = 0 ∧ win0_7.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)

section ends
variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

/-- The tokens' codes after the run. -/
theorem end6 (i : S6x6404x4096.Idx) : ((rdat m c).withAfter after).arrAt 6 cfg0.N i = W6 (data m c) i := by
  refine Dat.arrAt_forall_of_covers ((rdat m c).withAfter after) 6 (fun i v => v = W6 (data m c) i) (by decide +kernel) (fun t hf y => ?_) i
  obtain ⟨_, q⟩ := leaves m c (hL 6 t hf)
  have q' : P6 (data m c) (ib t.val) (jb t.val) (after 6 t) := q
  have b0 : (y 0).val < 1 := ((cfg0.win 6).xinj (grid0.coords t) y 0).isLt
  have b1 : (y 1).val < 384 := ((cfg0.win 6).xinj (grid0.coords t) y 1).isLt
  have b2 : (y 2).val < 4096 := ((cfg0.win 6).xinj (grid0.coords t) y 2).isLt
  have z0 : ((((cfg0.win 6).blk t).view.emb y) 0).val = win0_6.index t 0 * 1 + 1 * (y 0).val := rfl
  have z1 : ((((cfg0.win 6).blk t).view.emb y) 1).val = win0_6.index t 1 * 384 + 1 * (y 1).val := rfl
  have z2 : ((((cfg0.win 6).blk t).view.emb y) 2).val = win0_6.index t 2 * 4096 + 1 * (y 2).val := rfl
  have l1 : ((((cfg0.win 6).blk t).view.emb y) 1).val < 6404 := ((((cfg0.win 6).blk t).view.emb y) 1).isLt
  obtain ⟨j0, j1, j2⟩ := idx6 t
  rw [j0] at z0
  rw [j1] at z1
  rw [j2] at z2
  have s := q' ⟨(y 1).val, b1⟩ ⟨(y 2).val, b2⟩ (by show 384 * jb t.val + (y 1).val < 6404; omega)
  have ex : (cfg0.win 6).xinj (grid0.coords t) y = ix3 0 ⟨(y 1).val, b1⟩ ⟨(y 2).val, b2⟩ := by
    funext x
    apply Fin.ext
    match x with
    | ⟨0, _⟩ => show (y 0).val = 0; omega
    | ⟨1, _⟩ => rfl
    | ⟨2, _⟩ => rfl
  show after 6 t ((cfg0.win 6).xinj (grid0.coords t) y) = _
  rw [ex]
  refine s.trans ?_
  unfold W6
  rw [z0, z1, show ib t.val * 1 + 1 * (y 0).val = ib t.val by omega, show jb t.val * 384 + 1 * (y 1).val = 384 * jb t.val + (y 1).val by omega,
    show (((cfg0.win 6).blk t).view.emb y) 2 = (⟨(y 2).val, b2⟩ : Fin 4096) from Fin.ext (by rw [z2]; show 0 * 4096 + 1 * (y 2).val = (y 2).val; omega)]

/-- The tokens' scales after the run. -/
theorem end7 (i : S6x6404.Idx) : ((rdat m c).withAfter after).arrAt 7 cfg0.N i = W7 (data m c) i := by
  refine Dat.arrAt_forall_of_covers ((rdat m c).withAfter after) 7 (fun i v => v = W7 (data m c) i) (by decide +kernel) (fun t hf y => ?_) i
  obtain ⟨_, q⟩ := leaves m c (hL 7 t hf)
  have q' : P7 (data m c) (t.val / 17) (384 * (t.val % 17 + 1)) (after 7 t) := q
  have ht := last7 t hf
  have b0 : (y 0).val < 6 := ((cfg0.win 7).xinj (grid0.coords t) y 0).isLt
  have b1 : (y 1).val < 6404 := ((cfg0.win 7).xinj (grid0.coords t) y 1).isLt
  have z0 : ((((cfg0.win 7).blk t).view.emb y) 0).val = win0_7.index t 0 * 6 + 1 * (y 0).val := rfl
  have z1 : ((((cfg0.win 7).blk t).view.emb y) 1).val = win0_7.index t 1 * 6404 + 1 * (y 1).val := rfl
  rw [(idx7 t).1] at z0
  rw [(idx7 t).2] at z1
  have s := q' ⟨(y 0).val, b0⟩ ⟨(y 1).val, b1⟩ (Or.inl (by show (y 0).val < t.val / 17; omega))
  have ex : (cfg0.win 7).xinj (grid0.coords t) y = ix2 ⟨(y 0).val, b0⟩ ⟨(y 1).val, b1⟩ := by
    funext x
    apply Fin.ext
    match x with
    | ⟨0, _⟩ => rfl
    | ⟨1, _⟩ => rfl
  show after 7 t ((cfg0.win 7).xinj (grid0.coords t) y) = _
  rw [ex]
  refine s.trans ?_
  unfold W7
  rw [z0, z1, show 0 * 6 + 1 * (y 0).val = (y 0).val by omega, show 0 * 6404 + 1 * (y 1).val = (y 1).val by omega]

/-- The keys' codes after the run. -/
theorem end8 (i : S6x4x6404x128.Idx) : ((rdat m c).withAfter after).arrAt 8 cfg0.N i = W8 (data m c) cK hK i := by
  refine Dat.arrAt_forall_of_covers ((rdat m c).withAfter after) 8 (fun i v => v = W8 (data m c) cK hK i) (by decide +kernel) (fun t hf y => ?_) i
  obtain ⟨_, q⟩ := leaves m c (hL 8 t hf)
  have q' : P8 (data m c) cK hK (t.val / 17) (t.val % 17) (after 8 t) := q
  have ht := flush8 t hf
  have b0 : (y 0).val < 1 := ((cfg0.win 8).xinj (grid0.coords t) y 0).isLt
  have b1 : (y 1).val < 4 := ((cfg0.win 8).xinj (grid0.coords t) y 1).isLt
  have b2 : (y 2).val < 384 := ((cfg0.win 8).xinj (grid0.coords t) y 2).isLt
  have b3 : (y 3).val < 128 := ((cfg0.win 8).xinj (grid0.coords t) y 3).isLt
  have z0 : ((((cfg0.win 8).blk t).view.emb y) 0).val = win0_8.index t 0 * 1 + 1 * (y 0).val := rfl
  have z1 : ((((cfg0.win 8).blk t).view.emb y) 1).val = win0_8.index t 1 * 4 + 1 * (y 1).val := rfl
  have z2 : ((((cfg0.win 8).blk t).view.emb y) 2).val = win0_8.index t 2 * 384 + 1 * (y 2).val := rfl
  have z3 : ((((cfg0.win 8).blk t).view.emb y) 3).val = win0_8.index t 3 * 128 + 1 * (y 3).val := rfl
  have l2 : ((((cfg0.win 8).blk t).view.emb y) 2).val < 6404 := ((((cfg0.win 8).blk t).view.emb y) 2).isLt
  obtain ⟨j0, j1, j2, j3⟩ := idx8 t
  rw [j0] at z0
  rw [j1] at z1
  rw [j2, if_neg (by omega)] at z2
  rw [j3] at z3
  have s := q' (by omega) ⟨(y 1).val, b1⟩ ⟨(y 2).val, b2⟩ ⟨(y 3).val, b3⟩ (by show 384 * (t.val % 17) + (y 2).val < 6404; omega)
  have ex : (cfg0.win 8).xinj (grid0.coords t) y = ix4 0 ⟨(y 1).val, b1⟩ ⟨(y 2).val, b2⟩ ⟨(y 3).val, b3⟩ := by
    funext x
    apply Fin.ext
    match x with
    | ⟨0, _⟩ => show (y 0).val = 0; omega
    | ⟨1, _⟩ => rfl
    | ⟨2, _⟩ => rfl
    | ⟨3, _⟩ => rfl
  show after 8 t ((cfg0.win 8).xinj (grid0.coords t) y) = _
  rw [ex]
  refine s.trans ?_
  unfold W8
  rw [z0, z2, show (t.val / 17 - 1) * 1 + 1 * (y 0).val = t.val / 17 - 1 by omega, show t.val % 17 * 384 + 1 * (y 2).val = 384 * (t.val % 17) + (y 2).val by omega,
    show (((cfg0.win 8).blk t).view.emb y) 1 = (⟨(y 1).val, b1⟩ : Fin 4) from Fin.ext (by rw [z1]; show 0 * 4 + 1 * (y 1).val = (y 1).val; omega),
    show (((cfg0.win 8).blk t).view.emb y) 3 = (⟨(y 3).val, b3⟩ : Fin 128) from Fin.ext (by rw [z3]; show 0 * 128 + 1 * (y 3).val = (y 3).val; omega)]

/-- The values' codes after the run. -/
theorem end10 (i : S6x4x6404x128.Idx) : ((rdat m c).withAfter after).arrAt 10 cfg0.N i = W8 (data m c) cV hV i := by
  refine Dat.arrAt_forall_of_covers ((rdat m c).withAfter after) 10 (fun i v => v = W8 (data m c) cV hV i) (by decide +kernel) (fun t hf y => ?_) i
  obtain ⟨_, q⟩ := leaves m c (hL 10 t hf)
  have q' : P8 (data m c) cV hV (t.val / 17) (t.val % 17) (after 10 t) := q
  have ht := flush10 t hf
  have b0 : (y 0).val < 1 := ((cfg0.win 10).xinj (grid0.coords t) y 0).isLt
  have b1 : (y 1).val < 4 := ((cfg0.win 10).xinj (grid0.coords t) y 1).isLt
  have b2 : (y 2).val < 384 := ((cfg0.win 10).xinj (grid0.coords t) y 2).isLt
  have b3 : (y 3).val < 128 := ((cfg0.win 10).xinj (grid0.coords t) y 3).isLt
  have z0 : ((((cfg0.win 10).blk t).view.emb y) 0).val = win0_10.index t 0 * 1 + 1 * (y 0).val := rfl
  have z1 : ((((cfg0.win 10).blk t).view.emb y) 1).val = win0_10.index t 1 * 4 + 1 * (y 1).val := rfl
  have z2 : ((((cfg0.win 10).blk t).view.emb y) 2).val = win0_10.index t 2 * 384 + 1 * (y 2).val := rfl
  have z3 : ((((cfg0.win 10).blk t).view.emb y) 3).val = win0_10.index t 3 * 128 + 1 * (y 3).val := rfl
  have l2 : ((((cfg0.win 10).blk t).view.emb y) 2).val < 6404 := ((((cfg0.win 10).blk t).view.emb y) 2).isLt
  obtain ⟨j0, j1, j2, j3⟩ := idx10 t
  rw [j0] at z0
  rw [j1] at z1
  rw [j2, if_neg (by omega)] at z2
  rw [j3] at z3
  have s := q' (by omega) ⟨(y 1).val, b1⟩ ⟨(y 2).val, b2⟩ ⟨(y 3).val, b3⟩ (by show 384 * (t.val % 17) + (y 2).val < 6404; omega)
  have ex : (cfg0.win 10).xinj (grid0.coords t) y = ix4 0 ⟨(y 1).val, b1⟩ ⟨(y 2).val, b2⟩ ⟨(y 3).val, b3⟩ := by
    funext x
    apply Fin.ext
    match x with
    | ⟨0, _⟩ => show (y 0).val = 0; omega
    | ⟨1, _⟩ => rfl
    | ⟨2, _⟩ => rfl
    | ⟨3, _⟩ => rfl
  show after 10 t ((cfg0.win 10).xinj (grid0.coords t) y) = _
  rw [ex]
  refine s.trans ?_
  unfold W8
  rw [z0, z2, show (t.val / 17 - 1) * 1 + 1 * (y 0).val = t.val / 17 - 1 by omega, show t.val % 17 * 384 + 1 * (y 2).val = 384 * (t.val % 17) + (y 2).val by omega,
    show (((cfg0.win 10).blk t).view.emb y) 1 = (⟨(y 1).val, b1⟩ : Fin 4) from Fin.ext (by rw [z1]; show 0 * 4 + 1 * (y 1).val = (y 1).val; omega),
    show (((cfg0.win 10).blk t).view.emb y) 3 = (⟨(y 3).val, b3⟩ : Fin 128) from Fin.ext (by rw [z3]; show 0 * 128 + 1 * (y 3).val = (y 3).val; omega)]

/-- The keys' scales after the run, on the images' rows and the heads' lanes. -/
theorem end9 (i : S8x128.Idx) (h0 : (i 0).val < 6) (h1 : (i 1).val < 4) :
    ((rdat m c).withAfter after).arrAt 9 cfg0.N i = W9 (data m c) hK i := by
  refine Dat.arrAt_forall_of_covers ((rdat m c).withAfter after) 9 (fun i v => (i 0).val < 6 → (i 1).val < 4 → v = W9 (data m c) hK i) (by decide +kernel) (fun t hf y => ?_) i (Memref.isWhole_whole _) h0 h1
  obtain ⟨_, q⟩ := leaves m c (hL 9 t hf)
  have q' : P9 (data m c) hK (fixed t.val) (after 9 t) := q
  have ht := last9 t hf
  have b0 : (y 0).val < 8 := ((cfg0.win 9).xinj (grid0.coords t) y 0).isLt
  have b1 : (y 1).val < 128 := ((cfg0.win 9).xinj (grid0.coords t) y 1).isLt
  have z0 : ((((cfg0.win 9).blk t).view.emb y) 0).val = win0_9.index t 0 * 8 + 1 * (y 0).val := rfl
  have z1 : ((((cfg0.win 9).blk t).view.emb y) 1).val = win0_9.index t 1 * 128 + 1 * (y 1).val := rfl
  rw [(idx9 t).1] at z0
  rw [(idx9 t).2] at z1
  intro k0 k1
  have k1' : (y 1).val < 4 := by rw [z1] at k1; omega
  have k0' : (y 0).val < 6 := by rw [z0] at k0; omega
  have s := q' ⟨(y 0).val, b0⟩ ⟨(y 1).val, k1'⟩ k0' (by show (y 0).val < fixed t.val; rw [show fixed t.val = 7 by rw [ht]; rfl]; omega)
  have ex : (cfg0.win 9).xinj (grid0.coords t) y = ix2 ⟨(y 0).val, b0⟩ (lane ⟨(y 1).val, k1'⟩) := by
    funext x
    apply Fin.ext
    match x with
    | ⟨0, _⟩ => rfl
    | ⟨1, _⟩ => rfl
  show after 9 t ((cfg0.win 9).xinj (grid0.coords t) y) = _
  rw [ex]
  refine s.trans ?_
  unfold W9
  rw [dif_pos k1]
  rw [show (⟨((((cfg0.win 9).blk t).view.emb y) 1).val, k1⟩ : Fin 4) = ⟨(y 1).val, k1'⟩ from Fin.ext (by rw [z1]; show 0 * 128 + 1 * (y 1).val = (y 1).val; omega),
    show ((((cfg0.win 9).blk t).view.emb y) 0).val = (y 0).val by rw [z0]; omega]

/-- The values' scales after the run, on the images' rows and the heads' lanes. -/
theorem end11 (i : S8x128.Idx) (h0 : (i 0).val < 6) (h1 : (i 1).val < 4) :
    ((rdat m c).withAfter after).arrAt 11 cfg0.N i = W9 (data m c) hV i := by
  refine Dat.arrAt_forall_of_covers ((rdat m c).withAfter after) 11 (fun i v => (i 0).val < 6 → (i 1).val < 4 → v = W9 (data m c) hV i) (by decide +kernel) (fun t hf y => ?_) i (Memref.isWhole_whole _) h0 h1
  obtain ⟨_, q⟩ := leaves m c (hL 11 t hf)
  have q' : P9 (data m c) hV (fixed t.val) (after 11 t) := q
  have ht := last11 t hf
  have b0 : (y 0).val < 8 := ((cfg0.win 11).xinj (grid0.coords t) y 0).isLt
  have b1 : (y 1).val < 128 := ((cfg0.win 11).xinj (grid0.coords t) y 1).isLt
  have z0 : ((((cfg0.win 11).blk t).view.emb y) 0).val = win0_11.index t 0 * 8 + 1 * (y 0).val := rfl
  have z1 : ((((cfg0.win 11).blk t).view.emb y) 1).val = win0_11.index t 1 * 128 + 1 * (y 1).val := rfl
  rw [(idx11 t).1] at z0
  rw [(idx11 t).2] at z1
  intro k0 k1
  have k1' : (y 1).val < 4 := by rw [z1] at k1; omega
  have k0' : (y 0).val < 6 := by rw [z0] at k0; omega
  have s := q' ⟨(y 0).val, b0⟩ ⟨(y 1).val, k1'⟩ k0' (by show (y 0).val < fixed t.val; rw [show fixed t.val = 7 by rw [ht]; rfl]; omega)
  have ex : (cfg0.win 11).xinj (grid0.coords t) y = ix2 ⟨(y 0).val, b0⟩ (lane ⟨(y 1).val, k1'⟩) := by
    funext x
    apply Fin.ext
    match x with
    | ⟨0, _⟩ => rfl
    | ⟨1, _⟩ => rfl
  show after 11 t ((cfg0.win 11).xinj (grid0.coords t) y) = _
  rw [ex]
  refine s.trans ?_
  unfold W9
  rw [dif_pos k1]
  rw [show (⟨((((cfg0.win 11).blk t).view.emb y) 1).val, k1⟩ : Fin 4) = ⟨(y 1).val, k1'⟩ from Fin.ext (by rw [z1]; show 0 * 128 + 1 * (y 1).val = (y 1).val; omega),
    show ((((cfg0.win 11).blk t).view.emb y) 0).val = (y 0).val by rw [z0]; omega]

end ends

end Cert.KernelVisIdeal.Hand

end
-- ==== Proof.VisRefC.lean ====
/-
  The K/V build's one-block reference: what its outputs hold after the run, index by index (hand-written, untrusted).
-/
module

public import proofs.«01_k».proof.Proof.VisRefB
public import proofs.«01_k».proof.Proof.VisValue
public import proofs.«01_k».proof.Proof.Gen.ReferenceVisIdeal.Points

@[expose] public section

set_option maxRecDepth 16384

noncomputable section

namespace Cert.ReferenceVisIdeal.Hand

open Idealize.ShloMosaic Idealize.ShloMosaic.TcCoe
open Idealize.SL.Sem
open Idealize.ShloMosaic.Pipeline (Dat Cfg Window)
open Cert.ReferenceVisIdeal Cert.ReferenceVisIdeal.Gen
open Cert.Rows Cert.VisRow
open Cert.KernelVisIdeal.Hand (Data KV CM HS hK hV cK cV lane W6 W7 W8 W9)

variable (m : (ℓ : Loc nD τ sig) → Buf (Elt Ideal) ℓ) (ρ : Dev nD → PrngReg)

/-- The data of the arrays the call takes. -/
def data (c : Dev nD) : Data := ofArr (V m c main_arg0) (V m c main_arg1) (V m c main_arg2) (V m c main_v0) (V m c main_v1) (V m c main_v2)

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem blk0 (c : Dev nD) (t : Fin cfg0.N) : (iblk m c 0 t : Vec Ideal S6x6404x4096 .bf16) = V m c main_arg0 := by
  funext j
  show V m c main_arg0 (((cfg0.win 0).blk t).view.emb j) = _
  congr 1
  funext x
  apply Fin.ext
  match x with
  | ⟨0, _⟩ => show win0_0.index t 0 * 6 + 1 * (j 0).val = (j 0).val; rw [(idx0 t).1]; omega
  | ⟨1, _⟩ => show win0_0.index t 1 * 6404 + 1 * (j 1).val = (j 1).val; rw [(idx0 t).2.1]; omega
  | ⟨2, _⟩ => show win0_0.index t 2 * 4096 + 1 * (j 2).val = (j 2).val; rw [(idx0 t).2.2]; omega

theorem idx1 : ∀ t : Fin cfg0.N, win0_1.index t 0 = 0 ∧ win0_1.index t 1 = 0 :=
  (by decide +kernel : ∀ t : Fin grid0.N, win0_1.index t 0 = 0 ∧ win0_1.index t 1 = 0)
theorem blk1 (c : Dev nD) (t : Fin cfg0.N) : (iblk m c 1 t : Vec Ideal S4096x512 .fp8e4m3) = V m c main_arg1 := by
  funext j
  show V m c main_arg1 (((cfg0.win 1).blk t).view.emb j) = _
  congr 1
  funext x
  apply Fin.ext
  match x with
  | ⟨0, _⟩ => show win0_1.index t 0 * 4096 + 1 * (j 0).val = (j 0).val; rw [(idx1 t).1]; omega
  | ⟨1, _⟩ => show win0_1.index t 1 * 512 + 1 * (j 1).val = (j 1).val; rw [(idx1 t).2]; omega

theorem idx2 : ∀ t : Fin cfg0.N, win0_2.index t 0 = 0 ∧ win0_2.index t 1 = 0 :=
  (by decide +kernel : ∀ t : Fin grid0.N, win0_2.index t 0 = 0 ∧ win0_2.index t 1 = 0)
theorem blk2 (c : Dev nD) (t : Fin cfg0.N) : (iblk m c 2 t : Vec Ideal S4096x512 .fp8e4m3) = V m c main_arg2 := by
  funext j
  show V m c main_arg2 (((cfg0.win 2).blk t).view.emb j) = _
  congr 1
  funext x
  apply Fin.ext
  match x with
  | ⟨0, _⟩ => show win0_2.index t 0 * 4096 + 1 * (j 0).val = (j 0).val; rw [(idx2 t).1]; omega
  | ⟨1, _⟩ => show win0_2.index t 1 * 512 + 1 * (j 1).val = (j 1).val; rw [(idx2 t).2]; omega

theorem idx3 : ∀ t : Fin cfg0.N, win0_3.index t 0 = 0 ∧ win0_3.index t 1 = 0 :=
  (by decide +kernel : ∀ t : Fin grid0.N, win0_3.index t 0 = 0 ∧ win0_3.index t 1 = 0)
theorem blk3 (c : Dev nD) (t : Fin cfg0.N) : (iblk m c 3 t : Vec Ideal S1x512 .f32) = V m c main_v0 := by
  funext j
  show V m c main_v0 (((cfg0.win 3).blk t).view.emb j) = _
  congr 1
  funext x
  apply Fin.ext
  match x with
  | ⟨0, _⟩ => show win0_3.index t 0 * 1 + 1 * (j 0).val = (j 0).val; rw [(idx3 t).1]; omega
  | ⟨1, _⟩ => show win0_3.index t 1 * 512 + 1 * (j 1).val = (j 1).val; rw [(idx3 t).2]; omega

theorem idx4 : ∀ t : Fin cfg0.N, win0_4.index t 0 = 0 ∧ win0_4.index t 1 = 0 :=
  (by decide +kernel : ∀ t : Fin grid0.N, win0_4.index t 0 = 0 ∧ win0_4.index t 1 = 0)
theorem blk4 (c : Dev nD) (t : Fin cfg0.N) : (iblk m c 4 t : Vec Ideal S1x512 .f32) = V m c main_v1 := by
  funext j
  show V m c main_v1 (((cfg0.win 4).blk t).view.emb j) = _
  congr 1
  funext x
  apply Fin.ext
  match x with
  | ⟨0, _⟩ => show win0_4.index t 0 * 1 + 1 * (j 0).val = (j 0).val; rw [(idx4 t).1]; omega
  | ⟨1, _⟩ => show win0_4.index t 1 * 512 + 1 * (j 1).val = (j 1).val; rw [(idx4 t).2]; omega

theorem idx5 : ∀ t : Fin cfg0.N, win0_5.index t 0 = 0 ∧ win0_5.index t 1 = 0 :=
  (by decide +kernel : ∀ t : Fin grid0.N, win0_5.index t 0 = 0 ∧ win0_5.index t 1 = 0)
theorem blk5 (c : Dev nD) (t : Fin cfg0.N) : (iblk m c 5 t : Vec Ideal S1x128 .f32) = V m c main_v2 := by
  funext j
  show V m c main_v2 (((cfg0.win 5).blk t).view.emb j) = _
  congr 1
  funext x
  apply Fin.ext
  match x with
  | ⟨0, _⟩ => show win0_5.index t 0 * 1 + 1 * (j 0).val = (j 0).val; rw [(idx5 t).1]; omega
  | ⟨1, _⟩ => show win0_5.index t 1 * 128 + 1 * (j 1).val = (j 1).val; rw [(idx5 t).2]; omega

/-- The blocks' data is the arrays'. -/
theorem data_eq (c : Dev nD) (t : Fin cfg0.N) :
    ofArr (iblk m c 0 t) (iblk m c 1 t) (iblk m c 2 t) (iblk m c 3 t) (iblk m c 4 t) (iblk m c 5 t) = data m c := by
  unfold data
  rw [← blk0 m c t, ← blk1 m c t, ← blk2 m c t, ← blk3 m c t, ← blk4 m c t, ← blk5 m c t]

theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem at6 (c : Dev nD) (t : Fin cfg0.N) (i : Fin 6) (n : Fin 6404) (a : Fin 4096) : (outsAt0 m c t).1 (ix3 i n a) = W6 (data m c) (ix3 i n a) := by
  have e : (outsAt0 m c t).1 = out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) := by
    unfold outsAt0
    dsimp only
  have f := o6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) i n a
  rw [data_eq m c t] at f
  rw [e, f]
  rfl

/-- Output 6 after the run. -/
theorem end6 (c : Dev nD) (i : S6x6404x4096.Idx) : (dats m 0 c).arrAt 6 cfg0.N i = W6 (data m c) i := by
  refine Dat.arrAt_forall_of_covers (dats m 0 c) 6 (fun i v => v = W6 (data m c) i) (by decide +kernel) (fun t hf y => ?_) i
  have b0 : (y 0).val < 6 := ((cfg0.win 6).xinj (grid0.coords t) y 0).isLt
  have b1 : (y 1).val < 6404 := ((cfg0.win 6).xinj (grid0.coords t) y 1).isLt
  have b2 : (y 2).val < 4096 := ((cfg0.win 6).xinj (grid0.coords t) y 2).isLt
  have z0 : ((((cfg0.win 6).blk t).view.emb y) 0).val = win0_6.index t 0 * 6 + 1 * (y 0).val := rfl
  rw [(idx6 t).1] at z0
  have z1 : ((((cfg0.win 6).blk t).view.emb y) 1).val = win0_6.index t 1 * 6404 + 1 * (y 1).val := rfl
  rw [(idx6 t).2.1] at z1
  have z2 : ((((cfg0.win 6).blk t).view.emb y) 2).val = win0_6.index t 2 * 4096 + 1 * (y 2).val := rfl
  rw [(idx6 t).2.2] at z2
  have em : ((cfg0.win 6).blk t).view.emb y = (ix3 ⟨(y 0).val, b0⟩ ⟨(y 1).val, b1⟩ ⟨(y 2).val, b2⟩ : S6x6404x4096.Idx) := by
    funext x
    apply Fin.ext
    match x with
    | ⟨0, _⟩ => exact z0.trans (by show 0 * 6 + 1 * (y 0).val = (y 0).val; omega)
    | ⟨1, _⟩ => exact z1.trans (by show 0 * 6404 + 1 * (y 1).val = (y 1).val; omega)
    | ⟨2, _⟩ => exact z2.trans (by show 0 * 4096 + 1 * (y 2).val = (y 2).val; omega)
  have ex : (cfg0.win 6).xinj (grid0.coords t) y = (ix3 ⟨(y 0).val, b0⟩ ⟨(y 1).val, b1⟩ ⟨(y 2).val, b2⟩ : S6x6404x4096.Idx) := by
    funext x
    apply Fin.ext
    match x with
    | ⟨0, _⟩ => rfl
    | ⟨1, _⟩ => rfl
    | ⟨2, _⟩ => rfl
  rw [em]
  show (dats m 0 c).after 6 t ((cfg0.win 6).xinj (grid0.coords t) y) = _
  rw [after0_6, ex]
  exact at6 m c t ⟨(y 0).val, b0⟩ ⟨(y 1).val, b1⟩ ⟨(y 2).val, b2⟩

theorem idx7 : ∀ t : Fin cfg0.N, win0_7.index t 0 = 0 ∧ win0_7.index t 1 = 0 :=
  (by decide +kernel : ∀ t : Fin grid0.N, win0_7.index t 0 = 0 ∧ win0_7.index t 1 = 0)
theorem at7 (c : Dev nD) (t : Fin cfg0.N) (i : Fin 6) (n : Fin 6404) : (outsAt0 m c t).2.1 (ix2 i n) = W7 (data m c) (ix2 i n) := by
  have e : (outsAt0 m c t).2.1 = out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) := by
    unfold outsAt0
    dsimp only
  have f := o7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) i n
  rw [data_eq m c t] at f
  rw [e, f]
  rfl

/-- Output 7 after the run. -/
theorem end7 (c : Dev nD) (i : S6x6404.Idx) : (dats m 0 c).arrAt 7 cfg0.N i = W7 (data m c) i := by
  refine Dat.arrAt_forall_of_covers (dats m 0 c) 7 (fun i v => v = W7 (data m c) i) (by decide +kernel) (fun t hf y => ?_) i
  have b0 : (y 0).val < 6 := ((cfg0.win 7).xinj (grid0.coords t) y 0).isLt
  have b1 : (y 1).val < 6404 := ((cfg0.win 7).xinj (grid0.coords t) y 1).isLt
  have z0 : ((((cfg0.win 7).blk t).view.emb y) 0).val = win0_7.index t 0 * 6 + 1 * (y 0).val := rfl
  rw [(idx7 t).1] at z0
  have z1 : ((((cfg0.win 7).blk t).view.emb y) 1).val = win0_7.index t 1 * 6404 + 1 * (y 1).val := rfl
  rw [(idx7 t).2] at z1
  have em : ((cfg0.win 7).blk t).view.emb y = (ix2 ⟨(y 0).val, b0⟩ ⟨(y 1).val, b1⟩ : S6x6404.Idx) := by
    funext x
    apply Fin.ext
    match x with
    | ⟨0, _⟩ => exact z0.trans (by show 0 * 6 + 1 * (y 0).val = (y 0).val; omega)
    | ⟨1, _⟩ => exact z1.trans (by show 0 * 6404 + 1 * (y 1).val = (y 1).val; omega)
  have ex : (cfg0.win 7).xinj (grid0.coords t) y = (ix2 ⟨(y 0).val, b0⟩ ⟨(y 1).val, b1⟩ : S6x6404.Idx) := by
    funext x
    apply Fin.ext
    match x with
    | ⟨0, _⟩ => rfl
    | ⟨1, _⟩ => rfl
  rw [em]
  show (dats m 0 c).after 7 t ((cfg0.win 7).xinj (grid0.coords t) y) = _
  rw [after0_7, ex]
  exact at7 m c t ⟨(y 0).val, b0⟩ ⟨(y 1).val, b1⟩

theorem idx8 : ∀ t : Fin cfg0.N, win0_8.index t 0 = 0 ∧ win0_8.index t 1 = 0 ∧ win0_8.index t 2 = 0 ∧ win0_8.index t 3 = 0 :=
  (by decide +kernel : ∀ t : Fin grid0.N, win0_8.index t 0 = 0 ∧ win0_8.index t 1 = 0 ∧ win0_8.index t 2 = 0 ∧ win0_8.index t 3 = 0)
theorem at8 (c : Dev nD) (t : Fin cfg0.N) (i : Fin 6) (g : Fin 4) (n : Fin 6404) (d : Fin 128) : (outsAt0 m c t).2.2.1 (ix4 i g n d) = W8 (data m c) cK hK (ix4 i g n d) := by
  have e : (outsAt0 m c t).2.2.1 = out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) := by
    unfold outsAt0
    dsimp only
  have f := o8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) i g n d
  rw [data_eq m c t] at f
  rw [e, f]
  rfl

/-- Output 8 after the run. -/
theorem end8 (c : Dev nD) (i : S6x4x6404x128.Idx) : (dats m 0 c).arrAt 8 cfg0.N i = W8 (data m c) cK hK i := by
  refine Dat.arrAt_forall_of_covers (dats m 0 c) 8 (fun i v => v = W8 (data m c) cK hK i) (by decide +kernel) (fun t hf y => ?_) i
  have b0 : (y 0).val < 6 := ((cfg0.win 8).xinj (grid0.coords t) y 0).isLt
  have b1 : (y 1).val < 4 := ((cfg0.win 8).xinj (grid0.coords t) y 1).isLt
  have b2 : (y 2).val < 6404 := ((cfg0.win 8).xinj (grid0.coords t) y 2).isLt
  have b3 : (y 3).val < 128 := ((cfg0.win 8).xinj (grid0.coords t) y 3).isLt
  have z0 : ((((cfg0.win 8).blk t).view.emb y) 0).val = win0_8.index t 0 * 6 + 1 * (y 0).val := rfl
  rw [(idx8 t).1] at z0
  have z1 : ((((cfg0.win 8).blk t).view.emb y) 1).val = win0_8.index t 1 * 4 + 1 * (y 1).val := rfl
  rw [(idx8 t).2.1] at z1
  have z2 : ((((cfg0.win 8).blk t).view.emb y) 2).val = win0_8.index t 2 * 6404 + 1 * (y 2).val := rfl
  rw [(idx8 t).2.2.1] at z2
  have z3 : ((((cfg0.win 8).blk t).view.emb y) 3).val = win0_8.index t 3 * 128 + 1 * (y 3).val := rfl
  rw [(idx8 t).2.2.2] at z3
  have em : ((cfg0.win 8).blk t).view.emb y = (ix4 ⟨(y 0).val, b0⟩ ⟨(y 1).val, b1⟩ ⟨(y 2).val, b2⟩ ⟨(y 3).val, b3⟩ : S6x4x6404x128.Idx) := by
    funext x
    apply Fin.ext
    match x with
    | ⟨0, _⟩ => exact z0.trans (by show 0 * 6 + 1 * (y 0).val = (y 0).val; omega)
    | ⟨1, _⟩ => exact z1.trans (by show 0 * 4 + 1 * (y 1).val = (y 1).val; omega)
    | ⟨2, _⟩ => exact z2.trans (by show 0 * 6404 + 1 * (y 2).val = (y 2).val; omega)
    | ⟨3, _⟩ => exact z3.trans (by show 0 * 128 + 1 * (y 3).val = (y 3).val; omega)
  have ex : (cfg0.win 8).xinj (grid0.coords t) y = (ix4 ⟨(y 0).val, b0⟩ ⟨(y 1).val, b1⟩ ⟨(y 2).val, b2⟩ ⟨(y 3).val, b3⟩ : S6x4x6404x128.Idx) := by
    funext x
    apply Fin.ext
    match x with
    | ⟨0, _⟩ => rfl
    | ⟨1, _⟩ => rfl
    | ⟨2, _⟩ => rfl
    | ⟨3, _⟩ => rfl
  rw [em]
  show (dats m 0 c).after 8 t ((cfg0.win 8).xinj (grid0.coords t) y) = _
  rw [after0_8, ex]
  exact at8 m c t ⟨(y 0).val, b0⟩ ⟨(y 1).val, b1⟩ ⟨(y 2).val, b2⟩ ⟨(y 3).val, b3⟩

theorem idx9 : ∀ t : Fin cfg0.N, win0_9.index t 0 = 0 ∧ win0_9.index t 1 = 0 :=
  (by decide +kernel : ∀ t : Fin grid0.N, win0_9.index t 0 = 0 ∧ win0_9.index t 1 = 0)
theorem at9 (c : Dev nD) (t : Fin cfg0.N) (i : Fin 6) (I : Fin 8) (hI : I.val = i.val) (g : Fin 4) : (outsAt0 m c t).2.2.2.1 (ix2 I (lane g)) = W9 (data m c) hK (ix2 I (lane g)) := by
  have e : (outsAt0 m c t).2.2.2.1 = out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) := by
    unfold outsAt0
    dsimp only
  have f := o9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) i I hI g
  rw [data_eq m c t] at f
  rw [e, f]
  unfold W9
  rw [dif_pos (show ((ix2 I (lane g) : S8x128.Idx) 1).val < 4 from g.isLt), show ((ix2 I (lane g) : S8x128.Idx) 0).val = i.val from hI]
  rfl

/-- Output 9 after the run. -/
theorem end9 (c : Dev nD) (i : S8x128.Idx) (h0 : (i 0).val < 6) (h1 : (i 1).val < 4) : (dats m 0 c).arrAt 9 cfg0.N i = W9 (data m c) hK i := by
  refine Dat.arrAt_forall_of_covers (dats m 0 c) 9 (fun i v => (i 0).val < 6 → (i 1).val < 4 → v = W9 (data m c) hK i) (by decide +kernel) (fun t hf y => ?_) i (Memref.isWhole_whole _) h0 h1
  have b0 : (y 0).val < 8 := ((cfg0.win 9).xinj (grid0.coords t) y 0).isLt
  have b1 : (y 1).val < 128 := ((cfg0.win 9).xinj (grid0.coords t) y 1).isLt
  have z0 : ((((cfg0.win 9).blk t).view.emb y) 0).val = win0_9.index t 0 * 8 + 1 * (y 0).val := rfl
  rw [(idx9 t).1] at z0
  have z1 : ((((cfg0.win 9).blk t).view.emb y) 1).val = win0_9.index t 1 * 128 + 1 * (y 1).val := rfl
  rw [(idx9 t).2] at z1
  have em : ((cfg0.win 9).blk t).view.emb y = (ix2 ⟨(y 0).val, b0⟩ ⟨(y 1).val, b1⟩ : S8x128.Idx) := by
    funext x
    apply Fin.ext
    match x with
    | ⟨0, _⟩ => exact z0.trans (by show 0 * 8 + 1 * (y 0).val = (y 0).val; omega)
    | ⟨1, _⟩ => exact z1.trans (by show 0 * 128 + 1 * (y 1).val = (y 1).val; omega)
  have ex : (cfg0.win 9).xinj (grid0.coords t) y = (ix2 ⟨(y 0).val, b0⟩ ⟨(y 1).val, b1⟩ : S8x128.Idx) := by
    funext x
    apply Fin.ext
    match x with
    | ⟨0, _⟩ => rfl
    | ⟨1, _⟩ => rfl
  rw [em]
  show _ → _ → (dats m 0 c).after 9 t ((cfg0.win 9).xinj (grid0.coords t) y) = _
  intro k0 k1
  have k0' : (y 0).val < 6 := k0
  have k1' : (y 1).val < 4 := k1
  rw [after0_9, ex]
  exact at9 m c t ⟨(y 0).val, k0'⟩ ⟨(y 0).val, b0⟩ rfl ⟨(y 1).val, k1'⟩

theorem idx10 : ∀ t : Fin cfg0.N, win0_10.index t 0 = 0 ∧ win0_10.index t 1 = 0 ∧ win0_10.index t 2 = 0 ∧ win0_10.index t 3 = 0 :=
  (by decide +kernel : ∀ t : Fin grid0.N, win0_10.index t 0 = 0 ∧ win0_10.index t 1 = 0 ∧ win0_10.index t 2 = 0 ∧ win0_10.index t 3 = 0)
theorem at10 (c : Dev nD) (t : Fin cfg0.N) (i : Fin 6) (g : Fin 4) (n : Fin 6404) (d : Fin 128) : (outsAt0 m c t).2.2.2.2.1 (ix4 i g n d) = W8 (data m c) cV hV (ix4 i g n d) := by
  have e : (outsAt0 m c t).2.2.2.2.1 = out0_A_10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) := by
    unfold outsAt0
    dsimp only
  have f := o10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) i g n d
  rw [data_eq m c t] at f
  rw [e, f]
  rfl

/-- Output 10 after the run. -/
theorem end10 (c : Dev nD) (i : S6x4x6404x128.Idx) : (dats m 0 c).arrAt 10 cfg0.N i = W8 (data m c) cV hV i := by
  refine Dat.arrAt_forall_of_covers (dats m 0 c) 10 (fun i v => v = W8 (data m c) cV hV i) (by decide +kernel) (fun t hf y => ?_) i
  have b0 : (y 0).val < 6 := ((cfg0.win 10).xinj (grid0.coords t) y 0).isLt
  have b1 : (y 1).val < 4 := ((cfg0.win 10).xinj (grid0.coords t) y 1).isLt
  have b2 : (y 2).val < 6404 := ((cfg0.win 10).xinj (grid0.coords t) y 2).isLt
  have b3 : (y 3).val < 128 := ((cfg0.win 10).xinj (grid0.coords t) y 3).isLt
  have z0 : ((((cfg0.win 10).blk t).view.emb y) 0).val = win0_10.index t 0 * 6 + 1 * (y 0).val := rfl
  rw [(idx10 t).1] at z0
  have z1 : ((((cfg0.win 10).blk t).view.emb y) 1).val = win0_10.index t 1 * 4 + 1 * (y 1).val := rfl
  rw [(idx10 t).2.1] at z1
  have z2 : ((((cfg0.win 10).blk t).view.emb y) 2).val = win0_10.index t 2 * 6404 + 1 * (y 2).val := rfl
  rw [(idx10 t).2.2.1] at z2
  have z3 : ((((cfg0.win 10).blk t).view.emb y) 3).val = win0_10.index t 3 * 128 + 1 * (y 3).val := rfl
  rw [(idx10 t).2.2.2] at z3
  have em : ((cfg0.win 10).blk t).view.emb y = (ix4 ⟨(y 0).val, b0⟩ ⟨(y 1).val, b1⟩ ⟨(y 2).val, b2⟩ ⟨(y 3).val, b3⟩ : S6x4x6404x128.Idx) := by
    funext x
    apply Fin.ext
    match x with
    | ⟨0, _⟩ => exact z0.trans (by show 0 * 6 + 1 * (y 0).val = (y 0).val; omega)
    | ⟨1, _⟩ => exact z1.trans (by show 0 * 4 + 1 * (y 1).val = (y 1).val; omega)
    | ⟨2, _⟩ => exact z2.trans (by show 0 * 6404 + 1 * (y 2).val = (y 2).val; omega)
    | ⟨3, _⟩ => exact z3.trans (by show 0 * 128 + 1 * (y 3).val = (y 3).val; omega)
  have ex : (cfg0.win 10).xinj (grid0.coords t) y = (ix4 ⟨(y 0).val, b0⟩ ⟨(y 1).val, b1⟩ ⟨(y 2).val, b2⟩ ⟨(y 3).val, b3⟩ : S6x4x6404x128.Idx) := by
    funext x
    apply Fin.ext
    match x with
    | ⟨0, _⟩ => rfl
    | ⟨1, _⟩ => rfl
    | ⟨2, _⟩ => rfl
    | ⟨3, _⟩ => rfl
  rw [em]
  show (dats m 0 c).after 10 t ((cfg0.win 10).xinj (grid0.coords t) y) = _
  rw [after0_10, ex]
  exact at10 m c t ⟨(y 0).val, b0⟩ ⟨(y 1).val, b1⟩ ⟨(y 2).val, b2⟩ ⟨(y 3).val, b3⟩

theorem idx11 : ∀ t : Fin cfg0.N, win0_11.index t 0 = 0 ∧ win0_11.index t 1 = 0 :=
  (by decide +kernel : ∀ t : Fin grid0.N, win0_11.index t 0 = 0 ∧ win0_11.index t 1 = 0)
theorem at11 (c : Dev nD) (t : Fin cfg0.N) (i : Fin 6) (I : Fin 8) (hI : I.val = i.val) (g : Fin 4) : (outsAt0 m c t).2.2.2.2.2 (ix2 I (lane g)) = W9 (data m c) hV (ix2 I (lane g)) := by
  have e : (outsAt0 m c t).2.2.2.2.2 = out0_A_11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) := by
    unfold outsAt0
    dsimp only
  have f := o11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) i I hI g
  rw [data_eq m c t] at f
  rw [e, f]
  unfold W9
  rw [dif_pos (show ((ix2 I (lane g) : S8x128.Idx) 1).val < 4 from g.isLt), show ((ix2 I (lane g) : S8x128.Idx) 0).val = i.val from hI]
  rfl

/-- Output 11 after the run. -/
theorem end11 (c : Dev nD) (i : S8x128.Idx) (h0 : (i 0).val < 6) (h1 : (i 1).val < 4) : (dats m 0 c).arrAt 11 cfg0.N i = W9 (data m c) hV i := by
  refine Dat.arrAt_forall_of_covers (dats m 0 c) 11 (fun i v => (i 0).val < 6 → (i 1).val < 4 → v = W9 (data m c) hV i) (by decide +kernel) (fun t hf y => ?_) i (Memref.isWhole_whole _) h0 h1
  have b0 : (y 0).val < 8 := ((cfg0.win 11).xinj (grid0.coords t) y 0).isLt
  have b1 : (y 1).val < 128 := ((cfg0.win 11).xinj (grid0.coords t) y 1).isLt
  have z0 : ((((cfg0.win 11).blk t).view.emb y) 0).val = win0_11.index t 0 * 8 + 1 * (y 0).val := rfl
  rw [(idx11 t).1] at z0
  have z1 : ((((cfg0.win 11).blk t).view.emb y) 1).val = win0_11.index t 1 * 128 + 1 * (y 1).val := rfl
  rw [(idx11 t).2] at z1
  have em : ((cfg0.win 11).blk t).view.emb y = (ix2 ⟨(y 0).val, b0⟩ ⟨(y 1).val, b1⟩ : S8x128.Idx) := by
    funext x
    apply Fin.ext
    match x with
    | ⟨0, _⟩ => exact z0.trans (by show 0 * 8 + 1 * (y 0).val = (y 0).val; omega)
    | ⟨1, _⟩ => exact z1.trans (by show 0 * 128 + 1 * (y 1).val = (y 1).val; omega)
  have ex : (cfg0.win 11).xinj (grid0.coords t) y = (ix2 ⟨(y 0).val, b0⟩ ⟨(y 1).val, b1⟩ : S8x128.Idx) := by
    funext x
    apply Fin.ext
    match x with
    | ⟨0, _⟩ => rfl
    | ⟨1, _⟩ => rfl
  rw [em]
  show _ → _ → (dats m 0 c).after 11 t ((cfg0.win 11).xinj (grid0.coords t) y) = _
  intro k0 k1
  have k0' : (y 0).val < 6 := k0
  have k1' : (y 1).val < 4 := k1
  rw [after0_11, ex]
  exact at11 m c t ⟨(y 0).val, k0'⟩ ⟨(y 0).val, b0⟩ rfl ⟨(y 1).val, k1'⟩

end Cert.ReferenceVisIdeal.Hand

end
-- ==== Proof.VisClaims.lean ====
/-
  The K/V build: the kernel and its one-block reference hold the same six arrays (hand-written, untrusted).
-/
module

public import proofs.«01_k».proof.Defs
public import proofs.«01_k».proof.Proof.VisRefC
public import proofs.«01_k».proof.Proof.Gen.On_mask_vis

@[expose] public section

set_option maxRecDepth 16384

noncomputable section

namespace Cert.KernelVisIdeal.Hand

open Idealize.ShloMosaic Idealize.ShloMosaic.TcCoe
open Idealize.SL.Sem
open Idealize.ShloMosaic.Pipeline (Dat RDat Cfg Window)
open Cert.KernelVisIdeal Cert.KernelVisIdeal.Gen
open Cert.Rows Cert.VisRow
open Cert.ReferenceVisIdeal.Hand (ofArr)

variable (m : (ℓ : Loc nD τ sig) → Buf (Elt Ideal) ℓ) (ρ : Dev nD → PrngReg)

/-- A row vector of 512 (of 128) as the one-row array the host makes of it. -/
def one512 (x : Vec Ideal S512 .f32) : Vec Ideal S1x512 .f32 := fun i => x (ix1 (i 1))
def one128 (x : Vec Ideal S128 .f32) : Vec Ideal S1x128 .f32 := fun i => x (ix1 (i 1))

theorem V_v0_at (c : Dev nD) (r : Fin 512) : V m c main_v0 (ix2 0 r) = m ((c : Thread nD τ).loc main_arg3) (ix1 r) := by
  unfold_abbrev_sides
  after_results
  pointwise

/-- The host's row 0 is the argument as one row. -/
theorem V_v0 (c : Dev nD) : V m c main_v0 = one512 (m ((c : Thread nD τ).loc main_arg3)) := by
  funext j
  obtain ⟨r, a, rfl⟩ : ∃ (r : Fin 1) (a : Fin 512), j = ix2 r a := ⟨j 0, j 1, eq_ix2 j⟩
  obtain rfl : r = 0 := Fin.eq_zero r
  exact V_v0_at m c a

theorem V_v1_at (c : Dev nD) (r : Fin 512) : V m c main_v1 (ix2 0 r) = m ((c : Thread nD τ).loc main_arg4) (ix1 r) := by
  unfold_abbrev_sides
  after_results
  pointwise

/-- The host's row 1 is the argument as one row. -/
theorem V_v1 (c : Dev nD) : V m c main_v1 = one512 (m ((c : Thread nD τ).loc main_arg4)) := by
  funext j
  obtain ⟨r, a, rfl⟩ : ∃ (r : Fin 1) (a : Fin 512), j = ix2 r a := ⟨j 0, j 1, eq_ix2 j⟩
  obtain rfl : r = 0 := Fin.eq_zero r
  exact V_v1_at m c a

theorem V_v2_at (c : Dev nD) (r : Fin 128) : V m c main_v2 (ix2 0 r) = m ((c : Thread nD τ).loc main_arg5) (ix1 r) := by
  unfold_abbrev_sides
  after_results
  pointwise

/-- The host's row 2 is the argument as one row. -/
theorem V_v2 (c : Dev nD) : V m c main_v2 = one128 (m ((c : Thread nD τ).loc main_arg5)) := by
  funext j
  obtain ⟨r, a, rfl⟩ : ∃ (r : Fin 1) (a : Fin 128), j = ix2 r a := ⟨j 0, j 1, eq_ix2 j⟩
  obtain rfl : r = 0 := Fin.eq_zero r
  exact V_v2_at m c a

/-- The kernel's data, from the arguments. -/
theorem data_args (c : Dev nD) : data m c = ofArr (m ((c : Thread nD τ).loc main_arg0)) (m ((c : Thread nD τ).loc main_arg1)) (m ((c : Thread nD τ).loc main_arg2)) (one512 (m ((c : Thread nD τ).loc main_arg3))) (one512 (m ((c : Thread nD τ).loc main_arg4))) (one128 (m ((c : Thread nD τ).loc main_arg5))) := by
  have e : data m c = ofArr (V m c main_arg0) (V m c main_arg1) (V m c main_arg2) (V m c main_v0) (V m c main_v1) (V m c main_v2) := rfl
  rw [e, V_v0, V_v1, V_v2, V_main_arg0, V_main_arg1, V_main_arg2]

/-- The kernel's run: what its six results hold (the two scale arrays where the kernel writes them), the arguments unchanged. -/
theorem run_value : θ_run defs (onTc (τ := τ) (main (F := Ideal))) ⟨m, fun _ => 0, ρ⟩ fun r => ∀ c : Dev nD,
      (∀ i : S6x6404x4096.Idx, r.2.mem ((c : Thread nD τ).loc main_v3_0) i = W6 (data m c) i)
      ∧ (∀ i : S6x6404.Idx, r.2.mem ((c : Thread nD τ).loc main_v3_1) i = W7 (data m c) i)
      ∧ (∀ i : S6x4x6404x128.Idx, r.2.mem ((c : Thread nD τ).loc main_v3_2) i = W8 (data m c) cK hK i)
      ∧ (∀ i : S8x128.Idx, (i 0).val < 6 → (i 1).val < 4 → r.2.mem ((c : Thread nD τ).loc main_v3_3) i = W9 (data m c) hK i)
      ∧ (∀ i : S6x4x6404x128.Idx, r.2.mem ((c : Thread nD τ).loc main_v3_4) i = W8 (data m c) cV hV i)
      ∧ (∀ i : S8x128.Idx, (i 0).val < 6 → (i 1).val < 4 → r.2.mem ((c : Thread nD τ).loc main_v3_5) i = W9 (data m c) hV i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_main m ρ)
  obtain ⟨after, hL, hA⟩ := Pipeline.RDat.FramePost.exists_exact h.1 c
  exact ⟨fun i => (congrFun (hA 6) i).trans (end6 m c after hL i), fun i => (congrFun (hA 7) i).trans (end7 m c after hL i),
    fun i => (congrFun (hA 8) i).trans (end8 m c after hL i), fun i h0 h1 => (congrFun (hA 9) i).trans (end9 m c after hL i h0 h1),
    fun i => (congrFun (hA 10) i).trans (end10 m c after hL i), fun i h0 h1 => (congrFun (hA 11) i).trans (end11 m c after hL i h0 h1),
    args_of m h.1 c⟩

end Cert.KernelVisIdeal.Hand

namespace Cert.ReferenceVisIdeal.Hand

open Idealize.ShloMosaic Idealize.ShloMosaic.TcCoe
open Idealize.SL.Sem
open Idealize.ShloMosaic.Pipeline (Dat RDat Cfg Window)
open Cert.ReferenceVisIdeal Cert.ReferenceVisIdeal.Gen
open Cert.Rows Cert.VisRow
open Cert.KernelVisIdeal.Hand (Data KV CM HS hK hV cK cV lane W6 W7 W8 W9)

variable (m : (ℓ : Loc nD τ sig) → Buf (Elt Ideal) ℓ) (ρ : Dev nD → PrngReg)

/-- A row vector of 512 (of 128) as the one-row array the host makes of it. -/
def one512 (x : Vec Ideal S512 .f32) : Vec Ideal S1x512 .f32 := fun i => x (ix1 (i 1))
def one128 (x : Vec Ideal S128 .f32) : Vec Ideal S1x128 .f32 := fun i => x (ix1 (i 1))

theorem V_v0_at (c : Dev nD) (r : Fin 512) : V m c main_v0 (ix2 0 r) = m ((c : Thread nD τ).loc main_arg3) (ix1 r) := by
  unfold_abbrev_sides
  after_results
  pointwise

/-- The host's row 0 is the argument as one row. -/
theorem V_v0 (c : Dev nD) : V m c main_v0 = one512 (m ((c : Thread nD τ).loc main_arg3)) := by
  funext j
  obtain ⟨r, a, rfl⟩ : ∃ (r : Fin 1) (a : Fin 512), j = ix2 r a := ⟨j 0, j 1, eq_ix2 j⟩
  obtain rfl : r = 0 := Fin.eq_zero r
  exact V_v0_at m c a

theorem V_v1_at (c : Dev nD) (r : Fin 512) : V m c main_v1 (ix2 0 r) = m ((c : Thread nD τ).loc main_arg4) (ix1 r) := by
  unfold_abbrev_sides
  after_results
  pointwise

/-- The host's row 1 is the argument as one row. -/
theorem V_v1 (c : Dev nD) : V m c main_v1 = one512 (m ((c : Thread nD τ).loc main_arg4)) := by
  funext j
  obtain ⟨r, a, rfl⟩ : ∃ (r : Fin 1) (a : Fin 512), j = ix2 r a := ⟨j 0, j 1, eq_ix2 j⟩
  obtain rfl : r = 0 := Fin.eq_zero r
  exact V_v1_at m c a

theorem V_v2_at (c : Dev nD) (r : Fin 128) : V m c main_v2 (ix2 0 r) = m ((c : Thread nD τ).loc main_arg5) (ix1 r) := by
  unfold_abbrev_sides
  after_results
  pointwise

/-- The host's row 2 is the argument as one row. -/
theorem V_v2 (c : Dev nD) : V m c main_v2 = one128 (m ((c : Thread nD τ).loc main_arg5)) := by
  funext j
  obtain ⟨r, a, rfl⟩ : ∃ (r : Fin 1) (a : Fin 128), j = ix2 r a := ⟨j 0, j 1, eq_ix2 j⟩
  obtain rfl : r = 0 := Fin.eq_zero r
  exact V_v2_at m c a

/-- The reference's data, from the arguments. -/
theorem data_args (c : Dev nD) : data m c = ofArr (m ((c : Thread nD τ).loc main_arg0)) (m ((c : Thread nD τ).loc main_arg1)) (m ((c : Thread nD τ).loc main_arg2)) (one512 (m ((c : Thread nD τ).loc main_arg3))) (one512 (m ((c : Thread nD τ).loc main_arg4))) (one128 (m ((c : Thread nD τ).loc main_arg5))) := by
  unfold data
  rw [V_v0, V_v1, V_v2, V_main_arg0, V_main_arg1, V_main_arg2]

/-- The reference's run: what its six results hold, the arguments unchanged. -/
theorem run_value : θ_run defs (onTc (τ := τ) (main (F := Ideal))) ⟨m, fun _ => 0, ρ⟩ fun r => ∀ c : Dev nD,
      (∀ i : S6x6404x4096.Idx, r.2.mem ((c : Thread nD τ).loc main_v3_0) i = W6 (data m c) i)
      ∧ (∀ i : S6x6404.Idx, r.2.mem ((c : Thread nD τ).loc main_v3_1) i = W7 (data m c) i)
      ∧ (∀ i : S6x4x6404x128.Idx, r.2.mem ((c : Thread nD τ).loc main_v3_2) i = W8 (data m c) cK hK i)
      ∧ (∀ i : S8x128.Idx, (i 0).val < 6 → (i 1).val < 4 → r.2.mem ((c : Thread nD τ).loc main_v3_3) i = W9 (data m c) hK i)
      ∧ (∀ i : S6x4x6404x128.Idx, r.2.mem ((c : Thread nD τ).loc main_v3_4) i = W8 (data m c) cV hV i)
      ∧ (∀ i : S8x128.Idx, (i 0).val < 6 → (i 1).val < 4 → r.2.mem ((c : Thread nD τ).loc main_v3_5) i = W9 (data m c) hV i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨fun i => (congrFun ((h c).1 6) i).trans (end6 m c i), fun i => (congrFun ((h c).1 7) i).trans (end7 m c i),
    fun i => (congrFun ((h c).1 8) i).trans (end8 m c i), fun i h0 h1 => (congrFun ((h c).1 9) i).trans (end9 m c i h0 h1),
    fun i => (congrFun ((h c).1 10) i).trans (end10 m c i), fun i h0 h1 => (congrFun ((h c).1 11) i).trans (end11 m c i h0 h1),
    ((h c).1 0).trans (((dats m 0 c).arrAt_in 0 rfl _).trans (V_main_arg0 m c)), ((h c).1 1).trans (((dats m 0 c).arrAt_in 1 rfl _).trans (V_main_arg1 m c)),
    ((h c).1 2).trans (((dats m 0 c).arrAt_in 2 rfl _).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.ReferenceVisIdeal.Hand

namespace Cert.Proof.VisClaims

open Idealize.ShloMosaic Idealize.ShloMosaic.TcCoe
open Idealize.SL.Sem
open Cert.KernelVisIdeal.Hand (W6 W7 W8 W9 hK hV cK cV)

/-- The mask of the scale arrays selects rows below 6 and lanes below 4 only. -/
theorem mask_lt (h : Cert.On_mask_vis.S_.BroadcastsInDim Cert.On_mask_vis.S8x128 (![] : Fin 0 → Fin Cert.On_mask_vis.S8x128.rank))
    (i : Cert.On_mask_vis.S8x128.Idx)
    (hi : andi (cmpi .slt (iotaInDim Cert.On_mask_vis.S8x128 32 0) (broadcastInDim Cert.On_mask_vis.S8x128 ![] h (constantI Cert.On_mask_vis.S_ 32 6#32)))
      (cmpi .slt (iotaInDim Cert.On_mask_vis.S8x128 32 1) (broadcastInDim Cert.On_mask_vis.S8x128 ![] h (constantI Cert.On_mask_vis.S_ 32 4#32))) i = 1#1) :
    (i 0).val < 6 ∧ (i 1).val < 4 := by
  obtain ⟨a, b, rfl⟩ : ∃ (a : Fin 8) (b : Fin 128), i = ix2 a b := ⟨i 0, i 1, eq_ix2 i⟩
  have key : ∀ (a : Fin 8) (b : Fin 128), (BitVec.ofBool ((BitVec.ofNat 32 a.val).slt 6#32) &&& BitVec.ofBool ((BitVec.ofNat 32 b.val).slt 4#32)) = 1#1 → a.val < 6 ∧ b.val < 4 := by decide +kernel
  exact key a b hi

/-- Over the extended reals the streaming K/V build and the plain one-block reference leave the same six arrays: the
    codes and scales of the normalised rows, and the codes and per-head scales of the keys and of the values (the last
    two where the kernel writes them: rows below 6, lanes below 4). -/
theorem algebraic : Cert.algebraic_KernelVisIdeal_ReferenceVisIdeal_on_mask_vis := by
  intro m ρ m' ρ' _ hagree
  refine ⟨fun c => W6 (Cert.KernelVisIdeal.Hand.data m c), fun c => W7 (Cert.KernelVisIdeal.Hand.data m c),
    fun c => W8 (Cert.KernelVisIdeal.Hand.data m c) cK hK, fun c => W9 (Cert.KernelVisIdeal.Hand.data m c) hK,
    fun c => W8 (Cert.KernelVisIdeal.Hand.data m c) cV hV, fun c => W9 (Cert.KernelVisIdeal.Hand.data m c) hV, ?_, ?_⟩
  · refine (θ_run Cert.KernelVisIdeal.defs _ _).mono (fun r h c => ?_) (Cert.KernelVisIdeal.Hand.run_value m ρ)
    obtain ⟨h0, h1, h2, h3, h4, h5, ha⟩ := h c
    exact ⟨fun i _ => h0 i, fun i _ => h1 i, fun i _ => h2 i, fun i hi => h3 i (mask_lt _ i hi).1 (mask_lt _ i hi).2,
      fun i _ => h4 i, fun i hi => h5 i (mask_lt _ i hi).1 (mask_lt _ i hi).2, ha⟩
  · refine (θ_run Cert.ReferenceVisIdeal.defs _ _).mono (fun r h c => ?_) (Cert.ReferenceVisIdeal.Hand.run_value m' ρ')
    obtain ⟨e0, e1, e2, e3, e4, e5⟩ := hagree c
    have e : Cert.ReferenceVisIdeal.Hand.data m' c = Cert.KernelVisIdeal.Hand.data m c := by
      rw [Cert.ReferenceVisIdeal.Hand.data_args, Cert.KernelVisIdeal.Hand.data_args, e0, e1, e2, e3, e4, e5]
      rfl
    obtain ⟨h0, h1, h2, h3, h4, h5, ha⟩ := h c
    rw [e] at h0 h1 h2 h3 h4 h5
    exact ⟨fun i _ => h0 i, fun i _ => h1 i, fun i _ => h2 i, fun i hi => h3 i (mask_lt _ i hi).1 (mask_lt _ i hi).2,
      fun i _ => h4 i, fun i hi => h5 i (mask_lt _ i hi).1 (mask_lt _ i hi).2, ha⟩

end Cert.Proof.VisClaims

end
-- ==== Proof.QRow.lean ====
/-
  The query projection, one row: what the results hold as functions of a row of the input (hand-written, untrusted).
-/
module

public import proofs.«01_k».proof.Proof.Rows

@[expose] public section

set_option maxRecDepth 16384

noncomputable section

open Idealize.ShloMosaic Idealize.ShloMosaic.TcCoe

namespace Cert.QRow

open Cert.Rows

/-- The normalised row. -/
def qx (x g : Fin 4096 → EReal) : Fin 4096 → EReal := rms (Ideal.ofBits .f32 0x45800000#32) x g
/-- Its quantiser's scale. -/
def qs (x g : Fin 4096 → EReal) : EReal := scl (amax (qx x g))
/-- The row's projection: codes against the weights, times the scales. -/
def qq (x g : Fin 4096 → EReal) (w : Fin 4096 → Fin 2048 → EReal) (ws : Fin 2048 → EReal) (n : Fin 2048) : EReal :=
  (∑ a, code (qs x g) (qx x g a) * w a n) * (qs x g * ws n)
/-- A head's column of the projection. -/
def hcol (h : ℕ) (d : Fin 128) : Fin 2048 := ⟨(128 * h + d.val) % 2048, Nat.mod_lt _ (by norm_num)⟩
/-- A head of the projected row, normalised. -/
def qn (x g : Fin 4096 → EReal) (w : Fin 4096 → Fin 2048 → EReal) (ws : Fin 2048 → EReal) (gain : Fin 128 → EReal) (h : ℕ) (d : Fin 128) : EReal :=
  rms (Ideal.ofBits .f32 0x43000000#32) (fun d => qq x g w ws (hcol h d)) gain d

/-- A head of row `R` of a projected block, normalised. -/
def HQ {N : ℕ} (q : (⟨2, ![N, 2048]⟩ : Shape).Idx → EReal) (gain : (⟨2, ![1, 128]⟩ : Shape).Idx → EReal) (R h : ℕ) (d : Fin 128) : EReal :=
  if hR : R < N then rms (Ideal.ofBits .f32 0x43000000#32) (fun d => q (ix2 ⟨R, hR⟩ (hcol h d))) (fun d => gain (ix2 0 d)) d else 0

theorem HQ_of {N : ℕ} (q : (⟨2, ![N, 2048]⟩ : Shape).Idx → EReal) (gain : (⟨2, ![1, 128]⟩ : Shape).Idx → EReal) (R h : ℕ) (d : Fin 128) (hR : R < N)
    (f : Fin 128 → EReal) (hf : ∀ d (hd : 128 * h + d.val < 2048), f d = q (ix2 ⟨R, hR⟩ ⟨128 * h + d.val, hd⟩)) (hh : h < 16) :
    rms (Ideal.ofBits .f32 0x43000000#32) f (fun d => gain (ix2 0 d)) d = HQ q gain R h d := by
  unfold HQ
  rw [dif_pos hR]
  have : f = fun d => q (ix2 ⟨R, hR⟩ (hcol h d)) := by
    funext d
    have hd : 128 * h + d.val < 2048 := by have := d.isLt; omega
    rw [hf d hd]
    exact congrArg q (congrArg (ix2 _) (Fin.ext (Nat.mod_eq_of_lt hd).symm))
  rw [this]

/-- The rows of an array (zero past its end). -/
def rowsOf {N : ℕ} (x : (⟨2, ![N, 4096]⟩ : Shape).Idx → EReal) (r : ℕ) (a : Fin 4096) : EReal := if h : r < N then x (ix2 ⟨r, h⟩ a) else 0

theorem rowsOf_lt {N : ℕ} (x : (⟨2, ![N, 4096]⟩ : Shape).Idx → EReal) (r : ℕ) (h : r < N) : rowsOf x r = fun a => x (ix2 ⟨r, h⟩ a) :=
  funext fun a => dif_pos h

theorem qn_step (X : ℕ → Fin 4096 → EReal) (g : Fin 4096 → EReal) (w : Fin 4096 → Fin 2048 → EReal) (ws : Fin 2048 → EReal) (gain : Fin 128 → EReal)
    {R R' h h' : ℕ} {d d' : Fin 128} (eR : R = R') (eh : h = h') (ed : d = d') : qn (X R) g w ws gain h d = qn (X R') g w ws gain h' d' := by
  subst eR eh ed
  rfl

/-- The three results, from the rows and the weights. -/
def F5 (X : ℕ → Fin 4096 → EReal) (g : Fin 4096 → EReal) (i : (⟨2, ![1280, 4096]⟩ : Shape).Idx) : EReal := code (qs (X (i 0).val) g) (qx (X (i 0).val) g (i 1))
def F6 (X : ℕ → Fin 4096 → EReal) (g : Fin 4096 → EReal) (i : (⟨2, ![1, 1280]⟩ : Shape).Idx) : EReal := qs (X (i 1).val) g
def F7 (X : ℕ → Fin 4096 → EReal) (g : Fin 4096 → EReal) (w : Fin 4096 → Fin 2048 → EReal) (ws : Fin 2048 → EReal) (gain : Fin 128 → EReal)
    (i : (⟨4, ![20, 4, 256, 128]⟩ : Shape).Idx) : EReal :=
  qn (X (64 * (i 0).val + (i 2).val % 64)) g w ws gain (4 * (i 1).val + (i 2).val / 64) (i 3)

end Cert.QRow

end
-- ==== Proof.QPayK.lean ====
/-
  The query projection: the head pieces its body stores (hand-written, untrusted).
-/
module

public import proofs.«01_k».proof.Proof.Gen.KernelQIdeal.Frame
public import proofs.«01_k».proof.Proof.QRow

@[expose] public section

set_option maxRecDepth 16384

noncomputable section

open Idealize.ShloMosaic Idealize.ShloMosaic.TcCoe

namespace Cert.KernelQIdeal.RefValue

open Cert.KernelQIdeal Cert.KernelQIdeal.Gen Cert.Rows Cert.QRow

theorem pc0 (q : FVec Ideal S256x2048 .f32) (g : Vec Ideal S1x128 .f32) (x : S1x1x64x128.Idx) :
    (k0_pay3 (k0_pay105 q g)) x = HQ q g (64 * 3 + (x 2).val) 15 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 15 d hR (fun d => q (ix2 ⟨_, hR⟩ ⟨128 * 15 + d.val, by omega⟩)) (fun d hd => rfl) (by norm_num))
  unfold rms k0_pay105 k0_pay3
  pointwise

theorem pc1 (q : FVec Ideal S256x2048 .f32) (g : Vec Ideal S1x128 .f32) (x : S1x1x64x128.Idx) :
    (k0_pay2 (k0_pay105 q g)) x = HQ q g (64 * 2 + (x 2).val) 15 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 15 d hR (fun d => q (ix2 ⟨_, hR⟩ ⟨128 * 15 + d.val, by omega⟩)) (fun d hd => rfl) (by norm_num))
  unfold rms k0_pay105 k0_pay2
  pointwise

theorem pc2 (q : FVec Ideal S256x2048 .f32) (g : Vec Ideal S1x128 .f32) (x : S1x1x64x128.Idx) :
    (k0_pay1 (k0_pay107 q g)) x = HQ q g (64 * 1 + (x 2).val) 15 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 15 d hR (fun d => q (ix2 ⟨_, hR⟩ ⟨128 * 15 + d.val, by omega⟩)) (fun d hd => rfl) (by norm_num))
  unfold rms k0_pay107 k0_pay105 k0_pay1
  pointwise

theorem pc3 (q : FVec Ideal S256x2048 .f32) (g : Vec Ideal S1x128 .f32) (x : S1x1x64x128.Idx) :
    (k0_pay106 q g) x = HQ q g (64 * 0 + (x 2).val) 15 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 15 d hR (fun d => q (ix2 ⟨_, hR⟩ ⟨128 * 15 + d.val, by omega⟩)) (fun d hd => rfl) (by norm_num))
  unfold rms k0_pay106 k0_pay105
  pointwise

theorem pc4 (q : FVec Ideal S256x2048 .f32) (g : Vec Ideal S1x128 .f32) (x : S1x1x64x128.Idx) :
    (k0_pay104 (k0_pay99 q g)) x = HQ q g (64 * 3 + (x 2).val) 14 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 14 d hR (fun d => q (ix2 ⟨_, hR⟩ ⟨128 * 14 + d.val, by omega⟩)) (fun d hd => rfl) (by norm_num))
  unfold rms k0_pay99 k0_pay104
  pointwise

theorem pc5 (q : FVec Ideal S256x2048 .f32) (g : Vec Ideal S1x128 .f32) (x : S1x1x64x128.Idx) :
    (k0_pay103 (k0_pay99 q g)) x = HQ q g (64 * 2 + (x 2).val) 14 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 14 d hR (fun d => q (ix2 ⟨_, hR⟩ ⟨128 * 14 + d.val, by omega⟩)) (fun d hd => rfl) (by norm_num))
  unfold rms k0_pay99 k0_pay103
  pointwise

theorem pc6 (q : FVec Ideal S256x2048 .f32) (g : Vec Ideal S1x128 .f32) (x : S1x1x64x128.Idx) :
    (k0_pay102 (k0_pay99 q g)) x = HQ q g (64 * 1 + (x 2).val) 14 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 14 d hR (fun d => q (ix2 ⟨_, hR⟩ ⟨128 * 14 + d.val, by omega⟩)) (fun d hd => rfl) (by norm_num))
  unfold rms k0_pay99 k0_pay102
  pointwise

theorem pc7 (q : FVec Ideal S256x2048 .f32) (g : Vec Ideal S1x128 .f32) (x : S1x1x64x128.Idx) :
    (k0_pay101 (k0_pay100 q g)) x = HQ q g (64 * 0 + (x 2).val) 14 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 14 d hR (fun d => q (ix2 ⟨_, hR⟩ ⟨128 * 14 + d.val, by omega⟩)) (fun d hd => rfl) (by norm_num))
  unfold rms k0_pay100 k0_pay99 k0_pay101
  pointwise

theorem pc8 (q : FVec Ideal S256x2048 .f32) (g : Vec Ideal S1x128 .f32) (x : S1x1x64x128.Idx) :
    (k0_pay98 (k0_pay93 q g)) x = HQ q g (64 * 3 + (x 2).val) 13 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 13 d hR (fun d => q (ix2 ⟨_, hR⟩ ⟨128 * 13 + d.val, by omega⟩)) (fun d hd => rfl) (by norm_num))
  unfold rms k0_pay93 k0_pay98
  pointwise

theorem pc9 (q : FVec Ideal S256x2048 .f32) (g : Vec Ideal S1x128 .f32) (x : S1x1x64x128.Idx) :
    (k0_pay97 (k0_pay93 q g)) x = HQ q g (64 * 2 + (x 2).val) 13 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 13 d hR (fun d => q (ix2 ⟨_, hR⟩ ⟨128 * 13 + d.val, by omega⟩)) (fun d hd => rfl) (by norm_num))
  unfold rms k0_pay93 k0_pay97
  pointwise

theorem pc10 (q : FVec Ideal S256x2048 .f32) (g : Vec Ideal S1x128 .f32) (x : S1x1x64x128.Idx) :
    (k0_pay96 (k0_pay93 q g)) x = HQ q g (64 * 1 + (x 2).val) 13 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 13 d hR (fun d => q (ix2 ⟨_, hR⟩ ⟨128 * 13 + d.val, by omega⟩)) (fun d hd => rfl) (by norm_num))
  unfold rms k0_pay93 k0_pay96
  pointwise

theorem pc11 (q : FVec Ideal S256x2048 .f32) (g : Vec Ideal S1x128 .f32) (x : S1x1x64x128.Idx) :
    (k0_pay95 (k0_pay94 q g)) x = HQ q g (64 * 0 + (x 2).val) 13 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 13 d hR (fun d => q (ix2 ⟨_, hR⟩ ⟨128 * 13 + d.val, by omega⟩)) (fun d hd => rfl) (by norm_num))
  unfold rms k0_pay94 k0_pay93 k0_pay95
  pointwise

theorem pc12 (q : FVec Ideal S256x2048 .f32) (g : Vec Ideal S1x128 .f32) (x : S1x1x64x128.Idx) :
    (k0_pay92 (k0_pay87 q g)) x = HQ q g (64 * 3 + (x 2).val) 12 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 12 d hR (fun d => q (ix2 ⟨_, hR⟩ ⟨128 * 12 + d.val, by omega⟩)) (fun d hd => rfl) (by norm_num))
  unfold rms k0_pay87 k0_pay92
  pointwise

theorem pc13 (q : FVec Ideal S256x2048 .f32) (g : Vec Ideal S1x128 .f32) (x : S1x1x64x128.Idx) :
    (k0_pay91 (k0_pay87 q g)) x = HQ q g (64 * 2 + (x 2).val) 12 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 12 d hR (fun d => q (ix2 ⟨_, hR⟩ ⟨128 * 12 + d.val, by omega⟩)) (fun d hd => rfl) (by norm_num))
  unfold rms k0_pay87 k0_pay91
  pointwise

theorem pc14 (q : FVec Ideal S256x2048 .f32) (g : Vec Ideal S1x128 .f32) (x : S1x1x64x128.Idx) :
    (k0_pay90 (k0_pay87 q g)) x = HQ q g (64 * 1 + (x 2).val) 12 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 12 d hR (fun d => q (ix2 ⟨_, hR⟩ ⟨128 * 12 + d.val, by omega⟩)) (fun d hd => rfl) (by norm_num))
  unfold rms k0_pay87 k0_pay90
  pointwise

theorem pc15 (q : FVec Ideal S256x2048 .f32) (g : Vec Ideal S1x128 .f32) (x : S1x1x64x128.Idx) :
    (k0_pay89 (k0_pay88 q g)) x = HQ q g (64 * 0 + (x 2).val) 12 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 12 d hR (fun d => q (ix2 ⟨_, hR⟩ ⟨128 * 12 + d.val, by omega⟩)) (fun d hd => rfl) (by norm_num))
  unfold rms k0_pay88 k0_pay87 k0_pay89
  pointwise

theorem pc16 (q : FVec Ideal S256x2048 .f32) (g : Vec Ideal S1x128 .f32) (x : S1x1x64x128.Idx) :
    (k0_pay86 (k0_pay80 q) (k0_pay81 g)) x = HQ q g (64 * 3 + (x 2).val) 11 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 11 d hR (fun d => q (ix2 ⟨_, hR⟩ ⟨128 * 11 + d.val, by omega⟩)) (fun d hd => rfl) (by norm_num))
  unfold rms k0_pay81 k0_pay80 k0_pay86 k0_pay82
  pointwise

theorem pc17 (q : FVec Ideal S256x2048 .f32) (g : Vec Ideal S1x128 .f32) (x : S1x1x64x128.Idx) :
    (k0_pay85 (k0_pay80 q) (k0_pay81 g)) x = HQ q g (64 * 2 + (x 2).val) 11 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 11 d hR (fun d => q (ix2 ⟨_, hR⟩ ⟨128 * 11 + d.val, by omega⟩)) (fun d hd => rfl) (by norm_num))
  unfold rms k0_pay81 k0_pay80 k0_pay85 k0_pay82
  pointwise

theorem pc18 (q : FVec Ideal S256x2048 .f32) (g : Vec Ideal S1x128 .f32) (x : S1x1x64x128.Idx) :
    (k0_pay84 (k0_pay80 q) (k0_pay81 g)) x = HQ q g (64 * 1 + (x 2).val) 11 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 11 d hR (fun d => q (ix2 ⟨_, hR⟩ ⟨128 * 11 + d.val, by omega⟩)) (fun d hd => rfl) (by norm_num))
  unfold rms k0_pay81 k0_pay80 k0_pay84 k0_pay82
  pointwise

theorem pc19 (q : FVec Ideal S256x2048 .f32) (g : Vec Ideal S1x128 .f32) (x : S1x1x64x128.Idx) :
    (k0_pay83 (k0_pay80 q) (k0_pay81 g)) x = HQ q g (64 * 0 + (x 2).val) 11 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 11 d hR (fun d => q (ix2 ⟨_, hR⟩ ⟨128 * 11 + d.val, by omega⟩)) (fun d hd => rfl) (by norm_num))
  unfold rms k0_pay81 k0_pay80 k0_pay83 k0_pay82
  pointwise

theorem pc20 (q : FVec Ideal S256x2048 .f32) (g : Vec Ideal S1x128 .f32) (x : S1x1x64x128.Idx) :
    (k0_pay79 (k0_pay74 q) g) x = HQ q g (64 * 3 + (x 2).val) 10 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 10 d hR (fun d => q (ix2 ⟨_, hR⟩ ⟨128 * 10 + d.val, by omega⟩)) (fun d hd => rfl) (by norm_num))
  unfold rms k0_pay74 k0_pay79 k0_pay75
  pointwise

theorem pc21 (q : FVec Ideal S256x2048 .f32) (g : Vec Ideal S1x128 .f32) (x : S1x1x64x128.Idx) :
    (k0_pay78 (k0_pay74 q) g) x = HQ q g (64 * 2 + (x 2).val) 10 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 10 d hR (fun d => q (ix2 ⟨_, hR⟩ ⟨128 * 10 + d.val, by omega⟩)) (fun d hd => rfl) (by norm_num))
  unfold rms k0_pay74 k0_pay78 k0_pay75
  pointwise

theorem pc22 (q : FVec Ideal S256x2048 .f32) (g : Vec Ideal S1x128 .f32) (x : S1x1x64x128.Idx) :
    (k0_pay77 (k0_pay74 q) g) x = HQ q g (64 * 1 + (x 2).val) 10 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 10 d hR (fun d => q (ix2 ⟨_, hR⟩ ⟨128 * 10 + d.val, by omega⟩)) (fun d hd => rfl) (by norm_num))
  unfold rms k0_pay74 k0_pay77 k0_pay75
  pointwise

theorem pc23 (q : FVec Ideal S256x2048 .f32) (g : Vec Ideal S1x128 .f32) (x : S1x1x64x128.Idx) :
    (k0_pay76 (k0_pay74 q) g) x = HQ q g (64 * 0 + (x 2).val) 10 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 10 d hR (fun d => q (ix2 ⟨_, hR⟩ ⟨128 * 10 + d.val, by omega⟩)) (fun d hd => rfl) (by norm_num))
  unfold rms k0_pay74 k0_pay76 k0_pay75
  pointwise

theorem pc24 (q : FVec Ideal S256x2048 .f32) (g : Vec Ideal S1x128 .f32) (x : S1x1x64x128.Idx) :
    (k0_pay73 (k0_pay67 q) (k0_pay68 q) g) x = HQ q g (64 * 3 + (x 2).val) 9 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 9 d hR (fun d => q (ix2 ⟨_, hR⟩ ⟨128 * 9 + d.val, by omega⟩)) (fun d hd => rfl) (by norm_num))
  unfold rms k0_pay68 k0_pay67 k0_pay73 k0_pay69
  pointwise

theorem pc25 (q : FVec Ideal S256x2048 .f32) (g : Vec Ideal S1x128 .f32) (x : S1x1x64x128.Idx) :
    (k0_pay72 (k0_pay67 q) (k0_pay68 q) g) x = HQ q g (64 * 2 + (x 2).val) 9 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 9 d hR (fun d => q (ix2 ⟨_, hR⟩ ⟨128 * 9 + d.val, by omega⟩)) (fun d hd => rfl) (by norm_num))
  unfold rms k0_pay68 k0_pay67 k0_pay72 k0_pay69
  pointwise

theorem pc26 (q : FVec Ideal S256x2048 .f32) (g : Vec Ideal S1x128 .f32) (x : S1x1x64x128.Idx) :
    (k0_pay71 (k0_pay67 q) (k0_pay68 q) g) x = HQ q g (64 * 1 + (x 2).val) 9 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 9 d hR (fun d => q (ix2 ⟨_, hR⟩ ⟨128 * 9 + d.val, by omega⟩)) (fun d hd => rfl) (by norm_num))
  unfold rms k0_pay68 k0_pay67 k0_pay71 k0_pay69
  pointwise

theorem pc27 (q : FVec Ideal S256x2048 .f32) (g : Vec Ideal S1x128 .f32) (x : S1x1x64x128.Idx) :
    (k0_pay70 (k0_pay67 q) (k0_pay68 q) g) x = HQ q g (64 * 0 + (x 2).val) 9 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 9 d hR (fun d => q (ix2 ⟨_, hR⟩ ⟨128 * 9 + d.val, by omega⟩)) (fun d hd => rfl) (by norm_num))
  unfold rms k0_pay68 k0_pay67 k0_pay70 k0_pay69
  pointwise

theorem pc28 (q : FVec Ideal S256x2048 .f32) (g : Vec Ideal S1x128 .f32) (x : S1x1x64x128.Idx) :
    (k0_pay66 (k0_pay59 q) (k0_pay60 q) (k0_pay61 (F := Ideal)) g) x = HQ q g (64 * 3 + (x 2).val) 8 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 8 d hR (fun d => q (ix2 ⟨_, hR⟩ ⟨128 * 8 + d.val, by omega⟩)) (fun d hd => rfl) (by norm_num))
  unfold rms k0_pay61 k0_pay60 k0_pay59 k0_pay66 k0_pay62
  pointwise

theorem pc29 (q : FVec Ideal S256x2048 .f32) (g : Vec Ideal S1x128 .f32) (x : S1x1x64x128.Idx) :
    (k0_pay65 (k0_pay59 q) (k0_pay60 q) (k0_pay61 (F := Ideal)) g) x = HQ q g (64 * 2 + (x 2).val) 8 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 8 d hR (fun d => q (ix2 ⟨_, hR⟩ ⟨128 * 8 + d.val, by omega⟩)) (fun d hd => rfl) (by norm_num))
  unfold rms k0_pay61 k0_pay60 k0_pay59 k0_pay65 k0_pay62
  pointwise

theorem pc30 (q : FVec Ideal S256x2048 .f32) (g : Vec Ideal S1x128 .f32) (x : S1x1x64x128.Idx) :
    (k0_pay64 (k0_pay59 q) (k0_pay60 q) (k0_pay61 (F := Ideal)) g) x = HQ q g (64 * 1 + (x 2).val) 8 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 8 d hR (fun d => q (ix2 ⟨_, hR⟩ ⟨128 * 8 + d.val, by omega⟩)) (fun d hd => rfl) (by norm_num))
  unfold rms k0_pay61 k0_pay60 k0_pay59 k0_pay64 k0_pay62
  pointwise

theorem pc31 (q : FVec Ideal S256x2048 .f32) (g : Vec Ideal S1x128 .f32) (x : S1x1x64x128.Idx) :
    (k0_pay63 (k0_pay59 q) (k0_pay60 q) (k0_pay61 (F := Ideal)) g) x = HQ q g (64 * 0 + (x 2).val) 8 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 8 d hR (fun d => q (ix2 ⟨_, hR⟩ ⟨128 * 8 + d.val, by omega⟩)) (fun d hd => rfl) (by norm_num))
  unfold rms k0_pay61 k0_pay60 k0_pay59 k0_pay63 k0_pay62
  pointwise

theorem pc32 (q : FVec Ideal S256x2048 .f32) (g : Vec Ideal S1x128 .f32) (x : S1x1x64x128.Idx) :
    (k0_pay58 (k0_pay51 q) (k0_pay52 q) (k0_pay53 (F := Ideal)) g) x = HQ q g (64 * 3 + (x 2).val) 7 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 7 d hR (fun d => q (ix2 ⟨_, hR⟩ ⟨128 * 7 + d.val, by omega⟩)) (fun d hd => rfl) (by norm_num))
  unfold rms k0_pay53 k0_pay52 k0_pay51 k0_pay58 k0_pay54
  pointwise

theorem pc33 (q : FVec Ideal S256x2048 .f32) (g : Vec Ideal S1x128 .f32) (x : S1x1x64x128.Idx) :
    (k0_pay57 (k0_pay51 q) (k0_pay52 q) (k0_pay53 (F := Ideal)) g) x = HQ q g (64 * 2 + (x 2).val) 7 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 7 d hR (fun d => q (ix2 ⟨_, hR⟩ ⟨128 * 7 + d.val, by omega⟩)) (fun d hd => rfl) (by norm_num))
  unfold rms k0_pay53 k0_pay52 k0_pay51 k0_pay57 k0_pay54
  pointwise

theorem pc34 (q : FVec Ideal S256x2048 .f32) (g : Vec Ideal S1x128 .f32) (x : S1x1x64x128.Idx) :
    (k0_pay56 (k0_pay51 q) (k0_pay52 q) (k0_pay53 (F := Ideal)) g) x = HQ q g (64 * 1 + (x 2).val) 7 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 7 d hR (fun d => q (ix2 ⟨_, hR⟩ ⟨128 * 7 + d.val, by omega⟩)) (fun d hd => rfl) (by norm_num))
  unfold rms k0_pay53 k0_pay52 k0_pay51 k0_pay56 k0_pay54
  pointwise

theorem pc35 (q : FVec Ideal S256x2048 .f32) (g : Vec Ideal S1x128 .f32) (x : S1x1x64x128.Idx) :
    (k0_pay55 (k0_pay51 q) (k0_pay52 q) (k0_pay53 (F := Ideal)) g) x = HQ q g (64 * 0 + (x 2).val) 7 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 7 d hR (fun d => q (ix2 ⟨_, hR⟩ ⟨128 * 7 + d.val, by omega⟩)) (fun d hd => rfl) (by norm_num))
  unfold rms k0_pay53 k0_pay52 k0_pay51 k0_pay55 k0_pay54
  pointwise

theorem pc36 (q : FVec Ideal S256x2048 .f32) (g : Vec Ideal S1x128 .f32) (x : S1x1x64x128.Idx) :
    (k0_pay50 (k0_pay44 q) (k0_pay45 q) g) x = HQ q g (64 * 3 + (x 2).val) 6 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 6 d hR (fun d => q (ix2 ⟨_, hR⟩ ⟨128 * 6 + d.val, by omega⟩)) (fun d hd => rfl) (by norm_num))
  unfold rms k0_pay45 k0_pay44 k0_pay50 k0_pay46
  pointwise

theorem pc37 (q : FVec Ideal S256x2048 .f32) (g : Vec Ideal S1x128 .f32) (x : S1x1x64x128.Idx) :
    (k0_pay49 (k0_pay44 q) (k0_pay45 q) g) x = HQ q g (64 * 2 + (x 2).val) 6 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 6 d hR (fun d => q (ix2 ⟨_, hR⟩ ⟨128 * 6 + d.val, by omega⟩)) (fun d hd => rfl) (by norm_num))
  unfold rms k0_pay45 k0_pay44 k0_pay49 k0_pay46
  pointwise

theorem pc38 (q : FVec Ideal S256x2048 .f32) (g : Vec Ideal S1x128 .f32) (x : S1x1x64x128.Idx) :
    (k0_pay48 (k0_pay44 q) (k0_pay45 q) g) x = HQ q g (64 * 1 + (x 2).val) 6 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 6 d hR (fun d => q (ix2 ⟨_, hR⟩ ⟨128 * 6 + d.val, by omega⟩)) (fun d hd => rfl) (by norm_num))
  unfold rms k0_pay45 k0_pay44 k0_pay48 k0_pay46
  pointwise

theorem pc39 (q : FVec Ideal S256x2048 .f32) (g : Vec Ideal S1x128 .f32) (x : S1x1x64x128.Idx) :
    (k0_pay47 (k0_pay44 q) (k0_pay45 q) g) x = HQ q g (64 * 0 + (x 2).val) 6 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 6 d hR (fun d => q (ix2 ⟨_, hR⟩ ⟨128 * 6 + d.val, by omega⟩)) (fun d hd => rfl) (by norm_num))
  unfold rms k0_pay45 k0_pay44 k0_pay47 k0_pay46
  pointwise

theorem pc40 (q : FVec Ideal S256x2048 .f32) (g : Vec Ideal S1x128 .f32) (x : S1x1x64x128.Idx) :
    (k0_pay43 (k0_pay38 q) g) x = HQ q g (64 * 3 + (x 2).val) 5 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 5 d hR (fun d => q (ix2 ⟨_, hR⟩ ⟨128 * 5 + d.val, by omega⟩)) (fun d hd => rfl) (by norm_num))
  unfold rms k0_pay38 k0_pay43 k0_pay39
  pointwise

theorem pc41 (q : FVec Ideal S256x2048 .f32) (g : Vec Ideal S1x128 .f32) (x : S1x1x64x128.Idx) :
    (k0_pay42 (k0_pay38 q) g) x = HQ q g (64 * 2 + (x 2).val) 5 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 5 d hR (fun d => q (ix2 ⟨_, hR⟩ ⟨128 * 5 + d.val, by omega⟩)) (fun d hd => rfl) (by norm_num))
  unfold rms k0_pay38 k0_pay42 k0_pay39
  pointwise

theorem pc42 (q : FVec Ideal S256x2048 .f32) (g : Vec Ideal S1x128 .f32) (x : S1x1x64x128.Idx) :
    (k0_pay41 (k0_pay38 q) g) x = HQ q g (64 * 1 + (x 2).val) 5 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 5 d hR (fun d => q (ix2 ⟨_, hR⟩ ⟨128 * 5 + d.val, by omega⟩)) (fun d hd => rfl) (by norm_num))
  unfold rms k0_pay38 k0_pay41 k0_pay39
  pointwise

theorem pc43 (q : FVec Ideal S256x2048 .f32) (g : Vec Ideal S1x128 .f32) (x : S1x1x64x128.Idx) :
    (k0_pay40 (k0_pay38 q) g) x = HQ q g (64 * 0 + (x 2).val) 5 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 5 d hR (fun d => q (ix2 ⟨_, hR⟩ ⟨128 * 5 + d.val, by omega⟩)) (fun d hd => rfl) (by norm_num))
  unfold rms k0_pay38 k0_pay40 k0_pay39
  pointwise

theorem pc44 (q : FVec Ideal S256x2048 .f32) (g : Vec Ideal S1x128 .f32) (x : S1x1x64x128.Idx) :
    (k0_pay37 q g) x = HQ q g (64 * 3 + (x 2).val) 4 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 4 d hR (fun d => q (ix2 ⟨_, hR⟩ ⟨128 * 4 + d.val, by omega⟩)) (fun d hd => rfl) (by norm_num))
  unfold rms k0_pay37 k0_pay33
  pointwise

theorem pc45 (q : FVec Ideal S256x2048 .f32) (g : Vec Ideal S1x128 .f32) (x : S1x1x64x128.Idx) :
    (k0_pay36 q g) x = HQ q g (64 * 2 + (x 2).val) 4 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 4 d hR (fun d => q (ix2 ⟨_, hR⟩ ⟨128 * 4 + d.val, by omega⟩)) (fun d hd => rfl) (by norm_num))
  unfold rms k0_pay36 k0_pay33
  pointwise

theorem pc46 (q : FVec Ideal S256x2048 .f32) (g : Vec Ideal S1x128 .f32) (x : S1x1x64x128.Idx) :
    (k0_pay35 q g) x = HQ q g (64 * 1 + (x 2).val) 4 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 4 d hR (fun d => q (ix2 ⟨_, hR⟩ ⟨128 * 4 + d.val, by omega⟩)) (fun d hd => rfl) (by norm_num))
  unfold rms k0_pay35 k0_pay33
  pointwise

theorem pc47 (q : FVec Ideal S256x2048 .f32) (g : Vec Ideal S1x128 .f32) (x : S1x1x64x128.Idx) :
    (k0_pay34 q g) x = HQ q g (64 * 0 + (x 2).val) 4 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 4 d hR (fun d => q (ix2 ⟨_, hR⟩ ⟨128 * 4 + d.val, by omega⟩)) (fun d hd => rfl) (by norm_num))
  unfold rms k0_pay34 k0_pay33
  pointwise

theorem pc48 (q : FVec Ideal S256x2048 .f32) (g : Vec Ideal S1x128 .f32) (x : S1x1x64x128.Idx) :
    (k0_pay32 (k0_pay31 q g)) x = HQ q g (64 * 3 + (x 2).val) 3 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 3 d hR (fun d => q (ix2 ⟨_, hR⟩ ⟨128 * 3 + d.val, by omega⟩)) (fun d hd => rfl) (by norm_num))
  unfold rms k0_pay31 k0_pay27 k0_pay32
  pointwise

theorem pc49 (q : FVec Ideal S256x2048 .f32) (g : Vec Ideal S1x128 .f32) (x : S1x1x64x128.Idx) :
    (k0_pay30 q g) x = HQ q g (64 * 2 + (x 2).val) 3 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 3 d hR (fun d => q (ix2 ⟨_, hR⟩ ⟨128 * 3 + d.val, by omega⟩)) (fun d hd => rfl) (by norm_num))
  unfold rms k0_pay30 k0_pay27
  pointwise

theorem pc50 (q : FVec Ideal S256x2048 .f32) (g : Vec Ideal S1x128 .f32) (x : S1x1x64x128.Idx) :
    (k0_pay29 q g) x = HQ q g (64 * 1 + (x 2).val) 3 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 3 d hR (fun d => q (ix2 ⟨_, hR⟩ ⟨128 * 3 + d.val, by omega⟩)) (fun d hd => rfl) (by norm_num))
  unfold rms k0_pay29 k0_pay27
  pointwise

theorem pc51 (q : FVec Ideal S256x2048 .f32) (g : Vec Ideal S1x128 .f32) (x : S1x1x64x128.Idx) :
    (k0_pay28 q g) x = HQ q g (64 * 0 + (x 2).val) 3 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 3 d hR (fun d => q (ix2 ⟨_, hR⟩ ⟨128 * 3 + d.val, by omega⟩)) (fun d hd => rfl) (by norm_num))
  unfold rms k0_pay28 k0_pay27
  pointwise

theorem pc52 (q : FVec Ideal S256x2048 .f32) (g : Vec Ideal S1x128 .f32) (x : S1x1x64x128.Idx) :
    (k0_pay26 (k0_pay25 q g)) x = HQ q g (64 * 3 + (x 2).val) 2 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 2 d hR (fun d => q (ix2 ⟨_, hR⟩ ⟨128 * 2 + d.val, by omega⟩)) (fun d hd => rfl) (by norm_num))
  unfold rms k0_pay25 k0_pay21 k0_pay26
  pointwise

theorem pc53 (q : FVec Ideal S256x2048 .f32) (g : Vec Ideal S1x128 .f32) (x : S1x1x64x128.Idx) :
    (k0_pay24 q g) x = HQ q g (64 * 2 + (x 2).val) 2 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 2 d hR (fun d => q (ix2 ⟨_, hR⟩ ⟨128 * 2 + d.val, by omega⟩)) (fun d hd => rfl) (by norm_num))
  unfold rms k0_pay24 k0_pay21
  pointwise

theorem pc54 (q : FVec Ideal S256x2048 .f32) (g : Vec Ideal S1x128 .f32) (x : S1x1x64x128.Idx) :
    (k0_pay23 q g) x = HQ q g (64 * 1 + (x 2).val) 2 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 2 d hR (fun d => q (ix2 ⟨_, hR⟩ ⟨128 * 2 + d.val, by omega⟩)) (fun d hd => rfl) (by norm_num))
  unfold rms k0_pay23 k0_pay21
  pointwise

theorem pc55 (q : FVec Ideal S256x2048 .f32) (g : Vec Ideal S1x128 .f32) (x : S1x1x64x128.Idx) :
    (k0_pay22 q g) x = HQ q g (64 * 0 + (x 2).val) 2 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 2 d hR (fun d => q (ix2 ⟨_, hR⟩ ⟨128 * 2 + d.val, by omega⟩)) (fun d hd => rfl) (by norm_num))
  unfold rms k0_pay22 k0_pay21
  pointwise

theorem pc56 (q : FVec Ideal S256x2048 .f32) (g : Vec Ideal S1x128 .f32) (x : S1x1x64x128.Idx) :
    (k0_pay20 (k0_pay19 q g)) x = HQ q g (64 * 3 + (x 2).val) 1 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of q g _ 1 d hR (fun d => q (ix2 ⟨_, hR⟩ ⟨128 * 1 + d.val, by omega⟩)) (fun d hd => rfl) (by norm_num))
  unfold rms k0_pay19 k0_pay15 k0_pay20
  pointwise

theorem pc57 (q : FVec Ideal S256x2048 .f32) (g : Vec Ideal S1x128 .f32) (x : S1x1x64x128.Idx) :
    (k0_pay18 q g) x = HQ q g (64 * 2 + (x 2).val) 1 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of q g _ 1 d hR (fun d => q (ix2 ⟨_, hR⟩ ⟨128 * 1 + d.val, by omega⟩)) (fun d hd => rfl) (by norm_num))
  unfold rms k0_pay18 k0_pay15
  pointwise

theorem pc58 (q : FVec Ideal S256x2048 .f32) (g : Vec Ideal S1x128 .f32) (x : S1x1x64x128.Idx) :
    (k0_pay17 q g) x = HQ q g (64 * 1 + (x 2).val) 1 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of q g _ 1 d hR (fun d => q (ix2 ⟨_, hR⟩ ⟨128 * 1 + d.val, by omega⟩)) (fun d hd => rfl) (by norm_num))
  unfold rms k0_pay17 k0_pay15
  pointwise

theorem pc59 (q : FVec Ideal S256x2048 .f32) (g : Vec Ideal S1x128 .f32) (x : S1x1x64x128.Idx) :
    (k0_pay16 q g) x = HQ q g (64 * 0 + (x 2).val) 1 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of q g _ 1 d hR (fun d => q (ix2 ⟨_, hR⟩ ⟨128 * 1 + d.val, by omega⟩)) (fun d hd => rfl) (by norm_num))
  unfold rms k0_pay16 k0_pay15
  pointwise

theorem pc60 (sc : FVec Ideal S256x1 .f32) (cc : FVec Ideal S256x4096 .fp8e4m3) (w : Vec Ideal S4096x2048 .fp8e4m3) (ws : Vec Ideal S1x2048 .f32) (g : Vec Ideal S1x128 .f32) (x : S1x1x64x128.Idx) :
    (k0_pay14 (k0_pay9 sc cc w ws g)) x = HQ (k0_pay8 sc cc w ws) g (64 * 3 + (x 2).val) 0 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 3 + s.val < 256 := by omega
  refine Eq.trans ?_ (HQ_of (k0_pay8 sc cc w ws) g _ 0 d hR (fun d => (k0_pay8 sc cc w ws) (ix2 ⟨_, hR⟩ ⟨128 * 0 + d.val, by omega⟩)) (fun d hd => rfl) (by norm_num))
  unfold rms k0_pay9 k0_pay14
  generalize (k0_pay8 sc cc w ws) = q
  pointwise

theorem pc61 (sc : FVec Ideal S256x1 .f32) (cc : FVec Ideal S256x4096 .fp8e4m3) (w : Vec Ideal S4096x2048 .fp8e4m3) (ws : Vec Ideal S1x2048 .f32) (g : Vec Ideal S1x128 .f32) (x : S1x1x64x128.Idx) :
    (k0_pay13 (k0_pay12 sc cc w ws g)) x = HQ (k0_pay8 sc cc w ws) g (64 * 2 + (x 2).val) 0 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 2 + s.val < 256 := by omega
  refine Eq.trans ?_ (HQ_of (k0_pay8 sc cc w ws) g _ 0 d hR (fun d => (k0_pay8 sc cc w ws) (ix2 ⟨_, hR⟩ ⟨128 * 0 + d.val, by omega⟩)) (fun d hd => rfl) (by norm_num))
  unfold rms k0_pay12 k0_pay9 k0_pay13
  generalize (k0_pay8 sc cc w ws) = q
  pointwise

theorem pc62 (sc : FVec Ideal S256x1 .f32) (cc : FVec Ideal S256x4096 .fp8e4m3) (w : Vec Ideal S4096x2048 .fp8e4m3) (ws : Vec Ideal S1x2048 .f32) (g : Vec Ideal S1x128 .f32) (x : S1x1x64x128.Idx) :
    (k0_pay11 sc cc w ws g) x = HQ (k0_pay8 sc cc w ws) g (64 * 1 + (x 2).val) 0 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 1 + s.val < 256 := by omega
  refine Eq.trans ?_ (HQ_of (k0_pay8 sc cc w ws) g _ 0 d hR (fun d => (k0_pay8 sc cc w ws) (ix2 ⟨_, hR⟩ ⟨128 * 0 + d.val, by omega⟩)) (fun d hd => rfl) (by norm_num))
  unfold rms k0_pay11 k0_pay9
  generalize (k0_pay8 sc cc w ws) = q
  pointwise

theorem pc63 (sc : FVec Ideal S256x1 .f32) (cc : FVec Ideal S256x4096 .fp8e4m3) (w : Vec Ideal S4096x2048 .fp8e4m3) (ws : Vec Ideal S1x2048 .f32) (g : Vec Ideal S1x128 .f32) (x : S1x1x64x128.Idx) :
    (k0_pay10 sc cc w ws g) x = HQ (k0_pay8 sc cc w ws) g (64 * 0 + (x 2).val) 0 (x 3) := by
  obtain ⟨b, o, s, d, rfl⟩ : ∃ (b : Fin 1) (o : Fin 1) (s : Fin 64) (d : Fin 128), x = ix4 b o s d := ⟨x 0, x 1, x 2, x 3, eq_ix4 x⟩
  obtain rfl : o = 0 := Fin.eq_zero o
  obtain rfl : b = 0 := Fin.eq_zero b
  have hR : 64 * 0 + s.val < 256 := by omega
  refine Eq.trans ?_ (HQ_of (k0_pay8 sc cc w ws) g _ 0 d hR (fun d => (k0_pay8 sc cc w ws) (ix2 ⟨_, hR⟩ ⟨128 * 0 + d.val, by omega⟩)) (fun d hd => rfl) (by norm_num))
  unfold rms k0_pay10 k0_pay9
  generalize (k0_pay8 sc cc w ws) = q
  pointwise

end Cert.KernelQIdeal.RefValue

end
-- ==== Proof.QValK.lean ====
/-
  The query projection: what the results hold (hand-written, untrusted).
-/
module

public import proofs.«01_k».proof.Proof.QPayK
public import Idealize.ShloMosaic.Lib.Pipeline.Value
public import Idealize.ShloMosaic.Lib.Quiescent
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.KernelQIdeal.RefValue

open Cert.KernelQIdeal Cert.KernelQIdeal.Gen Cert.Rows Cert.QRow

theorem p4 (v0 : Vec Ideal S256x4096 .bf16) (v1 : Vec Ideal S1x4096 .f32) (r : Fin 256) (k : Fin 4096) : k0_pay4 v0 v1 (ix2 r k) = qx (fun a => v0 (ix2 r a)) (fun a => v1 (ix2 0 a)) k := by
  unfold qx rms k0_pay4
  pointwise

theorem p4' (v0 : Vec Ideal S256x4096 .bf16) (v1 : Vec Ideal S1x4096 .f32) (r : Fin 256) : qx (fun a => v0 (ix2 r a)) (fun a => v1 (ix2 0 a)) = fun k => k0_pay4 v0 v1 (ix2 r k) :=
  funext fun k => (p4 v0 v1 r k).symm

theorem p5 (v0 : Vec Ideal S256x4096 .bf16) (v1 : Vec Ideal S1x4096 .f32) (r : Fin 256) : k0_pay5 v0 v1 (ix2 r 0) = qs (fun a => v0 (ix2 r a)) (fun a => v1 (ix2 0 a)) := by
  unfold qs
  rw [p4']
  unfold k0_pay5
  generalize k0_pay4 v0 v1 = P
  pointwise
  rfl

theorem p6 (v0 : Vec Ideal S256x4096 .bf16) (v1 : Vec Ideal S1x4096 .f32) (r : Fin 256) (k : Fin 4096) : k0_pay6 v0 v1 (ix2 r k) = code (qs (fun a => v0 (ix2 r a)) (fun a => v1 (ix2 0 a))) (qx (fun a => v0 (ix2 r a)) (fun a => v1 (ix2 0 a)) k) := by
  have h := p5 v0 v1 r
  rw [← p4]
  unfold qs at h ⊢
  rw [← code_recip, ← h]
  unfold k0_pay6
  generalize k0_pay4 v0 v1 = P
  generalize k0_pay5 v0 v1 = S
  pointwise
  try rfl

theorem p7 (v0 : Vec Ideal S256x4096 .bf16) (v1 : Vec Ideal S1x4096 .f32) (r : Fin 256) : k0_pay7 v0 v1 (ix2 0 r) = qs (fun a => v0 (ix2 r a)) (fun a => v1 (ix2 0 a)) := by
  rw [← p5]
  unfold k0_pay7
  generalize k0_pay5 v0 v1 = S
  pointwise

theorem p8 (s : FVec Ideal S256x1 .f32) (cc : FVec Ideal S256x4096 .fp8e4m3) (w : Vec Ideal S4096x2048 .fp8e4m3) (ws : Vec Ideal S1x2048 .f32) (r : Fin 256) (n : Fin 2048) :
    k0_pay8 s cc w ws (ix2 r n) = (∑ a, cc (ix2 r a) * w (ix2 a n)) * (s (ix2 r 0) * ws (ix2 0 n)) := by
  unfold k0_pay8
  pointwise

theorem hz : (![0, 0] : Fin 2 → Nat) = fun _ => 0 := funext fun a => by fin_cases a <;> rfl

theorem q_at (x0 : Vec Ideal S256x4096 .bf16) (x1 : Vec Ideal S1x4096 .f32) (x2 : Vec Ideal S4096x2048 .fp8e4m3) (x3 : Vec Ideal S1x2048 .f32) (x4 : Vec Ideal S1x128 .f32) (r : Fin 256) (n : Fin 2048) :
    k0_pay110 x0 x1 x2 x3 x4 (ix2 r n) = qq (fun a => x0 (ix2 r a)) (fun a => x1 (ix2 0 a)) (fun a n => x2 (ix2 a n)) (fun n => x3 (ix2 0 n)) n := by
  unfold k0_pay110 k0_pay108 k0_pay109
  repeat rw [View.ld_unit_zero hz]
  rw [p8, p5]
  simp only [p6]
  rfl

theorem hq_at (x0 : Vec Ideal S256x4096 .bf16) (x1 : Vec Ideal S1x4096 .f32) (x2 : Vec Ideal S4096x2048 .fp8e4m3) (x3 : Vec Ideal S1x2048 .f32) (x4 : Vec Ideal S1x128 .f32) (r h : ℕ) (d : Fin 128) (hr : r < 256) :
    HQ (k0_pay110 x0 x1 x2 x3 x4) (View.ld x4 r0_5) r h d = qn (rowsOf x0 r) (fun a => x1 (ix2 0 a)) (fun a n => x2 (ix2 a n)) (fun n => x3 (ix2 0 n)) (fun d => x4 (ix2 0 d)) h d := by
  unfold HQ qn
  rw [dif_pos hr, rowsOf_lt x0 r hr, View.ld_unit_zero hz]
  simp only [q_at]

theorem out5 (x0 : Vec Ideal S256x4096 .bf16) (x1 : Vec Ideal S1x4096 .f32) (x2 : Vec Ideal S4096x2048 .fp8e4m3) (x3 : Vec Ideal S1x2048 .f32) (x4 : Vec Ideal S1x128 .f32) (r : Fin 256) (k : Fin 4096) :
    out0_5 x0 x1 x2 x3 x4 (ix2 r k) = code (qs (rowsOf x0 r.val) (fun a => x1 (ix2 0 a))) (qx (rowsOf x0 r.val) (fun a => x1 (ix2 0 a)) k) := by
  unfold out0_5
  rw [View.canon_unit_zero hz]
  repeat rw [View.ld_unit_zero hz]
  rw [p6, rowsOf_lt x0 r.val r.isLt]

theorem out6 (x0 : Vec Ideal S256x4096 .bf16) (x1 : Vec Ideal S1x4096 .f32) (x2 : Vec Ideal S4096x2048 .fp8e4m3) (x3 : Vec Ideal S1x2048 .f32) (x4 : Vec Ideal S1x128 .f32) (r : Fin 256) : out0_6 x0 x1 x2 x3 x4 (ix2 0 r) = qs (rowsOf x0 r.val) (fun a => x1 (ix2 0 a)) := by
  unfold out0_6
  rw [View.canon_unit_zero hz]
  repeat rw [View.ld_unit_zero hz]
  rw [p7, rowsOf_lt x0 r.val r.isLt]

/-- One piece of the third result: 64 rows of one head. -/
theorem piece (x0 : Vec Ideal S256x4096 .bf16) (x1 : Vec Ideal S1x4096 .f32) (x2 : Vec Ideal S4096x2048 .fp8e4m3) (x3 : Vec Ideal S1x2048 .f32) (x4 : Vec Ideal S1x128 .f32) (x : S1x1x64x128.Idx) (y : S4x4x256x128.Idx) (A B C : ℕ) (hA : A < 4) (hC : C < 4) {v : EReal}
    (hv : v = HQ (k0_pay110 x0 x1 x2 x3 x4) (View.ld x4 r0_5) (64 * A + (x 2).val) (4 * B + C) (x 3))
    (e0 : (y 0).val = A + 1 * (x 0).val) (e1 : (y 1).val = B + 1 * (x 1).val) (e2 : (y 2).val = 64 * C + 1 * (x 2).val) (e3 : (y 3).val = 0 + 1 * (x 3).val) :
    v = qn (rowsOf x0 (64 * (y 0).val + (y 2).val % 64)) (fun a => x1 (ix2 0 a)) (fun a n => x2 (ix2 a n)) (fun n => x3 (ix2 0 n)) (fun d => x4 (ix2 0 d)) (4 * (y 1).val + (y 2).val / 64) (y 3) := by
  have l0 : (x 0).val < 1 := (x 0).isLt
  have l1 : (x 1).val < 1 := (x 1).isLt
  have l2 : (x 2).val < 64 := (x 2).isLt
  exact hv.trans ((hq_at x0 x1 x2 x3 x4 _ _ (x 3) (by omega)).trans (qn_step _ _ _ _ _ (by omega) (by omega) (Fin.ext (by omega))))

/-- The head of a row a block's third result holds at an index. -/
theorem out7 (x0 : Vec Ideal S256x4096 .bf16) (x1 : Vec Ideal S1x4096 .f32) (x2 : Vec Ideal S4096x2048 .fp8e4m3) (x3 : Vec Ideal S1x2048 .f32) (x4 : Vec Ideal S1x128 .f32) (y : S4x4x256x128.Idx) :
    out0_7 x0 x1 x2 x3 x4 y = qn (rowsOf x0 (64 * (y 0).val + (y 2).val % 64)) (fun a => x1 (ix2 0 a)) (fun a n => x2 (ix2 a n)) (fun n => x3 (ix2 0 n)) (fun d => x4 (ix2 0 d)) (4 * (y 1).val + (y 2).val / 64) (y 3) := by
  unfold out0_7
  refine View.canon_apply_of_pieces (Val := Elt Ideal) (e := .bf16) (fun y : S4x4x256x128.Idx => qn (rowsOf x0 (64 * (y 0).val + (y 2).val % 64)) (fun a => x1 (ix2 0 a)) (fun a n => x2 (ix2 a n)) (fun n => x3 (ix2 0 n)) (fun d => x4 (ix2 0 d)) (4 * (y 1).val + (y 2).val / 64) (y 3)) _ ?_ y (cover0_7 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine List.forall_mem_cons.2 ⟨fun x : S1x1x64x128.Idx => ?_, ?_⟩
  · exact piece x0 x1 x2 x3 x4 x (r0_69.emb x) 3 3 3 (by omega) (by omega) (pc0 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_68.emb x) 2 3 3 (by omega) (by omega) (pc1 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_67.emb x) 1 3 3 (by omega) (by omega) (pc2 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_66.emb x) 0 3 3 (by omega) (by omega) (pc3 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_65.emb x) 3 3 2 (by omega) (by omega) (pc4 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_64.emb x) 2 3 2 (by omega) (by omega) (pc5 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_63.emb x) 1 3 2 (by omega) (by omega) (pc6 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_62.emb x) 0 3 2 (by omega) (by omega) (pc7 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_61.emb x) 3 3 1 (by omega) (by omega) (pc8 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_60.emb x) 2 3 1 (by omega) (by omega) (pc9 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_59.emb x) 1 3 1 (by omega) (by omega) (pc10 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_58.emb x) 0 3 1 (by omega) (by omega) (pc11 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_57.emb x) 3 3 0 (by omega) (by omega) (pc12 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_56.emb x) 2 3 0 (by omega) (by omega) (pc13 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_55.emb x) 1 3 0 (by omega) (by omega) (pc14 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_54.emb x) 0 3 0 (by omega) (by omega) (pc15 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_53.emb x) 3 2 3 (by omega) (by omega) (pc16 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_52.emb x) 2 2 3 (by omega) (by omega) (pc17 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_51.emb x) 1 2 3 (by omega) (by omega) (pc18 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_50.emb x) 0 2 3 (by omega) (by omega) (pc19 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_49.emb x) 3 2 2 (by omega) (by omega) (pc20 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_48.emb x) 2 2 2 (by omega) (by omega) (pc21 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_47.emb x) 1 2 2 (by omega) (by omega) (pc22 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_46.emb x) 0 2 2 (by omega) (by omega) (pc23 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_45.emb x) 3 2 1 (by omega) (by omega) (pc24 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_44.emb x) 2 2 1 (by omega) (by omega) (pc25 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_43.emb x) 1 2 1 (by omega) (by omega) (pc26 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_42.emb x) 0 2 1 (by omega) (by omega) (pc27 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_41.emb x) 3 2 0 (by omega) (by omega) (pc28 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_40.emb x) 2 2 0 (by omega) (by omega) (pc29 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_39.emb x) 1 2 0 (by omega) (by omega) (pc30 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_38.emb x) 0 2 0 (by omega) (by omega) (pc31 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_37.emb x) 3 1 3 (by omega) (by omega) (pc32 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_36.emb x) 2 1 3 (by omega) (by omega) (pc33 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_35.emb x) 1 1 3 (by omega) (by omega) (pc34 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_34.emb x) 0 1 3 (by omega) (by omega) (pc35 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_33.emb x) 3 1 2 (by omega) (by omega) (pc36 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_32.emb x) 2 1 2 (by omega) (by omega) (pc37 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_31.emb x) 1 1 2 (by omega) (by omega) (pc38 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_30.emb x) 0 1 2 (by omega) (by omega) (pc39 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_29.emb x) 3 1 1 (by omega) (by omega) (pc40 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_28.emb x) 2 1 1 (by omega) (by omega) (pc41 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_27.emb x) 1 1 1 (by omega) (by omega) (pc42 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_26.emb x) 0 1 1 (by omega) (by omega) (pc43 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_25.emb x) 3 1 0 (by omega) (by omega) (pc44 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_24.emb x) 2 1 0 (by omega) (by omega) (pc45 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_23.emb x) 1 1 0 (by omega) (by omega) (pc46 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_22.emb x) 0 1 0 (by omega) (by omega) (pc47 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_21.emb x) 3 0 3 (by omega) (by omega) (pc48 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_20.emb x) 2 0 3 (by omega) (by omega) (pc49 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_19.emb x) 1 0 3 (by omega) (by omega) (pc50 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_18.emb x) 0 0 3 (by omega) (by omega) (pc51 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_17.emb x) 3 0 2 (by omega) (by omega) (pc52 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_16.emb x) 2 0 2 (by omega) (by omega) (pc53 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_15.emb x) 1 0 2 (by omega) (by omega) (pc54 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_14.emb x) 0 0 2 (by omega) (by omega) (pc55 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_13.emb x) 3 0 1 (by omega) (by omega) (pc56 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_12.emb x) 2 0 1 (by omega) (by omega) (pc57 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_11.emb x) 1 0 1 (by omega) (by omega) (pc58 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_10.emb x) 0 0 1 (by omega) (by omega) (pc59 (k0_pay110 x0 x1 x2 x3 x4) (View.ld x4 r0_5) x) rfl rfl rfl rfl
  refine List.forall_mem_cons.2 ⟨fun x : S1x1x64x128.Idx => ?_, ?_⟩
  · exact piece x0 x1 x2 x3 x4 x (r0_9.emb x) 3 0 0 (by omega) (by omega) (pc60 (k0_pay108 x0 x1 x2 x3 x4) (k0_pay109 x0 x1 x2 x3 x4) (View.ld x2 r0_3) (View.ld x3 r0_4) (View.ld x4 r0_5) x) rfl rfl rfl rfl
  refine List.forall_mem_cons.2 ⟨fun x : S1x1x64x128.Idx => ?_, ?_⟩
  · exact piece x0 x1 x2 x3 x4 x (r0_8.emb x) 2 0 0 (by omega) (by omega) (pc61 (k0_pay108 x0 x1 x2 x3 x4) (k0_pay109 x0 x1 x2 x3 x4) (View.ld x2 r0_3) (View.ld x3 r0_4) (View.ld x4 r0_5) x) rfl rfl rfl rfl
  refine List.forall_mem_cons.2 ⟨fun x : S1x1x64x128.Idx => ?_, ?_⟩
  · exact piece x0 x1 x2 x3 x4 x (r0_7.emb x) 1 0 0 (by omega) (by omega) (pc62 (k0_pay108 x0 x1 x2 x3 x4) (k0_pay109 x0 x1 x2 x3 x4) (View.ld x2 r0_3) (View.ld x3 r0_4) (View.ld x4 r0_5) x) rfl rfl rfl rfl
  refine List.forall_mem_cons.2 ⟨fun x : S1x1x64x128.Idx => ?_, ?_⟩
  · exact piece x0 x1 x2 x3 x4 x (r0_6.emb x) 0 0 0 (by omega) (by omega) (pc63 (k0_pay108 x0 x1 x2 x3 x4) (k0_pay109 x0 x1 x2 x3 x4) (View.ld x2 r0_3) (View.ld x3 r0_4) (View.ld x4 r0_5) x) rfl rfl rfl rfl
  exact fun p hp => absurd hp List.not_mem_nil

variable (m : (ℓ : Loc nD τ sig) → Buf (Elt Ideal) ℓ) (ρ : Dev nD → PrngReg)

theorem V_v0 (c : Dev nD) (r : Fin 4096) : V m c main_v0 (ix2 0 r) = m ((c : Thread nD τ).loc main_arg1) (ix1 r) := by
  unfold_abbrev_sides
  after_results
  pointwise

theorem V_v1 (c : Dev nD) (r : Fin 2048) : V m c main_v1 (ix2 0 r) = m ((c : Thread nD τ).loc main_arg3) (ix1 r) := by
  unfold_abbrev_sides
  after_results
  pointwise

theorem V_v2 (c : Dev nD) (r : Fin 128) : V m c main_v2 (ix2 0 r) = m ((c : Thread nD τ).loc main_arg4) (ix1 r) := by
  unfold_abbrev_sides
  after_results
  pointwise

theorem idx0 : ∀ t : Fin cfg0.N, win0_0.index t 0 = t.val ∧ win0_0.index t 1 = 0 :=
  (by decide +kernel : ∀ t : Fin grid0.N, win0_0.index t 0 = t.val ∧ win0_0.index t 1 = 0)
theorem emb0 (t : Fin cfg0.N) (r : Fin 256) (a : Fin 4096) : ((cfg0.win 0).blk t).view.emb (ix2 r a) = (ix2 ⟨256 * t.val + r.val, by have := lt_of_lt_of_eq t.isLt N_0; omega⟩ a) := by
  funext x
  apply Fin.ext
  match x with
  | ⟨0, _⟩ => show win0_0.index t 0 * 256 + 1 * r.val = 256 * t.val + r.val; rw [(idx0 t).1]; omega
  | ⟨1, _⟩ => show win0_0.index t 1 * 4096 + 1 * a.val = a.val; rw [(idx0 t).2]; omega
theorem iblk0 (c : Dev nD) (t : Fin cfg0.N) (r : Fin 256) (a : Fin 4096) : iblk m c 0 t (ix2 r a) = V m c main_arg0 (ix2 ⟨256 * t.val + r.val, by have := lt_of_lt_of_eq t.isLt N_0; omega⟩ a) := by
  show V m c main_arg0 (((cfg0.win 0).blk t).view.emb (ix2 r a)) = _
  rw [emb0]

theorem idx1 : ∀ t : Fin cfg0.N, win0_1.index t 0 = 0 ∧ win0_1.index t 1 = 0 :=
  (by decide +kernel : ∀ t : Fin grid0.N, win0_1.index t 0 = 0 ∧ win0_1.index t 1 = 0)
theorem emb1 (t : Fin cfg0.N) (r : Fin 1) (a : Fin 4096) : ((cfg0.win 1).blk t).view.emb (ix2 r a) = (ix2 r a) := by
  funext x
  apply Fin.ext
  match x with
  | ⟨0, _⟩ => show win0_1.index t 0 * 1 + 1 * r.val = r.val; rw [(idx1 t).1]; omega
  | ⟨1, _⟩ => show win0_1.index t 1 * 4096 + 1 * a.val = a.val; rw [(idx1 t).2]; omega
theorem iblk1 (c : Dev nD) (t : Fin cfg0.N) (r : Fin 1) (a : Fin 4096) : iblk m c 1 t (ix2 r a) = V m c main_v0 (ix2 r a) := by
  show V m c main_v0 (((cfg0.win 1).blk t).view.emb (ix2 r a)) = _
  rw [emb1]

theorem idx2 : ∀ t : Fin cfg0.N, win0_2.index t 0 = 0 ∧ win0_2.index t 1 = 0 :=
  (by decide +kernel : ∀ t : Fin grid0.N, win0_2.index t 0 = 0 ∧ win0_2.index t 1 = 0)
theorem emb2 (t : Fin cfg0.N) (r : Fin 4096) (a : Fin 2048) : ((cfg0.win 2).blk t).view.emb (ix2 r a) = (ix2 r a) := by
  funext x
  apply Fin.ext
  match x with
  | ⟨0, _⟩ => show win0_2.index t 0 * 4096 + 1 * r.val = r.val; rw [(idx2 t).1]; omega
  | ⟨1, _⟩ => show win0_2.index t 1 * 2048 + 1 * a.val = a.val; rw [(idx2 t).2]; omega
theorem iblk2 (c : Dev nD) (t : Fin cfg0.N) (r : Fin 4096) (a : Fin 2048) : iblk m c 2 t (ix2 r a) = V m c main_arg2 (ix2 r a) := by
  show V m c main_arg2 (((cfg0.win 2).blk t).view.emb (ix2 r a)) = _
  rw [emb2]

theorem idx3 : ∀ t : Fin cfg0.N, win0_3.index t 0 = 0 ∧ win0_3.index t 1 = 0 :=
  (by decide +kernel : ∀ t : Fin grid0.N, win0_3.index t 0 = 0 ∧ win0_3.index t 1 = 0)
theorem emb3 (t : Fin cfg0.N) (r : Fin 1) (a : Fin 2048) : ((cfg0.win 3).blk t).view.emb (ix2 r a) = (ix2 r a) := by
  funext x
  apply Fin.ext
  match x with
  | ⟨0, _⟩ => show win0_3.index t 0 * 1 + 1 * r.val = r.val; rw [(idx3 t).1]; omega
  | ⟨1, _⟩ => show win0_3.index t 1 * 2048 + 1 * a.val = a.val; rw [(idx3 t).2]; omega
theorem iblk3 (c : Dev nD) (t : Fin cfg0.N) (r : Fin 1) (a : Fin 2048) : iblk m c 3 t (ix2 r a) = V m c main_v1 (ix2 r a) := by
  show V m c main_v1 (((cfg0.win 3).blk t).view.emb (ix2 r a)) = _
  rw [emb3]

theorem idx4 : ∀ t : Fin cfg0.N, win0_4.index t 0 = 0 ∧ win0_4.index t 1 = 0 :=
  (by decide +kernel : ∀ t : Fin grid0.N, win0_4.index t 0 = 0 ∧ win0_4.index t 1 = 0)
theorem emb4 (t : Fin cfg0.N) (r : Fin 1) (a : Fin 128) : ((cfg0.win 4).blk t).view.emb (ix2 r a) = (ix2 r a) := by
  funext x
  apply Fin.ext
  match x with
  | ⟨0, _⟩ => show win0_4.index t 0 * 1 + 1 * r.val = r.val; rw [(idx4 t).1]; omega
  | ⟨1, _⟩ => show win0_4.index t 1 * 128 + 1 * a.val = a.val; rw [(idx4 t).2]; omega
theorem iblk4 (c : Dev nD) (t : Fin cfg0.N) (r : Fin 1) (a : Fin 128) : iblk m c 4 t (ix2 r a) = V m c main_v2 (ix2 r a) := by
  show V m c main_v2 (((cfg0.win 4).blk t).view.emb (ix2 r a)) = _
  rw [emb4]

/-- The inputs, as rows and weights. -/
abbrev X (c : Dev nD) : ℕ → Fin 4096 → EReal := rowsOf (N := 1280) (m ((c : Thread nD τ).loc main_arg0))
abbrev GN (c : Dev nD) : Fin 4096 → EReal := fun a => m ((c : Thread nD τ).loc main_arg1) (ix1 a)
abbrev WW (c : Dev nD) : Fin 4096 → Fin 2048 → EReal := fun a n => m ((c : Thread nD τ).loc main_arg2) (ix2 a n)
abbrev WS (c : Dev nD) : Fin 2048 → EReal := fun n => m ((c : Thread nD τ).loc main_arg3) (ix1 n)
abbrev QG (c : Dev nD) : Fin 128 → EReal := fun d => m ((c : Thread nD τ).loc main_arg4) (ix1 d)

theorem b0 (c : Dev nD) (t : Fin cfg0.N) (r : ℕ) (h : r < 256) : rowsOf (iblk m c 0 t : Vec Ideal S256x4096 .bf16) r = X m c (256 * t.val + r) := by
  have ht := lt_of_lt_of_eq t.isLt N_0
  show _ = rowsOf (N := 1280) (m ((c : Thread nD τ).loc main_arg0)) (256 * t.val + r)
  rw [rowsOf_lt _ r h, rowsOf_lt _ (256 * t.val + r) (by omega)]
  exact funext fun a => (iblk0 m c t ⟨r, h⟩ a).trans (congrFun (V_main_arg0 m c) _)
theorem b1 (c : Dev nD) (t : Fin cfg0.N) : (fun a => iblk m c 1 t (ix2 0 a)) = GN m c := funext fun a => (iblk1 m c t 0 a).trans (V_v0 m c a)
theorem b2 (c : Dev nD) (t : Fin cfg0.N) : (fun a n => iblk m c 2 t (ix2 a n)) = WW m c :=
  funext fun a => funext fun n => (iblk2 m c t a n).trans (congrFun (V_main_arg2 m c) _)
theorem b3 (c : Dev nD) (t : Fin cfg0.N) : (fun a => iblk m c 3 t (ix2 0 a)) = WS m c := funext fun a => (iblk3 m c t 0 a).trans (V_v1 m c a)
theorem b4 (c : Dev nD) (t : Fin cfg0.N) : (fun a => iblk m c 4 t (ix2 0 a)) = QG m c := funext fun a => (iblk4 m c t 0 a).trans (V_v2 m c a)

theorem idx5 : ∀ t : Fin cfg0.N, win0_5.index t 0 = t.val ∧ win0_5.index t 1 = 0 :=
  (by decide +kernel : ∀ t : Fin grid0.N, win0_5.index t 0 = t.val ∧ win0_5.index t 1 = 0)
/-- Output 5 after the run. -/
theorem end5 (c : Dev nD) (i : S1280x4096.Idx) : (dats m 0 c).arrAt 5 cfg0.N i = F5 (X m c) (GN m c) i := by
  refine Dat.arrAt_forall_of_covers (dats m 0 c) 5 (fun i v => v = F5 (X m c) (GN m c) i) (by decide +kernel) (fun t hf y => ?_) i
  have l0 : (y 0).val < 256 := ((cfg0.win 5).xinj (grid0.coords t) y 0).isLt
  have z0 : ((((cfg0.win 5).blk t).view.emb y) 0).val = win0_5.index t 0 * 256 + 1 * (y 0).val := rfl
  rw [(idx5 t).1] at z0
  have l1 : (y 1).val < 4096 := ((cfg0.win 5).xinj (grid0.coords t) y 1).isLt
  have z1 : ((((cfg0.win 5).blk t).view.emb y) 1).val = win0_5.index t 1 * 4096 + 1 * (y 1).val := rfl
  rw [(idx5 t).2] at z1
  have ex : (cfg0.win 5).xinj (grid0.coords t) y = (ix2 ⟨(y 0).val, l0⟩ ⟨(y 1).val, l1⟩ : (⟨2, ![256, 4096]⟩ : Shape).Idx) := by
    funext x
    apply Fin.ext
    match x with
    | ⟨0, _⟩ => rfl
    | ⟨1, _⟩ => rfl
  show (dats m 0 c).after 5 t ((cfg0.win 5).xinj (grid0.coords t) y) = _
  rw [after0_5, ex]
  generalize ((cfg0.win 5).blk t).view.emb y = e at *
  refine (out5 (iblk m c 0 t) (iblk m c 1 t) (iblk m c 2 t) (iblk m c 3 t) (iblk m c 4 t) ⟨(y 0).val, l0⟩ ⟨(y 1).val, l1⟩).trans ?_
  rw [b0 m c t (y 0).val l0, b1]
  unfold F5
  rw [show (e 0).val = 256 * t.val + (y 0).val by rw [z0]; omega, show e 1 = ⟨(y 1).val, l1⟩ from Fin.ext (by rw [z1]; show 0 * 4096 + 1 * (y 1).val = (y 1).val; omega)]
  rfl

theorem idx6 : ∀ t : Fin cfg0.N, win0_6.index t 0 = 0 ∧ win0_6.index t 1 = t.val :=
  (by decide +kernel : ∀ t : Fin grid0.N, win0_6.index t 0 = 0 ∧ win0_6.index t 1 = t.val)
/-- Output 6 after the run. -/
theorem end6 (c : Dev nD) (i : S1x1280.Idx) : (dats m 0 c).arrAt 6 cfg0.N i = F6 (X m c) (GN m c) i := by
  refine Dat.arrAt_forall_of_covers (dats m 0 c) 6 (fun i v => v = F6 (X m c) (GN m c) i) (by decide +kernel) (fun t hf y => ?_) i
  have l0 : (y 0).val < 1 := ((cfg0.win 6).xinj (grid0.coords t) y 0).isLt
  have z0 : ((((cfg0.win 6).blk t).view.emb y) 0).val = win0_6.index t 0 * 1 + 1 * (y 0).val := rfl
  rw [(idx6 t).1] at z0
  have l1 : (y 1).val < 256 := ((cfg0.win 6).xinj (grid0.coords t) y 1).isLt
  have z1 : ((((cfg0.win 6).blk t).view.emb y) 1).val = win0_6.index t 1 * 256 + 1 * (y 1).val := rfl
  rw [(idx6 t).2] at z1
  have ex : (cfg0.win 6).xinj (grid0.coords t) y = (ix2 ⟨(y 0).val, l0⟩ ⟨(y 1).val, l1⟩ : (⟨2, ![1, 256]⟩ : Shape).Idx) := by
    funext x
    apply Fin.ext
    match x with
    | ⟨0, _⟩ => rfl
    | ⟨1, _⟩ => rfl
  show (dats m 0 c).after 6 t ((cfg0.win 6).xinj (grid0.coords t) y) = _
  rw [after0_6, ex]
  generalize ((cfg0.win 6).blk t).view.emb y = e at *
  have h0 : (⟨(y 0).val, l0⟩ : Fin 1) = 0 := Fin.eq_zero _
  rw [h0]
  refine (out6 (iblk m c 0 t) (iblk m c 1 t) (iblk m c 2 t) (iblk m c 3 t) (iblk m c 4 t) ⟨(y 1).val, l1⟩).trans ?_
  rw [b0 m c t (y 1).val l1, b1]
  unfold F6
  rw [show (e 1).val = 256 * t.val + (y 1).val by rw [z1]; omega]

theorem idx7 : ∀ t : Fin cfg0.N, win0_7.index t 0 = t.val ∧ win0_7.index t 1 = 0 ∧ win0_7.index t 2 = 0 ∧ win0_7.index t 3 = 0 :=
  (by decide +kernel : ∀ t : Fin grid0.N, win0_7.index t 0 = t.val ∧ win0_7.index t 1 = 0 ∧ win0_7.index t 2 = 0 ∧ win0_7.index t 3 = 0)
/-- Output 7 after the run. -/
theorem end7 (c : Dev nD) (i : S20x4x256x128.Idx) : (dats m 0 c).arrAt 7 cfg0.N i = F7 (X m c) (GN m c) (WW m c) (WS m c) (QG m c) i := by
  refine Dat.arrAt_forall_of_covers (dats m 0 c) 7 (fun i v => v = F7 (X m c) (GN m c) (WW m c) (WS m c) (QG m c) i) (by decide +kernel) (fun t hf y => ?_) i
  have l0 : (y 0).val < 4 := ((cfg0.win 7).xinj (grid0.coords t) y 0).isLt
  have z0 : ((((cfg0.win 7).blk t).view.emb y) 0).val = win0_7.index t 0 * 4 + 1 * (y 0).val := rfl
  rw [(idx7 t).1] at z0
  have l1 : (y 1).val < 4 := ((cfg0.win 7).xinj (grid0.coords t) y 1).isLt
  have z1 : ((((cfg0.win 7).blk t).view.emb y) 1).val = win0_7.index t 1 * 4 + 1 * (y 1).val := rfl
  rw [(idx7 t).2.1] at z1
  have l2 : (y 2).val < 256 := ((cfg0.win 7).xinj (grid0.coords t) y 2).isLt
  have z2 : ((((cfg0.win 7).blk t).view.emb y) 2).val = win0_7.index t 2 * 256 + 1 * (y 2).val := rfl
  rw [(idx7 t).2.2.1] at z2
  have l3 : (y 3).val < 128 := ((cfg0.win 7).xinj (grid0.coords t) y 3).isLt
  have z3 : ((((cfg0.win 7).blk t).view.emb y) 3).val = win0_7.index t 3 * 128 + 1 * (y 3).val := rfl
  rw [(idx7 t).2.2.2] at z3
  have ex : (cfg0.win 7).xinj (grid0.coords t) y = (ix4 ⟨(y 0).val, l0⟩ ⟨(y 1).val, l1⟩ ⟨(y 2).val, l2⟩ ⟨(y 3).val, l3⟩ : (⟨4, ![4, 4, 256, 128]⟩ : Shape).Idx) := by
    funext x
    apply Fin.ext
    match x with
    | ⟨0, _⟩ => rfl
    | ⟨1, _⟩ => rfl
    | ⟨2, _⟩ => rfl
    | ⟨3, _⟩ => rfl
  show (dats m 0 c).after 7 t ((cfg0.win 7).xinj (grid0.coords t) y) = _
  rw [after0_7, ex]
  generalize ((cfg0.win 7).blk t).view.emb y = e at *
  refine (out7 (iblk m c 0 t) (iblk m c 1 t) (iblk m c 2 t) (iblk m c 3 t) (iblk m c 4 t) _).trans ?_
  rw [b1, b2, b3, b4]
  show qn (rowsOf (iblk m c 0 t : Vec Ideal S256x4096 .bf16) (64 * (y 0).val + (y 2).val % 64)) _ _ _ _ (4 * (y 1).val + (y 2).val / 64) ⟨(y 3).val, l3⟩ = _
  rw [b0 m c t (64 * (y 0).val + (y 2).val % 64) (by omega)]
  unfold F7
  exact qn_step _ _ _ _ _ (by rw [z0, z2]; omega) (by rw [z1, z2]; omega) (Fin.ext (by rw [z3]; show (y 3).val = 0 * 128 + 1 * (y 3).val; omega))

/-- The run: what the three results hold, the arguments unchanged. -/
theorem run_value : θ_run defs (onTc (τ := τ) (main (F := Ideal))) ⟨m, fun _ => 0, ρ⟩ fun r => ∀ c : Dev nD,
      r.2.mem ((c : Thread nD τ).loc main_v3_0) = F5 (X m c) (GN m c)
      ∧ r.2.mem ((c : Thread nD τ).loc main_v3_1) = F6 (X m c) (GN m c)
      ∧ r.2.mem ((c : Thread nD τ).loc main_v3_2) = F7 (X m c) (GN m c) (WW m c) (WS m c) (QG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (funext fun i => end5 m c i), ((h c).1 6).trans (funext fun i => end6 m c i),
    ((h c).1 7).trans (funext fun i => end7 m c i),
    ((h c).1 0).trans (((dats m 0 c).arrAt_in 0 rfl _).trans (V_main_arg0 m c)),
    ((h c).2 main_arg1 (Pipeline.mem_restRefs_of main_arg1 (by decide) (by decide))).trans (V_main_arg1 m c),
    ((h c).1 2).trans (((dats m 0 c).arrAt_in 2 rfl _).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.KernelQIdeal.RefValue

end
-- ==== Proof.QPayR.lean ====
/-
  The query projection: the head pieces its body stores (hand-written, untrusted).
-/
module

public import proofs.«01_k».proof.Proof.Gen.ReferenceQIdeal.Frame
public import proofs.«01_k».proof.Proof.QRow

@[expose] public section

set_option maxRecDepth 16384

noncomputable section

open Idealize.ShloMosaic Idealize.ShloMosaic.TcCoe

namespace Cert.ReferenceQIdeal.RefValue

open Cert.ReferenceQIdeal Cert.ReferenceQIdeal.Gen Cert.Rows Cert.QRow

theorem pc0 (q : FVec Ideal S1280x2048 .f32) (g : Vec Ideal S1x128 .f32) (x : S20x1x64x128.Idx) :
    (k0_pay1 (k0_pay29 q g)) x = HQ q g ((x 0).val * 64 + (x 2).val) 15 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 15 d hR (fun d => q (ix2 ⟨_, hR⟩ ⟨128 * 15 + d.val, by omega⟩)) (fun d hd => rfl) (by norm_num))
  unfold rms k0_pay29 k0_pay1
  pointwise

theorem pc1 (q : FVec Ideal S1280x2048 .f32) (g : Vec Ideal S1x128 .f32) (x : S20x1x64x128.Idx) :
    (k0_pay28 q g) x = HQ q g ((x 0).val * 64 + (x 2).val) 14 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 14 d hR (fun d => q (ix2 ⟨_, hR⟩ ⟨128 * 14 + d.val, by omega⟩)) (fun d hd => rfl) (by norm_num))
  unfold rms k0_pay28
  pointwise

theorem pc2 (q : FVec Ideal S1280x2048 .f32) (g : Vec Ideal S1x128 .f32) (x : S20x1x64x128.Idx) :
    (k0_pay27 (k0_pay26 q g)) x = HQ q g ((x 0).val * 64 + (x 2).val) 13 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 13 d hR (fun d => q (ix2 ⟨_, hR⟩ ⟨128 * 13 + d.val, by omega⟩)) (fun d hd => rfl) (by norm_num))
  unfold rms k0_pay26 k0_pay27
  pointwise

theorem pc3 (q : FVec Ideal S1280x2048 .f32) (g : Vec Ideal S1x128 .f32) (x : S20x1x64x128.Idx) :
    (k0_pay25 q g) x = HQ q g ((x 0).val * 64 + (x 2).val) 12 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 12 d hR (fun d => q (ix2 ⟨_, hR⟩ ⟨128 * 12 + d.val, by omega⟩)) (fun d hd => rfl) (by norm_num))
  unfold rms k0_pay25
  pointwise

theorem pc4 (q : FVec Ideal S1280x2048 .f32) (g : Vec Ideal S1x128 .f32) (x : S20x1x64x128.Idx) :
    (k0_pay24 (k0_pay23 q g)) x = HQ q g ((x 0).val * 64 + (x 2).val) 11 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 11 d hR (fun d => q (ix2 ⟨_, hR⟩ ⟨128 * 11 + d.val, by omega⟩)) (fun d hd => rfl) (by norm_num))
  unfold rms k0_pay23 k0_pay24
  pointwise

theorem pc5 (q : FVec Ideal S1280x2048 .f32) (g : Vec Ideal S1x128 .f32) (x : S20x1x64x128.Idx) :
    (k0_pay22 q g) x = HQ q g ((x 0).val * 64 + (x 2).val) 10 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 10 d hR (fun d => q (ix2 ⟨_, hR⟩ ⟨128 * 10 + d.val, by omega⟩)) (fun d hd => rfl) (by norm_num))
  unfold rms k0_pay22
  pointwise

theorem pc6 (q : FVec Ideal S1280x2048 .f32) (g : Vec Ideal S1x128 .f32) (x : S20x1x64x128.Idx) :
    (k0_pay21 (k0_pay20 q g)) x = HQ q g ((x 0).val * 64 + (x 2).val) 9 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 9 d hR (fun d => q (ix2 ⟨_, hR⟩ ⟨128 * 9 + d.val, by omega⟩)) (fun d hd => rfl) (by norm_num))
  unfold rms k0_pay20 k0_pay21
  pointwise

theorem pc7 (q : FVec Ideal S1280x2048 .f32) (g : Vec Ideal S1x128 .f32) (x : S20x1x64x128.Idx) :
    (k0_pay19 q g) x = HQ q g ((x 0).val * 64 + (x 2).val) 8 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 8 d hR (fun d => q (ix2 ⟨_, hR⟩ ⟨128 * 8 + d.val, by omega⟩)) (fun d hd => rfl) (by norm_num))
  unfold rms k0_pay19
  pointwise

theorem pc8 (q : FVec Ideal S1280x2048 .f32) (g : Vec Ideal S1x128 .f32) (x : S20x1x64x128.Idx) :
    (k0_pay18 (k0_pay17 q g)) x = HQ q g ((x 0).val * 64 + (x 2).val) 7 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 7 d hR (fun d => q (ix2 ⟨_, hR⟩ ⟨128 * 7 + d.val, by omega⟩)) (fun d hd => rfl) (by norm_num))
  unfold rms k0_pay17 k0_pay18
  pointwise

theorem pc9 (q : FVec Ideal S1280x2048 .f32) (g : Vec Ideal S1x128 .f32) (x : S20x1x64x128.Idx) :
    (k0_pay16 q g) x = HQ q g ((x 0).val * 64 + (x 2).val) 6 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 6 d hR (fun d => q (ix2 ⟨_, hR⟩ ⟨128 * 6 + d.val, by omega⟩)) (fun d hd => rfl) (by norm_num))
  unfold rms k0_pay16
  pointwise

theorem pc10 (q : FVec Ideal S1280x2048 .f32) (g : Vec Ideal S1x128 .f32) (x : S20x1x64x128.Idx) :
    (k0_pay15 (k0_pay14 q g)) x = HQ q g ((x 0).val * 64 + (x 2).val) 5 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 5 d hR (fun d => q (ix2 ⟨_, hR⟩ ⟨128 * 5 + d.val, by omega⟩)) (fun d hd => rfl) (by norm_num))
  unfold rms k0_pay14 k0_pay15
  pointwise

theorem pc11 (q : FVec Ideal S1280x2048 .f32) (g : Vec Ideal S1x128 .f32) (x : S20x1x64x128.Idx) :
    (k0_pay13 q g) x = HQ q g ((x 0).val * 64 + (x 2).val) 4 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 4 d hR (fun d => q (ix2 ⟨_, hR⟩ ⟨128 * 4 + d.val, by omega⟩)) (fun d hd => rfl) (by norm_num))
  unfold rms k0_pay13
  pointwise

theorem pc12 (q : FVec Ideal S1280x2048 .f32) (g : Vec Ideal S1x128 .f32) (x : S20x1x64x128.Idx) :
    (k0_pay12 (k0_pay11 q g)) x = HQ q g ((x 0).val * 64 + (x 2).val) 3 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 3 d hR (fun d => q (ix2 ⟨_, hR⟩ ⟨128 * 3 + d.val, by omega⟩)) (fun d hd => rfl) (by norm_num))
  unfold rms k0_pay11 k0_pay12
  pointwise

theorem pc13 (q : FVec Ideal S1280x2048 .f32) (g : Vec Ideal S1x128 .f32) (x : S20x1x64x128.Idx) :
    (k0_pay10 q g) x = HQ q g ((x 0).val * 64 + (x 2).val) 2 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of q g _ 2 d hR (fun d => q (ix2 ⟨_, hR⟩ ⟨128 * 2 + d.val, by omega⟩)) (fun d hd => rfl) (by norm_num))
  unfold rms k0_pay10
  pointwise

theorem pc14 (sc : FVec Ideal S1280x1 .f32) (cc : FVec Ideal S1280x4096 .fp8e4m3) (w : Vec Ideal S4096x2048 .fp8e4m3) (ws : Vec Ideal S1x2048 .f32) (g : Vec Ideal S1x128 .f32) (x : S20x1x64x128.Idx) :
    (k0_pay9 (k0_pay8 sc cc w ws g)) x = HQ (k0_pay6 sc cc w ws) g ((x 0).val * 64 + (x 2).val) 1 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of (k0_pay6 sc cc w ws) g _ 1 d hR (fun d => (k0_pay6 sc cc w ws) (ix2 ⟨_, hR⟩ ⟨128 * 1 + d.val, by omega⟩)) (fun d hd => rfl) (by norm_num))
  unfold rms k0_pay8 k0_pay9
  generalize (k0_pay6 sc cc w ws) = q
  pointwise

theorem pc15 (sc : FVec Ideal S1280x1 .f32) (cc : FVec Ideal S1280x4096 .fp8e4m3) (w : Vec Ideal S4096x2048 .fp8e4m3) (ws : Vec Ideal S1x2048 .f32) (g : Vec Ideal S1x128 .f32) (x : S20x1x64x128.Idx) :
    (k0_pay7 sc cc w ws g) x = HQ (k0_pay6 sc cc w ws) g ((x 0).val * 64 + (x 2).val) 0 (x 3) := by
  obtain ⟨b, o, s, d, rfl⟩ : ∃ (b : Fin 20) (o : Fin 1) (s : Fin 64) (d : Fin 128), x = ix4 b o s d := ⟨x 0, x 1, x 2, x 3, eq_ix4 x⟩
  obtain rfl : o = 0 := Fin.eq_zero o
  have hR : b.val * 64 + s.val < 1280 := by omega
  refine Eq.trans ?_ (HQ_of (k0_pay6 sc cc w ws) g _ 0 d hR (fun d => (k0_pay6 sc cc w ws) (ix2 ⟨_, hR⟩ ⟨128 * 0 + d.val, by omega⟩)) (fun d hd => rfl) (by norm_num))
  unfold rms k0_pay7
  generalize (k0_pay6 sc cc w ws) = q
  pointwise

end Cert.ReferenceQIdeal.RefValue

end
-- ==== Proof.QValR.lean ====
/-
  The query projection: what the results hold (hand-written, untrusted).
-/
module

public import proofs.«01_k».proof.Proof.QPayR
public import Idealize.ShloMosaic.Lib.Pipeline.Value
public import Idealize.ShloMosaic.Lib.Quiescent
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.ReferenceQIdeal.RefValue

open Cert.ReferenceQIdeal Cert.ReferenceQIdeal.Gen Cert.Rows Cert.QRow

theorem p4 (v0 : Vec Ideal S1280x4096 .bf16) (v1 : Vec Ideal S1x4096 .f32) (r : Fin 1280) (k : Fin 4096) : k0_pay2 v0 v1 (ix2 r k) = qx (fun a => v0 (ix2 r a)) (fun a => v1 (ix2 0 a)) k := by
  unfold qx rms k0_pay2
  pointwise

theorem p4' (v0 : Vec Ideal S1280x4096 .bf16) (v1 : Vec Ideal S1x4096 .f32) (r : Fin 1280) : qx (fun a => v0 (ix2 r a)) (fun a => v1 (ix2 0 a)) = fun k => k0_pay2 v0 v1 (ix2 r k) :=
  funext fun k => (p4 v0 v1 r k).symm

theorem sel (A : FVec Ideal S1280x1 .f32) (r : Fin 1280) :
    select (cmpf .oeq A (broadcast S1280x1 (Scalar.ofBits .f32 0x00000000#32 : Ideal .f32))) (broadcast S1280x1 (Scalar.ofBits .f32 0x3F800000#32 : Ideal .f32))
      (divf A (broadcast S1280x1 (Scalar.ofBits .f32 0x43E00000#32 : Ideal .f32))) (ix2 r 0) = scl (A (ix2 r 0)) := by
  pointwise
  rfl

theorem am (P : FVec Ideal S1280x4096 .f32) (r : Fin 1280) :
    shapeCast S1280x1 (multiReduction .maximumf [1] S1280 (absf P) 0xFF800000#32 reduces_S1280x4096_S1280 (.inl rfl) rfl) shapeCasts_S1280_S1280x1 (ix2 r 0) = amax fun k => P (ix2 r k) := by
  pointwise
  rfl

theorem cd (P : FVec Ideal S1280x4096 .f32) (S : FVec Ideal S1280x1 .f32) (r : Fin 1280) (k : Fin 4096) :
    truncf .fp8e4m3 (minimumf (broadcast S1280x4096 (Scalar.ofBits .f32 0x43E00000#32 : Ideal .f32)) (maximumf (broadcast S1280x4096 (Scalar.ofBits .f32 0xC3E00000#32 : Ideal .f32))
      (divf P (broadcastTo S1280x4096 S broadcasts_S1280x1_S1280x4096)))) bitsLt_fp8e4m3_f32 (ix2 r k) = code (S (ix2 r 0)) (P (ix2 r k)) := by
  pointwise
  rfl

theorem p5 (v0 : Vec Ideal S1280x4096 .bf16) (v1 : Vec Ideal S1x4096 .f32) (r : Fin 1280) : k0_pay3 v0 v1 (ix2 r 0) = qs (fun a => v0 (ix2 r a)) (fun a => v1 (ix2 0 a)) := by
  unfold qs
  rw [p4']
  exact (sel _ r).trans (congrArg scl (am (k0_pay2 v0 v1) r))

theorem p6 (v0 : Vec Ideal S1280x4096 .bf16) (v1 : Vec Ideal S1x4096 .f32) (r : Fin 1280) (k : Fin 4096) : k0_pay4 v0 v1 (ix2 r k) = code (qs (fun a => v0 (ix2 r a)) (fun a => v1 (ix2 0 a))) (qx (fun a => v0 (ix2 r a)) (fun a => v1 (ix2 0 a)) k) := by
  rw [← p4, ← p5]
  exact cd (k0_pay2 v0 v1) (k0_pay3 v0 v1) r k

theorem p7 (v0 : Vec Ideal S1280x4096 .bf16) (v1 : Vec Ideal S1x4096 .f32) (r : Fin 1280) : k0_pay5 v0 v1 (ix2 0 r) = qs (fun a => v0 (ix2 r a)) (fun a => v1 (ix2 0 a)) := by
  rw [← p5]
  unfold k0_pay5
  generalize k0_pay3 v0 v1 = S
  pointwise

theorem p8 (s : FVec Ideal S1280x1 .f32) (cc : FVec Ideal S1280x4096 .fp8e4m3) (w : Vec Ideal S4096x2048 .fp8e4m3) (ws : Vec Ideal S1x2048 .f32) (r : Fin 1280) (n : Fin 2048) :
    k0_pay6 s cc w ws (ix2 r n) = (∑ a, cc (ix2 r a) * w (ix2 a n)) * (s (ix2 r 0) * ws (ix2 0 n)) := by
  unfold k0_pay6
  pointwise

theorem hz : (![0, 0] : Fin 2 → Nat) = fun _ => 0 := funext fun a => by fin_cases a <;> rfl

theorem q_at (x0 : Vec Ideal S1280x4096 .bf16) (x1 : Vec Ideal S1x4096 .f32) (x2 : Vec Ideal S4096x2048 .fp8e4m3) (x3 : Vec Ideal S1x2048 .f32) (x4 : Vec Ideal S1x128 .f32) (r : Fin 1280) (n : Fin 2048) :
    k0_pay32 x0 x1 x2 x3 x4 (ix2 r n) = qq (fun a => x0 (ix2 r a)) (fun a => x1 (ix2 0 a)) (fun a n => x2 (ix2 a n)) (fun n => x3 (ix2 0 n)) n := by
  unfold k0_pay32 k0_pay30 k0_pay31
  repeat rw [View.ld_unit_zero hz]
  rw [p8, p5]
  simp only [p6]
  rfl

theorem hq_at (x0 : Vec Ideal S1280x4096 .bf16) (x1 : Vec Ideal S1x4096 .f32) (x2 : Vec Ideal S4096x2048 .fp8e4m3) (x3 : Vec Ideal S1x2048 .f32) (x4 : Vec Ideal S1x128 .f32) (r h : ℕ) (d : Fin 128) (hr : r < 1280) :
    HQ (k0_pay32 x0 x1 x2 x3 x4) (View.ld x4 r0_5) r h d = qn (rowsOf x0 r) (fun a => x1 (ix2 0 a)) (fun a n => x2 (ix2 a n)) (fun n => x3 (ix2 0 n)) (fun d => x4 (ix2 0 d)) h d := by
  unfold HQ qn
  rw [dif_pos hr, rowsOf_lt x0 r hr, View.ld_unit_zero hz]
  simp only [q_at]

theorem out5 (x0 : Vec Ideal S1280x4096 .bf16) (x1 : Vec Ideal S1x4096 .f32) (x2 : Vec Ideal S4096x2048 .fp8e4m3) (x3 : Vec Ideal S1x2048 .f32) (x4 : Vec Ideal S1x128 .f32) (r : Fin 1280) (k : Fin 4096) :
    out0_5 x0 x1 x2 x3 x4 (ix2 r k) = code (qs (rowsOf x0 r.val) (fun a => x1 (ix2 0 a))) (qx (rowsOf x0 r.val) (fun a => x1 (ix2 0 a)) k) := by
  unfold out0_5
  rw [View.canon_unit_zero hz]
  repeat rw [View.ld_unit_zero hz]
  rw [p6, rowsOf_lt x0 r.val r.isLt]

theorem out6 (x0 : Vec Ideal S1280x4096 .bf16) (x1 : Vec Ideal S1x4096 .f32) (x2 : Vec Ideal S4096x2048 .fp8e4m3) (x3 : Vec Ideal S1x2048 .f32) (x4 : Vec Ideal S1x128 .f32) (r : Fin 1280) : out0_6 x0 x1 x2 x3 x4 (ix2 0 r) = qs (rowsOf x0 r.val) (fun a => x1 (ix2 0 a)) := by
  unfold out0_6
  rw [View.canon_unit_zero hz]
  repeat rw [View.ld_unit_zero hz]
  rw [p7, rowsOf_lt x0 r.val r.isLt]

/-- The head of a row a block's third result holds at an index. -/
theorem out7 (x0 : Vec Ideal S1280x4096 .bf16) (x1 : Vec Ideal S1x4096 .f32) (x2 : Vec Ideal S4096x2048 .fp8e4m3) (x3 : Vec Ideal S1x2048 .f32) (x4 : Vec Ideal S1x128 .f32) (y : S20x4x256x128.Idx) :
    out0_7 x0 x1 x2 x3 x4 y = qn (rowsOf x0 (64 * (y 0).val + (y 2).val % 64)) (fun a => x1 (ix2 0 a)) (fun a n => x2 (ix2 a n)) (fun n => x3 (ix2 0 n)) (fun d => x4 (ix2 0 d)) (4 * (y 1).val + (y 2).val / 64) (y 3) := by
  unfold out0_7
  refine View.canon_apply_of_pieces (Val := Elt Ideal) (e := .bf16) (fun y : S20x4x256x128.Idx => qn (rowsOf x0 (64 * (y 0).val + (y 2).val % 64)) (fun a => x1 (ix2 0 a)) (fun a n => x2 (ix2 a n)) (fun n => x3 (ix2 0 n)) (fun d => x4 (ix2 0 d)) (4 * (y 1).val + (y 2).val / 64) (y 3)) _ ?_ y (cover0_7 _ _ _ _ _ _ _ _ _ _ _ _ _ _ _ _ y)
  refine List.forall_mem_cons.2 ⟨fun x : S20x1x64x128.Idx => ?_, ?_⟩
  · have e0 : ((r0_21.emb x) 0).val = 0 + 1 * (x 0).val := rfl
    have e1 : ((r0_21.emb x) 1).val = 3 + 1 * (x 1).val := rfl
    have e2 : ((r0_21.emb x) 2).val = 192 + 1 * (x 2).val := rfl
    have e3 : ((r0_21.emb x) 3).val = 0 + 1 * (x 3).val := rfl
    have l0 : (x 0).val < 20 := (x 0).isLt
    have l1 : (x 1).val < 1 := (x 1).isLt
    have l2 : (x 2).val < 64 := (x 2).isLt
    exact (pc0 (k0_pay32 x0 x1 x2 x3 x4) (View.ld x4 r0_5) x).trans ((hq_at x0 x1 x2 x3 x4 _ 15 (x 3) (by omega)).trans (qn_step (R' := 64 * ((r0_21.emb x) 0).val + ((r0_21.emb x) 2).val % 64) (h' := 4 * ((r0_21.emb x) 1).val + ((r0_21.emb x) 2).val / 64) (d' := (r0_21.emb x) 3) _ _ _ _ _ (by omega) (by omega) (Fin.ext (by omega))))
  refine List.forall_mem_cons.2 ⟨fun x : S20x1x64x128.Idx => ?_, ?_⟩
  · have e0 : ((r0_20.emb x) 0).val = 0 + 1 * (x 0).val := rfl
    have e1 : ((r0_20.emb x) 1).val = 3 + 1 * (x 1).val := rfl
    have e2 : ((r0_20.emb x) 2).val = 128 + 1 * (x 2).val := rfl
    have e3 : ((r0_20.emb x) 3).val = 0 + 1 * (x 3).val := rfl
    have l0 : (x 0).val < 20 := (x 0).isLt
    have l1 : (x 1).val < 1 := (x 1).isLt
    have l2 : (x 2).val < 64 := (x 2).isLt
    exact (pc1 (k0_pay32 x0 x1 x2 x3 x4) (View.ld x4 r0_5) x).trans ((hq_at x0 x1 x2 x3 x4 _ 14 (x 3) (by omega)).trans (qn_step (R' := 64 * ((r0_20.emb x) 0).val + ((r0_20.emb x) 2).val % 64) (h' := 4 * ((r0_20.emb x) 1).val + ((r0_20.emb x) 2).val / 64) (d' := (r0_20.emb x) 3) _ _ _ _ _ (by omega) (by omega) (Fin.ext (by omega))))
  refine List.forall_mem_cons.2 ⟨fun x : S20x1x64x128.Idx => ?_, ?_⟩
  · have e0 : ((r0_19.emb x) 0).val = 0 + 1 * (x 0).val := rfl
    have e1 : ((r0_19.emb x) 1).val = 3 + 1 * (x 1).val := rfl
    have e2 : ((r0_19.emb x) 2).val = 64 + 1 * (x 2).val := rfl
    have e3 : ((r0_19.emb x) 3).val = 0 + 1 * (x 3).val := rfl
    have l0 : (x 0).val < 20 := (x 0).isLt
    have l1 : (x 1).val < 1 := (x 1).isLt
    have l2 : (x 2).val < 64 := (x 2).isLt
    exact (pc2 (k0_pay32 x0 x1 x2 x3 x4) (View.ld x4 r0_5) x).trans ((hq_at x0 x1 x2 x3 x4 _ 13 (x 3) (by omega)).trans (qn_step (R' := 64 * ((r0_19.emb x) 0).val + ((r0_19.emb x) 2).val % 64) (h' := 4 * ((r0_19.emb x) 1).val + ((r0_19.emb x) 2).val / 64) (d' := (r0_19.emb x) 3) _ _ _ _ _ (by omega) (by omega) (Fin.ext (by omega))))
  refine List.forall_mem_cons.2 ⟨fun x : S20x1x64x128.Idx => ?_, ?_⟩
  · have e0 : ((r0_18.emb x) 0).val = 0 + 1 * (x 0).val := rfl
    have e1 : ((r0_18.emb x) 1).val = 3 + 1 * (x 1).val := rfl
    have e2 : ((r0_18.emb x) 2).val = 0 + 1 * (x 2).val := rfl
    have e3 : ((r0_18.emb x) 3).val = 0 + 1 * (x 3).val := rfl
    have l0 : (x 0).val < 20 := (x 0).isLt
    have l1 : (x 1).val < 1 := (x 1).isLt
    have l2 : (x 2).val < 64 := (x 2).isLt
    exact (pc3 (k0_pay32 x0 x1 x2 x3 x4) (View.ld x4 r0_5) x).trans ((hq_at x0 x1 x2 x3 x4 _ 12 (x 3) (by omega)).trans (qn_step (R' := 64 * ((r0_18.emb x) 0).val + ((r0_18.emb x) 2).val % 64) (h' := 4 * ((r0_18.emb x) 1).val + ((r0_18.emb x) 2).val / 64) (d' := (r0_18.emb x) 3) _ _ _ _ _ (by omega) (by omega) (Fin.ext (by omega))))
  refine List.forall_mem_cons.2 ⟨fun x : S20x1x64x128.Idx => ?_, ?_⟩
  · have e0 : ((r0_17.emb x) 0).val = 0 + 1 * (x 0).val := rfl
    have e1 : ((r0_17.emb x) 1).val = 2 + 1 * (x 1).val := rfl
    have e2 : ((r0_17.emb x) 2).val = 192 + 1 * (x 2).val := rfl
    have e3 : ((r0_17.emb x) 3).val = 0 + 1 * (x 3).val := rfl
    have l0 : (x 0).val < 20 := (x 0).isLt
    have l1 : (x 1).val < 1 := (x 1).isLt
    have l2 : (x 2).val < 64 := (x 2).isLt
    exact (pc4 (k0_pay32 x0 x1 x2 x3 x4) (View.ld x4 r0_5) x).trans ((hq_at x0 x1 x2 x3 x4 _ 11 (x 3) (by omega)).trans (qn_step (R' := 64 * ((r0_17.emb x) 0).val + ((r0_17.emb x) 2).val % 64) (h' := 4 * ((r0_17.emb x) 1).val + ((r0_17.emb x) 2).val / 64) (d' := (r0_17.emb x) 3) _ _ _ _ _ (by omega) (by omega) (Fin.ext (by omega))))
  refine List.forall_mem_cons.2 ⟨fun x : S20x1x64x128.Idx => ?_, ?_⟩
  · have e0 : ((r0_16.emb x) 0).val = 0 + 1 * (x 0).val := rfl
    have e1 : ((r0_16.emb x) 1).val = 2 + 1 * (x 1).val := rfl
    have e2 : ((r0_16.emb x) 2).val = 128 + 1 * (x 2).val := rfl
    have e3 : ((r0_16.emb x) 3).val = 0 + 1 * (x 3).val := rfl
    have l0 : (x 0).val < 20 := (x 0).isLt
    have l1 : (x 1).val < 1 := (x 1).isLt
    have l2 : (x 2).val < 64 := (x 2).isLt
    exact (pc5 (k0_pay32 x0 x1 x2 x3 x4) (View.ld x4 r0_5) x).trans ((hq_at x0 x1 x2 x3 x4 _ 10 (x 3) (by omega)).trans (qn_step (R' := 64 * ((r0_16.emb x) 0).val + ((r0_16.emb x) 2).val % 64) (h' := 4 * ((r0_16.emb x) 1).val + ((r0_16.emb x) 2).val / 64) (d' := (r0_16.emb x) 3) _ _ _ _ _ (by omega) (by omega) (Fin.ext (by omega))))
  refine List.forall_mem_cons.2 ⟨fun x : S20x1x64x128.Idx => ?_, ?_⟩
  · have e0 : ((r0_15.emb x) 0).val = 0 + 1 * (x 0).val := rfl
    have e1 : ((r0_15.emb x) 1).val = 2 + 1 * (x 1).val := rfl
    have e2 : ((r0_15.emb x) 2).val = 64 + 1 * (x 2).val := rfl
    have e3 : ((r0_15.emb x) 3).val = 0 + 1 * (x 3).val := rfl
    have l0 : (x 0).val < 20 := (x 0).isLt
    have l1 : (x 1).val < 1 := (x 1).isLt
    have l2 : (x 2).val < 64 := (x 2).isLt
    exact (pc6 (k0_pay32 x0 x1 x2 x3 x4) (View.ld x4 r0_5) x).trans ((hq_at x0 x1 x2 x3 x4 _ 9 (x 3) (by omega)).trans (qn_step (R' := 64 * ((r0_15.emb x) 0).val + ((r0_15.emb x) 2).val % 64) (h' := 4 * ((r0_15.emb x) 1).val + ((r0_15.emb x) 2).val / 64) (d' := (r0_15.emb x) 3) _ _ _ _ _ (by omega) (by omega) (Fin.ext (by omega))))
  refine List.forall_mem_cons.2 ⟨fun x : S20x1x64x128.Idx => ?_, ?_⟩
  · have e0 : ((r0_14.emb x) 0).val = 0 + 1 * (x 0).val := rfl
    have e1 : ((r0_14.emb x) 1).val = 2 + 1 * (x 1).val := rfl
    have e2 : ((r0_14.emb x) 2).val = 0 + 1 * (x 2).val := rfl
    have e3 : ((r0_14.emb x) 3).val = 0 + 1 * (x 3).val := rfl
    have l0 : (x 0).val < 20 := (x 0).isLt
    have l1 : (x 1).val < 1 := (x 1).isLt
    have l2 : (x 2).val < 64 := (x 2).isLt
    exact (pc7 (k0_pay32 x0 x1 x2 x3 x4) (View.ld x4 r0_5) x).trans ((hq_at x0 x1 x2 x3 x4 _ 8 (x 3) (by omega)).trans (qn_step (R' := 64 * ((r0_14.emb x) 0).val + ((r0_14.emb x) 2).val % 64) (h' := 4 * ((r0_14.emb x) 1).val + ((r0_14.emb x) 2).val / 64) (d' := (r0_14.emb x) 3) _ _ _ _ _ (by omega) (by omega) (Fin.ext (by omega))))
  refine List.forall_mem_cons.2 ⟨fun x : S20x1x64x128.Idx => ?_, ?_⟩
  · have e0 : ((r0_13.emb x) 0).val = 0 + 1 * (x 0).val := rfl
    have e1 : ((r0_13.emb x) 1).val = 1 + 1 * (x 1).val := rfl
    have e2 : ((r0_13.emb x) 2).val = 192 + 1 * (x 2).val := rfl
    have e3 : ((r0_13.emb x) 3).val = 0 + 1 * (x 3).val := rfl
    have l0 : (x 0).val < 20 := (x 0).isLt
    have l1 : (x 1).val < 1 := (x 1).isLt
    have l2 : (x 2).val < 64 := (x 2).isLt
    exact (pc8 (k0_pay32 x0 x1 x2 x3 x4) (View.ld x4 r0_5) x).trans ((hq_at x0 x1 x2 x3 x4 _ 7 (x 3) (by omega)).trans (qn_step (R' := 64 * ((r0_13.emb x) 0).val + ((r0_13.emb x) 2).val % 64) (h' := 4 * ((r0_13.emb x) 1).val + ((r0_13.emb x) 2).val / 64) (d' := (r0_13.emb x) 3) _ _ _ _ _ (by omega) (by omega) (Fin.ext (by omega))))
  refine List.forall_mem_cons.2 ⟨fun x : S20x1x64x128.Idx => ?_, ?_⟩
  · have e0 : ((r0_12.emb x) 0).val = 0 + 1 * (x 0).val := rfl
    have e1 : ((r0_12.emb x) 1).val = 1 + 1 * (x 1).val := rfl
    have e2 : ((r0_12.emb x) 2).val = 128 + 1 * (x 2).val := rfl
    have e3 : ((r0_12.emb x) 3).val = 0 + 1 * (x 3).val := rfl
    have l0 : (x 0).val < 20 := (x 0).isLt
    have l1 : (x 1).val < 1 := (x 1).isLt
    have l2 : (x 2).val < 64 := (x 2).isLt
    exact (pc9 (k0_pay32 x0 x1 x2 x3 x4) (View.ld x4 r0_5) x).trans ((hq_at x0 x1 x2 x3 x4 _ 6 (x 3) (by omega)).trans (qn_step (R' := 64 * ((r0_12.emb x) 0).val + ((r0_12.emb x) 2).val % 64) (h' := 4 * ((r0_12.emb x) 1).val + ((r0_12.emb x) 2).val / 64) (d' := (r0_12.emb x) 3) _ _ _ _ _ (by omega) (by omega) (Fin.ext (by omega))))
  refine List.forall_mem_cons.2 ⟨fun x : S20x1x64x128.Idx => ?_, ?_⟩
  · have e0 : ((r0_11.emb x) 0).val = 0 + 1 * (x 0).val := rfl
    have e1 : ((r0_11.emb x) 1).val = 1 + 1 * (x 1).val := rfl
    have e2 : ((r0_11.emb x) 2).val = 64 + 1 * (x 2).val := rfl
    have e3 : ((r0_11.emb x) 3).val = 0 + 1 * (x 3).val := rfl
    have l0 : (x 0).val < 20 := (x 0).isLt
    have l1 : (x 1).val < 1 := (x 1).isLt
    have l2 : (x 2).val < 64 := (x 2).isLt
    exact (pc10 (k0_pay32 x0 x1 x2 x3 x4) (View.ld x4 r0_5) x).trans ((hq_at x0 x1 x2 x3 x4 _ 5 (x 3) (by omega)).trans (qn_step (R' := 64 * ((r0_11.emb x) 0).val + ((r0_11.emb x) 2).val % 64) (h' := 4 * ((r0_11.emb x) 1).val + ((r0_11.emb x) 2).val / 64) (d' := (r0_11.emb x) 3) _ _ _ _ _ (by omega) (by omega) (Fin.ext (by omega))))
  refine List.forall_mem_cons.2 ⟨fun x : S20x1x64x128.Idx => ?_, ?_⟩
  · have e0 : ((r0_10.emb x) 0).val = 0 + 1 * (x 0).val := rfl
    have e1 : ((r0_10.emb x) 1).val = 1 + 1 * (x 1).val := rfl
    have e2 : ((r0_10.emb x) 2).val = 0 + 1 * (x 2).val := rfl
    have e3 : ((r0_10.emb x) 3).val = 0 + 1 * (x 3).val := rfl
    have l0 : (x 0).val < 20 := (x 0).isLt
    have l1 : (x 1).val < 1 := (x 1).isLt
    have l2 : (x 2).val < 64 := (x 2).isLt
    exact (pc11 (k0_pay32 x0 x1 x2 x3 x4) (View.ld x4 r0_5) x).trans ((hq_at x0 x1 x2 x3 x4 _ 4 (x 3) (by omega)).trans (qn_step (R' := 64 * ((r0_10.emb x) 0).val + ((r0_10.emb x) 2).val % 64) (h' := 4 * ((r0_10.emb x) 1).val + ((r0_10.emb x) 2).val / 64) (d' := (r0_10.emb x) 3) _ _ _ _ _ (by omega) (by omega) (Fin.ext (by omega))))
  refine List.forall_mem_cons.2 ⟨fun x : S20x1x64x128.Idx => ?_, ?_⟩
  · have e0 : ((r0_9.emb x) 0).val = 0 + 1 * (x 0).val := rfl
    have e1 : ((r0_9.emb x) 1).val = 0 + 1 * (x 1).val := rfl
    have e2 : ((r0_9.emb x) 2).val = 192 + 1 * (x 2).val := rfl
    have e3 : ((r0_9.emb x) 3).val = 0 + 1 * (x 3).val := rfl
    have l0 : (x 0).val < 20 := (x 0).isLt
    have l1 : (x 1).val < 1 := (x 1).isLt
    have l2 : (x 2).val < 64 := (x 2).isLt
    exact (pc12 (k0_pay32 x0 x1 x2 x3 x4) (View.ld x4 r0_5) x).trans ((hq_at x0 x1 x2 x3 x4 _ 3 (x 3) (by omega)).trans (qn_step (R' := 64 * ((r0_9.emb x) 0).val + ((r0_9.emb x) 2).val % 64) (h' := 4 * ((r0_9.emb x) 1).val + ((r0_9.emb x) 2).val / 64) (d' := (r0_9.emb x) 3) _ _ _ _ _ (by omega) (by omega) (Fin.ext (by omega))))
  refine List.forall_mem_cons.2 ⟨fun x : S20x1x64x128.Idx => ?_, ?_⟩
  · have e0 : ((r0_8.emb x) 0).val = 0 + 1 * (x 0).val := rfl
    have e1 : ((r0_8.emb x) 1).val = 0 + 1 * (x 1).val := rfl
    have e2 : ((r0_8.emb x) 2).val = 128 + 1 * (x 2).val := rfl
    have e3 : ((r0_8.emb x) 3).val = 0 + 1 * (x 3).val := rfl
    have l0 : (x 0).val < 20 := (x 0).isLt
    have l1 : (x 1).val < 1 := (x 1).isLt
    have l2 : (x 2).val < 64 := (x 2).isLt
    exact (pc13 (k0_pay32 x0 x1 x2 x3 x4) (View.ld x4 r0_5) x).trans ((hq_at x0 x1 x2 x3 x4 _ 2 (x 3) (by omega)).trans (qn_step (R' := 64 * ((r0_8.emb x) 0).val + ((r0_8.emb x) 2).val % 64) (h' := 4 * ((r0_8.emb x) 1).val + ((r0_8.emb x) 2).val / 64) (d' := (r0_8.emb x) 3) _ _ _ _ _ (by omega) (by omega) (Fin.ext (by omega))))
  refine List.forall_mem_cons.2 ⟨fun x : S20x1x64x128.Idx => ?_, ?_⟩
  · have e0 : ((r0_7.emb x) 0).val = 0 + 1 * (x 0).val := rfl
    have e1 : ((r0_7.emb x) 1).val = 0 + 1 * (x 1).val := rfl
    have e2 : ((r0_7.emb x) 2).val = 64 + 1 * (x 2).val := rfl
    have e3 : ((r0_7.emb x) 3).val = 0 + 1 * (x 3).val := rfl
    have l0 : (x 0).val < 20 := (x 0).isLt
    have l1 : (x 1).val < 1 := (x 1).isLt
    have l2 : (x 2).val < 64 := (x 2).isLt
    exact (pc14 (k0_pay30 x0 x1 x2 x3 x4) (k0_pay31 x0 x1 x2 x3 x4) (View.ld x2 r0_3) (View.ld x3 r0_4) (View.ld x4 r0_5) x).trans ((hq_at x0 x1 x2 x3 x4 _ 1 (x 3) (by omega)).trans (qn_step (R' := 64 * ((r0_7.emb x) 0).val + ((r0_7.emb x) 2).val % 64) (h' := 4 * ((r0_7.emb x) 1).val + ((r0_7.emb x) 2).val / 64) (d' := (r0_7.emb x) 3) _ _ _ _ _ (by omega) (by omega) (Fin.ext (by omega))))
  refine List.forall_mem_cons.2 ⟨fun x : S20x1x64x128.Idx => ?_, ?_⟩
  · have e0 : ((r0_6.emb x) 0).val = 0 + 1 * (x 0).val := rfl
    have e1 : ((r0_6.emb x) 1).val = 0 + 1 * (x 1).val := rfl
    have e2 : ((r0_6.emb x) 2).val = 0 + 1 * (x 2).val := rfl
    have e3 : ((r0_6.emb x) 3).val = 0 + 1 * (x 3).val := rfl
    have l0 : (x 0).val < 20 := (x 0).isLt
    have l1 : (x 1).val < 1 := (x 1).isLt
    have l2 : (x 2).val < 64 := (x 2).isLt
    exact (pc15 (k0_pay30 x0 x1 x2 x3 x4) (k0_pay31 x0 x1 x2 x3 x4) (View.ld x2 r0_3) (View.ld x3 r0_4) (View.ld x4 r0_5) x).trans ((hq_at x0 x1 x2 x3 x4 _ 0 (x 3) (by omega)).trans (qn_step (R' := 64 * ((r0_6.emb x) 0).val + ((r0_6.emb x) 2).val % 64) (h' := 4 * ((r0_6.emb x) 1).val + ((r0_6.emb x) 2).val / 64) (d' := (r0_6.emb x) 3) _ _ _ _ _ (by omega) (by omega) (Fin.ext (by omega))))
  exact fun p hp => absurd hp List.not_mem_nil

variable (m : (ℓ : Loc nD τ sig) → Buf (Elt Ideal) ℓ) (ρ : Dev nD → PrngReg)

theorem V_v0 (c : Dev nD) (r : Fin 4096) : V m c main_v0 (ix2 0 r) = m ((c : Thread nD τ).loc main_arg1) (ix1 r) := by
  unfold_abbrev_sides
  after_results
  pointwise

theorem V_v1 (c : Dev nD) (r : Fin 2048) : V m c main_v1 (ix2 0 r) = m ((c : Thread nD τ).loc main_arg3) (ix1 r) := by
  unfold_abbrev_sides
  after_results
  pointwise

theorem V_v2 (c : Dev nD) (r : Fin 128) : V m c main_v2 (ix2 0 r) = m ((c : Thread nD τ).loc main_arg4) (ix1 r) := by
  unfold_abbrev_sides
  after_results
  pointwise

theorem idx0 : ∀ t : Fin cfg0.N, win0_0.index t 0 = 0 ∧ win0_0.index t 1 = 0 :=
  (by decide +kernel : ∀ t : Fin grid0.N, win0_0.index t 0 = 0 ∧ win0_0.index t 1 = 0)
theorem emb0 (t : Fin cfg0.N) (r : Fin 1280) (a : Fin 4096) : ((cfg0.win 0).blk t).view.emb (ix2 r a) = (ix2 r a) := by
  funext x
  apply Fin.ext
  match x with
  | ⟨0, _⟩ => show win0_0.index t 0 * 1280 + 1 * r.val = r.val; rw [(idx0 t).1]; omega
  | ⟨1, _⟩ => show win0_0.index t 1 * 4096 + 1 * a.val = a.val; rw [(idx0 t).2]; omega
theorem iblk0 (c : Dev nD) (t : Fin cfg0.N) (r : Fin 1280) (a : Fin 4096) : iblk m c 0 t (ix2 r a) = V m c main_arg0 (ix2 r a) := by
  show V m c main_arg0 (((cfg0.win 0).blk t).view.emb (ix2 r a)) = _
  rw [emb0]

theorem idx1 : ∀ t : Fin cfg0.N, win0_1.index t 0 = 0 ∧ win0_1.index t 1 = 0 :=
  (by decide +kernel : ∀ t : Fin grid0.N, win0_1.index t 0 = 0 ∧ win0_1.index t 1 = 0)
theorem emb1 (t : Fin cfg0.N) (r : Fin 1) (a : Fin 4096) : ((cfg0.win 1).blk t).view.emb (ix2 r a) = (ix2 r a) := by
  funext x
  apply Fin.ext
  match x with
  | ⟨0, _⟩ => show win0_1.index t 0 * 1 + 1 * r.val = r.val; rw [(idx1 t).1]; omega
  | ⟨1, _⟩ => show win0_1.index t 1 * 4096 + 1 * a.val = a.val; rw [(idx1 t).2]; omega
theorem iblk1 (c : Dev nD) (t : Fin cfg0.N) (r : Fin 1) (a : Fin 4096) : iblk m c 1 t (ix2 r a) = V m c main_v0 (ix2 r a) := by
  show V m c main_v0 (((cfg0.win 1).blk t).view.emb (ix2 r a)) = _
  rw [emb1]

theorem idx2 : ∀ t : Fin cfg0.N, win0_2.index t 0 = 0 ∧ win0_2.index t 1 = 0 :=
  (by decide +kernel : ∀ t : Fin grid0.N, win0_2.index t 0 = 0 ∧ win0_2.index t 1 = 0)
theorem emb2 (t : Fin cfg0.N) (r : Fin 4096) (a : Fin 2048) : ((cfg0.win 2).blk t).view.emb (ix2 r a) = (ix2 r a) := by
  funext x
  apply Fin.ext
  match x with
  | ⟨0, _⟩ => show win0_2.index t 0 * 4096 + 1 * r.val = r.val; rw [(idx2 t).1]; omega
  | ⟨1, _⟩ => show win0_2.index t 1 * 2048 + 1 * a.val = a.val; rw [(idx2 t).2]; omega
theorem iblk2 (c : Dev nD) (t : Fin cfg0.N) (r : Fin 4096) (a : Fin 2048) : iblk m c 2 t (ix2 r a) = V m c main_arg2 (ix2 r a) := by
  show V m c main_arg2 (((cfg0.win 2).blk t).view.emb (ix2 r a)) = _
  rw [emb2]

theorem idx3 : ∀ t : Fin cfg0.N, win0_3.index t 0 = 0 ∧ win0_3.index t 1 = 0 :=
  (by decide +kernel : ∀ t : Fin grid0.N, win0_3.index t 0 = 0 ∧ win0_3.index t 1 = 0)
theorem emb3 (t : Fin cfg0.N) (r : Fin 1) (a : Fin 2048) : ((cfg0.win 3).blk t).view.emb (ix2 r a) = (ix2 r a) := by
  funext x
  apply Fin.ext
  match x with
  | ⟨0, _⟩ => show win0_3.index t 0 * 1 + 1 * r.val = r.val; rw [(idx3 t).1]; omega
  | ⟨1, _⟩ => show win0_3.index t 1 * 2048 + 1 * a.val = a.val; rw [(idx3 t).2]; omega
theorem iblk3 (c : Dev nD) (t : Fin cfg0.N) (r : Fin 1) (a : Fin 2048) : iblk m c 3 t (ix2 r a) = V m c main_v1 (ix2 r a) := by
  show V m c main_v1 (((cfg0.win 3).blk t).view.emb (ix2 r a)) = _
  rw [emb3]

theorem idx4 : ∀ t : Fin cfg0.N, win0_4.index t 0 = 0 ∧ win0_4.index t 1 = 0 :=
  (by decide +kernel : ∀ t : Fin grid0.N, win0_4.index t 0 = 0 ∧ win0_4.index t 1 = 0)
theorem emb4 (t : Fin cfg0.N) (r : Fin 1) (a : Fin 128) : ((cfg0.win 4).blk t).view.emb (ix2 r a) = (ix2 r a) := by
  funext x
  apply Fin.ext
  match x with
  | ⟨0, _⟩ => show win0_4.index t 0 * 1 + 1 * r.val = r.val; rw [(idx4 t).1]; omega
  | ⟨1, _⟩ => show win0_4.index t 1 * 128 + 1 * a.val = a.val; rw [(idx4 t).2]; omega
theorem iblk4 (c : Dev nD) (t : Fin cfg0.N) (r : Fin 1) (a : Fin 128) : iblk m c 4 t (ix2 r a) = V m c main_v2 (ix2 r a) := by
  show V m c main_v2 (((cfg0.win 4).blk t).view.emb (ix2 r a)) = _
  rw [emb4]

/-- The inputs, as rows and weights. -/
abbrev X (c : Dev nD) : ℕ → Fin 4096 → EReal := rowsOf (N := 1280) (m ((c : Thread nD τ).loc main_arg0))
abbrev GN (c : Dev nD) : Fin 4096 → EReal := fun a => m ((c : Thread nD τ).loc main_arg1) (ix1 a)
abbrev WW (c : Dev nD) : Fin 4096 → Fin 2048 → EReal := fun a n => m ((c : Thread nD τ).loc main_arg2) (ix2 a n)
abbrev WS (c : Dev nD) : Fin 2048 → EReal := fun n => m ((c : Thread nD τ).loc main_arg3) (ix1 n)
abbrev QG (c : Dev nD) : Fin 128 → EReal := fun d => m ((c : Thread nD τ).loc main_arg4) (ix1 d)

theorem b0 (c : Dev nD) (t : Fin cfg0.N) (r : ℕ) (h : r < 1280) : rowsOf (iblk m c 0 t : Vec Ideal S1280x4096 .bf16) r = X m c (r) := by
  have ht := lt_of_lt_of_eq t.isLt N_0
  show _ = rowsOf (N := 1280) (m ((c : Thread nD τ).loc main_arg0)) (r)
  rw [rowsOf_lt _ r h, rowsOf_lt _ (r) (by omega)]
  exact funext fun a => (iblk0 m c t ⟨r, h⟩ a).trans (congrFun (V_main_arg0 m c) _)
theorem b1 (c : Dev nD) (t : Fin cfg0.N) : (fun a => iblk m c 1 t (ix2 0 a)) = GN m c := funext fun a => (iblk1 m c t 0 a).trans (V_v0 m c a)
theorem b2 (c : Dev nD) (t : Fin cfg0.N) : (fun a n => iblk m c 2 t (ix2 a n)) = WW m c :=
  funext fun a => funext fun n => (iblk2 m c t a n).trans (congrFun (V_main_arg2 m c) _)
theorem b3 (c : Dev nD) (t : Fin cfg0.N) : (fun a => iblk m c 3 t (ix2 0 a)) = WS m c := funext fun a => (iblk3 m c t 0 a).trans (V_v1 m c a)
theorem b4 (c : Dev nD) (t : Fin cfg0.N) : (fun a => iblk m c 4 t (ix2 0 a)) = QG m c := funext fun a => (iblk4 m c t 0 a).trans (V_v2 m c a)

theorem idx5 : ∀ t : Fin cfg0.N, win0_5.index t 0 = 0 ∧ win0_5.index t 1 = 0 :=
  (by decide +kernel : ∀ t : Fin grid0.N, win0_5.index t 0 = 0 ∧ win0_5.index t 1 = 0)
/-- Output 5 after the run. -/
theorem end5 (c : Dev nD) (i : S1280x4096.Idx) : (dats m 0 c).arrAt 5 cfg0.N i = F5 (X m c) (GN m c) i := by
  refine Dat.arrAt_forall_of_covers (dats m 0 c) 5 (fun i v => v = F5 (X m c) (GN m c) i) (by decide +kernel) (fun t hf y => ?_) i
  have l0 : (y 0).val < 1280 := ((cfg0.win 5).xinj (grid0.coords t) y 0).isLt
  have z0 : ((((cfg0.win 5).blk t).view.emb y) 0).val = win0_5.index t 0 * 1280 + 1 * (y 0).val := rfl
  rw [(idx5 t).1] at z0
  have l1 : (y 1).val < 4096 := ((cfg0.win 5).xinj (grid0.coords t) y 1).isLt
  have z1 : ((((cfg0.win 5).blk t).view.emb y) 1).val = win0_5.index t 1 * 4096 + 1 * (y 1).val := rfl
  rw [(idx5 t).2] at z1
  have ex : (cfg0.win 5).xinj (grid0.coords t) y = (ix2 ⟨(y 0).val, l0⟩ ⟨(y 1).val, l1⟩ : (⟨2, ![1280, 4096]⟩ : Shape).Idx) := by
    funext x
    apply Fin.ext
    match x with
    | ⟨0, _⟩ => rfl
    | ⟨1, _⟩ => rfl
  show (dats m 0 c).after 5 t ((cfg0.win 5).xinj (grid0.coords t) y) = _
  rw [after0_5, ex]
  generalize ((cfg0.win 5).blk t).view.emb y = e at *
  refine (out5 (iblk m c 0 t) (iblk m c 1 t) (iblk m c 2 t) (iblk m c 3 t) (iblk m c 4 t) ⟨(y 0).val, l0⟩ ⟨(y 1).val, l1⟩).trans ?_
  rw [b0 m c t (y 0).val l0, b1]
  unfold F5
  rw [show (e 0).val = (y 0).val by rw [z0]; omega, show e 1 = ⟨(y 1).val, l1⟩ from Fin.ext (by rw [z1]; show 0 * 4096 + 1 * (y 1).val = (y 1).val; omega)]
  rfl

theorem idx6 : ∀ t : Fin cfg0.N, win0_6.index t 0 = 0 ∧ win0_6.index t 1 = 0 :=
  (by decide +kernel : ∀ t : Fin grid0.N, win0_6.index t 0 = 0 ∧ win0_6.index t 1 = 0)
/-- Output 6 after the run. -/
theorem end6 (c : Dev nD) (i : S1x1280.Idx) : (dats m 0 c).arrAt 6 cfg0.N i = F6 (X m c) (GN m c) i := by
  refine Dat.arrAt_forall_of_covers (dats m 0 c) 6 (fun i v => v = F6 (X m c) (GN m c) i) (by decide +kernel) (fun t hf y => ?_) i
  have l0 : (y 0).val < 1 := ((cfg0.win 6).xinj (grid0.coords t) y 0).isLt
  have z0 : ((((cfg0.win 6).blk t).view.emb y) 0).val = win0_6.index t 0 * 1 + 1 * (y 0).val := rfl
  rw [(idx6 t).1] at z0
  have l1 : (y 1).val < 1280 := ((cfg0.win 6).xinj (grid0.coords t) y 1).isLt
  have z1 : ((((cfg0.win 6).blk t).view.emb y) 1).val = win0_6.index t 1 * 1280 + 1 * (y 1).val := rfl
  rw [(idx6 t).2] at z1
  have ex : (cfg0.win 6).xinj (grid0.coords t) y = (ix2 ⟨(y 0).val, l0⟩ ⟨(y 1).val, l1⟩ : (⟨2, ![1, 1280]⟩ : Shape).Idx) := by
    funext x
    apply Fin.ext
    match x with
    | ⟨0, _⟩ => rfl
    | ⟨1, _⟩ => rfl
  show (dats m 0 c).after 6 t ((cfg0.win 6).xinj (grid0.coords t) y) = _
  rw [after0_6, ex]
  generalize ((cfg0.win 6).blk t).view.emb y = e at *
  have h0 : (⟨(y 0).val, l0⟩ : Fin 1) = 0 := Fin.eq_zero _
  rw [h0]
  refine (out6 (iblk m c 0 t) (iblk m c 1 t) (iblk m c 2 t) (iblk m c 3 t) (iblk m c 4 t) ⟨(y 1).val, l1⟩).trans ?_
  rw [b0 m c t (y 1).val l1, b1]
  unfold F6
  rw [show (e 1).val = (y 1).val by rw [z1]; omega]

theorem idx7 : ∀ t : Fin cfg0.N, win0_7.index t 0 = 0 ∧ win0_7.index t 1 = 0 ∧ win0_7.index t 2 = 0 ∧ win0_7.index t 3 = 0 :=
  (by decide +kernel : ∀ t : Fin grid0.N, win0_7.index t 0 = 0 ∧ win0_7.index t 1 = 0 ∧ win0_7.index t 2 = 0 ∧ win0_7.index t 3 = 0)
/-- Output 7 after the run. -/
theorem end7 (c : Dev nD) (i : S20x4x256x128.Idx) : (dats m 0 c).arrAt 7 cfg0.N i = F7 (X m c) (GN m c) (WW m c) (WS m c) (QG m c) i := by
  refine Dat.arrAt_forall_of_covers (dats m 0 c) 7 (fun i v => v = F7 (X m c) (GN m c) (WW m c) (WS m c) (QG m c) i) (by decide +kernel) (fun t hf y => ?_) i
  have l0 : (y 0).val < 20 := ((cfg0.win 7).xinj (grid0.coords t) y 0).isLt
  have z0 : ((((cfg0.win 7).blk t).view.emb y) 0).val = win0_7.index t 0 * 20 + 1 * (y 0).val := rfl
  rw [(idx7 t).1] at z0
  have l1 : (y 1).val < 4 := ((cfg0.win 7).xinj (grid0.coords t) y 1).isLt
  have z1 : ((((cfg0.win 7).blk t).view.emb y) 1).val = win0_7.index t 1 * 4 + 1 * (y 1).val := rfl
  rw [(idx7 t).2.1] at z1
  have l2 : (y 2).val < 256 := ((cfg0.win 7).xinj (grid0.coords t) y 2).isLt
  have z2 : ((((cfg0.win 7).blk t).view.emb y) 2).val = win0_7.index t 2 * 256 + 1 * (y 2).val := rfl
  rw [(idx7 t).2.2.1] at z2
  have l3 : (y 3).val < 128 := ((cfg0.win 7).xinj (grid0.coords t) y 3).isLt
  have z3 : ((((cfg0.win 7).blk t).view.emb y) 3).val = win0_7.index t 3 * 128 + 1 * (y 3).val := rfl
  rw [(idx7 t).2.2.2] at z3
  have ex : (cfg0.win 7).xinj (grid0.coords t) y = (ix4 ⟨(y 0).val, l0⟩ ⟨(y 1).val, l1⟩ ⟨(y 2).val, l2⟩ ⟨(y 3).val, l3⟩ : (⟨4, ![20, 4, 256, 128]⟩ : Shape).Idx) := by
    funext x
    apply Fin.ext
    match x with
    | ⟨0, _⟩ => rfl
    | ⟨1, _⟩ => rfl
    | ⟨2, _⟩ => rfl
    | ⟨3, _⟩ => rfl
  show (dats m 0 c).after 7 t ((cfg0.win 7).xinj (grid0.coords t) y) = _
  rw [after0_7, ex]
  generalize ((cfg0.win 7).blk t).view.emb y = e at *
  refine (out7 (iblk m c 0 t) (iblk m c 1 t) (iblk m c 2 t) (iblk m c 3 t) (iblk m c 4 t) _).trans ?_
  rw [b1, b2, b3, b4]
  show qn (rowsOf (iblk m c 0 t : Vec Ideal S1280x4096 .bf16) (64 * (y 0).val + (y 2).val % 64)) _ _ _ _ (4 * (y 1).val + (y 2).val / 64) ⟨(y 3).val, l3⟩ = _
  rw [b0 m c t (64 * (y 0).val + (y 2).val % 64) (by omega)]
  unfold F7
  exact qn_step _ _ _ _ _ (by rw [z0, z2]; omega) (by rw [z1, z2]; omega) (Fin.ext (by rw [z3]; show (y 3).val = 0 * 128 + 1 * (y 3).val; omega))

/-- The run: what the three results hold, the arguments unchanged. -/
theorem run_value : θ_run defs (onTc (τ := τ) (main (F := Ideal))) ⟨m, fun _ => 0, ρ⟩ fun r => ∀ c : Dev nD,
      r.2.mem ((c : Thread nD τ).loc main_v3_0) = F5 (X m c) (GN m c)
      ∧ r.2.mem ((c : Thread nD τ).loc main_v3_1) = F6 (X m c) (GN m c)
      ∧ r.2.mem ((c : Thread nD τ).loc main_v3_2) = F7 (X m c) (GN m c) (WW m c) (WS m c) (QG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (funext fun i => end5 m c i), ((h c).1 6).trans (funext fun i => end6 m c i),
    ((h c).1 7).trans (funext fun i => end7 m c i),
    ((h c).1 0).trans (((dats m 0 c).arrAt_in 0 rfl _).trans (V_main_arg0 m c)),
    ((h c).2 main_arg1 (Pipeline.mem_restRefs_of main_arg1 (by decide) (by decide))).trans (V_main_arg1 m c),
    ((h c).1 2).trans (((dats m 0 c).arrAt_in 2 rfl _).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.ReferenceQIdeal.RefValue

end
-- ==== Proof.QClaims.lean ====
/-
  The query projection: the kernel and its one-block reference hold the same three arrays (hand-written, untrusted).
-/
module

public import proofs.«01_k».proof.Defs
public import proofs.«01_k».proof.Proof.QValK
public import proofs.«01_k».proof.Proof.QValR

@[expose] public section

set_option maxRecDepth 16384

noncomputable section

open Idealize.ShloMosaic Idealize.ShloMosaic.TcCoe Idealize.SL.Sem

namespace Cert.Proof.QClaims

open Cert.QRow

/-- Over the extended reals the pipelined query projection and the plain one-block reference leave the same three
    arrays: the codes and the scales of the normalised rows, and the normalised query heads. -/
theorem algebraic : Cert.algebraic_KernelQIdeal_ReferenceQIdeal := by
  intro m ρ m' ρ' _ hagree
  refine ⟨fun c => F5 (Cert.KernelQIdeal.RefValue.X m c) (Cert.KernelQIdeal.RefValue.GN m c), fun c => F6 (Cert.KernelQIdeal.RefValue.X m c) (Cert.KernelQIdeal.RefValue.GN m c),
    fun c => F7 (Cert.KernelQIdeal.RefValue.X m c) (Cert.KernelQIdeal.RefValue.GN m c) (Cert.KernelQIdeal.RefValue.WW m c) (Cert.KernelQIdeal.RefValue.WS m c) (Cert.KernelQIdeal.RefValue.QG m c),
    Cert.KernelQIdeal.RefValue.run_value m ρ, ?_⟩
  refine (θ_run Cert.ReferenceQIdeal.defs _ _).mono (fun _ h c => ?_) (Cert.ReferenceQIdeal.RefValue.run_value m' ρ')
  obtain ⟨e0, e1, e2, e3, e4⟩ := hagree c
  have hX : Cert.ReferenceQIdeal.RefValue.X m' c = Cert.KernelQIdeal.RefValue.X m c := congrArg (rowsOf (N := 1280)) e0
  have hG : Cert.ReferenceQIdeal.RefValue.GN m' c = Cert.KernelQIdeal.RefValue.GN m c := funext fun a => congrFun e1 _
  have hW : Cert.ReferenceQIdeal.RefValue.WW m' c = Cert.KernelQIdeal.RefValue.WW m c := funext fun a => funext fun n => congrFun e2 _
  have hS : Cert.ReferenceQIdeal.RefValue.WS m' c = Cert.KernelQIdeal.RefValue.WS m c := funext fun a => congrFun e3 _
  have hQ : Cert.ReferenceQIdeal.RefValue.QG m' c = Cert.KernelQIdeal.RefValue.QG m c := funext fun a => congrFun e4 _
  obtain ⟨h0, h1, h2, ha⟩ := h c
  rw [hX, hG] at h0 h1 h2
  rw [hW, hS, hQ] at h2
  exact ⟨h0, h1, h2, ha⟩

end Cert.Proof.QClaims

end
-- ==== Proof.FfFrame.lean ====
/-
  The frame of the gate/up call (hand-written) (hand-written, untrusted).
-/
module

public import proofs.«01_k».proof.Proof.Gen.KernelFf.Skeleton
public import proofs.«01_k».proof.Proof.Gen.KernelFf.Launch
public import proofs.«01_k».proof.Proof.Gen.KernelFf.Frame
public import Idealize.ShloMosaic.Lib.Pipeline.Frame
public import Idealize.ShloMosaic.Lib.Claim

@[expose] public section

set_option maxRecDepth 16384

noncomputable section

namespace Cert.KernelFf.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelFf Cert.KernelFf.Gen

variable {F : FTy → Type} [FloatOps F]

local notation "𝕄" => MT nD τ sig Unit (Elt F) ℕ (UR sig nD τ) ℕ

set_option maxHeartbeats 4000000 in
/-- The body at a point where the last step's condition is met, on whole buffers: the inputs' at named contents, which come back,
    every other at some contents, handed back at some contents. -/
theorem frameA (c : Dev nD) (i : grid0.Coords) (arg2 : Memref sig .tc .vmem S640x4096 .fp8e4m3) (harg2 : arg2.IsWhole) (arg3 : Memref sig .tc .vmem S640x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S640x7168 .fp8e4m3) (harg8 : arg8.IsWhole) (arg9 : Memref sig .tc .vmem S1x640 .f32) (harg9 : arg9.IsWhole) (arg10 : Memref sig .tc .vmem S14x640x512 .f32) (harg10 : arg10.IsWhole) (arg11 : Memref sig .tc .vmem S640x128 .f32) (harg11 : arg11.IsWhole)
    (hc1 : k0_cond1 i = 1#1)
    (x0 : Vec F S640x4096 .fp8e4m3) (x1 : Vec F S640x1 .f32) (x2 : Vec F S4096x512 .fp8e4m3) (x3 : Vec F S4096x512 .fp8e4m3) (x4 : Vec F S1x512 .f32) (x5 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  simp only [cc0_gate_up_eq_skeleton]; unfold cc0_gate_up_skel
  simp only [k0_part1_eq_skeleton, k0_part2_eq_skeleton, k0_part3_eq_skeleton, k0_part4_eq_skeleton, k0_part5_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%d6, %fx6, %hfx6, Hx6⟩, ⟨%d7, %fx7, %hfx7, Hx7⟩, ⟨%d8, %fx8, %hfx8, Hx8⟩, ⟨%d9, %fx9, %hfx9, Hx9⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5; obtain rfl := harg8.eq_unread hfx6; obtain rfl := harg9.eq_unread hfx7; obtain rfl := harg10.eq_unread hfx8; obtain rfl := harg11.eq_unread hfx9
  sl_exec (disch := first | sl_exact hc1)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  isplitl [Hx6]
  · iexists _; iexists _; isplitr; swap; · iexact Hx6
    ipureintro; rfl
  isplitl [Hx7]
  · iexists _; iexists _; isplitr; swap; · iexact Hx7
    ipureintro; rfl
  isplitl [Hx8]
  · iexists _; iexists _; isplitr; swap; · iexact Hx8
    ipureintro; rfl
  iexists _; iexists _; isplitr; swap; · iexact Hx9
  ipureintro; rfl

set_option maxHeartbeats 4000000 in
/-- The body at a point where the last step's condition is not met, on whole buffers: the inputs' at named contents, which come back,
    every other at some contents, handed back at some contents. -/
theorem frameB (c : Dev nD) (i : grid0.Coords) (arg2 : Memref sig .tc .vmem S640x4096 .fp8e4m3) (harg2 : arg2.IsWhole) (arg3 : Memref sig .tc .vmem S640x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S640x7168 .fp8e4m3) (harg8 : arg8.IsWhole) (arg9 : Memref sig .tc .vmem S1x640 .f32) (harg9 : arg9.IsWhole) (arg10 : Memref sig .tc .vmem S14x640x512 .f32) (harg10 : arg10.IsWhole) (arg11 : Memref sig .tc .vmem S640x128 .f32) (harg11 : arg11.IsWhole)
    (hc1 : ¬k0_cond1 i = 1#1)
    (x0 : Vec F S640x4096 .fp8e4m3) (x1 : Vec F S640x1 .f32) (x2 : Vec F S4096x512 .fp8e4m3) (x3 : Vec F S4096x512 .fp8e4m3) (x4 : Vec F S1x512 .f32) (x5 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  simp only [cc0_gate_up_eq_skeleton]; unfold cc0_gate_up_skel
  simp only [k0_part1_eq_skeleton, k0_part2_eq_skeleton, k0_part3_eq_skeleton, k0_part4_eq_skeleton, k0_part5_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%d6, %fx6, %hfx6, Hx6⟩, ⟨%d7, %fx7, %hfx7, Hx7⟩, ⟨%d8, %fx8, %hfx8, Hx8⟩, ⟨%d9, %fx9, %hfx9, Hx9⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5; obtain rfl := harg8.eq_unread hfx6; obtain rfl := harg9.eq_unread hfx7; obtain rfl := harg10.eq_unread hfx8; obtain rfl := harg11.eq_unread hfx9
  sl_exec (disch := first | sl_exact hc1)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  isplitl [Hx6]
  · iexists _; iexists _; isplitr; swap; · iexact Hx6
    ipureintro; rfl
  isplitl [Hx7]
  · iexists _; iexists _; isplitr; swap; · iexact Hx7
    ipureintro; rfl
  isplitl [Hx8]
  · iexists _; iexists _; isplitr; swap; · iexact Hx8
    ipureintro; rfl
  iexists _; iexists _; isplitr; swap; · iexact Hx9
  ipureintro; rfl

theorem frameAny (c : Dev nD) (i : grid0.Coords) (arg2 : Memref sig .tc .vmem S640x4096 .fp8e4m3) (harg2 : arg2.IsWhole) (arg3 : Memref sig .tc .vmem S640x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S640x7168 .fp8e4m3) (harg8 : arg8.IsWhole) (arg9 : Memref sig .tc .vmem S1x640 .f32) (harg9 : arg9.IsWhole) (arg10 : Memref sig .tc .vmem S14x640x512 .f32) (harg10 : arg10.IsWhole) (arg11 : Memref sig .tc .vmem S640x128 .f32) (harg11 : arg11.IsWhole)
    (x0 : Vec F S640x4096 .fp8e4m3) (x1 : Vec F S640x1 .f32) (x2 : Vec F S4096x512 .fp8e4m3) (x3 : Vec F S4096x512 .fp8e4m3) (x4 : Vec F S1x512 .f32) (x5 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  by_cases g : k0_cond1 i = 1#1
  · exact frameA c i arg2 harg2 arg3 harg3 arg4 harg4 arg5 harg5 arg6 harg6 arg7 harg7 arg8 harg8 arg9 harg9 arg10 harg10 arg11 harg11 g x0 x1 x2 x3 x4 x5 E K
  · exact frameB c i arg2 harg2 arg3 harg3 arg4 harg4 arg5 harg5 arg6 harg6 arg7 harg7 arg8 harg8 arg9 harg9 arg10 harg10 arg11 harg11 g x0 x1 x2 x3 x4 x5 E K

variable (m : (ℓ : Loc nD τ sig) → Buf (Elt F) ℓ) (ρ : Dev nD → PrngReg)

abbrev scM0_0 : Memref sig .tc .vmem S14x640x512 .f32 := Memref.whole cc0_scratch0
abbrev scM0_1 : Memref sig .tc .vmem S640x128 .f32 := Memref.whole cc0_scratch1

/-- The invariant between points: the scratch buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data: an input's buffer is handed back as found; nothing is said of an output's. -/
def rdat (c : Dev nD) : RDat τ (Elt F) Unit ℕ (UR sig nD τ) ℕ cfg0 c where
  A w := V m c (Pipeline.arrRef spec0 w)
  after w t Y X := w.val < 6 → X = Y
  Φ _ := Pipeline.ΦA spec0 c
  q _ := fullShare
  owed _ := 0

theorem A_eq (c : Dev nD) (w : Fin cfg0.W) : (rdat m c).A w = V m c (Pipeline.arrRef spec0 w) := by dsimp only [rdat]

theorem defs₀_row (t : Fin cfg0.N) : defs₀ (F := F) .tc cfg0.body (cfg0.bodyArgs t (cfg0.slots t)) = bodyAt0 t := by
  unfold defs₀; rw [Defs.onTc_tc]

set_option maxHeartbeats 2400000 in
theorem body_obligation (c : Dev nD) : (rdat m c).BodyObligation (defs₀ (F := F)) Variants.none () Set.univ := by
  intro t Y _
  rw [bigSep_W0, bigSep_W0, defs₀_row]
  rw [show (rdat m c).Φ t.succ = Pipeline.ΦA spec0 c from rfl, show (rdat m c).Φ t.castSucc = Pipeline.ΦA spec0 c from rfl, PhiA0_eq]
  unfold RDat.owesAt Pipeline.owesWithin
  rw [show (rdat m c).owed t.castSucc = 0 from rfl, show (rdat m c).owed t.succ = 0 from rfl]
  iintro ⟨⟨⟨HS0, HS1⟩, Hg⟩, ⟨%W, %hW, HO⟩, H0, H1, H2, H3, H4, H5, H6, H7⟩
  iapply (frameAny c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) scM0_0 (Memref.isWhole_whole _) scM0_1 (Memref.isWhole_whole _) (Y 0) (Y 1) (Y 2) (Y 3) (Y 4) (Y 5) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, HS0, HS1⟩
  isplitl [HS0 HS1 Hg]
  · isplitl [HS0 HS1]
    · isplitl [HS0]; · iexact HS0
      iexact HS1
    iexact Hg
  isplitl [HO]
  · iexists W; isplitr; · ipureintro; exact fun _ _ => Or.inl trivial
    iexact HO
  isplitl [H0]
  · iexists _; isplitr; · ipureintro; exact fun _ => rfl
    iexact H0
  isplitl [H1]
  · iexists _; isplitr; · ipureintro; exact fun _ => rfl
    iexact H1
  isplitl [H2]
  · iexists _; isplitr; · ipureintro; exact fun _ => rfl
    iexact H2
  isplitl [H3]
  · iexists _; isplitr; · ipureintro; exact fun _ => rfl
    iexact H3
  isplitl [H4]
  · iexists _; isplitr; · ipureintro; exact fun _ => rfl
    iexact H4
  isplitl [H5]
  · iexists _; isplitr; · ipureintro; exact fun _ => rfl
    iexact H5
  isplitl [H6]
  · iexists e6; isplitr; · ipureintro; exact fun h => absurd h (by decide)
    iexact H6
  iexists e7; isplitr; · ipureintro; exact fun h => absurd h (by decide)
  iexact H7

set_option backward.isDefEq.respectTransparency.types false in
/-- Every execution of the program ends with every window's array as the proof data allow, every other buffer untouched and
    every semaphore at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs 0 launch0 defs₀ Variants.none (rdat m) m ρ main (hbody := body_obligation m)
    (hshare := fun c w => (rdat m c).share_full (fun _ => rfl) w) (howed := fun _ _ => rfl) (V := V m) (hmain := hmain m Variants.none) (hA := A_eq m) (hΦ := fun _ _ => rfl)

theorem args_of {r : PUnit × MemSt nD τ sig (Elt F)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 0 rfl).trans (V_main_arg0 m c), ((h c).2 main_arg1 (Pipeline.mem_restRefs_of main_arg1 (by decide) (by decide))).trans (V_main_arg1 m c),
    (Pipeline.RDat.FramePost.arr_in h c 2 rfl).trans (V_main_arg2 m c), (Pipeline.RDat.FramePost.arr_in h c 3 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: every execution ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => args_of m h.1 c, h.2⟩) (run_main m ρ)

end Cert.KernelFf.Hand

end
-- ==== Proof.FfRow.lean ====
/-
  The feed-forward's gated activation and its quantiser, as functions of rows (hand-written, untrusted): the running maximum
  over chunks of columns is the largest magnitude of the row.
-/
module

public import proofs.«01_k».proof.Proof.Rows

@[expose] public section

set_option maxRecDepth 16384

noncomputable section

open Idealize.ShloMosaic

namespace Cert.FfRow

open Cert.Rows

/-- A value's magnitude. -/
def ab (x : EReal) : EReal := FloatOps.absf (F := Ideal) (φ := .f32) x
/-- A product of a row of codes with a column of weights, times both scales. -/
def lin (x : Fin 4096 → EReal) (s : EReal) (w : Fin 4096 → EReal) (ws : EReal) : EReal := (∑ a, x a * w a) * (s * ws)
/-- The gated activation of the two products. -/
def act1 (g u : EReal) : EReal := g * FloatOps.logistic (F := Ideal) (φ := .f32) g * u

/-- The rows' codes and scales, the two weights and their scales, by row and column number. -/
structure Data where
  X : ℕ → Fin 4096 → EReal
  S : ℕ → EReal
  G : Fin 4096 → ℕ → EReal
  U : Fin 4096 → ℕ → EReal
  GS : ℕ → EReal
  US : ℕ → EReal

/-- The data of whole arrays (zero past their ends). -/
def ofBlk (x0 : (⟨2, ![1280, 4096]⟩ : Shape).Idx → EReal) (x1 : (⟨2, ![1280, 1]⟩ : Shape).Idx → EReal) (x2 x3 : (⟨2, ![4096, 7168]⟩ : Shape).Idx → EReal)
    (x4 x5 : (⟨2, ![1, 7168]⟩ : Shape).Idx → EReal) : Data where
  X r a := if h : r < 1280 then x0 (ix2 ⟨r, h⟩ a) else 0
  S r := if h : r < 1280 then x1 (ix2 ⟨r, h⟩ 0) else 0
  G a c := if h : c < 7168 then x2 (ix2 a ⟨c, h⟩) else 0
  U a c := if h : c < 7168 then x3 (ix2 a ⟨c, h⟩) else 0
  GS c := if h : c < 7168 then x4 (ix2 0 ⟨c, h⟩) else 0
  US c := if h : c < 7168 then x5 (ix2 0 ⟨c, h⟩) else 0

/-- A vector as one column, and as one row. -/
def colOf (x : (⟨1, ![1280]⟩ : Shape).Idx → EReal) : (⟨2, ![1280, 1]⟩ : Shape).Idx → EReal := fun i => x (ix1 (i 0))
def rowOf (x : (⟨1, ![7168]⟩ : Shape).Idx → EReal) : (⟨2, ![1, 7168]⟩ : Shape).Idx → EReal := fun i => x (ix1 (i 1))

/-- The activation at a row and a column. -/
def act (D : Data) (R c : ℕ) : EReal :=
  act1 (lin (D.X R) (D.S R) (fun a => D.G a c) (D.GS c)) (lin (D.X R) (D.S R) (fun a => D.U a c) (D.US c))
/-- The row's scale and its codes. -/
def asc (D : Data) (R : ℕ) : EReal := scl (amax fun c : Fin 7168 => act D R c.val)
def acd (D : Data) (R c : ℕ) : EReal := code (asc D R) (act D R c)

/-- The two results. -/
def F6 (D : Data) (i : (⟨2, ![1280, 7168]⟩ : Shape).Idx) : EReal := acd D (i 0).val (i 1).val
def F7 (D : Data) (i : (⟨2, ![1, 1280]⟩ : Shape).Idx) : EReal := asc D (i 1).val

/-- The largest magnitude at lane `l` of the four groups of chunk `n`. -/
def mx (A : ℕ → EReal) (n l : ℕ) : EReal :=
  Finset.univ.fold max (Ideal.ofBits .f32 0xFF800000#32) fun j : Fin 4 => ab (A (512 * n + (128 * j.val + l)))
/-- Its running maximum over the chunks up to `n`. -/
def rm (A : ℕ → EReal) : ℕ → ℕ → EReal
  | 0, l => mx A 0 l
  | n + 1, l => max (rm A n l) (mx A (n + 1) l)

theorem ab_nonneg (x : EReal) : 0 ≤ ab x := by
  show (0 : EReal) ≤ max x (-x)
  rcases le_total 0 x with h | h
  · exact le_max_of_le_left h
  · exact le_max_of_le_right (EReal.neg_nonneg.mpr h)

theorem ab_of_nonneg {x : EReal} (h : 0 ≤ x) : ab x = x := by
  show max x (-x) = x
  refine max_eq_left (le_trans ?_ h)
  rw [EReal.neg_le, neg_zero]; exact h

theorem mx_le (A : ℕ → EReal) (n l : ℕ) (c : EReal) :
    mx A n l ≤ c ↔ Ideal.ofBits .f32 0xFF800000#32 ≤ c ∧ ∀ j : Fin 4, ab (A (512 * n + (128 * j.val + l))) ≤ c := by
  unfold mx
  rw [Finset.fold_max_le]
  simp

theorem rm_le (A : ℕ → EReal) (n l : ℕ) (c : EReal) :
    rm A n l ≤ c ↔ Ideal.ofBits .f32 0xFF800000#32 ≤ c ∧ ∀ k, k ≤ n → ∀ j : Fin 4, ab (A (512 * k + (128 * j.val + l))) ≤ c := by
  induction n with
  | zero =>
    show mx A 0 l ≤ c ↔ _
    rw [mx_le]
    refine and_congr_right fun _ => ⟨fun h k hk => ?_, fun h => h 0 le_rfl⟩
    obtain rfl : k = 0 := Nat.le_zero.mp hk
    exact h
  | succ n ih =>
    show max (rm A n l) (mx A (n + 1) l) ≤ c ↔ _
    rw [max_le_iff, ih, mx_le]
    constructor
    · rintro ⟨⟨h0, h1⟩, _, h2⟩
      refine ⟨h0, fun k hk => ?_⟩
      rcases Nat.lt_or_ge n k with h | h
      · obtain rfl : k = n + 1 := by omega
        exact h2
      · exact h1 k h
    · rintro ⟨h0, h1⟩
      exact ⟨⟨h0, fun k hk => h1 k (by omega)⟩, h0, h1 (n + 1) le_rfl⟩

theorem rm_nonneg (A : ℕ → EReal) (n l : ℕ) : 0 ≤ rm A n l :=
  le_trans (ab_nonneg _) (((rm_le A n l _).mp le_rfl).2 0 (Nat.zero_le _) 0)

/-- The largest magnitude of the lanes' running maxima is the largest magnitude of the row. -/
theorem amax_rm (A : ℕ → EReal) : amax (fun l : Fin 128 => rm A 13 l.val) = amax fun c : Fin 7168 => A c.val := by
  have key : ∀ c : EReal, amax (fun l : Fin 128 => rm A 13 l.val) ≤ c ↔ amax (fun c : Fin 7168 => A c.val) ≤ c := by
    intro c
    unfold amax
    rw [Finset.fold_max_le, Finset.fold_max_le]
    refine and_congr_right fun h0 => ⟨fun h x _ => ?_, fun h l _ => ?_⟩
    · have hx := x.isLt
      have h1 := h ⟨x.val % 128, Nat.mod_lt _ (by norm_num)⟩ (Finset.mem_univ _)
      have h2 : rm A 13 (x.val % 128) ≤ c := by
        have e := ab_of_nonneg (rm_nonneg A 13 (x.val % 128))
        exact e ▸ h1
      have h3 := ((rm_le A 13 _ c).mp h2).2 (x.val / 512) (by omega) ⟨x.val % 512 / 128, by omega⟩
      have e : 512 * (x.val / 512) + (128 * (x.val % 512 / 128) + x.val % 128) = x.val := by omega
      dsimp only at h3
      rw [e] at h3
      exact h3
    · show ab (rm A 13 l.val) ≤ c
      rw [ab_of_nonneg (rm_nonneg A 13 l.val), rm_le]
      have hl := l.isLt
      exact ⟨h0, fun k hk j => h ⟨512 * k + (128 * j.val + l.val), by have := j.isLt; omega⟩ (Finset.mem_univ _)⟩
  exact le_antisymm ((key _).mpr le_rfl) ((key _).mp le_rfl)

end Cert.FfRow

end
-- ==== Proof.FfPayK.lean ====
/-
  The feed-forward kernel's payloads at an index (hand-written, untrusted).
-/
module

public import proofs.«01_k».proof.Proof.FfRow
public import proofs.«01_k».proof.Proof.Gen.KernelFfIdeal.Skeleton
public import Idealize.ShloMosaic.Lib.Pointwise
public import Idealize.ShloMosaic.Lib.WritesUnit
public import Idealize.ShloMosaic.Lib.VecWindow

@[expose] public section

set_option maxRecDepth 16384

noncomputable section

open Idealize.ShloMosaic Idealize.ShloMosaic.TcCoe

namespace Cert.KernelFfIdeal.Hand

open Cert.KernelFfIdeal Cert.KernelFfIdeal.Gen Cert.Rows Cert.FfRow

theorem p20 (v0 : Vec Ideal S640x1 .f32) (v2 : Vec Ideal S640x4096 .fp8e4m3) (v3 : Vec Ideal S4096x512 .fp8e4m3) (v5 : Vec Ideal S1x512 .f32)
    (v11 : Vec Ideal S640x4096 .fp8e4m3) (v12 : Vec Ideal S4096x512 .fp8e4m3) (v14 : Vec Ideal S1x512 .f32) (r : Fin 640) (c : Fin 512) :
    k0_pay20 v0 v2 v3 v5 v11 v12 v14 (ix2 r c) = act1 (lin (fun a => v2 (ix2 r a)) (v0 (ix2 r 0)) (fun a => v3 (ix2 a c)) (v5 (ix2 0 c)))
      (lin (fun a => v11 (ix2 r a)) (v0 (ix2 r 0)) (fun a => v12 (ix2 a c)) (v14 (ix2 0 c))) := by
  unfold act1 lin k0_pay20
  pointwise

theorem p21 (v0 : Vec Ideal S640x1 .f32) (v2 : Vec Ideal S640x4096 .fp8e4m3) (v3 : Vec Ideal S4096x512 .fp8e4m3) (v5 : Vec Ideal S1x512 .f32)
    (v11 : Vec Ideal S640x4096 .fp8e4m3) (v12 : Vec Ideal S4096x512 .fp8e4m3) (v14 : Vec Ideal S1x512 .f32) (r : Fin 640) (c : Fin 512) :
    k0_pay21 v0 v2 v3 v5 v11 v12 v14 (ix3 0 r c) = k0_pay20 v0 v2 v3 v5 v11 v12 v14 (ix2 r c) := by
  unfold k0_pay21
  generalize k0_pay20 v0 v2 v3 v5 v11 v12 v14 = P
  pointwise

theorem am4 (P : FVec Ideal S640x512 .f32) (r : Fin 640) (l : Fin 128) :
    multiReduction .maximumf [1] S640x128 (shapeCast S640x4x128 (absf P) shapeCasts_S640x512_S640x4x128) 0xFF800000#32 reduces_S640x4x128_S640x128 (.inl rfl) rfl (ix2 r l)
      = Finset.univ.fold max (Ideal.ofBits .f32 0xFF800000#32) fun j : Fin 4 => ab (P (ix2 r ⟨128 * j.val + l.val, by omega⟩)) := by
  unfold ab
  pointwise
  exact congrArg (fun f => Finset.fold max (Ideal.ofBits .f32 0xFF800000#32) f Finset.univ) (funext fun x =>
    congrArg (fun q => FloatOps.absf (F := Ideal) (φ := .f32) (P (ix2 r q))) (Fin.ext (by show x.val * 128 + l.val = 128 * x.val + l.val; omega)))

theorem cmp_ne : ∀ n : Fin 14, n.val ≠ 0 → Scalar.cmpi .eq (BitVec.ofNat 32 n.val) 0#32 = 0#1 := by decide

theorem p22_zero (i : grid0.Coords) (h : (i 1).val = 0) (v0 : Vec Ideal S640x1 .f32) (v2 : Vec Ideal S640x4096 .fp8e4m3) (v3 : Vec Ideal S4096x512 .fp8e4m3) (v5 : Vec Ideal S1x512 .f32)
    (v11 : Vec Ideal S640x4096 .fp8e4m3) (v12 : Vec Ideal S4096x512 .fp8e4m3) (v14 : Vec Ideal S1x512 .f32) (v31 : Vec Ideal S640x128 .f32) (r : Fin 640) (l : Fin 128) :
    k0_pay22 i v0 v2 v3 v5 v11 v12 v14 v31 (ix2 r l)
      = Finset.univ.fold max (Ideal.ofBits .f32 0xFF800000#32) fun j : Fin 4 => ab (k0_pay20 v0 v2 v3 v5 v11 v12 v14 (ix2 r ⟨128 * j.val + l.val, by omega⟩)) := by
  refine Eq.trans ?_ (am4 _ r l)
  unfold k0_pay22
  generalize k0_pay20 v0 v2 v3 v5 v11 v12 v14 = P
  dsimp only
  rw [h]
  rfl

theorem p22_pos (i : grid0.Coords) (h : (i 1).val ≠ 0) (v0 : Vec Ideal S640x1 .f32) (v2 : Vec Ideal S640x4096 .fp8e4m3) (v3 : Vec Ideal S4096x512 .fp8e4m3) (v5 : Vec Ideal S1x512 .f32)
    (v11 : Vec Ideal S640x4096 .fp8e4m3) (v12 : Vec Ideal S4096x512 .fp8e4m3) (v14 : Vec Ideal S1x512 .f32) (v31 : Vec Ideal S640x128 .f32) (r : Fin 640) (l : Fin 128) :
    k0_pay22 i v0 v2 v3 v5 v11 v12 v14 v31 (ix2 r l)
      = max (v31 (ix2 r l)) (Finset.univ.fold max (Ideal.ofBits .f32 0xFF800000#32) fun j : Fin 4 => ab (k0_pay20 v0 v2 v3 v5 v11 v12 v14 (ix2 r ⟨128 * j.val + l.val, by omega⟩))) := by
  refine Eq.trans ?_ (congrArg (max (v31 (ix2 r l))) (am4 _ r l))
  unfold k0_pay22
  generalize k0_pay20 v0 v2 v3 v5 v11 v12 v14 = P
  dsimp only
  rw [cmp_ne (i 1) h]
  rfl

theorem p1 (v : FVec Ideal S640x128 .f32) : k0_pay1 v = v := by
  funext j
  obtain ⟨r, l, rfl⟩ : ∃ (r : Fin 640) (l : Fin 128), j = ix2 r l := ⟨j 0, j 1, eq_ix2 j⟩
  unfold k0_pay1
  pointwise

theorem sel (A : FVec Ideal S640x1 .f32) (r : Fin 640) :
    select (cmpf .oeq A (broadcast S640x1 (Scalar.ofBits .f32 0x00000000#32 : Ideal .f32))) (broadcast S640x1 (Scalar.ofBits .f32 0x3F800000#32 : Ideal .f32))
      (divf A (broadcast S640x1 (Scalar.ofBits .f32 0x43E00000#32 : Ideal .f32))) (ix2 r 0) = scl (A (ix2 r 0)) := by
  pointwise
  rfl

theorem amr (P : FVec Ideal S640x128 .f32) (r : Fin 640) :
    shapeCast S640x1 (multiReduction .maximumf [1] S640 (absf P) 0xFF800000#32 reduces_S640x128_S640 (.inl rfl) rfl) shapeCasts_S640_S640x1 (ix2 r 0) = amax fun k => P (ix2 r k) := by
  pointwise
  rfl

theorem p4 (v : Vec Ideal S640x128 .f32) (r : Fin 640) : k0_pay4 v (ix2 r 0) = scl (amax fun l => v (ix2 r l)) :=
  (sel _ r).trans (congrArg scl (amr v r))

theorem p5 (v : Vec Ideal S640x128 .f32) (r : Fin 640) : k0_pay5 v (ix2 r 0) = Ideal.div 1 (scl (amax fun l => v (ix2 r l))) := by
  rw [← p4]
  unfold k0_pay5
  generalize k0_pay4 v = S
  pointwise

theorem p6 (v : Vec Ideal S640x128 .f32) (r : Fin 640) : k0_pay6 v (ix2 0 r) = scl (amax fun l => v (ix2 r l)) := by
  rw [← p4]
  unfold k0_pay6
  generalize k0_pay4 v = S
  pointwise

theorem p2 (s : FVec Ideal S640x1 .f32) (v : Vec Ideal S1x640x512 .f32) (r : Fin 640) (c : Fin 512) :
    k0_pay2 s v (ix2 r c) = min (Ideal.ofBits .f32 0x43E00000#32) (max (Ideal.ofBits .f32 0xC3E00000#32) (v (ix3 0 r c) * s (ix2 r 0))) := by
  unfold k0_pay2
  pointwise

/-- A block of codes, from the stored activation and the running maximum. -/
theorem p25 (w : Vec Ideal S640x128 .f32) (v : Vec Ideal S1x640x512 .f32) (r : Fin 640) (c : Fin 512) :
    k0_pay2 (k0_pay5 w) v (ix2 r c) = code (scl (amax fun l => w (ix2 r l))) (v (ix3 0 r c)) := by
  rw [p2, p5, code_recip]

end Cert.KernelFfIdeal.Hand

end
-- ==== Proof.FfStep.lean ====
/-
  The feed-forward kernel: what a point of the grid leaves in each buffer, read off the pieces the run stores (hand-written, untrusted).
-/
module

public import proofs.«01_k».proof.Proof.FfPayK
public import proofs.«01_k».proof.Proof.Gen.KernelFfIdeal.Launch
public import proofs.«01_k».proof.Proof.Gen.KernelFfIdeal.Frame
public import Idealize.ShloMosaic.Lib.WritesUnit
public import Idealize.ShloMosaic.Lib.VecWindow
public import Idealize.ShloMosaic.Lib.Pipeline.Frame
public import Idealize.ShloMosaic.Lib.Claim

@[expose] public section

set_option maxRecDepth 16384

noncomputable section

open Idealize.ShloMosaic Idealize.ShloMosaic.TcCoe

namespace Cert.KernelFfIdeal.Hand

open Cert.KernelFfIdeal Cert.KernelFfIdeal.Gen Cert.Rows Cert.FfRow

section Generic
variable {sg : RefSig} {κ : Kind} {sp : Space} {s : Shape} {e : EltTy} {Val : EltTy → Type}

/-- A whole load of a whole buffer reads its contents. -/
theorem ld_whole {M : Memref sg κ sp s e} (h : M.IsWhole) (x : s.Idx → Val e) {off : Fin s.rank → ℕ} (inb : ∀ a, off a + s.size a ≤ s.size a) :
    View.readAt Val M.view (Rect.unit off s.size inb).toLoadRect (h.unread x) = x := by
  rw [View.readAt_full, h.read_unread]

/-- A load of a slab, at a row and a column. -/
theorem ld_slab {A B C : ℕ} (v : View sg κ sp ⟨3, ![A, B, C]⟩ e) (f : v.ty.Contents Val) {off : Fin 3 → ℕ} (o0 : ℕ)
    (h : ∀ a, off a + (⟨3, ![1, B, C]⟩ : Shape).size a ≤ (⟨3, ![A, B, C]⟩ : Shape).size a) (I : Fin A) (r : Fin B) (c : Fin C)
    (ho : off = ![o0, 0, 0]) (hI : I.val = o0) :
    View.readAt Val v (Rect.unit (s := ⟨3, ![A, B, C]⟩) off (⟨3, ![1, B, C]⟩ : Shape).size h).toLoadRect f (ix3 0 r c) = v.read Val f (ix3 I r c) := by
  subst ho
  refine congrArg (v.read Val f) (funext fun a => Fin.ext ?_)
  match a with
  | 0 => exact hI.symm
  | 1 => show 0 + 1 * r.val = r.val; omega
  | 2 => show 0 + 1 * c.val = c.val; omega

/-- A block of columns stored over a matrix, read inside it. -/
theorem col_in {A B n : ℕ} (v : View sg κ sp ⟨2, ![A, B]⟩ e) (f : v.ty.Contents Val) {off : Fin 2 → ℕ} (o1 : ℕ)
    (h : ∀ a, off a + (⟨2, ![A, n]⟩ : Shape).size a ≤ (⟨2, ![A, B]⟩ : Shape).size a) (p : (⟨2, ![A, n]⟩ : Shape).Idx → Val e)
    (L : List (View.Piece Val ⟨2, ![A, B]⟩ e)) (r : Fin A) (R : Fin B) (c : Fin n) (ho : off = ![0, o1]) (hR : R.val = o1 + c.val) :
    v.read Val (v.writes Val f (⟨Rect.unit (s := ⟨2, ![A, B]⟩) off (⟨2, ![A, n]⟩ : Shape).size h, p⟩ :: L)) (ix2 r R) = p (ix2 r c) :=
  View.read_writes_cons_unit_of_mem v f h p L (ix2 r R) (ix2 r c) ho (Fin.forall_fin_two.mpr ⟨(Nat.zero_add _).symm, hR⟩)

/-- A block of columns stored over a matrix, read outside it. -/
theorem col_out {A B n : ℕ} (v : View sg κ sp ⟨2, ![A, B]⟩ e) (f : v.ty.Contents Val) {off : Fin 2 → ℕ} (o1 : ℕ)
    (h : ∀ a, off a + (⟨2, ![A, n]⟩ : Shape).size a ≤ (⟨2, ![A, B]⟩ : Shape).size a) (p : (⟨2, ![A, n]⟩ : Shape).Idx → Val e)
    (L : List (View.Piece Val ⟨2, ![A, B]⟩ e)) (r : Fin A) (R : Fin B) (ho : off = ![0, o1]) (hR : R.val < o1 ∨ o1 + n ≤ R.val) :
    v.read Val (v.writes Val f (⟨Rect.unit (s := ⟨2, ![A, B]⟩) off (⟨2, ![A, n]⟩ : Shape).size h, p⟩ :: L)) (ix2 r R)
      = v.read Val (v.writes Val f L) (ix2 r R) :=
  View.read_writes_cons_unit_of_not_mem v f h p L (ix2 r R) ho 1 hR

end Generic

theorem c1_iff (i : grid0.Coords) : k0_cond1 i = 1#1 ↔ (i 1).val = 13 :=
  (by decide +kernel : ∀ i : grid0.Coords, k0_cond1 i = 1#1 ↔ (i 1).val = 13) i

/-- What a point leaves: the activation in its slab of the store, the running maximum, and at a row block's last point the codes and
    the scales. -/
structure Step (i : grid0.Coords) (x0 : Vec Ideal S640x4096 .fp8e4m3) (x1 : Vec Ideal S640x1 .f32) (x2 x3 : Vec Ideal S4096x512 .fp8e4m3) (x4 x5 : Vec Ideal S1x512 .f32)
    (z8 : Vec Ideal S14x640x512 .f32) (z9 : Vec Ideal S640x128 .f32) (X6 : Vec Ideal S640x7168 .fp8e4m3) (X7 : Vec Ideal S1x640 .f32)
    (Z8 : Vec Ideal S14x640x512 .f32) (Z9 : Vec Ideal S640x128 .f32) : Prop where
  put : ∀ (J : Fin 14) (r : Fin 640) (c : Fin 512), J.val = (i 1).val → Z8 (ix3 J r c) = k0_pay20 x1 x0 x2 x4 x0 x3 x5 (ix2 r c)
  keep : ∀ (J : Fin 14) (r : Fin 640) (c : Fin 512), J.val ≠ (i 1).val → Z8 (ix3 J r c) = z8 (ix3 J r c)
  am : Z9 = k0_pay22 i x1 x0 x2 x4 x0 x3 x5 z9
  o6 : (i 1).val = 13 → ∀ (J : Fin 14) (r : Fin 640) (c : Fin 512), X6 (ix2 r ⟨512 * J.val + c.val, by omega⟩) = code (scl (amax fun l => Z9 (ix2 r l))) (Z8 (ix3 J r c))
  o7 : (i 1).val = 13 → ∀ r : Fin 640, X7 (ix2 0 r) = scl (amax fun l => Z9 (ix2 r l))

/-- The slab stored at a point, read at another slab or at its own. -/
theorem slab_in (i : grid0.Coords) (M : Memref sig .tc .vmem S14x640x512 .f32) (f : M.view.ty.Contents (Elt Ideal))
    (h : ∀ a, (k0_off1 i) a + S1x640x512.size a ≤ S14x640x512.size a) (p : Vec Ideal S1x640x512 .f32) (J : Fin 14) (r : Fin 640) (c : Fin 512) (hJ : J.val = (i 1).val) :
    M.view.read (Elt Ideal) (M.view.writes (Elt Ideal) f [⟨Rect.unit (s := S14x640x512) (k0_off1 i) S1x640x512.size h, p⟩]) (ix3 J r c) = p (ix3 0 r c) :=
  View.read_writes_cons_unit_of_mem M.view f h p [] (ix3 J r c) (ix3 0 r c) (k0_off1_eq i) (fun a => by
    match a with | 0 => exact hJ | 1 => exact (Nat.zero_add _).symm | 2 => exact (Nat.zero_add _).symm)

theorem slab_out (i : grid0.Coords) (M : Memref sig .tc .vmem S14x640x512 .f32) (hM : M.IsWhole) (z : Vec Ideal S14x640x512 .f32)
    (h : ∀ a, (k0_off1 i) a + S1x640x512.size a ≤ S14x640x512.size a) (p : Vec Ideal S1x640x512 .f32) (J : Fin 14) (r : Fin 640) (c : Fin 512) (hJ : J.val ≠ (i 1).val) :
    M.view.read (Elt Ideal) (M.view.writes (Elt Ideal) (hM.unread z) [⟨Rect.unit (s := S14x640x512) (k0_off1 i) S1x640x512.size h, p⟩]) (ix3 J r c) = z (ix3 J r c) :=
  (View.read_writes_cons_unit_of_not_mem M.view (hM.unread z) h p [] (ix3 J r c) (k0_off1_eq i) 0 (by
    show J.val < (i 1).val ∨ (i 1).val + 1 ≤ J.val; omega)).trans (congrFun (hM.read_unread z) _)

/-- The activation's payload, read at its blocks. -/
theorem putL {M0 : Memref sig .tc .vmem S640x4096 .fp8e4m3} (h0 : M0.IsWhole) {M1 : Memref sig .tc .vmem S640x1 .f32} (h1 : M1.IsWhole) {M2 : Memref sig .tc .vmem S4096x512 .fp8e4m3} (h2 : M2.IsWhole) {M3 : Memref sig .tc .vmem S4096x512 .fp8e4m3} (h3 : M3.IsWhole) {M4 : Memref sig .tc .vmem S1x512 .f32} (h4 : M4.IsWhole) {M5 : Memref sig .tc .vmem S1x512 .f32} (h5 : M5.IsWhole) (i0 : ∀ a, (![0, 0] : Fin 2 → ℕ) a + S640x4096.size a ≤ S640x4096.size a) (i1 : ∀ a, (![0, 0] : Fin 2 → ℕ) a + S640x1.size a ≤ S640x1.size a) (i2 : ∀ a, (![0, 0] : Fin 2 → ℕ) a + S4096x512.size a ≤ S4096x512.size a) (i3 : ∀ a, (![0, 0] : Fin 2 → ℕ) a + S4096x512.size a ≤ S4096x512.size a) (i4 : ∀ a, (![0, 0] : Fin 2 → ℕ) a + S1x512.size a ≤ S1x512.size a) (i5 : ∀ a, (![0, 0] : Fin 2 → ℕ) a + S1x512.size a ≤ S1x512.size a) (x0 : Vec Ideal S640x4096 .fp8e4m3) (x1 : Vec Ideal S640x1 .f32) (x2 : Vec Ideal S4096x512 .fp8e4m3) (x3 : Vec Ideal S4096x512 .fp8e4m3) (x4 : Vec Ideal S1x512 .f32) (x5 : Vec Ideal S1x512 .f32) (p : Vec Ideal S1x640x512 .f32)
    (hp : p = k0_pay21 (View.readAt (Elt Ideal) M1.view (Rect.unit (s := S640x1) ![0, 0] S640x1.size i1).toLoadRect (h1.unread x1)) (View.readAt (Elt Ideal) M0.view (Rect.unit (s := S640x4096) ![0, 0] S640x4096.size i0).toLoadRect (h0.unread x0)) (View.readAt (Elt Ideal) M2.view (Rect.unit (s := S4096x512) ![0, 0] S4096x512.size i2).toLoadRect (h2.unread x2)) (View.readAt (Elt Ideal) M4.view (Rect.unit (s := S1x512) ![0, 0] S1x512.size i4).toLoadRect (h4.unread x4)) (View.readAt (Elt Ideal) M0.view (Rect.unit (s := S640x4096) ![0, 0] S640x4096.size i0).toLoadRect (h0.unread x0)) (View.readAt (Elt Ideal) M3.view (Rect.unit (s := S4096x512) ![0, 0] S4096x512.size i3).toLoadRect (h3.unread x3)) (View.readAt (Elt Ideal) M5.view (Rect.unit (s := S1x512) ![0, 0] S1x512.size i5).toLoadRect (h5.unread x5))) (r : Fin 640) (c : Fin 512) :
    p (ix3 0 r c) = k0_pay20 x1 x0 x2 x4 x0 x3 x5 (ix2 r c) := by
  subst hp
  rw [p21]
  repeat rw [ld_whole]

/-- The running maximum's payload, read at its blocks. -/
theorem amL (i : grid0.Coords) {M0 : Memref sig .tc .vmem S640x4096 .fp8e4m3} (h0 : M0.IsWhole) {M1 : Memref sig .tc .vmem S640x1 .f32} (h1 : M1.IsWhole) {M2 : Memref sig .tc .vmem S4096x512 .fp8e4m3} (h2 : M2.IsWhole) {M3 : Memref sig .tc .vmem S4096x512 .fp8e4m3} (h3 : M3.IsWhole) {M4 : Memref sig .tc .vmem S1x512 .f32} (h4 : M4.IsWhole) {M5 : Memref sig .tc .vmem S1x512 .f32} (h5 : M5.IsWhole) {M9 : Memref sig .tc .vmem S640x128 .f32} (h9 : M9.IsWhole) (i0 : ∀ a, (![0, 0] : Fin 2 → ℕ) a + S640x4096.size a ≤ S640x4096.size a) (i1 : ∀ a, (![0, 0] : Fin 2 → ℕ) a + S640x1.size a ≤ S640x1.size a) (i2 : ∀ a, (![0, 0] : Fin 2 → ℕ) a + S4096x512.size a ≤ S4096x512.size a) (i3 : ∀ a, (![0, 0] : Fin 2 → ℕ) a + S4096x512.size a ≤ S4096x512.size a) (i4 : ∀ a, (![0, 0] : Fin 2 → ℕ) a + S1x512.size a ≤ S1x512.size a) (i5 : ∀ a, (![0, 0] : Fin 2 → ℕ) a + S1x512.size a ≤ S1x512.size a) (i9 i9' : ∀ a, (![0, 0] : Fin 2 → ℕ) a + S640x128.size a ≤ S640x128.size a) (x0 : Vec Ideal S640x4096 .fp8e4m3) (x1 : Vec Ideal S640x1 .f32) (x2 : Vec Ideal S4096x512 .fp8e4m3) (x3 : Vec Ideal S4096x512 .fp8e4m3) (x4 : Vec Ideal S1x512 .f32) (x5 : Vec Ideal S1x512 .f32) (z9 : Vec Ideal S640x128 .f32)
    (f : M9.view.ty.Contents (Elt Ideal)) (p : Vec Ideal S640x128 .f32)
    (hp : p = k0_pay1 (k0_pay22 i (View.readAt (Elt Ideal) M1.view (Rect.unit (s := S640x1) ![0, 0] S640x1.size i1).toLoadRect (h1.unread x1)) (View.readAt (Elt Ideal) M0.view (Rect.unit (s := S640x4096) ![0, 0] S640x4096.size i0).toLoadRect (h0.unread x0)) (View.readAt (Elt Ideal) M2.view (Rect.unit (s := S4096x512) ![0, 0] S4096x512.size i2).toLoadRect (h2.unread x2)) (View.readAt (Elt Ideal) M4.view (Rect.unit (s := S1x512) ![0, 0] S1x512.size i4).toLoadRect (h4.unread x4)) (View.readAt (Elt Ideal) M0.view (Rect.unit (s := S640x4096) ![0, 0] S640x4096.size i0).toLoadRect (h0.unread x0)) (View.readAt (Elt Ideal) M3.view (Rect.unit (s := S4096x512) ![0, 0] S4096x512.size i3).toLoadRect (h3.unread x3)) (View.readAt (Elt Ideal) M5.view (Rect.unit (s := S1x512) ![0, 0] S1x512.size i5).toLoadRect (h5.unread x5)) (View.readAt (Elt Ideal) M9.view (Rect.unit (s := S640x128) ![0, 0] S640x128.size i9).toLoadRect (h9.unread z9)))) :
    M9.view.read (Elt Ideal) (M9.view.writes (Elt Ideal) f [⟨Rect.unit (s := S640x128) ![0, 0] S640x128.size i9', p⟩]) = k0_pay22 i x1 x0 x2 x4 x0 x3 x5 z9 := by
  subst hp
  rw [View.read_writes_full, p1]
  repeat rw [ld_whole]

/-- The fourteen blocks of codes the last point stores, read at a block, a row and a column. -/
theorem outAll (M6 : Memref sig .tc .vmem S640x7168 .fp8e4m3) (f : M6.view.ty.Contents (Elt Ideal)) (M8 : Memref sig .tc .vmem S14x640x512 .f32) (g : M8.view.ty.Contents (Elt Ideal)) (w : Vec Ideal S640x128 .f32)
    (h0 : ∀ a, (![0, 0] : Fin 2 → ℕ) a + S640x512.size a ≤ S640x7168.size a) (h1 : ∀ a, (![0, 512] : Fin 2 → ℕ) a + S640x512.size a ≤ S640x7168.size a) (h2 : ∀ a, (![0, 1024] : Fin 2 → ℕ) a + S640x512.size a ≤ S640x7168.size a) (h3 : ∀ a, (![0, 1536] : Fin 2 → ℕ) a + S640x512.size a ≤ S640x7168.size a) (h4 : ∀ a, (![0, 2048] : Fin 2 → ℕ) a + S640x512.size a ≤ S640x7168.size a) (h5 : ∀ a, (![0, 2560] : Fin 2 → ℕ) a + S640x512.size a ≤ S640x7168.size a) (h6 : ∀ a, (![0, 3072] : Fin 2 → ℕ) a + S640x512.size a ≤ S640x7168.size a) (h7 : ∀ a, (![0, 3584] : Fin 2 → ℕ) a + S640x512.size a ≤ S640x7168.size a) (h8 : ∀ a, (![0, 4096] : Fin 2 → ℕ) a + S640x512.size a ≤ S640x7168.size a) (h9 : ∀ a, (![0, 4608] : Fin 2 → ℕ) a + S640x512.size a ≤ S640x7168.size a) (h10 : ∀ a, (![0, 5120] : Fin 2 → ℕ) a + S640x512.size a ≤ S640x7168.size a) (h11 : ∀ a, (![0, 5632] : Fin 2 → ℕ) a + S640x512.size a ≤ S640x7168.size a) (h12 : ∀ a, (![0, 6144] : Fin 2 → ℕ) a + S640x512.size a ≤ S640x7168.size a) (h13 : ∀ a, (![0, 6656] : Fin 2 → ℕ) a + S640x512.size a ≤ S640x7168.size a)
    (i0 : ∀ a, (![0, 0, 0] : Fin 3 → ℕ) a + S1x640x512.size a ≤ S14x640x512.size a) (i1 : ∀ a, (![1, 0, 0] : Fin 3 → ℕ) a + S1x640x512.size a ≤ S14x640x512.size a) (i2 : ∀ a, (![2, 0, 0] : Fin 3 → ℕ) a + S1x640x512.size a ≤ S14x640x512.size a) (i3 : ∀ a, (![3, 0, 0] : Fin 3 → ℕ) a + S1x640x512.size a ≤ S14x640x512.size a) (i4 : ∀ a, (![4, 0, 0] : Fin 3 → ℕ) a + S1x640x512.size a ≤ S14x640x512.size a) (i5 : ∀ a, (![5, 0, 0] : Fin 3 → ℕ) a + S1x640x512.size a ≤ S14x640x512.size a) (i6 : ∀ a, (![6, 0, 0] : Fin 3 → ℕ) a + S1x640x512.size a ≤ S14x640x512.size a) (i7 : ∀ a, (![7, 0, 0] : Fin 3 → ℕ) a + S1x640x512.size a ≤ S14x640x512.size a) (i8 : ∀ a, (![8, 0, 0] : Fin 3 → ℕ) a + S1x640x512.size a ≤ S14x640x512.size a) (i9 : ∀ a, (![9, 0, 0] : Fin 3 → ℕ) a + S1x640x512.size a ≤ S14x640x512.size a) (i10 : ∀ a, (![10, 0, 0] : Fin 3 → ℕ) a + S1x640x512.size a ≤ S14x640x512.size a) (i11 : ∀ a, (![11, 0, 0] : Fin 3 → ℕ) a + S1x640x512.size a ≤ S14x640x512.size a) (i12 : ∀ a, (![12, 0, 0] : Fin 3 → ℕ) a + S1x640x512.size a ≤ S14x640x512.size a) (i13 : ∀ a, (![13, 0, 0] : Fin 3 → ℕ) a + S1x640x512.size a ≤ S14x640x512.size a)
    (q0 q1 q2 q3 q4 q5 q6 q7 q8 q9 q10 q11 q12 q13 : Vec Ideal S640x512 .fp8e4m3)
    (e0 : q0 = k0_pay2 (k0_pay5 w) (View.readAt (Elt Ideal) M8.view (Rect.unit (s := S14x640x512) ![0, 0, 0] S1x640x512.size i0).toLoadRect g)) (e1 : q1 = k0_pay2 (k0_pay5 w) (View.readAt (Elt Ideal) M8.view (Rect.unit (s := S14x640x512) ![1, 0, 0] S1x640x512.size i1).toLoadRect g)) (e2 : q2 = k0_pay2 (k0_pay5 w) (View.readAt (Elt Ideal) M8.view (Rect.unit (s := S14x640x512) ![2, 0, 0] S1x640x512.size i2).toLoadRect g)) (e3 : q3 = k0_pay2 (k0_pay5 w) (View.readAt (Elt Ideal) M8.view (Rect.unit (s := S14x640x512) ![3, 0, 0] S1x640x512.size i3).toLoadRect g)) (e4 : q4 = k0_pay2 (k0_pay5 w) (View.readAt (Elt Ideal) M8.view (Rect.unit (s := S14x640x512) ![4, 0, 0] S1x640x512.size i4).toLoadRect g)) (e5 : q5 = k0_pay2 (k0_pay5 w) (View.readAt (Elt Ideal) M8.view (Rect.unit (s := S14x640x512) ![5, 0, 0] S1x640x512.size i5).toLoadRect g)) (e6 : q6 = k0_pay2 (k0_pay5 w) (View.readAt (Elt Ideal) M8.view (Rect.unit (s := S14x640x512) ![6, 0, 0] S1x640x512.size i6).toLoadRect g)) (e7 : q7 = k0_pay2 (k0_pay5 w) (View.readAt (Elt Ideal) M8.view (Rect.unit (s := S14x640x512) ![7, 0, 0] S1x640x512.size i7).toLoadRect g)) (e8 : q8 = k0_pay2 (k0_pay5 w) (View.readAt (Elt Ideal) M8.view (Rect.unit (s := S14x640x512) ![8, 0, 0] S1x640x512.size i8).toLoadRect g)) (e9 : q9 = k0_pay2 (k0_pay5 w) (View.readAt (Elt Ideal) M8.view (Rect.unit (s := S14x640x512) ![9, 0, 0] S1x640x512.size i9).toLoadRect g)) (e10 : q10 = k0_pay2 (k0_pay5 w) (View.readAt (Elt Ideal) M8.view (Rect.unit (s := S14x640x512) ![10, 0, 0] S1x640x512.size i10).toLoadRect g)) (e11 : q11 = k0_pay2 (k0_pay5 w) (View.readAt (Elt Ideal) M8.view (Rect.unit (s := S14x640x512) ![11, 0, 0] S1x640x512.size i11).toLoadRect g)) (e12 : q12 = k0_pay2 (k0_pay5 w) (View.readAt (Elt Ideal) M8.view (Rect.unit (s := S14x640x512) ![12, 0, 0] S1x640x512.size i12).toLoadRect g)) (e13 : q13 = k0_pay2 (k0_pay5 w) (View.readAt (Elt Ideal) M8.view (Rect.unit (s := S14x640x512) ![13, 0, 0] S1x640x512.size i13).toLoadRect g))
    (J : Fin 14) (r : Fin 640) (c : Fin 512) :
    M6.view.read (Elt Ideal) (M6.view.writes (Elt Ideal) f [⟨Rect.unit (s := S640x7168) ![0, 6656] S640x512.size h13, q13⟩, ⟨Rect.unit (s := S640x7168) ![0, 6144] S640x512.size h12, q12⟩, ⟨Rect.unit (s := S640x7168) ![0, 5632] S640x512.size h11, q11⟩, ⟨Rect.unit (s := S640x7168) ![0, 5120] S640x512.size h10, q10⟩, ⟨Rect.unit (s := S640x7168) ![0, 4608] S640x512.size h9, q9⟩, ⟨Rect.unit (s := S640x7168) ![0, 4096] S640x512.size h8, q8⟩, ⟨Rect.unit (s := S640x7168) ![0, 3584] S640x512.size h7, q7⟩, ⟨Rect.unit (s := S640x7168) ![0, 3072] S640x512.size h6, q6⟩, ⟨Rect.unit (s := S640x7168) ![0, 2560] S640x512.size h5, q5⟩, ⟨Rect.unit (s := S640x7168) ![0, 2048] S640x512.size h4, q4⟩, ⟨Rect.unit (s := S640x7168) ![0, 1536] S640x512.size h3, q3⟩, ⟨Rect.unit (s := S640x7168) ![0, 1024] S640x512.size h2, q2⟩, ⟨Rect.unit (s := S640x7168) ![0, 512] S640x512.size h1, q1⟩, ⟨Rect.unit (s := S640x7168) ![0, 0] S640x512.size h0, q0⟩]) (ix2 r ⟨512 * J.val + c.val, by omega⟩)
      = code (scl (amax fun l => w (ix2 r l))) (M8.view.read (Elt Ideal) g (ix3 J r c)) := by
  match J with
  | ⟨0, hk⟩ =>
    refine (col_out M6.view f 6656 h13 q13 _ r _ rfl (Or.inl (by show 512 * 0 + c.val < 6656; omega))).trans ?_
    refine (col_out M6.view f 6144 h12 q12 _ r _ rfl (Or.inl (by show 512 * 0 + c.val < 6144; omega))).trans ?_
    refine (col_out M6.view f 5632 h11 q11 _ r _ rfl (Or.inl (by show 512 * 0 + c.val < 5632; omega))).trans ?_
    refine (col_out M6.view f 5120 h10 q10 _ r _ rfl (Or.inl (by show 512 * 0 + c.val < 5120; omega))).trans ?_
    refine (col_out M6.view f 4608 h9 q9 _ r _ rfl (Or.inl (by show 512 * 0 + c.val < 4608; omega))).trans ?_
    refine (col_out M6.view f 4096 h8 q8 _ r _ rfl (Or.inl (by show 512 * 0 + c.val < 4096; omega))).trans ?_
    refine (col_out M6.view f 3584 h7 q7 _ r _ rfl (Or.inl (by show 512 * 0 + c.val < 3584; omega))).trans ?_
    refine (col_out M6.view f 3072 h6 q6 _ r _ rfl (Or.inl (by show 512 * 0 + c.val < 3072; omega))).trans ?_
    refine (col_out M6.view f 2560 h5 q5 _ r _ rfl (Or.inl (by show 512 * 0 + c.val < 2560; omega))).trans ?_
    refine (col_out M6.view f 2048 h4 q4 _ r _ rfl (Or.inl (by show 512 * 0 + c.val < 2048; omega))).trans ?_
    refine (col_out M6.view f 1536 h3 q3 _ r _ rfl (Or.inl (by show 512 * 0 + c.val < 1536; omega))).trans ?_
    refine (col_out M6.view f 1024 h2 q2 _ r _ rfl (Or.inl (by show 512 * 0 + c.val < 1024; omega))).trans ?_
    refine (col_out M6.view f 512 h1 q1 _ r _ rfl (Or.inl (by show 512 * 0 + c.val < 512; omega))).trans ?_
    refine (col_in M6.view f 0 h0 q0 _ r _ c rfl (by show 512 * 0 + c.val = 0 + c.val; omega)).trans ?_
    rw [e0, p25]
    exact congrArg (code _) (ld_slab M8.view g 0 i0 ⟨0, hk⟩ r c rfl rfl)
  | ⟨1, hk⟩ =>
    refine (col_out M6.view f 6656 h13 q13 _ r _ rfl (Or.inl (by show 512 * 1 + c.val < 6656; omega))).trans ?_
    refine (col_out M6.view f 6144 h12 q12 _ r _ rfl (Or.inl (by show 512 * 1 + c.val < 6144; omega))).trans ?_
    refine (col_out M6.view f 5632 h11 q11 _ r _ rfl (Or.inl (by show 512 * 1 + c.val < 5632; omega))).trans ?_
    refine (col_out M6.view f 5120 h10 q10 _ r _ rfl (Or.inl (by show 512 * 1 + c.val < 5120; omega))).trans ?_
    refine (col_out M6.view f 4608 h9 q9 _ r _ rfl (Or.inl (by show 512 * 1 + c.val < 4608; omega))).trans ?_
    refine (col_out M6.view f 4096 h8 q8 _ r _ rfl (Or.inl (by show 512 * 1 + c.val < 4096; omega))).trans ?_
    refine (col_out M6.view f 3584 h7 q7 _ r _ rfl (Or.inl (by show 512 * 1 + c.val < 3584; omega))).trans ?_
    refine (col_out M6.view f 3072 h6 q6 _ r _ rfl (Or.inl (by show 512 * 1 + c.val < 3072; omega))).trans ?_
    refine (col_out M6.view f 2560 h5 q5 _ r _ rfl (Or.inl (by show 512 * 1 + c.val < 2560; omega))).trans ?_
    refine (col_out M6.view f 2048 h4 q4 _ r _ rfl (Or.inl (by show 512 * 1 + c.val < 2048; omega))).trans ?_
    refine (col_out M6.view f 1536 h3 q3 _ r _ rfl (Or.inl (by show 512 * 1 + c.val < 1536; omega))).trans ?_
    refine (col_out M6.view f 1024 h2 q2 _ r _ rfl (Or.inl (by show 512 * 1 + c.val < 1024; omega))).trans ?_
    refine (col_in M6.view f 512 h1 q1 _ r _ c rfl (by show 512 * 1 + c.val = 512 + c.val; omega)).trans ?_
    rw [e1, p25]
    exact congrArg (code _) (ld_slab M8.view g 1 i1 ⟨1, hk⟩ r c rfl rfl)
  | ⟨2, hk⟩ =>
    refine (col_out M6.view f 6656 h13 q13 _ r _ rfl (Or.inl (by show 512 * 2 + c.val < 6656; omega))).trans ?_
    refine (col_out M6.view f 6144 h12 q12 _ r _ rfl (Or.inl (by show 512 * 2 + c.val < 6144; omega))).trans ?_
    refine (col_out M6.view f 5632 h11 q11 _ r _ rfl (Or.inl (by show 512 * 2 + c.val < 5632; omega))).trans ?_
    refine (col_out M6.view f 5120 h10 q10 _ r _ rfl (Or.inl (by show 512 * 2 + c.val < 5120; omega))).trans ?_
    refine (col_out M6.view f 4608 h9 q9 _ r _ rfl (Or.inl (by show 512 * 2 + c.val < 4608; omega))).trans ?_
    refine (col_out M6.view f 4096 h8 q8 _ r _ rfl (Or.inl (by show 512 * 2 + c.val < 4096; omega))).trans ?_
    refine (col_out M6.view f 3584 h7 q7 _ r _ rfl (Or.inl (by show 512 * 2 + c.val < 3584; omega))).trans ?_
    refine (col_out M6.view f 3072 h6 q6 _ r _ rfl (Or.inl (by show 512 * 2 + c.val < 3072; omega))).trans ?_
    refine (col_out M6.view f 2560 h5 q5 _ r _ rfl (Or.inl (by show 512 * 2 + c.val < 2560; omega))).trans ?_
    refine (col_out M6.view f 2048 h4 q4 _ r _ rfl (Or.inl (by show 512 * 2 + c.val < 2048; omega))).trans ?_
    refine (col_out M6.view f 1536 h3 q3 _ r _ rfl (Or.inl (by show 512 * 2 + c.val < 1536; omega))).trans ?_
    refine (col_in M6.view f 1024 h2 q2 _ r _ c rfl (by show 512 * 2 + c.val = 1024 + c.val; omega)).trans ?_
    rw [e2, p25]
    exact congrArg (code _) (ld_slab M8.view g 2 i2 ⟨2, hk⟩ r c rfl rfl)
  | ⟨3, hk⟩ =>
    refine (col_out M6.view f 6656 h13 q13 _ r _ rfl (Or.inl (by show 512 * 3 + c.val < 6656; omega))).trans ?_
    refine (col_out M6.view f 6144 h12 q12 _ r _ rfl (Or.inl (by show 512 * 3 + c.val < 6144; omega))).trans ?_
    refine (col_out M6.view f 5632 h11 q11 _ r _ rfl (Or.inl (by show 512 * 3 + c.val < 5632; omega))).trans ?_
    refine (col_out M6.view f 5120 h10 q10 _ r _ rfl (Or.inl (by show 512 * 3 + c.val < 5120; omega))).trans ?_
    refine (col_out M6.view f 4608 h9 q9 _ r _ rfl (Or.inl (by show 512 * 3 + c.val < 4608; omega))).trans ?_
    refine (col_out M6.view f 4096 h8 q8 _ r _ rfl (Or.inl (by show 512 * 3 + c.val < 4096; omega))).trans ?_
    refine (col_out M6.view f 3584 h7 q7 _ r _ rfl (Or.inl (by show 512 * 3 + c.val < 3584; omega))).trans ?_
    refine (col_out M6.view f 3072 h6 q6 _ r _ rfl (Or.inl (by show 512 * 3 + c.val < 3072; omega))).trans ?_
    refine (col_out M6.view f 2560 h5 q5 _ r _ rfl (Or.inl (by show 512 * 3 + c.val < 2560; omega))).trans ?_
    refine (col_out M6.view f 2048 h4 q4 _ r _ rfl (Or.inl (by show 512 * 3 + c.val < 2048; omega))).trans ?_
    refine (col_in M6.view f 1536 h3 q3 _ r _ c rfl (by show 512 * 3 + c.val = 1536 + c.val; omega)).trans ?_
    rw [e3, p25]
    exact congrArg (code _) (ld_slab M8.view g 3 i3 ⟨3, hk⟩ r c rfl rfl)
  | ⟨4, hk⟩ =>
    refine (col_out M6.view f 6656 h13 q13 _ r _ rfl (Or.inl (by show 512 * 4 + c.val < 6656; omega))).trans ?_
    refine (col_out M6.view f 6144 h12 q12 _ r _ rfl (Or.inl (by show 512 * 4 + c.val < 6144; omega))).trans ?_
    refine (col_out M6.view f 5632 h11 q11 _ r _ rfl (Or.inl (by show 512 * 4 + c.val < 5632; omega))).trans ?_
    refine (col_out M6.view f 5120 h10 q10 _ r _ rfl (Or.inl (by show 512 * 4 + c.val < 5120; omega))).trans ?_
    refine (col_out M6.view f 4608 h9 q9 _ r _ rfl (Or.inl (by show 512 * 4 + c.val < 4608; omega))).trans ?_
    refine (col_out M6.view f 4096 h8 q8 _ r _ rfl (Or.inl (by show 512 * 4 + c.val < 4096; omega))).trans ?_
    refine (col_out M6.view f 3584 h7 q7 _ r _ rfl (Or.inl (by show 512 * 4 + c.val < 3584; omega))).trans ?_
    refine (col_out M6.view f 3072 h6 q6 _ r _ rfl (Or.inl (by show 512 * 4 + c.val < 3072; omega))).trans ?_
    refine (col_out M6.view f 2560 h5 q5 _ r _ rfl (Or.inl (by show 512 * 4 + c.val < 2560; omega))).trans ?_
    refine (col_in M6.view f 2048 h4 q4 _ r _ c rfl (by show 512 * 4 + c.val = 2048 + c.val; omega)).trans ?_
    rw [e4, p25]
    exact congrArg (code _) (ld_slab M8.view g 4 i4 ⟨4, hk⟩ r c rfl rfl)
  | ⟨5, hk⟩ =>
    refine (col_out M6.view f 6656 h13 q13 _ r _ rfl (Or.inl (by show 512 * 5 + c.val < 6656; omega))).trans ?_
    refine (col_out M6.view f 6144 h12 q12 _ r _ rfl (Or.inl (by show 512 * 5 + c.val < 6144; omega))).trans ?_
    refine (col_out M6.view f 5632 h11 q11 _ r _ rfl (Or.inl (by show 512 * 5 + c.val < 5632; omega))).trans ?_
    refine (col_out M6.view f 5120 h10 q10 _ r _ rfl (Or.inl (by show 512 * 5 + c.val < 5120; omega))).trans ?_
    refine (col_out M6.view f 4608 h9 q9 _ r _ rfl (Or.inl (by show 512 * 5 + c.val < 4608; omega))).trans ?_
    refine (col_out M6.view f 4096 h8 q8 _ r _ rfl (Or.inl (by show 512 * 5 + c.val < 4096; omega))).trans ?_
    refine (col_out M6.view f 3584 h7 q7 _ r _ rfl (Or.inl (by show 512 * 5 + c.val < 3584; omega))).trans ?_
    refine (col_out M6.view f 3072 h6 q6 _ r _ rfl (Or.inl (by show 512 * 5 + c.val < 3072; omega))).trans ?_
    refine (col_in M6.view f 2560 h5 q5 _ r _ c rfl (by show 512 * 5 + c.val = 2560 + c.val; omega)).trans ?_
    rw [e5, p25]
    exact congrArg (code _) (ld_slab M8.view g 5 i5 ⟨5, hk⟩ r c rfl rfl)
  | ⟨6, hk⟩ =>
    refine (col_out M6.view f 6656 h13 q13 _ r _ rfl (Or.inl (by show 512 * 6 + c.val < 6656; omega))).trans ?_
    refine (col_out M6.view f 6144 h12 q12 _ r _ rfl (Or.inl (by show 512 * 6 + c.val < 6144; omega))).trans ?_
    refine (col_out M6.view f 5632 h11 q11 _ r _ rfl (Or.inl (by show 512 * 6 + c.val < 5632; omega))).trans ?_
    refine (col_out M6.view f 5120 h10 q10 _ r _ rfl (Or.inl (by show 512 * 6 + c.val < 5120; omega))).trans ?_
    refine (col_out M6.view f 4608 h9 q9 _ r _ rfl (Or.inl (by show 512 * 6 + c.val < 4608; omega))).trans ?_
    refine (col_out M6.view f 4096 h8 q8 _ r _ rfl (Or.inl (by show 512 * 6 + c.val < 4096; omega))).trans ?_
    refine (col_out M6.view f 3584 h7 q7 _ r _ rfl (Or.inl (by show 512 * 6 + c.val < 3584; omega))).trans ?_
    refine (col_in M6.view f 3072 h6 q6 _ r _ c rfl (by show 512 * 6 + c.val = 3072 + c.val; omega)).trans ?_
    rw [e6, p25]
    exact congrArg (code _) (ld_slab M8.view g 6 i6 ⟨6, hk⟩ r c rfl rfl)
  | ⟨7, hk⟩ =>
    refine (col_out M6.view f 6656 h13 q13 _ r _ rfl (Or.inl (by show 512 * 7 + c.val < 6656; omega))).trans ?_
    refine (col_out M6.view f 6144 h12 q12 _ r _ rfl (Or.inl (by show 512 * 7 + c.val < 6144; omega))).trans ?_
    refine (col_out M6.view f 5632 h11 q11 _ r _ rfl (Or.inl (by show 512 * 7 + c.val < 5632; omega))).trans ?_
    refine (col_out M6.view f 5120 h10 q10 _ r _ rfl (Or.inl (by show 512 * 7 + c.val < 5120; omega))).trans ?_
    refine (col_out M6.view f 4608 h9 q9 _ r _ rfl (Or.inl (by show 512 * 7 + c.val < 4608; omega))).trans ?_
    refine (col_out M6.view f 4096 h8 q8 _ r _ rfl (Or.inl (by show 512 * 7 + c.val < 4096; omega))).trans ?_
    refine (col_in M6.view f 3584 h7 q7 _ r _ c rfl (by show 512 * 7 + c.val = 3584 + c.val; omega)).trans ?_
    rw [e7, p25]
    exact congrArg (code _) (ld_slab M8.view g 7 i7 ⟨7, hk⟩ r c rfl rfl)
  | ⟨8, hk⟩ =>
    refine (col_out M6.view f 6656 h13 q13 _ r _ rfl (Or.inl (by show 512 * 8 + c.val < 6656; omega))).trans ?_
    refine (col_out M6.view f 6144 h12 q12 _ r _ rfl (Or.inl (by show 512 * 8 + c.val < 6144; omega))).trans ?_
    refine (col_out M6.view f 5632 h11 q11 _ r _ rfl (Or.inl (by show 512 * 8 + c.val < 5632; omega))).trans ?_
    refine (col_out M6.view f 5120 h10 q10 _ r _ rfl (Or.inl (by show 512 * 8 + c.val < 5120; omega))).trans ?_
    refine (col_out M6.view f 4608 h9 q9 _ r _ rfl (Or.inl (by show 512 * 8 + c.val < 4608; omega))).trans ?_
    refine (col_in M6.view f 4096 h8 q8 _ r _ c rfl (by show 512 * 8 + c.val = 4096 + c.val; omega)).trans ?_
    rw [e8, p25]
    exact congrArg (code _) (ld_slab M8.view g 8 i8 ⟨8, hk⟩ r c rfl rfl)
  | ⟨9, hk⟩ =>
    refine (col_out M6.view f 6656 h13 q13 _ r _ rfl (Or.inl (by show 512 * 9 + c.val < 6656; omega))).trans ?_
    refine (col_out M6.view f 6144 h12 q12 _ r _ rfl (Or.inl (by show 512 * 9 + c.val < 6144; omega))).trans ?_
    refine (col_out M6.view f 5632 h11 q11 _ r _ rfl (Or.inl (by show 512 * 9 + c.val < 5632; omega))).trans ?_
    refine (col_out M6.view f 5120 h10 q10 _ r _ rfl (Or.inl (by show 512 * 9 + c.val < 5120; omega))).trans ?_
    refine (col_in M6.view f 4608 h9 q9 _ r _ c rfl (by show 512 * 9 + c.val = 4608 + c.val; omega)).trans ?_
    rw [e9, p25]
    exact congrArg (code _) (ld_slab M8.view g 9 i9 ⟨9, hk⟩ r c rfl rfl)
  | ⟨10, hk⟩ =>
    refine (col_out M6.view f 6656 h13 q13 _ r _ rfl (Or.inl (by show 512 * 10 + c.val < 6656; omega))).trans ?_
    refine (col_out M6.view f 6144 h12 q12 _ r _ rfl (Or.inl (by show 512 * 10 + c.val < 6144; omega))).trans ?_
    refine (col_out M6.view f 5632 h11 q11 _ r _ rfl (Or.inl (by show 512 * 10 + c.val < 5632; omega))).trans ?_
    refine (col_in M6.view f 5120 h10 q10 _ r _ c rfl (by show 512 * 10 + c.val = 5120 + c.val; omega)).trans ?_
    rw [e10, p25]
    exact congrArg (code _) (ld_slab M8.view g 10 i10 ⟨10, hk⟩ r c rfl rfl)
  | ⟨11, hk⟩ =>
    refine (col_out M6.view f 6656 h13 q13 _ r _ rfl (Or.inl (by show 512 * 11 + c.val < 6656; omega))).trans ?_
    refine (col_out M6.view f 6144 h12 q12 _ r _ rfl (Or.inl (by show 512 * 11 + c.val < 6144; omega))).trans ?_
    refine (col_in M6.view f 5632 h11 q11 _ r _ c rfl (by show 512 * 11 + c.val = 5632 + c.val; omega)).trans ?_
    rw [e11, p25]
    exact congrArg (code _) (ld_slab M8.view g 11 i11 ⟨11, hk⟩ r c rfl rfl)
  | ⟨12, hk⟩ =>
    refine (col_out M6.view f 6656 h13 q13 _ r _ rfl (Or.inl (by show 512 * 12 + c.val < 6656; omega))).trans ?_
    refine (col_in M6.view f 6144 h12 q12 _ r _ c rfl (by show 512 * 12 + c.val = 6144 + c.val; omega)).trans ?_
    rw [e12, p25]
    exact congrArg (code _) (ld_slab M8.view g 12 i12 ⟨12, hk⟩ r c rfl rfl)
  | ⟨13, hk⟩ =>
    refine (col_in M6.view f 6656 h13 q13 _ r _ c rfl (by show 512 * 13 + c.val = 6656 + c.val; omega)).trans ?_
    rw [e13, p25]
    exact congrArg (code _) (ld_slab M8.view g 13 i13 ⟨13, hk⟩ r c rfl rfl)

theorem out7L (M7 : Memref sig .tc .vmem S1x640 .f32) (f : M7.view.ty.Contents (Elt Ideal)) (w : Vec Ideal S640x128 .f32)
    (h : ∀ a, (![0, 0] : Fin 2 → ℕ) a + S1x640.size a ≤ S1x640.size a) (q : Vec Ideal S1x640 .f32) (e : q = k0_pay6 w) (r : Fin 640) :
    M7.view.read (Elt Ideal) (M7.view.writes (Elt Ideal) f [⟨Rect.unit (s := S1x640) ![0, 0] S1x640.size h, q⟩]) (ix2 0 r) = scl (amax fun l => w (ix2 r l)) := by
  rw [View.read_writes_full, e, p6]

end Cert.KernelFfIdeal.Hand

end
-- ==== Proof.FfStepA.lean ====
/-
  The feed-forward kernel's body at a point that ends a block of rows (hand-written, untrusted).
-/
module

public import proofs.«01_k».proof.Proof.FfStep

@[expose] public section

set_option maxRecDepth 16384

noncomputable section

namespace Cert.KernelFfIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelFfIdeal Cert.KernelFfIdeal.Gen

open Cert.Rows Cert.FfRow

local notation "𝕄" => MT nD τ sig Unit (Elt Ideal) ℕ (UR sig nD τ) ℕ

/-- A whole load after a whole store reads what the buffer is left holding. -/
theorem cov_read {sg : RefSig} {κ : Kind} {sp : Space} {s : Shape} {e : EltTy} {Val : EltTy → Type} [∀ e, Nonempty (Val e)] (v : View sg κ sp s e) (f : v.ty.Contents Val) {off off' : Fin s.rank → ℕ} (inb : ∀ a, off a + s.size a ≤ s.size a)
    (L : List (View.Piece Val s e)) (inb' : ∀ a, off' a + s.size a ≤ s.size a) (w : (Rect.unit off' s.size inb').shape.Idx → Val e)
    (L' : List (View.Piece Val s e)) (hL : L = ⟨Rect.unit off' s.size inb', w⟩ :: L') :
    v.readCov L (Rect.unit off s.size inb).toLoadRect = v.read Val (v.writes Val f L) := by
  subst hL
  rw [View.readCov_full, View.read_writes_full]

set_option maxHeartbeats 4000000 in
/-- The body at a point that ends a block of rows, on whole buffers at named contents: the inputs come back as they were, every other buffer as `Step` says. -/
theorem stepA (c : Dev nD) (i : grid0.Coords) (arg2 : Memref sig .tc .vmem S640x4096 .fp8e4m3) (harg2 : arg2.IsWhole) (arg3 : Memref sig .tc .vmem S640x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S640x7168 .fp8e4m3) (harg8 : arg8.IsWhole) (arg9 : Memref sig .tc .vmem S1x640 .f32) (harg9 : arg9.IsWhole) (arg10 : Memref sig .tc .vmem S14x640x512 .f32) (harg10 : arg10.IsWhole) (arg11 : Memref sig .tc .vmem S640x128 .f32) (harg11 : arg11.IsWhole)
    (hc1 : k0_cond1 i = 1#1)
    (x0 : Vec Ideal S640x4096 .fp8e4m3) (x1 : Vec Ideal S640x1 .f32) (x2 : Vec Ideal S4096x512 .fp8e4m3) (x3 : Vec Ideal S4096x512 .fp8e4m3) (x4 : Vec Ideal S1x512 .f32) (x5 : Vec Ideal S1x512 .f32) (y6 : Vec Ideal S640x7168 .fp8e4m3) (y7 : Vec Ideal S1x640 .f32) (z8 : Vec Ideal S14x640x512 .f32) (z9 : Vec Ideal S640x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare z8 ∗ owns (c : Thread nD τ) arg11 fullShare z9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X6, ∃ X7, ∃ Z8, ∃ Z9, owns (c : Thread nD τ) arg8 fullShare X6 ∗ owns (c : Thread nD τ) arg9 fullShare X7 ∗ owns (c : Thread nD τ) arg10 fullShare Z8 ∗ owns (c : Thread nD τ) arg11 fullShare Z9 ∗ ⌜Step i x0 x1 x2 x3 x4 x5 z8 z9 X6 X7 Z8 Z9⌝)) -∗ K ⟨⟩))
      ⊢ wp frame (wpE (defs₀ (F := Ideal)) Variants.none c none) E (cc0_gate_up i arg2 harg2 arg3 harg3 arg4 harg4 arg5 harg5 arg6 harg6 arg7 harg7 arg8 harg8 arg9 harg9 arg10 harg10 arg11 harg11) K := by
  simp only [cc0_gate_up_eq_skeleton]; unfold cc0_gate_up_skel
  simp only [k0_part1_eq_skeleton, k0_part2_eq_skeleton, k0_part3_eq_skeleton, k0_part4_eq_skeleton, k0_part5_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%fx6, %hfx6, Hx6⟩, ⟨%fx7, %hfx7, Hx7⟩, ⟨%fx8, %hfx8, Hx8⟩, ⟨%fx9, %hfx9, Hx9⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5; obtain rfl := harg8.eq_unread hfx6; obtain rfl := harg9.eq_unread hfx7; obtain rfl := harg10.eq_unread hfx8; obtain rfl := harg11.eq_unread hfx9
  sl_exec (disch := first | sl_exact hc1)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  iexists _, _, _, _
  isplitl [Hx6]
  · iexists _; isplitr; swap; · iexact Hx6
    ipureintro; rfl
  isplitl [Hx7]
  · iexists _; isplitr; swap; · iexact Hx7
    ipureintro; rfl
  isplitl [Hx8]
  · iexists _; isplitr; swap; · iexact Hx8
    ipureintro; rfl
  isplitl [Hx9]
  · iexists _; isplitr; swap; · iexact Hx9
    ipureintro; rfl
  ipureintro
  refine ⟨?_, ?_, ?_, ?_, ?_⟩
  · exact fun J r cc hJ => (slab_in i arg10 _ _ _ J r cc hJ).trans (putL harg2 harg3 harg4 harg5 harg6 harg7 _ _ _ _ _ _ x0 x1 x2 x3 x4 x5 _ rfl r cc)
  · exact fun J r cc hJ => slab_out i arg10 harg10 z8 _ _ J r cc hJ
  · exact amL i harg2 harg3 harg4 harg5 harg6 harg7 harg11 _ _ _ _ _ _ _ _ x0 x1 x2 x3 x4 x5 z9 _ _ rfl
  · intro _ J r cc
    refine Eq.trans (outAll arg8 _ arg10 (arg10.view.writes (Elt Ideal) (harg10.unread z8) (stepA.sl.Hx8_1 c i arg2 harg2 arg3 harg3 arg4 harg4 arg5 harg5 arg6 harg6 arg7 harg7 x0 x1 x2 x3 x4 x5)) (stepA.sl.v40 c i arg2 harg2 arg3 harg3 arg4 harg4 arg5 harg5 arg6 harg6 arg7 harg7 arg11 harg11 x0 x1 x2 x3 x4 x5 z9) _ _ _ _ _ _ _ _ _ _ _ _ _ _ inb_S14x640x512_S1x640x512_0_0_0 inb_S14x640x512_S1x640x512_1_0_0 inb_S14x640x512_S1x640x512_2_0_0 inb_S14x640x512_S1x640x512_3_0_0 inb_S14x640x512_S1x640x512_4_0_0 inb_S14x640x512_S1x640x512_5_0_0 inb_S14x640x512_S1x640x512_6_0_0 inb_S14x640x512_S1x640x512_7_0_0 inb_S14x640x512_S1x640x512_8_0_0 inb_S14x640x512_S1x640x512_9_0_0 inb_S14x640x512_S1x640x512_10_0_0 inb_S14x640x512_S1x640x512_11_0_0 inb_S14x640x512_S1x640x512_12_0_0 inb_S14x640x512_S1x640x512_13_0_0 _ _ _ _ _ _ _ _ _ _ _ _ _ _ ?_ ?_ ?_ ?_ ?_ ?_ ?_ ?_ ?_ ?_ ?_ ?_ ?_ ?_ J r cc) ?_
    · rfl
    · rfl
    · rfl
    · rfl
    · rfl
    · rfl
    · rfl
    · rfl
    · rfl
    · rfl
    · rfl
    · rfl
    · rfl
    · rfl
    exact congrArg (fun w : Vec Ideal S640x128 .f32 => code (scl (amax fun l => w (ix2 r l))) _) (cov_read arg11.view (harg11.unread z9) _ _ _ _ _ rfl)
  · intro _ r
    refine Eq.trans (out7L arg9 _ (stepA.sl.v40 c i arg2 harg2 arg3 harg3 arg4 harg4 arg5 harg5 arg6 harg6 arg7 harg7 arg11 harg11 x0 x1 x2 x3 x4 x5 z9) _ _ rfl r) ?_
    exact congrArg (fun w : Vec Ideal S640x128 .f32 => scl (amax fun l => w (ix2 r l))) (cov_read arg11.view (harg11.unread z9) _ _ _ _ _ rfl)

end Cert.KernelFfIdeal.Hand

end
-- ==== Proof.FfStepB.lean ====
/-
  The feed-forward kernel's body at a point that does not end a block of rows (hand-written, untrusted).
-/
module

public import proofs.«01_k».proof.Proof.FfStep

@[expose] public section

set_option maxRecDepth 16384

noncomputable section

namespace Cert.KernelFfIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelFfIdeal Cert.KernelFfIdeal.Gen

open Cert.Rows Cert.FfRow

local notation "𝕄" => MT nD τ sig Unit (Elt Ideal) ℕ (UR sig nD τ) ℕ

set_option maxHeartbeats 4000000 in
/-- The body at a point that does not end a block of rows, on whole buffers at named contents: the inputs come back as they were, every other buffer as `Step` says. -/
theorem stepB (c : Dev nD) (i : grid0.Coords) (arg2 : Memref sig .tc .vmem S640x4096 .fp8e4m3) (harg2 : arg2.IsWhole) (arg3 : Memref sig .tc .vmem S640x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S640x7168 .fp8e4m3) (harg8 : arg8.IsWhole) (arg9 : Memref sig .tc .vmem S1x640 .f32) (harg9 : arg9.IsWhole) (arg10 : Memref sig .tc .vmem S14x640x512 .f32) (harg10 : arg10.IsWhole) (arg11 : Memref sig .tc .vmem S640x128 .f32) (harg11 : arg11.IsWhole)
    (hc1 : ¬k0_cond1 i = 1#1)
    (x0 : Vec Ideal S640x4096 .fp8e4m3) (x1 : Vec Ideal S640x1 .f32) (x2 : Vec Ideal S4096x512 .fp8e4m3) (x3 : Vec Ideal S4096x512 .fp8e4m3) (x4 : Vec Ideal S1x512 .f32) (x5 : Vec Ideal S1x512 .f32) (y6 : Vec Ideal S640x7168 .fp8e4m3) (y7 : Vec Ideal S1x640 .f32) (z8 : Vec Ideal S14x640x512 .f32) (z9 : Vec Ideal S640x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare z8 ∗ owns (c : Thread nD τ) arg11 fullShare z9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X6, ∃ X7, ∃ Z8, ∃ Z9, owns (c : Thread nD τ) arg8 fullShare X6 ∗ owns (c : Thread nD τ) arg9 fullShare X7 ∗ owns (c : Thread nD τ) arg10 fullShare Z8 ∗ owns (c : Thread nD τ) arg11 fullShare Z9 ∗ ⌜Step i x0 x1 x2 x3 x4 x5 z8 z9 X6 X7 Z8 Z9⌝)) -∗ K ⟨⟩))
      ⊢ wp frame (wpE (defs₀ (F := Ideal)) Variants.none c none) E (cc0_gate_up i arg2 harg2 arg3 harg3 arg4 harg4 arg5 harg5 arg6 harg6 arg7 harg7 arg8 harg8 arg9 harg9 arg10 harg10 arg11 harg11) K := by
  simp only [cc0_gate_up_eq_skeleton]; unfold cc0_gate_up_skel
  simp only [k0_part1_eq_skeleton, k0_part2_eq_skeleton, k0_part3_eq_skeleton, k0_part4_eq_skeleton, k0_part5_eq_skeleton]
  unfold owns
  iintro ⟨⟨%fx0, %hfx0, Hx0⟩, ⟨%fx1, %hfx1, Hx1⟩, ⟨%fx2, %hfx2, Hx2⟩, ⟨%fx3, %hfx3, Hx3⟩, ⟨%fx4, %hfx4, Hx4⟩, ⟨%fx5, %hfx5, Hx5⟩, ⟨%fx6, %hfx6, Hx6⟩, ⟨%fx7, %hfx7, Hx7⟩, ⟨%fx8, %hfx8, Hx8⟩, ⟨%fx9, %hfx9, Hx9⟩, Hk⟩
  obtain rfl := harg2.eq_unread hfx0; obtain rfl := harg3.eq_unread hfx1; obtain rfl := harg4.eq_unread hfx2; obtain rfl := harg5.eq_unread hfx3; obtain rfl := harg6.eq_unread hfx4; obtain rfl := harg7.eq_unread hfx5; obtain rfl := harg8.eq_unread hfx6; obtain rfl := harg9.eq_unread hfx7; obtain rfl := harg10.eq_unread hfx8; obtain rfl := harg11.eq_unread hfx9
  sl_exec (disch := first | sl_exact hc1)
  sl_step
  iapply Hk
  isplitl [Hx0]
  · iexists _; isplitr; · ipureintro; exact harg2.read_unread _
    iexact Hx0
  isplitl [Hx1]
  · iexists _; isplitr; · ipureintro; exact harg3.read_unread _
    iexact Hx1
  isplitl [Hx2]
  · iexists _; isplitr; · ipureintro; exact harg4.read_unread _
    iexact Hx2
  isplitl [Hx3]
  · iexists _; isplitr; · ipureintro; exact harg5.read_unread _
    iexact Hx3
  isplitl [Hx4]
  · iexists _; isplitr; · ipureintro; exact harg6.read_unread _
    iexact Hx4
  isplitl [Hx5]
  · iexists _; isplitr; · ipureintro; exact harg7.read_unread _
    iexact Hx5
  iexists _, _, _, _
  isplitl [Hx6]
  · iexists _; isplitr; swap; · iexact Hx6
    ipureintro; rfl
  isplitl [Hx7]
  · iexists _; isplitr; swap; · iexact Hx7
    ipureintro; rfl
  isplitl [Hx8]
  · iexists _; isplitr; swap; · iexact Hx8
    ipureintro; rfl
  isplitl [Hx9]
  · iexists _; isplitr; swap; · iexact Hx9
    ipureintro; rfl
  ipureintro
  refine ⟨?_, ?_, ?_, ?_, ?_⟩
  · exact fun J r cc hJ => (slab_in i arg10 _ _ _ J r cc hJ).trans (putL harg2 harg3 harg4 harg5 harg6 harg7 _ _ _ _ _ _ x0 x1 x2 x3 x4 x5 _ rfl r cc)
  · exact fun J r cc hJ => slab_out i arg10 harg10 z8 _ _ J r cc hJ
  · exact amL i harg2 harg3 harg4 harg5 harg6 harg7 harg11 _ _ _ _ _ _ _ _ x0 x1 x2 x3 x4 x5 z9 _ _ rfl
  · exact fun h => absurd ((c1_iff i).mpr h) hc1
  · exact fun h => absurd ((c1_iff i).mpr h) hc1

end Cert.KernelFfIdeal.Hand

end
-- ==== Proof.FfTrack.lean ====
/-
  The feed-forward kernel's run, tracked: what the scratch buffers and the windows hold between the points of the grid (hand-written, untrusted).
-/
module

public import proofs.«01_k».proof.Proof.FfStepA
public import proofs.«01_k».proof.Proof.FfStepB
public import Idealize.ShloMosaic.Lib.Pipeline.Frame
public import Idealize.ShloMosaic.Lib.Claim

@[expose] public section

set_option maxRecDepth 16384

noncomputable section

namespace Cert.KernelFfIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelFfIdeal Cert.KernelFfIdeal.Gen

open Cert.Rows Cert.FfRow

local notation "𝕄" => MT nD τ sig Unit (Elt Ideal) ℕ (UR sig nD τ) ℕ

/-- The body at any point, on whole buffers at named contents: the inputs come back as they were, every other buffer as `Step` says. -/
theorem step (c : Dev nD) (i : grid0.Coords) (arg2 : Memref sig .tc .vmem S640x4096 .fp8e4m3) (harg2 : arg2.IsWhole) (arg3 : Memref sig .tc .vmem S640x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S640x7168 .fp8e4m3) (harg8 : arg8.IsWhole) (arg9 : Memref sig .tc .vmem S1x640 .f32) (harg9 : arg9.IsWhole) (arg10 : Memref sig .tc .vmem S14x640x512 .f32) (harg10 : arg10.IsWhole) (arg11 : Memref sig .tc .vmem S640x128 .f32) (harg11 : arg11.IsWhole)
    (x0 : Vec Ideal S640x4096 .fp8e4m3) (x1 : Vec Ideal S640x1 .f32) (x2 : Vec Ideal S4096x512 .fp8e4m3) (x3 : Vec Ideal S4096x512 .fp8e4m3) (x4 : Vec Ideal S1x512 .f32) (x5 : Vec Ideal S1x512 .f32) (y6 : Vec Ideal S640x7168 .fp8e4m3) (y7 : Vec Ideal S1x640 .f32) (z8 : Vec Ideal S14x640x512 .f32) (z9 : Vec Ideal S640x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare z8 ∗ owns (c : Thread nD τ) arg11 fullShare z9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X6, ∃ X7, ∃ Z8, ∃ Z9, owns (c : Thread nD τ) arg8 fullShare X6 ∗ owns (c : Thread nD τ) arg9 fullShare X7 ∗ owns (c : Thread nD τ) arg10 fullShare Z8 ∗ owns (c : Thread nD τ) arg11 fullShare Z9 ∗ ⌜Step i x0 x1 x2 x3 x4 x5 z8 z9 X6 X7 Z8 Z9⌝)) -∗ K ⟨⟩))
      ⊢ wp frame (wpE (defs₀ (F := Ideal)) Variants.none c none) E (cc0_gate_up i arg2 harg2 arg3 harg3 arg4 harg4 arg5 harg5 arg6 harg6 arg7 harg7 arg8 harg8 arg9 harg9 arg10 harg10 arg11 harg11) K := by
  by_cases g : k0_cond1 i = 1#1
  · exact stepA c i arg2 harg2 arg3 harg3 arg4 harg4 arg5 harg5 arg6 harg6 arg7 harg7 arg8 harg8 arg9 harg9 arg10 harg10 arg11 harg11 g x0 x1 x2 x3 x4 x5 y6 y7 z8 z9 E K
  · exact stepB c i arg2 harg2 arg3 harg3 arg4 harg4 arg5 harg5 arg6 harg6 arg7 harg7 arg8 harg8 arg9 harg9 arg10 harg10 arg11 harg11 g x0 x1 x2 x3 x4 x5 y6 y7 z8 z9 E K

section algebra
variable {D : Data} {q : grid0.Coords} {R0 n : ℕ}
  {x0 : Vec Ideal S640x4096 .fp8e4m3} {x1 : Vec Ideal S640x1 .f32} {x2 x3 : Vec Ideal S4096x512 .fp8e4m3} {x4 x5 : Vec Ideal S1x512 .f32}
  {z8 : Vec Ideal S14x640x512 .f32} {z9 : Vec Ideal S640x128 .f32} {X6 : Vec Ideal S640x7168 .fp8e4m3} {X7 : Vec Ideal S1x640 .f32}
  {Z8 : Vec Ideal S14x640x512 .f32} {Z9 : Vec Ideal S640x128 .f32}

/-- The windows' blocks, as the data. -/
structure Blks (D : Data) (R0 n : ℕ) (x0 : Vec Ideal S640x4096 .fp8e4m3) (x1 : Vec Ideal S640x1 .f32) (x2 x3 : Vec Ideal S4096x512 .fp8e4m3) (x4 x5 : Vec Ideal S1x512 .f32) : Prop where
  b0 : ∀ r a, x0 (ix2 r a) = D.X (R0 + r.val) a
  b1 : ∀ r, x1 (ix2 r 0) = D.S (R0 + r.val)
  b2 : ∀ a c, x2 (ix2 a c) = D.G a (512 * n + c.val)
  b3 : ∀ a c, x3 (ix2 a c) = D.U a (512 * n + c.val)
  b4 : ∀ c, x4 (ix2 0 c) = D.GS (512 * n + c.val)
  b5 : ∀ c, x5 (ix2 0 c) = D.US (512 * n + c.val)

theorem pay (B : Blks D R0 n x0 x1 x2 x3 x4 x5) (r : Fin 640) (c : Fin 512) :
    k0_pay20 x1 x0 x2 x4 x0 x3 x5 (ix2 r c) = act D (R0 + r.val) (512 * n + c.val) := by
  rw [p20]
  unfold act
  simp only [B.b0, B.b1, B.b2, B.b3, B.b4, B.b5]

/-- What the scratch buffers hold before chunk `n` of a block of rows: the activation's chunks so far, their running maximum. -/
def Inv (D : Data) (R0 n : ℕ) (z8 : Vec Ideal S14x640x512 .f32) (z9 : Vec Ideal S640x128 .f32) : Prop :=
  (∀ (J : Fin 14) (r : Fin 640) (c : Fin 512), J.val < n → z8 (ix3 J r c) = act D (R0 + r.val) (512 * J.val + c.val))
    ∧ (0 < n → ∀ (r : Fin 640) (l : Fin 128), z9 (ix2 r l) = rm (act D (R0 + r.val)) (n - 1) l.val)

theorem inv_next (hq : (q 1).val = n) (hI : Inv D R0 n z8 z9) (B : Blks D R0 n x0 x1 x2 x3 x4 x5)
    (hS : Step q x0 x1 x2 x3 x4 x5 z8 z9 X6 X7 Z8 Z9) : Inv D R0 (n + 1) Z8 Z9 := by
  refine ⟨fun J r c hJ => ?_, fun _ r l => ?_⟩
  · by_cases h : J.val = n
    · rw [hS.put J r c (by omega), pay B, h]
    · rw [hS.keep J r c (by omega)]
      exact hI.1 J r c (by omega)
  · rw [hS.am]
    have e : (Finset.univ.fold max (Ideal.ofBits .f32 0xFF800000#32) fun j : Fin 4 => ab (k0_pay20 x1 x0 x2 x4 x0 x3 x5 (ix2 r ⟨128 * j.val + l.val, by omega⟩)))
        = mx (act D (R0 + r.val)) n l.val := by
      unfold mx
      simp only [pay B]
    cases n with
    | zero =>
      rw [p22_zero q hq, e]
      rfl
    | succ k =>
      rw [p22_pos q (by omega), e, hI.2 (Nat.succ_pos k) r l]
      rfl

theorem row_max (hI : Inv D R0 14 Z8 Z9) (r : Fin 640) : scl (amax fun l => Z9 (ix2 r l)) = asc D (R0 + r.val) := by
  unfold asc
  rw [← amax_rm]
  refine congrArg (fun f => scl (amax f)) (funext fun l => ?_)
  exact hI.2 (by norm_num) r l

theorem p6_of (h13 : (q 1).val = 13) (hI : Inv D R0 14 Z8 Z9) (hS : Step q x0 x1 x2 x3 x4 x5 z8 z9 X6 X7 Z8 Z9) (r : Fin 640) (c : Fin 7168) :
    X6 (ix2 r c) = acd D (R0 + r.val) c.val := by
  have hc := c.isLt
  have h := hS.o6 h13 ⟨c.val / 512, by omega⟩ r ⟨c.val % 512, by omega⟩
  have ec : (⟨512 * (c.val / 512) + c.val % 512, by omega⟩ : Fin 7168) = c := Fin.ext (by show 512 * (c.val / 512) + c.val % 512 = c.val; omega)
  rw [row_max hI, hI.1 _ _ _ (by show c.val / 512 < 14; omega)] at h
  dsimp only at h
  rw [ec, show 512 * (c.val / 512) + c.val % 512 = c.val by omega] at h
  exact h

theorem p7_of (h13 : (q 1).val = 13) (hI : Inv D R0 14 Z8 Z9) (hS : Step q x0 x1 x2 x3 x4 x5 z8 z9 X6 X7 Z8 Z9) (r : Fin 640) :
    X7 (ix2 0 r) = asc D (R0 + r.val) := (hS.o7 h13 r).trans (row_max hI r)

end algebra

variable (m : (ℓ : Loc nD τ sig) → Buf (Elt Ideal) ℓ) (ρ : Dev nD → PrngReg)

/-- The arguments as the row mathematics reads them. -/
def data (c : Dev nD) : Data := ofBlk (V m c main_arg0) (V m c main_v0) (V m c main_arg2) (V m c main_arg3) (V m c main_v1) (V m c main_v2)

theorem lt28 (t : Fin cfg0.N) : t.val < 28 := lt_of_lt_of_eq t.isLt N_0
theorem co1 (t : Fin cfg0.N) : (grid0.coords t 1).val = t.val % 14 := by
  have e : (grid0.coords t 1).val = t.val / 1 % 14 := Pipeline.Grid.coords_val t 1 (by decide) rfl
  omega

abbrev scM0_0 : Memref sig .tc .vmem S14x640x512 .f32 := Memref.whole cc0_scratch0
abbrev scM0_1 : Memref sig .tc .vmem S640x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant before point `n`: the scratch buffers as `Inv` says, the generator register at some state. -/
def PhiT (c : Dev nD) (n : ℕ) : sProp 𝕄 :=
  iprop((∃ z8, ∃ z9, ⌜Inv (data m c) (640 * (n / 14)) (n % 14) z8 z9⌝ ∗ owns (c : Thread nD τ) scM0_0 fullShare z8
    ∗ owns (c : Thread nD τ) scM0_1 fullShare z9) ∗ (∃ r, prngReg c r))

/-- A block of the rows' codes, of their scales; the codes and the scales a block of rows ends with. -/
def B0 (D : Data) (t : ℕ) (X : Vec Ideal S640x4096 .fp8e4m3) : Prop := ∀ r a, X (ix2 r a) = D.X (640 * (t / 14) + r.val) a
def B1 (D : Data) (t : ℕ) (X : Vec Ideal S640x1 .f32) : Prop := ∀ r, X (ix2 r 0) = D.S (640 * (t / 14) + r.val)
def P6 (D : Data) (t : ℕ) (X : Vec Ideal S640x7168 .fp8e4m3) : Prop := t % 14 = 13 → ∀ r c, X (ix2 r c) = acd D (640 * (t / 14) + r.val) c.val
def P7 (D : Data) (t : ℕ) (X : Vec Ideal S1x640 .f32) : Prop := t % 14 = 13 → ∀ r, X (ix2 0 r) = asc D (640 * (t / 14) + r.val)

/-- The proof data: what each buffer holds after each point. -/
def rdat (c : Dev nD) : RDat τ (Elt Ideal) Unit ℕ (UR sig nD τ) ℕ cfg0 c where
  A w := V m c (Pipeline.arrRef spec0 w)
  after w t := match w with
    | ⟨0, _⟩ => fun _ X => B0 (data m c) t.val X
    | ⟨1, _⟩ => fun _ X => B1 (data m c) t.val X
    | ⟨2, _⟩ => fun _ _ => True
    | ⟨3, _⟩ => fun _ _ => True
    | ⟨4, _⟩ => fun _ _ => True
    | ⟨5, _⟩ => fun _ _ => True
    | ⟨6, _⟩ => fun _ X => P6 (data m c) t.val X
    | ⟨7, _⟩ => fun _ X => P7 (data m c) t.val X
  Φ t := PhiT m c t.val
  q _ := fullShare
  owed _ := 0

theorem A_eq (c : Dev nD) (w : Fin cfg0.W) : (rdat m c).A w = V m c (Pipeline.arrRef spec0 w) := by dsimp only [rdat]

theorem leaves (c : Dev nD) {w : Fin cfg0.W} {t : Fin cfg0.N} {X : (cfg0.win w).block.Idx → Elt Ideal (cfg0.win w).elt}
    (h : (rdat m c).Leaves w t X) : ∃ Y, (rdat m c).after w t Y X := ⟨h.choose, h.choose_spec.2⟩

theorem idx0 : ∀ t : Fin cfg0.N, win0_0.index t 0 = t.val / 14 ∧ win0_0.index t 1 = 0 :=
  (by decide +kernel : ∀ t : Fin grid0.N, win0_0.index t 0 = t.val / 14 ∧ win0_0.index t 1 = 0)
theorem idx1 : ∀ t : Fin cfg0.N, win0_1.index t 0 = t.val / 14 ∧ win0_1.index t 1 = 0 :=
  (by decide +kernel : ∀ t : Fin grid0.N, win0_1.index t 0 = t.val / 14 ∧ win0_1.index t 1 = 0)
theorem idx2 : ∀ t : Fin cfg0.N, win0_2.index t 0 = 0 ∧ win0_2.index t 1 = t.val % 14 :=
  (by decide +kernel : ∀ t : Fin grid0.N, win0_2.index t 0 = 0 ∧ win0_2.index t 1 = t.val % 14)
theorem idx3 : ∀ t : Fin cfg0.N, win0_3.index t 0 = 0 ∧ win0_3.index t 1 = t.val % 14 :=
  (by decide +kernel : ∀ t : Fin grid0.N, win0_3.index t 0 = 0 ∧ win0_3.index t 1 = t.val % 14)
theorem idx4 : ∀ t : Fin cfg0.N, win0_4.index t 0 = 0 ∧ win0_4.index t 1 = t.val % 14 :=
  (by decide +kernel : ∀ t : Fin grid0.N, win0_4.index t 0 = 0 ∧ win0_4.index t 1 = t.val % 14)
theorem idx5 : ∀ t : Fin cfg0.N, win0_5.index t 0 = 0 ∧ win0_5.index t 1 = t.val % 14 :=
  (by decide +kernel : ∀ t : Fin grid0.N, win0_5.index t 0 = 0 ∧ win0_5.index t 1 = t.val % 14)
theorem idx6 : ∀ t : Fin cfg0.N, win0_6.index t 0 = t.val / 14 ∧ win0_6.index t 1 = 0 :=
  (by decide +kernel : ∀ t : Fin grid0.N, win0_6.index t 0 = t.val / 14 ∧ win0_6.index t 1 = 0)
theorem idx7 : ∀ t : Fin cfg0.N, win0_7.index t 0 = 0 ∧ win0_7.index t 1 = t.val / 14 :=
  (by decide +kernel : ∀ t : Fin grid0.N, win0_7.index t 0 = 0 ∧ win0_7.index t 1 = t.val / 14)

theorem finds0 (c : Dev nD) (t : Fin cfg0.N) (Y : Vec Ideal S640x4096 .fp8e4m3) (h : (rdat m c).Finds 0 t Y) : B0 (data m c) t.val Y := by
  have ht := lt28 t
  by_cases hf : (cfg0.win 0).fetch t = true
  · obtain ⟨d, rfl⟩ := ((rdat m c).finds_of_fetch hf Y).mp h
    intro r a
    have hb : 640 * (t.val / 14) + r.val < 1280 := by omega
    show V m c main_arg0 (((cfg0.win 0).blk t).view.emb (ix2 r a)) = dite _ _ _
    rw [dif_pos hb]
    congr 1
    funext x
    apply Fin.ext
    match x with
    | ⟨0, _⟩ => show win0_0.index t 0 * 640 + 1 * r.val = 640 * (t.val / 14) + r.val; rw [(idx0 t).1] <;> omega
    | ⟨1, _⟩ => show win0_0.index t 1 * 4096 + 1 * a.val = a.val; rw [(idx0 t).2] <;> omega
  · have hf' : (cfg0.win 0).fetch t = false := by simpa using hf
    have hz : t.val % 14 ≠ 0 := fun q => hf ((fetch0_0 t).mpr q)
    rcases ((rdat m c).finds_of_pos hf' (by omega) Y).mp h with h' | h'
    · exact absurd h' (by unfold Pipeline.Window.flush; exact Bool.false_ne_true)
    · obtain ⟨_, q⟩ := leaves m c h'
      have q' : B0 (data m c) (t.val - 1) Y := q
      unfold B0 at q' ⊢
      rw [show (t.val - 1) / 14 = t.val / 14 by omega] at q'
      exact q'

theorem finds1 (c : Dev nD) (t : Fin cfg0.N) (Y : Vec Ideal S640x1 .f32) (h : (rdat m c).Finds 1 t Y) : B1 (data m c) t.val Y := by
  have ht := lt28 t
  by_cases hf : (cfg0.win 1).fetch t = true
  · obtain ⟨d, rfl⟩ := ((rdat m c).finds_of_fetch hf Y).mp h
    intro r
    have hb : 640 * (t.val / 14) + r.val < 1280 := by omega
    show V m c main_v0 (((cfg0.win 1).blk t).view.emb (ix2 r 0)) = dite _ _ _
    rw [dif_pos hb]
    congr 1
    funext x
    apply Fin.ext
    match x with
    | ⟨0, _⟩ => show win0_1.index t 0 * 640 + 1 * r.val = 640 * (t.val / 14) + r.val; rw [(idx1 t).1] <;> omega
    | ⟨1, _⟩ => show win0_1.index t 1 * 1 + 1 * 0 = 0; rw [(idx1 t).2] <;> omega
  · have hf' : (cfg0.win 1).fetch t = false := by simpa using hf
    have hz : t.val % 14 ≠ 0 := fun q => hf ((fetch0_1 t).mpr q)
    rcases ((rdat m c).finds_of_pos hf' (by omega) Y).mp h with h' | h'
    · exact absurd h' (by unfold Pipeline.Window.flush; exact Bool.false_ne_true)
    · obtain ⟨_, q⟩ := leaves m c h'
      have q' : B1 (data m c) (t.val - 1) Y := q
      unfold B1 at q' ⊢
      rw [show (t.val - 1) / 14 = t.val / 14 by omega] at q'
      exact q'

theorem finds2 (c : Dev nD) (t : Fin cfg0.N) (Y : Vec Ideal S4096x512 .fp8e4m3) (h : (rdat m c).Finds 2 t Y) : ∀ a e, Y (ix2 a e) = (data m c).G a (512 * (t.val % 14) + e.val) := by
  have ht := lt28 t
  have hf : (cfg0.win 2).fetch t = true := fetch0_2 t
  obtain ⟨d, rfl⟩ := ((rdat m c).finds_of_fetch hf Y).mp h
  intro a e
  have hb : 512 * (t.val % 14) + e.val < 7168 := by omega
  show V m c main_arg2 (((cfg0.win 2).blk t).view.emb (ix2 a e)) = dite _ _ _
  rw [dif_pos hb]
  congr 1
  funext x
  apply Fin.ext
  match x with
  | ⟨0, _⟩ => show win0_2.index t 0 * 4096 + 1 * a.val = a.val; rw [(idx2 t).1] <;> omega
  | ⟨1, _⟩ => show win0_2.index t 1 * 512 + 1 * e.val = 512 * (t.val % 14) + e.val; rw [(idx2 t).2] <;> omega

theorem finds3 (c : Dev nD) (t : Fin cfg0.N) (Y : Vec Ideal S4096x512 .fp8e4m3) (h : (rdat m c).Finds 3 t Y) : ∀ a e, Y (ix2 a e) = (data m c).U a (512 * (t.val % 14) + e.val) := by
  have ht := lt28 t
  have hf : (cfg0.win 3).fetch t = true := fetch0_3 t
  obtain ⟨d, rfl⟩ := ((rdat m c).finds_of_fetch hf Y).mp h
  intro a e
  have hb : 512 * (t.val % 14) + e.val < 7168 := by omega
  show V m c main_arg3 (((cfg0.win 3).blk t).view.emb (ix2 a e)) = dite _ _ _
  rw [dif_pos hb]
  congr 1
  funext x
  apply Fin.ext
  match x with
  | ⟨0, _⟩ => show win0_3.index t 0 * 4096 + 1 * a.val = a.val; rw [(idx3 t).1] <;> omega
  | ⟨1, _⟩ => show win0_3.index t 1 * 512 + 1 * e.val = 512 * (t.val % 14) + e.val; rw [(idx3 t).2] <;> omega

theorem finds4 (c : Dev nD) (t : Fin cfg0.N) (Y : Vec Ideal S1x512 .f32) (h : (rdat m c).Finds 4 t Y) : ∀ e, Y (ix2 0 e) = (data m c).GS (512 * (t.val % 14) + e.val) := by
  have ht := lt28 t
  have hf : (cfg0.win 4).fetch t = true := fetch0_4 t
  obtain ⟨d, rfl⟩ := ((rdat m c).finds_of_fetch hf Y).mp h
  intro e
  have hb : 512 * (t.val % 14) + e.val < 7168 := by omega
  show V m c main_v1 (((cfg0.win 4).blk t).view.emb (ix2 0 e)) = dite _ _ _
  rw [dif_pos hb]
  congr 1
  funext x
  apply Fin.ext
  match x with
  | ⟨0, _⟩ => show win0_4.index t 0 * 1 + 1 * 0 = 0; rw [(idx4 t).1] <;> omega
  | ⟨1, _⟩ => show win0_4.index t 1 * 512 + 1 * e.val = 512 * (t.val % 14) + e.val; rw [(idx4 t).2] <;> omega

theorem finds5 (c : Dev nD) (t : Fin cfg0.N) (Y : Vec Ideal S1x512 .f32) (h : (rdat m c).Finds 5 t Y) : ∀ e, Y (ix2 0 e) = (data m c).US (512 * (t.val % 14) + e.val) := by
  have ht := lt28 t
  have hf : (cfg0.win 5).fetch t = true := fetch0_5 t
  obtain ⟨d, rfl⟩ := ((rdat m c).finds_of_fetch hf Y).mp h
  intro e
  have hb : 512 * (t.val % 14) + e.val < 7168 := by omega
  show V m c main_v2 (((cfg0.win 5).blk t).view.emb (ix2 0 e)) = dite _ _ _
  rw [dif_pos hb]
  congr 1
  funext x
  apply Fin.ext
  match x with
  | ⟨0, _⟩ => show win0_5.index t 0 * 1 + 1 * 0 = 0; rw [(idx5 t).1] <;> omega
  | ⟨1, _⟩ => show win0_5.index t 1 * 512 + 1 * e.val = 512 * (t.val % 14) + e.val; rw [(idx5 t).2] <;> omega

theorem defs₀_row (t : Fin cfg0.N) : defs₀ (F := Ideal) .tc cfg0.body (cfg0.bodyArgs t (cfg0.slots t)) = bodyAt0 t := by
  unfold defs₀; rw [Defs.onTc_tc]

theorem inv_succ (c : Dev nD) (t : Fin cfg0.N) {z8 Z8 : Vec Ideal S14x640x512 .f32} {z9 Z9 : Vec Ideal S640x128 .f32}
    {x0 : Vec Ideal S640x4096 .fp8e4m3} {x1 : Vec Ideal S640x1 .f32} {x2 x3 : Vec Ideal S4096x512 .fp8e4m3} {x4 x5 : Vec Ideal S1x512 .f32}
    {X6 : Vec Ideal S640x7168 .fp8e4m3} {X7 : Vec Ideal S1x640 .f32}
    (hI : Inv (data m c) (640 * (t.val / 14)) (t.val % 14) z8 z9) (B : Blks (data m c) (640 * (t.val / 14)) (t.val % 14) x0 x1 x2 x3 x4 x5)
    (hS : Step (grid0.coords t) x0 x1 x2 x3 x4 x5 z8 z9 X6 X7 Z8 Z9) :
    Inv (data m c) (640 * ((t.val + 1) / 14)) ((t.val + 1) % 14) Z8 Z9 ∧ P6 (data m c) t.val X6 ∧ P7 (data m c) t.val X7 := by
  have r := inv_next (co1 t) hI B hS
  refine ⟨?_, fun h => ?_, fun h => ?_⟩
  · by_cases h : t.val % 14 = 13
    · rw [show (t.val + 1) % 14 = 0 by omega]
      exact ⟨fun _ _ _ h => absurd h (Nat.not_lt_zero _), fun h => absurd h (Nat.lt_irrefl 0)⟩
    · rw [show (t.val + 1) % 14 = t.val % 14 + 1 by omega, show (t.val + 1) / 14 = t.val / 14 by omega]
      exact r
  · rw [h] at r
    exact p6_of ((co1 t).trans h) r hS
  · rw [h] at r
    exact p7_of ((co1 t).trans h) r hS

set_option maxHeartbeats 2400000 in
theorem body_obligation (c : Dev nD) : (rdat m c).BodyObligation (defs₀ (F := Ideal)) Variants.none () Set.univ := by
  intro t Y hY
  have f0 := finds0 m c t (Y 0) (hY 0)
  have f1 := finds1 m c t (Y 1) (hY 1)
  have f2 := finds2 m c t (Y 2) (hY 2)
  have f3 := finds3 m c t (Y 3) (hY 3)
  have f4 := finds4 m c t (Y 4) (hY 4)
  have f5 := finds5 m c t (Y 5) (hY 5)
  rw [bigSep_W0, bigSep_W0, defs₀_row]
  rw [show (rdat m c).Φ t.succ = PhiT m c (t.val + 1) from rfl, show (rdat m c).Φ t.castSucc = PhiT m c t.val from rfl]
  unfold PhiT RDat.owesAt Pipeline.owesWithin
  rw [show (rdat m c).owed t.castSucc = 0 from rfl, show (rdat m c).owed t.succ = 0 from rfl]
  iintro ⟨⟨⟨%z8, %z9, %hI, HS0, HS1⟩, Hg⟩, ⟨%W, %hW, HO⟩, H0, H1, H2, H3, H4, H5, H6, H7⟩
  iapply (step c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) scM0_0 (Memref.isWhole_whole _) scM0_1 (Memref.isWhole_whole _) (Y 0) (Y 1) (Y 2) (Y 3) (Y 4) (Y 5) (Y 6) (Y 7) z8 z9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, ⟨%X6, %X7, %Z8, %Z9, H6, H7, HS0, HS1, %hS⟩⟩
  obtain ⟨rI, r6, r7⟩ := inv_succ m c t hI ⟨f0, f1, f2, f3, f4, f5⟩ hS
  isplitl [HS0 HS1 Hg]
  · isplitl [HS0 HS1]
    · iexists Z8, Z9
      isplitr; · ipureintro; exact rI
      isplitl [HS0]; · iexact HS0
      iexact HS1
    iexact Hg
  isplitl [HO]
  · iexists W; isplitr; · ipureintro; exact fun _ _ => Or.inl trivial
    iexact HO
  isplitl [H0]
  · iexists (Y 0); isplitr; · ipureintro; exact f0
    iexact H0
  isplitl [H1]
  · iexists (Y 1); isplitr; · ipureintro; exact f1
    iexact H1
  isplitl [H2]
  · iexists (Y 2); isplitr; · ipureintro; exact trivial
    iexact H2
  isplitl [H3]
  · iexists (Y 3); isplitr; · ipureintro; exact trivial
    iexact H3
  isplitl [H4]
  · iexists (Y 4); isplitr; · ipureintro; exact trivial
    iexact H4
  isplitl [H5]
  · iexists (Y 5); isplitr; · ipureintro; exact trivial
    iexact H5
  isplitl [H6]
  · iexists X6; isplitr; · ipureintro; exact r6
    iexact H6
  iexists X7; isplitr; · ipureintro; exact r7
  iexact H7

theorem phi_in (c : Dev nD) : (Pipeline.ΦA spec0 c : sProp 𝕄) ⊢ PhiT m c 0 := by
  rw [PhiA0_eq]
  unfold PhiT
  iintro ⟨⟨⟨%a, H0⟩, ⟨%b, H1⟩⟩, Hg⟩
  isplitl [H0 H1]
  · iexists a, b
    isplitr; · ipureintro; exact ⟨fun _ _ _ h => absurd h (Nat.not_lt_zero _), fun h => absurd h (Nat.lt_irrefl 0)⟩
    isplitl [H0]; · iexact H0
    iexact H1
  iexact Hg

theorem phi_out (c : Dev nD) (n : ℕ) : PhiT m c n ⊢ (Pipeline.ΦA spec0 c : sProp 𝕄) := by
  rw [PhiA0_eq]
  unfold PhiT
  iintro ⟨⟨%a, %b, -, H0, H1⟩, Hg⟩
  isplitl [H0 H1]
  · isplitl [H0]; · iexists a; iexact H0
    iexists b; iexact H1
  iexact Hg

set_option backward.isDefEq.respectTransparency.types false in
/-- Every execution of the program ends with every window's array as the proof data allow, every other buffer untouched and
    every semaphore at zero. -/
theorem run_main : θ_run defs (onTc (τ := τ) (main (F := Ideal))) (s₀ m ρ)
    (fun r => Pipeline.RDat.FramePost (cfgs 0) (rdat m) (V m) r ∧ r.2.sem = fun _ => 0) :=
  Pipeline.RDat.θ_run_frame_track (Q' := _) cfgs 0 launch0 defs₀ Variants.none (rdat m) m ρ main (hbody := body_obligation m)
    (hshare := fun c w => (rdat m c).share_full (fun _ => rfl) w) (howed := fun _ _ => rfl) (V := V m) (hmain := hmain m Variants.none) (hA := A_eq m)
    (hin := fun c => phi_in m c) (hout := fun c => phi_out m c _)

theorem args_of {r : PUnit × MemSt nD τ sig (Elt Ideal)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 0 rfl).trans (V_main_arg0 m c), ((h c).2 main_arg1 (Pipeline.mem_restRefs_of main_arg1 (by decide) (by decide))).trans (V_main_arg1 m c),
    (Pipeline.RDat.FramePost.arr_in h c 2 rfl).trans (V_main_arg2 m c), (Pipeline.RDat.FramePost.arr_in h c 3 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: every execution ends with the arguments as they were and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => args_of m h.1 c, h.2⟩) (run_main m ρ)

end Cert.KernelFfIdeal.Hand

end
-- ==== Proof.FfValue.lean ====
/-
  The feed-forward kernel's results after the run (hand-written, untrusted).
-/
module

public import proofs.«01_k».proof.Proof.FfTrack
public import Idealize.ShloMosaic.Lib.Pipeline.ArrRel
public import Idealize.ShloMosaic.Lib.Pipeline.Value
public import Idealize.ShloMosaic.Lib.Quiescent
public import Idealize.ShloMosaic.Lib.Pipeline.ValueKit.Geometry

@[expose] public section

set_option maxRecDepth 16384

noncomputable section

namespace Cert.KernelFfIdeal.Hand

open Idealize.ShloMosaic Idealize.ShloMosaic.TcCoe
open Idealize.SL.Sem
open Idealize.ShloMosaic.Pipeline (Dat RDat Cfg Window)
open Cert.KernelFfIdeal Cert.KernelFfIdeal.Gen
open Cert.Rows Cert.FfRow

variable (m : (ℓ : Loc nD τ sig) → Buf (Elt Ideal) ℓ) (ρ : Dev nD → PrngReg)

theorem V_main_v0_at (c : Dev nD) (r : Fin 1280) : V m c main_v0 (ix2 r 0) = m ((c : Thread nD τ).loc main_arg1) (ix1 r) := by
  unfold_abbrev_sides
  after_results
  pointwise

theorem V_main_v0 (c : Dev nD) : V m c main_v0 = colOf (m ((c : Thread nD τ).loc main_arg1)) := by
  funext j
  obtain ⟨r, a, rfl⟩ : ∃ (r : Fin 1280) (a : Fin 1), j = ix2 r a := ⟨j 0, j 1, eq_ix2 j⟩
  obtain rfl : a = 0 := Fin.eq_zero _
  exact V_main_v0_at m c r

theorem V_main_v1_at (c : Dev nD) (r : Fin 7168) : V m c main_v1 (ix2 0 r) = m ((c : Thread nD τ).loc main_arg4) (ix1 r) := by
  unfold_abbrev_sides
  after_results
  pointwise

theorem V_main_v1 (c : Dev nD) : V m c main_v1 = rowOf (m ((c : Thread nD τ).loc main_arg4)) := by
  funext j
  obtain ⟨r, a, rfl⟩ : ∃ (r : Fin 1) (a : Fin 7168), j = ix2 r a := ⟨j 0, j 1, eq_ix2 j⟩
  obtain rfl : r = 0 := Fin.eq_zero _
  exact V_main_v1_at m c a

theorem V_main_v2_at (c : Dev nD) (r : Fin 7168) : V m c main_v2 (ix2 0 r) = m ((c : Thread nD τ).loc main_arg5) (ix1 r) := by
  unfold_abbrev_sides
  after_results
  pointwise

theorem V_main_v2 (c : Dev nD) : V m c main_v2 = rowOf (m ((c : Thread nD τ).loc main_arg5)) := by
  funext j
  obtain ⟨r, a, rfl⟩ : ∃ (r : Fin 1) (a : Fin 7168), j = ix2 r a := ⟨j 0, j 1, eq_ix2 j⟩
  obtain rfl : r = 0 := Fin.eq_zero _
  exact V_main_v2_at m c a

/-- The data, from the arguments. -/
def args (c : Dev nD) : Data := ofBlk (m ((c : Thread nD τ).loc main_arg0)) (colOf (m ((c : Thread nD τ).loc main_arg1))) (m ((c : Thread nD τ).loc main_arg2)) (m ((c : Thread nD τ).loc main_arg3))
  (rowOf (m ((c : Thread nD τ).loc main_arg4))) (rowOf (m ((c : Thread nD τ).loc main_arg5)))

theorem data_args (c : Dev nD) : data m c = args m c := by
  have e : data m c = ofBlk (V m c main_arg0) (V m c main_v0) (V m c main_arg2) (V m c main_arg3) (V m c main_v1) (V m c main_v2) := rfl
  rw [e, V_main_v0, V_main_v1, V_main_v2, V_main_arg0, V_main_arg2, V_main_arg3]
  rfl

section ends
variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

/-- Output 6 after the run. -/
theorem end6 (i : S1280x7168.Idx) : ((rdat m c).withAfter after).arrAt 6 cfg0.N i = F6 (data m c) i := by
  refine Dat.arrAt_forall_of_covers ((rdat m c).withAfter after) 6 (fun i v => v = F6 (data m c) i) (by decide +kernel) (fun t hf y => ?_) i
  have ht := lt28 t
  have h13 := (flush0_6 t).mp hf
  obtain ⟨_, q⟩ := leaves m c (hL 6 t hf)
  have q' : P6 (data m c) t.val (after 6 t) := q
  have l0 : (y 0).val < 640 := ((cfg0.win 6).xinj (grid0.coords t) y 0).isLt
  have l1 : (y 1).val < 7168 := ((cfg0.win 6).xinj (grid0.coords t) y 1).isLt
  have z0 : ((((cfg0.win 6).blk t).view.emb y) 0).val = win0_6.index t 0 * 640 + 1 * (y 0).val := rfl
  have z1 : ((((cfg0.win 6).blk t).view.emb y) 1).val = win0_6.index t 1 * 7168 + 1 * (y 1).val := rfl
  rw [(idx6 t).1] at z0
  rw [(idx6 t).2] at z1
  have ex : (cfg0.win 6).xinj (grid0.coords t) y = (ix2 ⟨(y 0).val, l0⟩ ⟨(y 1).val, l1⟩ : (⟨2, ![640, 7168]⟩ : Shape).Idx) := by
    funext x
    apply Fin.ext
    match x with
    | ⟨0, _⟩ => rfl
    | ⟨1, _⟩ => rfl
  show after 6 t ((cfg0.win 6).xinj (grid0.coords t) y) = _
  rw [ex]
  generalize ((cfg0.win 6).blk t).view.emb y = e at *
  refine (q' h13 ⟨(y 0).val, l0⟩ ⟨(y 1).val, l1⟩).trans ?_
  show acd _ (640 * (t.val / 14) + (y 0).val) (y 1).val = acd _ (e 0).val (e 1).val
  rw [z0, z1]
  congr 1 <;> omega

/-- Output 7 after the run. -/
theorem end7 (i : S1x1280.Idx) : ((rdat m c).withAfter after).arrAt 7 cfg0.N i = F7 (data m c) i := by
  refine Dat.arrAt_forall_of_covers ((rdat m c).withAfter after) 7 (fun i v => v = F7 (data m c) i) (by decide +kernel) (fun t hf y => ?_) i
  have ht := lt28 t
  have h13 := (flush0_7 t).mp hf
  obtain ⟨_, q⟩ := leaves m c (hL 7 t hf)
  have q' : P7 (data m c) t.val (after 7 t) := q
  have l0 : (y 0).val < 1 := ((cfg0.win 7).xinj (grid0.coords t) y 0).isLt
  have l1 : (y 1).val < 640 := ((cfg0.win 7).xinj (grid0.coords t) y 1).isLt
  have z0 : ((((cfg0.win 7).blk t).view.emb y) 0).val = win0_7.index t 0 * 1 + 1 * (y 0).val := rfl
  have z1 : ((((cfg0.win 7).blk t).view.emb y) 1).val = win0_7.index t 1 * 640 + 1 * (y 1).val := rfl
  rw [(idx7 t).1] at z0
  rw [(idx7 t).2] at z1
  have ex : (cfg0.win 7).xinj (grid0.coords t) y = (ix2 ⟨(y 0).val, l0⟩ ⟨(y 1).val, l1⟩ : (⟨2, ![1, 640]⟩ : Shape).Idx) := by
    funext x
    apply Fin.ext
    match x with
    | ⟨0, _⟩ => rfl
    | ⟨1, _⟩ => rfl
  show after 7 t ((cfg0.win 7).xinj (grid0.coords t) y) = _
  rw [ex]
  generalize ((cfg0.win 7).blk t).view.emb y = e at *
  have h0 : (⟨(y 0).val, l0⟩ : Fin 1) = 0 := Fin.eq_zero _
  rw [h0]
  refine (q' h13 ⟨(y 1).val, l1⟩).trans ?_
  show asc _ (640 * (t.val / 14) + (y 1).val) = asc _ (e 1).val
  rw [z1]
  congr 1
  omega

end ends

/-- The run: what the two results hold, the arguments unchanged. -/
theorem run_value : θ_run defs (onTc (τ := τ) (main (F := Ideal))) ⟨m, fun _ => 0, ρ⟩ fun r => ∀ c : Dev nD,
      r.2.mem ((c : Thread nD τ).loc main_v3_0) = F6 (args m c)
      ∧ r.2.mem ((c : Thread nD τ).loc main_v3_1) = F7 (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_main m ρ)
  obtain ⟨after, hL, hA⟩ := Pipeline.RDat.FramePost.exists_exact h.1 c
  rw [← data_args]
  exact ⟨(hA 6).trans (funext fun i => end6 m c after hL i), (hA 7).trans (funext fun i => end7 m c after hL i), args_of m h.1 c⟩

end Cert.KernelFfIdeal.Hand

end
-- ==== Proof.FfPayR.lean ====
/-
  The plain feed-forward reference's payloads at an index (hand-written, untrusted).
-/
module

public import proofs.«01_k».proof.Proof.FfRow
public import proofs.«01_k».proof.Proof.Gen.ReferenceFfIdeal.Frame
public import Idealize.ShloMosaic.Lib.Pointwise

@[expose] public section

set_option maxRecDepth 16384

noncomputable section

open Idealize.ShloMosaic Idealize.ShloMosaic.TcCoe

namespace Cert.ReferenceFfIdeal.Hand

open Cert.ReferenceFfIdeal Cert.ReferenceFfIdeal.Gen Cert.Rows Cert.FfRow

theorem p3 (v0 : Vec Ideal S1280x4096 .fp8e4m3) (v1 : Vec Ideal S1280x1 .f32) (v3 : Vec Ideal S4096x7168 .fp8e4m3) (v4 : Vec Ideal S1x7168 .f32)
    (v11 : Vec Ideal S1280x4096 .fp8e4m3) (v12 : Vec Ideal S1280x1 .f32) (v14 : Vec Ideal S4096x7168 .fp8e4m3) (v15 : Vec Ideal S1x7168 .f32) (r : Fin 1280) (c : Fin 7168) :
    k0_pay3 v0 v1 v3 v4 v11 v12 v14 v15 (ix2 r c) = act1 (lin (fun a => v0 (ix2 r a)) (v1 (ix2 r 0)) (fun a => v3 (ix2 a c)) (v4 (ix2 0 c)))
      (lin (fun a => v11 (ix2 r a)) (v12 (ix2 r 0)) (fun a => v14 (ix2 a c)) (v15 (ix2 0 c))) := by
  unfold act1 lin k0_pay3
  pointwise

theorem sel (A : FVec Ideal S1280x1 .f32) (r : Fin 1280) :
    select (cmpf .oeq A (broadcast S1280x1 (Scalar.ofBits .f32 0x00000000#32 : Ideal .f32))) (broadcast S1280x1 (Scalar.ofBits .f32 0x3F800000#32 : Ideal .f32))
      (divf A (broadcast S1280x1 (Scalar.ofBits .f32 0x43E00000#32 : Ideal .f32))) (ix2 r 0) = scl (A (ix2 r 0)) := by
  pointwise
  rfl

theorem amr (P : FVec Ideal S1280x7168 .f32) (r : Fin 1280) :
    shapeCast S1280x1 (multiReduction .maximumf [1] S1280 (absf P) 0xFF800000#32 reduces_S1280x7168_S1280 (.inl rfl) rfl) shapeCasts_S1280_S1280x1 (ix2 r 0) = amax fun k => P (ix2 r k) := by
  pointwise
  rfl

theorem cd (P : FVec Ideal S1280x7168 .f32) (S : FVec Ideal S1280x1 .f32) (r : Fin 1280) (k : Fin 7168) :
    k0_pay1 (divf P (broadcastTo S1280x7168 S broadcasts_S1280x1_S1280x7168)) (Scalar.ofBits .f32 0xC3E00000#32 : Ideal .f32) (Scalar.ofBits .f32 0x43E00000#32 : Ideal .f32) (ix2 r k)
      = code (S (ix2 r 0)) (P (ix2 r k)) := by
  unfold k0_pay1
  pointwise
  rfl

theorem tr (S : FVec Ideal S1280x1 .f32) (r : Fin 1280) : k0_pay2 S (ix2 0 r) = S (ix2 r 0) := by
  unfold k0_pay2
  pointwise

theorem p4 (v0 : Vec Ideal S1280x4096 .fp8e4m3) (v1 : Vec Ideal S1280x1 .f32) (v3 : Vec Ideal S4096x7168 .fp8e4m3) (v4 : Vec Ideal S1x7168 .f32)
    (v11 : Vec Ideal S1280x4096 .fp8e4m3) (v12 : Vec Ideal S1280x1 .f32) (v14 : Vec Ideal S4096x7168 .fp8e4m3) (v15 : Vec Ideal S1x7168 .f32) (r : Fin 1280) :
    k0_pay4 v0 v1 v3 v4 v11 v12 v14 v15 (ix2 r 0) = scl (amax fun c => k0_pay3 v0 v1 v3 v4 v11 v12 v14 v15 (ix2 r c)) :=
  (sel _ r).trans (congrArg scl (amr (k0_pay3 v0 v1 v3 v4 v11 v12 v14 v15) r))

theorem p15 (v0 : Vec Ideal S1280x4096 .fp8e4m3) (v1 : Vec Ideal S1280x1 .f32) (v3 : Vec Ideal S4096x7168 .fp8e4m3) (v4 : Vec Ideal S1x7168 .f32)
    (v11 : Vec Ideal S1280x4096 .fp8e4m3) (v12 : Vec Ideal S1280x1 .f32) (v14 : Vec Ideal S4096x7168 .fp8e4m3) (v15 : Vec Ideal S1x7168 .f32) (r : Fin 1280) (k : Fin 7168) :
    k0_pay1 (k0_pay5 v0 v1 v3 v4 v11 v12 v14 v15) (Scalar.ofBits .f32 0xC3E00000#32 : Ideal .f32) (Scalar.ofBits .f32 0x43E00000#32 : Ideal .f32) (ix2 r k)
      = code (scl (amax fun c => k0_pay3 v0 v1 v3 v4 v11 v12 v14 v15 (ix2 r c))) (k0_pay3 v0 v1 v3 v4 v11 v12 v14 v15 (ix2 r k)) := by
  rw [← p4]
  exact cd (k0_pay3 v0 v1 v3 v4 v11 v12 v14 v15) (k0_pay4 v0 v1 v3 v4 v11 v12 v14 v15) r k

theorem hz : (![0, 0] : Fin 2 → Nat) = fun _ => 0 := funext fun a => by fin_cases a <;> rfl

theorem act_blk (x0 : Vec Ideal S1280x4096 .fp8e4m3) (x1 : Vec Ideal S1280x1 .f32) (x2 x3 : Vec Ideal S4096x7168 .fp8e4m3) (x4 x5 : Vec Ideal S1x7168 .f32) (r : Fin 1280) (c : Fin 7168) :
    k0_pay3 x0 x1 x2 x4 x0 x1 x3 x5 (ix2 r c) = act (ofBlk x0 x1 x2 x3 x4 x5) r.val c.val := by
  rw [p3]
  unfold act ofBlk
  simp only [dif_pos r.isLt, dif_pos c.isLt, Fin.eta]

theorem out6 (x0 : Vec Ideal S1280x4096 .fp8e4m3) (x1 : Vec Ideal S1280x1 .f32) (x2 x3 : Vec Ideal S4096x7168 .fp8e4m3) (x4 x5 : Vec Ideal S1x7168 .f32) (r : Fin 1280) (c : Fin 7168) :
    out0_6 x0 x1 x2 x3 x4 x5 (ix2 r c) = acd (ofBlk x0 x1 x2 x3 x4 x5) r.val c.val := by
  unfold out0_6
  rw [View.canon_unit_zero hz]
  repeat rw [View.ld_unit_zero hz]
  rw [p15]
  simp only [act_blk]
  rfl

theorem out7 (x0 : Vec Ideal S1280x4096 .fp8e4m3) (x1 : Vec Ideal S1280x1 .f32) (x2 x3 : Vec Ideal S4096x7168 .fp8e4m3) (x4 x5 : Vec Ideal S1x7168 .f32) (r : Fin 1280) :
    out0_7 x0 x1 x2 x3 x4 x5 (ix2 0 r) = asc (ofBlk x0 x1 x2 x3 x4 x5) r.val := by
  unfold out0_7
  rw [View.canon_unit_zero hz]
  repeat rw [View.ld_unit_zero hz]
  rw [tr, p4]
  simp only [act_blk]
  rfl

end Cert.ReferenceFfIdeal.Hand

end
-- ==== Proof.FfValueR.lean ====
/-
  The plain feed-forward reference's results after the run (hand-written, untrusted).
-/
module

public import proofs.«01_k».proof.Proof.FfPayR
public import Idealize.ShloMosaic.Lib.Pipeline.ArrRel
public import Idealize.ShloMosaic.Lib.Pipeline.Value
public import Idealize.ShloMosaic.Lib.Quiescent
public import Idealize.ShloMosaic.Lib.Pipeline.ValueKit.Geometry

@[expose] public section

set_option maxRecDepth 16384

noncomputable section

namespace Cert.ReferenceFfIdeal.Hand

open Idealize.ShloMosaic Idealize.ShloMosaic.TcCoe
open Idealize.SL.Sem
open Idealize.ShloMosaic.Pipeline (Dat RDat Cfg Window)
open Cert.ReferenceFfIdeal Cert.ReferenceFfIdeal.Gen
open Cert.Rows Cert.FfRow

variable (m : (ℓ : Loc nD τ sig) → Buf (Elt Ideal) ℓ) (ρ : Dev nD → PrngReg)

def data (c : Dev nD) : Data := ofBlk (V m c main_arg0) (V m c main_v0) (V m c main_arg2) (V m c main_arg3) (V m c main_v1) (V m c main_v2)

theorem V_main_v0_at (c : Dev nD) (r : Fin 1280) : V m c main_v0 (ix2 r 0) = m ((c : Thread nD τ).loc main_arg1) (ix1 r) := by
  unfold_abbrev_sides
  after_results
  pointwise

theorem V_main_v0 (c : Dev nD) : V m c main_v0 = colOf (m ((c : Thread nD τ).loc main_arg1)) := by
  funext j
  obtain ⟨r, a, rfl⟩ : ∃ (r : Fin 1280) (a : Fin 1), j = ix2 r a := ⟨j 0, j 1, eq_ix2 j⟩
  obtain rfl : a = 0 := Fin.eq_zero _
  exact V_main_v0_at m c r

theorem V_main_v1_at (c : Dev nD) (r : Fin 7168) : V m c main_v1 (ix2 0 r) = m ((c : Thread nD τ).loc main_arg4) (ix1 r) := by
  unfold_abbrev_sides
  after_results
  pointwise

theorem V_main_v1 (c : Dev nD) : V m c main_v1 = rowOf (m ((c : Thread nD τ).loc main_arg4)) := by
  funext j
  obtain ⟨r, a, rfl⟩ : ∃ (r : Fin 1) (a : Fin 7168), j = ix2 r a := ⟨j 0, j 1, eq_ix2 j⟩
  obtain rfl : r = 0 := Fin.eq_zero _
  exact V_main_v1_at m c a

theorem V_main_v2_at (c : Dev nD) (r : Fin 7168) : V m c main_v2 (ix2 0 r) = m ((c : Thread nD τ).loc main_arg5) (ix1 r) := by
  unfold_abbrev_sides
  after_results
  pointwise

theorem V_main_v2 (c : Dev nD) : V m c main_v2 = rowOf (m ((c : Thread nD τ).loc main_arg5)) := by
  funext j
  obtain ⟨r, a, rfl⟩ : ∃ (r : Fin 1) (a : Fin 7168), j = ix2 r a := ⟨j 0, j 1, eq_ix2 j⟩
  obtain rfl : r = 0 := Fin.eq_zero _
  exact V_main_v2_at m c a

/-- The data, from the arguments. -/
def args (c : Dev nD) : Data := ofBlk (m ((c : Thread nD τ).loc main_arg0)) (colOf (m ((c : Thread nD τ).loc main_arg1))) (m ((c : Thread nD τ).loc main_arg2)) (m ((c : Thread nD τ).loc main_arg3))
  (rowOf (m ((c : Thread nD τ).loc main_arg4))) (rowOf (m ((c : Thread nD τ).loc main_arg5)))

theorem data_args (c : Dev nD) : data m c = args m c := by
  have e : data m c = ofBlk (V m c main_arg0) (V m c main_v0) (V m c main_arg2) (V m c main_arg3) (V m c main_v1) (V m c main_v2) := rfl
  rw [e, V_main_v0, V_main_v1, V_main_v2, V_main_arg0, V_main_arg2, V_main_arg3]
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem blk0 (c : Dev nD) (t : Fin cfg0.N) : (iblk m c 0 t : Vec Ideal S1280x4096 .fp8e4m3) = V m c main_arg0 := by
  funext j
  show V m c main_arg0 (((cfg0.win 0).blk t).view.emb j) = V m c main_arg0 j
  congr 1
  funext x
  apply Fin.ext
  match x with
  | ⟨0, _⟩ => show win0_0.index t 0 * 1280 + 1 * (j 0).val = (j 0).val; rw [(idx0 t).1]; omega
  | ⟨1, _⟩ => show win0_0.index t 1 * 4096 + 1 * (j 1).val = (j 1).val; rw [(idx0 t).2]; omega
theorem idx1 : ∀ t : Fin cfg0.N, win0_1.index t 0 = 0 ∧ win0_1.index t 1 = 0 :=
  (by decide +kernel : ∀ t : Fin grid0.N, win0_1.index t 0 = 0 ∧ win0_1.index t 1 = 0)
theorem blk1 (c : Dev nD) (t : Fin cfg0.N) : (iblk m c 1 t : Vec Ideal S1280x1 .f32) = V m c main_v0 := by
  funext j
  show V m c main_v0 (((cfg0.win 1).blk t).view.emb j) = V m c main_v0 j
  congr 1
  funext x
  apply Fin.ext
  match x with
  | ⟨0, _⟩ => show win0_1.index t 0 * 1280 + 1 * (j 0).val = (j 0).val; rw [(idx1 t).1]; omega
  | ⟨1, _⟩ => show win0_1.index t 1 * 1 + 1 * (j 1).val = (j 1).val; rw [(idx1 t).2]; omega
theorem idx2 : ∀ t : Fin cfg0.N, win0_2.index t 0 = 0 ∧ win0_2.index t 1 = 0 :=
  (by decide +kernel : ∀ t : Fin grid0.N, win0_2.index t 0 = 0 ∧ win0_2.index t 1 = 0)
theorem blk2 (c : Dev nD) (t : Fin cfg0.N) : (iblk m c 2 t : Vec Ideal S4096x7168 .fp8e4m3) = V m c main_arg2 := by
  funext j
  show V m c main_arg2 (((cfg0.win 2).blk t).view.emb j) = V m c main_arg2 j
  congr 1
  funext x
  apply Fin.ext
  match x with
  | ⟨0, _⟩ => show win0_2.index t 0 * 4096 + 1 * (j 0).val = (j 0).val; rw [(idx2 t).1]; omega
  | ⟨1, _⟩ => show win0_2.index t 1 * 7168 + 1 * (j 1).val = (j 1).val; rw [(idx2 t).2]; omega
theorem idx3 : ∀ t : Fin cfg0.N, win0_3.index t 0 = 0 ∧ win0_3.index t 1 = 0 :=
  (by decide +kernel : ∀ t : Fin grid0.N, win0_3.index t 0 = 0 ∧ win0_3.index t 1 = 0)
theorem blk3 (c : Dev nD) (t : Fin cfg0.N) : (iblk m c 3 t : Vec Ideal S4096x7168 .fp8e4m3) = V m c main_arg3 := by
  funext j
  show V m c main_arg3 (((cfg0.win 3).blk t).view.emb j) = V m c main_arg3 j
  congr 1
  funext x
  apply Fin.ext
  match x with
  | ⟨0, _⟩ => show win0_3.index t 0 * 4096 + 1 * (j 0).val = (j 0).val; rw [(idx3 t).1]; omega
  | ⟨1, _⟩ => show win0_3.index t 1 * 7168 + 1 * (j 1).val = (j 1).val; rw [(idx3 t).2]; omega
theorem idx4 : ∀ t : Fin cfg0.N, win0_4.index t 0 = 0 ∧ win0_4.index t 1 = 0 :=
  (by decide +kernel : ∀ t : Fin grid0.N, win0_4.index t 0 = 0 ∧ win0_4.index t 1 = 0)
theorem blk4 (c : Dev nD) (t : Fin cfg0.N) : (iblk m c 4 t : Vec Ideal S1x7168 .f32) = V m c main_v1 := by
  funext j
  show V m c main_v1 (((cfg0.win 4).blk t).view.emb j) = V m c main_v1 j
  congr 1
  funext x
  apply Fin.ext
  match x with
  | ⟨0, _⟩ => show win0_4.index t 0 * 1 + 1 * (j 0).val = (j 0).val; rw [(idx4 t).1]; omega
  | ⟨1, _⟩ => show win0_4.index t 1 * 7168 + 1 * (j 1).val = (j 1).val; rw [(idx4 t).2]; omega
theorem idx5 : ∀ t : Fin cfg0.N, win0_5.index t 0 = 0 ∧ win0_5.index t 1 = 0 :=
  (by decide +kernel : ∀ t : Fin grid0.N, win0_5.index t 0 = 0 ∧ win0_5.index t 1 = 0)
theorem blk5 (c : Dev nD) (t : Fin cfg0.N) : (iblk m c 5 t : Vec Ideal S1x7168 .f32) = V m c main_v2 := by
  funext j
  show V m c main_v2 (((cfg0.win 5).blk t).view.emb j) = V m c main_v2 j
  congr 1
  funext x
  apply Fin.ext
  match x with
  | ⟨0, _⟩ => show win0_5.index t 0 * 1 + 1 * (j 0).val = (j 0).val; rw [(idx5 t).1]; omega
  | ⟨1, _⟩ => show win0_5.index t 1 * 7168 + 1 * (j 1).val = (j 1).val; rw [(idx5 t).2]; omega
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

/-- Output 6 after the run. -/
theorem end6 (c : Dev nD) (i : S1280x7168.Idx) : (dats m 0 c).arrAt 6 cfg0.N i = F6 (data m c) i := by
  refine Dat.arrAt_forall_of_covers (dats m 0 c) 6 (fun i v => v = F6 (data m c) i) (by decide +kernel) (fun t hf y => ?_) i
  have l0 : (y 0).val < 1280 := ((cfg0.win 6).xinj (grid0.coords t) y 0).isLt
  have l1 : (y 1).val < 7168 := ((cfg0.win 6).xinj (grid0.coords t) y 1).isLt
  have z0 : ((((cfg0.win 6).blk t).view.emb y) 0).val = win0_6.index t 0 * 1280 + 1 * (y 0).val := rfl
  have z1 : ((((cfg0.win 6).blk t).view.emb y) 1).val = win0_6.index t 1 * 7168 + 1 * (y 1).val := rfl
  rw [(idx6 t).1] at z0
  rw [(idx6 t).2] at z1
  have ex : (cfg0.win 6).xinj (grid0.coords t) y = (ix2 ⟨(y 0).val, l0⟩ ⟨(y 1).val, l1⟩ : (⟨2, ![1280, 7168]⟩ : Shape).Idx) := by
    funext x
    apply Fin.ext
    match x with
    | ⟨0, _⟩ => rfl
    | ⟨1, _⟩ => rfl
  show (dats m 0 c).after 6 t ((cfg0.win 6).xinj (grid0.coords t) y) = _
  rw [after0_6, ex]
  generalize ((cfg0.win 6).blk t).view.emb y = e at *
  refine (out6 (iblk m c 0 t) (iblk m c 1 t) (iblk m c 2 t) (iblk m c 3 t) (iblk m c 4 t) (iblk m c 5 t) ⟨(y 0).val, l0⟩ ⟨(y 1).val, l1⟩).trans ?_
  rw [blk0, blk1, blk2, blk3, blk4, blk5]
  show acd (data m c) (y 0).val (y 1).val = acd _ (e 0).val (e 1).val
  rw [z0, z1]
  congr 1 <;> omega

/-- Output 7 after the run. -/
theorem end7 (c : Dev nD) (i : S1x1280.Idx) : (dats m 0 c).arrAt 7 cfg0.N i = F7 (data m c) i := by
  refine Dat.arrAt_forall_of_covers (dats m 0 c) 7 (fun i v => v = F7 (data m c) i) (by decide +kernel) (fun t hf y => ?_) i
  have l0 : (y 0).val < 1 := ((cfg0.win 7).xinj (grid0.coords t) y 0).isLt
  have l1 : (y 1).val < 1280 := ((cfg0.win 7).xinj (grid0.coords t) y 1).isLt
  have z0 : ((((cfg0.win 7).blk t).view.emb y) 0).val = win0_7.index t 0 * 1 + 1 * (y 0).val := rfl
  have z1 : ((((cfg0.win 7).blk t).view.emb y) 1).val = win0_7.index t 1 * 1280 + 1 * (y 1).val := rfl
  rw [(idx7 t).1] at z0
  rw [(idx7 t).2] at z1
  have ex : (cfg0.win 7).xinj (grid0.coords t) y = (ix2 ⟨(y 0).val, l0⟩ ⟨(y 1).val, l1⟩ : (⟨2, ![1, 1280]⟩ : Shape).Idx) := by
    funext x
    apply Fin.ext
    match x with
    | ⟨0, _⟩ => rfl
    | ⟨1, _⟩ => rfl
  show (dats m 0 c).after 7 t ((cfg0.win 7).xinj (grid0.coords t) y) = _
  rw [after0_7, ex]
  generalize ((cfg0.win 7).blk t).view.emb y = e at *
  have h0 : (⟨(y 0).val, l0⟩ : Fin 1) = 0 := Fin.eq_zero _
  rw [h0]
  refine (out7 (iblk m c 0 t) (iblk m c 1 t) (iblk m c 2 t) (iblk m c 3 t) (iblk m c 4 t) (iblk m c 5 t) ⟨(y 1).val, l1⟩).trans ?_
  rw [blk0, blk1, blk2, blk3, blk4, blk5]
  show asc (data m c) (y 1).val = asc _ (e 1).val
  rw [z1]
  congr 1
  omega

/-- The run: what the two results hold, the arguments unchanged. -/
theorem run_value : θ_run defs (onTc (τ := τ) (main (F := Ideal))) ⟨m, fun _ => 0, ρ⟩ fun r => ∀ c : Dev nD,
      r.2.mem ((c : Thread nD τ).loc main_v3_0) = F6 (args m c)
      ∧ r.2.mem ((c : Thread nD τ).loc main_v3_1) = F7 (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans ((funext fun i => end6 m c i).trans (congrArg F6 (data_args m c))), ((h c).1 7).trans ((funext fun i => end7 m c i).trans (congrArg F7 (data_args m c))),
    ((h c).1 0).trans (((dats m 0 c).arrAt_in 0 rfl _).trans (V_main_arg0 m c)),
    ((h c).2 main_arg1 (Pipeline.mem_restRefs_of main_arg1 (by decide) (by decide))).trans (V_main_arg1 m c),
    ((h c).1 2).trans (((dats m 0 c).arrAt_in 2 rfl _).trans (V_main_arg2 m c)),
    ((h c).1 3).trans (((dats m 0 c).arrAt_in 3 rfl _).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.ReferenceFfIdeal.Hand

end
-- ==== Proof.FfClaims.lean ====
/-
  The gated feed-forward: the kernel and its one-block reference hold the same two arrays (hand-written, untrusted).
-/
module

public import proofs.«01_k».proof.Defs
public import proofs.«01_k».proof.Proof.FfValue
public import proofs.«01_k».proof.Proof.FfValueR

@[expose] public section

set_option maxRecDepth 16384

noncomputable section

open Idealize.ShloMosaic Idealize.ShloMosaic.TcCoe Idealize.SL.Sem

namespace Cert.Proof.FfClaims

open Cert.FfRow

/-- Over the extended reals the two-pass gated feed-forward and the plain one-block reference leave the same two arrays:
    the codes of the gated activation's rows, and the rows' scales. -/
theorem algebraic : Cert.algebraic_KernelFfIdeal_ReferenceFfIdeal := by
  intro m ρ m' ρ' _ hagree
  refine ⟨fun c => F6 (Cert.KernelFfIdeal.Hand.args m c), fun c => F7 (Cert.KernelFfIdeal.Hand.args m c), Cert.KernelFfIdeal.Hand.run_value m ρ, ?_⟩
  refine (θ_run Cert.ReferenceFfIdeal.defs _ _).mono (fun _ h c => ?_) (Cert.ReferenceFfIdeal.Hand.run_value m' ρ')
  obtain ⟨e0, e1, e2, e3, e4, e5⟩ := hagree c
  have hD : Cert.ReferenceFfIdeal.Hand.args m' c = Cert.KernelFfIdeal.Hand.args m c := by
    unfold Cert.ReferenceFfIdeal.Hand.args
    rw [e0, e1, e2, e3, e4, e5]
    rfl
  obtain ⟨h0, h1, ha⟩ := h c
  rw [hD] at h0 h1
  exact ⟨h0, h1, ha⟩

end Cert.Proof.FfClaims

end
-- ==== Proof.lean ====
module

public import proofs.«01_k».proof.Defs
public import proofs.«01_k».proof.Proof.Gen.KernelVis
public import proofs.«01_k».proof.Proof.Gen.KernelVis.Skeleton
public import proofs.«01_k».proof.Proof.Gen.KernelVis.Launch
public import proofs.«01_k».proof.Proof.Gen.KernelVis.Points
public import proofs.«01_k».proof.Proof.Gen.KernelVis.Frame
public import proofs.«01_k».proof.Proof.Gen.KernelVisIdeal
public import proofs.«01_k».proof.Proof.Gen.KernelVisIdeal.Skeleton
public import proofs.«01_k».proof.Proof.Gen.KernelVisIdeal.Launch
public import proofs.«01_k».proof.Proof.Gen.KernelVisIdeal.Points
public import proofs.«01_k».proof.Proof.Gen.KernelVisIdeal.Frame
public import proofs.«01_k».proof.Proof.Gen.ReferenceVisIdeal
public import proofs.«01_k».proof.Proof.Gen.ReferenceVisIdeal.Skeleton
public import proofs.«01_k».proof.Proof.Gen.ReferenceVisIdeal.Launch
public import proofs.«01_k».proof.Proof.Gen.ReferenceVisIdeal.Points
public import proofs.«01_k».proof.Proof.Gen.ReferenceVisIdeal.Frame
public import proofs.«01_k».proof.Proof.Gen.KernelO
public import proofs.«01_k».proof.Proof.Gen.KernelO.Skeleton
public import proofs.«01_k».proof.Proof.Gen.KernelO.Launch
public import proofs.«01_k».proof.Proof.Gen.KernelO.Points
public import proofs.«01_k».proof.Proof.Gen.KernelO.Frame
public import proofs.«01_k».proof.Proof.Gen.KernelOIdeal
public import proofs.«01_k».proof.Proof.Gen.KernelOIdeal.Skeleton
public import proofs.«01_k».proof.Proof.Gen.KernelOIdeal.Launch
public import proofs.«01_k».proof.Proof.Gen.KernelOIdeal.Points
public import proofs.«01_k».proof.Proof.Gen.KernelOIdeal.Frame
public import proofs.«01_k».proof.Proof.Gen.ReferenceOIdeal
public import proofs.«01_k».proof.Proof.Gen.ReferenceOIdeal.Skeleton
public import proofs.«01_k».proof.Proof.Gen.ReferenceOIdeal.Launch
public import proofs.«01_k».proof.Proof.Gen.ReferenceOIdeal.Points
public import proofs.«01_k».proof.Proof.Gen.ReferenceOIdeal.Frame
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.ReferenceQIdeal
public import proofs.«01_k».proof.Proof.Gen.ReferenceQIdeal.Skeleton
public import proofs.«01_k».proof.Proof.Gen.ReferenceQIdeal.Launch
public import proofs.«01_k».proof.Proof.Gen.ReferenceQIdeal.Points
public import proofs.«01_k».proof.Proof.Gen.ReferenceQIdeal.Frame
public import proofs.«01_k».proof.Proof.Gen.KernelFf
public import proofs.«01_k».proof.Proof.Gen.KernelFf.Skeleton
public import proofs.«01_k».proof.Proof.Gen.KernelFf.Launch
public import proofs.«01_k».proof.Proof.Gen.KernelFf.Points
public import proofs.«01_k».proof.Proof.Gen.KernelFf.Frame
public import proofs.«01_k».proof.Proof.Gen.KernelFfIdeal
public import proofs.«01_k».proof.Proof.Gen.KernelFfIdeal.Skeleton
public import proofs.«01_k».proof.Proof.Gen.KernelFfIdeal.Launch
public import proofs.«01_k».proof.Proof.Gen.KernelFfIdeal.Points
public import proofs.«01_k».proof.Proof.Gen.KernelFfIdeal.Frame
public import proofs.«01_k».proof.Proof.Gen.ReferenceFfIdeal
public import proofs.«01_k».proof.Proof.Gen.ReferenceFfIdeal.Skeleton
public import proofs.«01_k».proof.Proof.Gen.ReferenceFfIdeal.Launch
public import proofs.«01_k».proof.Proof.Gen.ReferenceFfIdeal.Points
public import proofs.«01_k».proof.Proof.Gen.ReferenceFfIdeal.Frame
public import proofs.«01_k».proof.Proof.Gen.KernelQIdeal.Value
public import proofs.«01_k».proof.Proof.Gen.On_mask_vis
public import proofs.«01_k».proof.Proof.Gen.KernelOIdeal.Value
public import proofs.«01_k».proof.Proof.OValue
public import proofs.«01_k».proof.Proof.VisFrame
public import proofs.«01_k».proof.Proof.VisTrack
public import proofs.«01_k».proof.Proof.VisClaims
public import proofs.«01_k».proof.Proof.QClaims
public import proofs.«01_k».proof.Proof.FfFrame
public import proofs.«01_k».proof.Proof.FfTrack
public import proofs.«01_k».proof.Proof.FfClaims
public import Idealize.ShloMosaic.Adequacy
public import Idealize.ShloMosaic.Init

@[expose] public section

noncomputable section

namespace Cert.Proof

open Idealize.ShloMosaic Idealize.SL.Sem Cert.KernelVis

theorem claim : Cert.Claim := ⟨Cert.KernelVis.Gen.facts, Cert.KernelVisIdeal.Gen.facts, Cert.ReferenceVisIdeal.Gen.facts,
  Cert.KernelO.Gen.facts, Cert.KernelOIdeal.Gen.facts, Cert.ReferenceOIdeal.Gen.facts,
  Cert.KernelQ.Gen.facts, Cert.KernelQIdeal.Gen.facts, Cert.ReferenceQIdeal.Gen.facts,
  Cert.KernelFf.Gen.facts, Cert.KernelFfIdeal.Gen.facts, Cert.ReferenceFfIdeal.Gen.facts, Cert.On_mask_vis.Gen.facts,
  fun m ρ _ => Cert.KernelVis.Hand.frame m ρ, fun m ρ _ => Cert.KernelVisIdeal.Hand.frame m ρ, fun m ρ _ => Cert.ReferenceVisIdeal.Gen.frame m ρ,
  fun m ρ _ => Cert.KernelO.Gen.frame m ρ, fun m ρ _ => Cert.KernelOIdeal.Gen.frame m ρ, fun m ρ _ => Cert.ReferenceOIdeal.Gen.frame m ρ,
  fun m ρ _ => Cert.KernelQ.Gen.frame m ρ, fun m ρ _ => Cert.KernelQIdeal.Gen.frame m ρ, fun m ρ _ => Cert.ReferenceQIdeal.Gen.frame m ρ,
  fun m ρ _ => Cert.KernelFf.Hand.frame m ρ, fun m ρ _ => Cert.KernelFfIdeal.Hand.frame m ρ, fun m ρ _ => Cert.ReferenceFfIdeal.Gen.frame m ρ,
  trivial, Cert.Proof.VisClaims.algebraic, trivial, Cert.Proof.OClaims.algebraic, trivial, Cert.Proof.QClaims.algebraic, trivial, Cert.Proof.FfClaims.algebraic⟩

end Cert.Proof

end
